-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dc (m : (ℓ : Loc Cert.Dc.nD Cert.Dc.τ Cert.Dc.sig) → Buf (Elt Bits) ℓ) : Prop :=
  True

def Pre_DcIdeal (m : (ℓ : Loc Cert.DcIdeal.nD Cert.DcIdeal.τ Cert.DcIdeal.sig) → Buf (Elt Ideal) ℓ) : Prop :=
  True

def Pre_DcIdeal_all_finite [hPre_all_finite : Cert.Pre_all_finite.Facts] (m : (ℓ : Loc Cert.DcIdeal.nD Cert.DcIdeal.τ Cert.DcIdeal.sig) → Buf (Elt Ideal) ℓ) : Prop :=
  ∀ c : Dev Cert.DcIdeal.nD,
    (Cert.Pre_all_finite.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4))) = (fun _ => 1#1)

def Pre_DcRefIdeal (m : (ℓ : Loc Cert.DcRefIdeal.nD Cert.DcRefIdeal.τ Cert.DcRefIdeal.sig) → Buf (Elt Ideal) ℓ) : Prop :=
  True

def Pre_DcRefIdeal_all_finite [hPre_all_finite : Cert.Pre_all_finite.Facts] (m : (ℓ : Loc Cert.DcRefIdeal.nD Cert.DcRefIdeal.τ Cert.DcRefIdeal.sig) → Buf (Elt Ideal) ℓ) : Prop :=
  ∀ c : Dev Cert.DcRefIdeal.nD,
    (Cert.Pre_all_finite.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4))) = (fun _ => 1#1)

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDwGates (m : (ℓ : Loc Cert.InDwGates.nD Cert.InDwGates.τ Cert.InDwGates.sig) → Buf (Elt Bits) ℓ) : Prop :=
  True

def Pre_InDwGatesIdeal (m : (ℓ : Loc Cert.InDwGatesIdeal.nD Cert.InDwGatesIdeal.τ Cert.InDwGatesIdeal.sig) → Buf (Elt Ideal) ℓ) : Prop :=
  True

def Pre_InDwGatesRefIdeal (m : (ℓ : Loc Cert.InDwGatesRefIdeal.nD Cert.InDwGatesRefIdeal.τ Cert.InDwGatesRefIdeal.sig) → Buf (Elt Ideal) ℓ) : Prop :=
  True

def Pre_InDwOther (m : (ℓ : Loc Cert.InDwOther.nD Cert.InDwOther.τ Cert.InDwOther.sig) → Buf (Elt Bits) ℓ) : Prop :=
  True

def Pre_InDwOtherIdeal (m : (ℓ : Loc Cert.InDwOtherIdeal.nD Cert.InDwOtherIdeal.τ Cert.InDwOtherIdeal.sig) → Buf (Elt Ideal) ℓ) : Prop :=
  True

def Pre_InDwOtherRefIdeal (m : (ℓ : Loc Cert.InDwOtherRefIdeal.nD Cert.InDwOtherRefIdeal.τ Cert.InDwOtherRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_mla_finite [hPre_mla_finite : Cert.Pre_mla_finite.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_mla_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_mla_finite [hPre_mla_finite : Cert.Pre_mla_finite.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_mla_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))) = (fun _ => 1#1)

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_fox_finite [hPre_fox_finite : Cert.Pre_fox_finite.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_fox_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))) = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_fox_finite [hPre_fox_finite : Cert.Pre_fox_finite.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_fox_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Dc [hDc : Cert.Dc.Facts] : Prop :=
  ∀ (m : (ℓ : Loc Cert.Dc.nD Cert.Dc.τ Cert.Dc.sig) → Buf (Elt Bits) ℓ) (g : Dev Cert.Dc.nD → PrngReg), Pre_Dc m →
    θ_run (Cert.Dc.defs (F := Bits)) (onTc (τ := Cert.Dc.τ) (Cert.Dc.main (F := Bits))) ⟨m, fun _ => 0, g⟩ (fun r => (∀ c : Dev Cert.Dc.nD,
      r.2.mem ((c.tc : Thread Cert.Dc.nD Cert.Dc.τ).loc Cert.Dc.main_arg0) = m ((c.tc : Thread Cert.Dc.nD Cert.Dc.τ).loc Cert.Dc.main_arg0)
      ∧ r.2.mem ((c.tc : Thread Cert.Dc.nD Cert.Dc.τ).loc Cert.Dc.main_arg1) = m ((c.tc : Thread Cert.Dc.nD Cert.Dc.τ).loc Cert.Dc.main_arg1)
      ∧ r.2.mem ((c.tc : Thread Cert.Dc.nD Cert.Dc.τ).loc Cert.Dc.main_arg2) = m ((c.tc : Thread Cert.Dc.nD Cert.Dc.τ).loc Cert.Dc.main_arg2)
      ∧ r.2.mem ((c.tc : Thread Cert.Dc.nD Cert.Dc.τ).loc Cert.Dc.main_arg3) = m ((c.tc : Thread Cert.Dc.nD Cert.Dc.τ).loc Cert.Dc.main_arg3)
      ∧ r.2.mem ((c.tc : Thread Cert.Dc.nD Cert.Dc.τ).loc Cert.Dc.main_arg4) = m ((c.tc : Thread Cert.Dc.nD Cert.Dc.τ).loc Cert.Dc.main_arg4))
      ∧ r.2.sem = fun _ => 0)

def quiescent_DcIdeal [hDcIdeal : Cert.DcIdeal.Facts] : Prop :=
  ∀ (m : (ℓ : Loc Cert.DcIdeal.nD Cert.DcIdeal.τ Cert.DcIdeal.sig) → Buf (Elt Ideal) ℓ) (g : Dev Cert.DcIdeal.nD → PrngReg), Pre_DcIdeal m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4))
      ∧ r.2.sem = fun _ => 0)

def quiescent_DcIdeal_pre_all_finite [hDcIdeal : Cert.DcIdeal.Facts] [hPre_all_finite : Cert.Pre_all_finite.Facts] : Prop :=
  ∀ (m : (ℓ : Loc Cert.DcIdeal.nD Cert.DcIdeal.τ Cert.DcIdeal.sig) → Buf (Elt Ideal) ℓ) (g : Dev Cert.DcIdeal.nD → PrngReg), Pre_DcIdeal_all_finite m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4))
      ∧ r.2.sem = fun _ => 0)

def quiescent_DcRefIdeal [hDcRefIdeal : Cert.DcRefIdeal.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4))
      ∧ r.2.sem = fun _ => 0)

def quiescent_DcRefIdeal_pre_all_finite [hDcRefIdeal : Cert.DcRefIdeal.Facts] [hPre_all_finite : Cert.Pre_all_finite.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal_all_finite m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_InDwGates [hInDwGates : Cert.InDwGates.Facts] : Prop :=
  ∀ (m : (ℓ : Loc Cert.InDwGates.nD Cert.InDwGates.τ Cert.InDwGates.sig) → Buf (Elt Bits) ℓ) (g : Dev Cert.InDwGates.nD → PrngReg), Pre_InDwGates m →
    θ_run (Cert.InDwGates.defs (F := Bits)) (onTc (τ := Cert.InDwGates.τ) (Cert.InDwGates.main (F := Bits))) ⟨m, fun _ => 0, g⟩ (fun r => (∀ c : Dev Cert.InDwGates.nD,
      r.2.mem ((c.tc : Thread Cert.InDwGates.nD Cert.InDwGates.τ).loc Cert.InDwGates.main_arg0) = m ((c.tc : Thread Cert.InDwGates.nD Cert.InDwGates.τ).loc Cert.InDwGates.main_arg0)
      ∧ r.2.mem ((c.tc : Thread Cert.InDwGates.nD Cert.InDwGates.τ).loc Cert.InDwGates.main_arg1) = m ((c.tc : Thread Cert.InDwGates.nD Cert.InDwGates.τ).loc Cert.InDwGates.main_arg1))
      ∧ r.2.sem = fun _ => 0)

def quiescent_InDwGatesIdeal [hInDwGatesIdeal : Cert.InDwGatesIdeal.Facts] : Prop :=
  ∀ (m : (ℓ : Loc Cert.InDwGatesIdeal.nD Cert.InDwGatesIdeal.τ Cert.InDwGatesIdeal.sig) → Buf (Elt Ideal) ℓ) (g : Dev Cert.InDwGatesIdeal.nD → PrngReg), Pre_InDwGatesIdeal m →
    θ_run (Cert.InDwGatesIdeal.defs (F := Ideal)) (onTc (τ := Cert.InDwGatesIdeal.τ) (Cert.InDwGatesIdeal.main (F := Ideal))) ⟨m, fun _ => 0, g⟩ (fun r => (∀ c : Dev Cert.InDwGatesIdeal.nD,
      r.2.mem ((c.tc : Thread Cert.InDwGatesIdeal.nD Cert.InDwGatesIdeal.τ).loc Cert.InDwGatesIdeal.main_arg0) = m ((c.tc : Thread Cert.InDwGatesIdeal.nD Cert.InDwGatesIdeal.τ).loc Cert.InDwGatesIdeal.main_arg0)
      ∧ r.2.mem ((c.tc : Thread Cert.InDwGatesIdeal.nD Cert.InDwGatesIdeal.τ).loc Cert.InDwGatesIdeal.main_arg1) = m ((c.tc : Thread Cert.InDwGatesIdeal.nD Cert.InDwGatesIdeal.τ).loc Cert.InDwGatesIdeal.main_arg1))
      ∧ r.2.sem = fun _ => 0)

def quiescent_InDwGatesRefIdeal [hInDwGatesRefIdeal : Cert.InDwGatesRefIdeal.Facts] : Prop :=
  ∀ (m : (ℓ : Loc Cert.InDwGatesRefIdeal.nD Cert.InDwGatesRefIdeal.τ Cert.InDwGatesRefIdeal.sig) → Buf (Elt Ideal) ℓ) (g : Dev Cert.InDwGatesRefIdeal.nD → PrngReg), Pre_InDwGatesRefIdeal m →
    θ_run (Cert.InDwGatesRefIdeal.defs (F := Ideal)) (onTc (τ := Cert.InDwGatesRefIdeal.τ) (Cert.InDwGatesRefIdeal.main (F := Ideal))) ⟨m, fun _ => 0, g⟩ (fun r => (∀ c : Dev Cert.InDwGatesRefIdeal.nD,
      r.2.mem ((c.tc : Thread Cert.InDwGatesRefIdeal.nD Cert.InDwGatesRefIdeal.τ).loc Cert.InDwGatesRefIdeal.main_arg0) = m ((c.tc : Thread Cert.InDwGatesRefIdeal.nD Cert.InDwGatesRefIdeal.τ).loc Cert.InDwGatesRefIdeal.main_arg0)
      ∧ r.2.mem ((c.tc : Thread Cert.InDwGatesRefIdeal.nD Cert.InDwGatesRefIdeal.τ).loc Cert.InDwGatesRefIdeal.main_arg1) = m ((c.tc : Thread Cert.InDwGatesRefIdeal.nD Cert.InDwGatesRefIdeal.τ).loc Cert.InDwGatesRefIdeal.main_arg1))
      ∧ r.2.sem = fun _ => 0)

def quiescent_InDwOther [hInDwOther : Cert.InDwOther.Facts] : Prop :=
  ∀ (m : (ℓ : Loc Cert.InDwOther.nD Cert.InDwOther.τ Cert.InDwOther.sig) → Buf (Elt Bits) ℓ) (g : Dev Cert.InDwOther.nD → PrngReg), Pre_InDwOther m →
    θ_run (Cert.InDwOther.defs (F := Bits)) (onTc (τ := Cert.InDwOther.τ) (Cert.InDwOther.main (F := Bits))) ⟨m, fun _ => 0, g⟩ (fun r => (∀ c : Dev Cert.InDwOther.nD,
      r.2.mem ((c.tc : Thread Cert.InDwOther.nD Cert.InDwOther.τ).loc Cert.InDwOther.main_arg0) = m ((c.tc : Thread Cert.InDwOther.nD Cert.InDwOther.τ).loc Cert.InDwOther.main_arg0)
      ∧ r.2.mem ((c.tc : Thread Cert.InDwOther.nD Cert.InDwOther.τ).loc Cert.InDwOther.main_arg1) = m ((c.tc : Thread Cert.InDwOther.nD Cert.InDwOther.τ).loc Cert.InDwOther.main_arg1))
      ∧ r.2.sem = fun _ => 0)

def quiescent_InDwOtherIdeal [hInDwOtherIdeal : Cert.InDwOtherIdeal.Facts] : Prop :=
  ∀ (m : (ℓ : Loc Cert.InDwOtherIdeal.nD Cert.InDwOtherIdeal.τ Cert.InDwOtherIdeal.sig) → Buf (Elt Ideal) ℓ) (g : Dev Cert.InDwOtherIdeal.nD → PrngReg), Pre_InDwOtherIdeal m →
    θ_run (Cert.InDwOtherIdeal.defs (F := Ideal)) (onTc (τ := Cert.InDwOtherIdeal.τ) (Cert.InDwOtherIdeal.main (F := Ideal))) ⟨m, fun _ => 0, g⟩ (fun r => (∀ c : Dev Cert.InDwOtherIdeal.nD,
      r.2.mem ((c.tc : Thread Cert.InDwOtherIdeal.nD Cert.InDwOtherIdeal.τ).loc Cert.InDwOtherIdeal.main_arg0) = m ((c.tc : Thread Cert.InDwOtherIdeal.nD Cert.InDwOtherIdeal.τ).loc Cert.InDwOtherIdeal.main_arg0)
      ∧ r.2.mem ((c.tc : Thread Cert.InDwOtherIdeal.nD Cert.InDwOtherIdeal.τ).loc Cert.InDwOtherIdeal.main_arg1) = m ((c.tc : Thread Cert.InDwOtherIdeal.nD Cert.InDwOtherIdeal.τ).loc Cert.InDwOtherIdeal.main_arg1))
      ∧ r.2.sem = fun _ => 0)

def quiescent_InDwOtherRefIdeal [hInDwOtherRefIdeal : Cert.InDwOtherRefIdeal.Facts] : Prop :=
  ∀ (m : (ℓ : Loc Cert.InDwOtherRefIdeal.nD Cert.InDwOtherRefIdeal.τ Cert.InDwOtherRefIdeal.sig) → Buf (Elt Ideal) ℓ) (g : Dev Cert.InDwOtherRefIdeal.nD → PrngReg), Pre_InDwOtherRefIdeal m →
    θ_run (Cert.InDwOtherRefIdeal.defs (F := Ideal)) (onTc (τ := Cert.InDwOtherRefIdeal.τ) (Cert.InDwOtherRefIdeal.main (F := Ideal))) ⟨m, fun _ => 0, g⟩ (fun r => (∀ c : Dev Cert.InDwOtherRefIdeal.nD,
      r.2.mem ((c.tc : Thread Cert.InDwOtherRefIdeal.nD Cert.InDwOtherRefIdeal.τ).loc Cert.InDwOtherRefIdeal.main_arg0) = m ((c.tc : Thread Cert.InDwOtherRefIdeal.nD Cert.InDwOtherRefIdeal.τ).loc Cert.InDwOtherRefIdeal.main_arg0)
      ∧ r.2.mem ((c.tc : Thread Cert.InDwOtherRefIdeal.nD Cert.InDwOtherRefIdeal.τ).loc Cert.InDwOtherRefIdeal.main_arg1) = m ((c.tc : Thread Cert.InDwOtherRefIdeal.nD Cert.InDwOtherRefIdeal.τ).loc Cert.InDwOtherRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_mla_finite [hMlaFwdIdeal : Cert.MlaFwdIdeal.Facts] [hPre_mla_finite : Cert.Pre_mla_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_mla_finite m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_mla_finite [hMlaFwdRefIdeal : Cert.MlaFwdRefIdeal.Facts] [hPre_mla_finite : Cert.Pre_mla_finite.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_mla_finite m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_fox_finite [hFoxFwdIdeal : Cert.FoxFwdIdeal.Facts] [hPre_fox_finite : Cert.Pre_fox_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_fox_finite m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_fox_finite [hFoxFwdRefIdeal : Cert.FoxFwdRefIdeal.Facts] [hPre_fox_finite : Cert.Pre_fox_finite.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_fox_finite m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)) (v4 : (c : Dev Cert.MergeIdeal.nD) → Buf (Elt Ideal) ((c.tc : Thread Cert.MergeIdeal.nD Cert.MergeIdeal.τ).loc Cert.MergeIdeal.main_v2_4)) (v5 : (c : Dev Cert.MergeIdeal.nD) → Buf (Elt Ideal) ((c.tc : Thread Cert.MergeIdeal.nD Cert.MergeIdeal.τ).loc Cert.MergeIdeal.main_v2_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_v2_4) = v4 c
          ∧ r.2.mem ((c.tc : Thread Cert.MergeIdeal.nD Cert.MergeIdeal.τ).loc Cert.MergeIdeal.main_v2_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_v44) = v2 c
          ∧ r.2.mem ((c.tc : Thread Cert.MergeRefIdeal.nD Cert.MergeRefIdeal.τ).loc Cert.MergeRefIdeal.main_v45) = v3 c
          ∧ r.2.mem ((c.tc : Thread Cert.MergeRefIdeal.nD Cert.MergeRefIdeal.τ).loc Cert.MergeRefIdeal.main_v33) = v4 c
          ∧ r.2.mem ((c.tc : Thread Cert.MergeRefIdeal.nD Cert.MergeRefIdeal.τ).loc Cert.MergeRefIdeal.main_v24) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Dc_DcIdeal : Prop :=
  True

def algebraic_DcIdeal_DcRefIdeal_pre_all_finite [hDcIdeal : Cert.DcIdeal.Facts] [hDcRefIdeal : Cert.DcRefIdeal.Facts] [hPre_all_finite : Cert.Pre_all_finite.Facts] : Prop :=
  ∀ (m : (ℓ : Loc Cert.DcIdeal.nD Cert.DcIdeal.τ Cert.DcIdeal.sig) → Buf (Elt Ideal) ℓ) (g : Dev Cert.DcIdeal.nD → PrngReg)
    (m' : (ℓ : Loc Cert.DcRefIdeal.nD Cert.DcRefIdeal.τ Cert.DcRefIdeal.sig) → Buf (Elt Ideal) ℓ) (g' : Dev Cert.DcRefIdeal.nD → PrngReg), Pre_DcIdeal_all_finite m →
    (∀ c : Dev Cert.DcIdeal.nD,
      m' ((c.tc : Thread Cert.DcRefIdeal.nD Cert.DcRefIdeal.τ).loc Cert.DcRefIdeal.main_arg0) = m ((c.tc : Thread Cert.DcIdeal.nD Cert.DcIdeal.τ).loc Cert.DcIdeal.main_arg0)
      ∧ m' ((c.tc : Thread Cert.DcRefIdeal.nD Cert.DcRefIdeal.τ).loc Cert.DcRefIdeal.main_arg1) = m ((c.tc : Thread Cert.DcIdeal.nD Cert.DcIdeal.τ).loc Cert.DcIdeal.main_arg1)
      ∧ m' ((c.tc : Thread Cert.DcRefIdeal.nD Cert.DcRefIdeal.τ).loc Cert.DcRefIdeal.main_arg2) = m ((c.tc : Thread Cert.DcIdeal.nD Cert.DcIdeal.τ).loc Cert.DcIdeal.main_arg2)
      ∧ m' ((c.tc : Thread Cert.DcRefIdeal.nD Cert.DcRefIdeal.τ).loc Cert.DcRefIdeal.main_arg3) = m ((c.tc : Thread Cert.DcIdeal.nD Cert.DcIdeal.τ).loc Cert.DcIdeal.main_arg3)
      ∧ m' ((c.tc : Thread Cert.DcRefIdeal.nD Cert.DcRefIdeal.τ).loc Cert.DcRefIdeal.main_arg4) = m ((c.tc : Thread Cert.DcIdeal.nD Cert.DcIdeal.τ).loc Cert.DcIdeal.main_arg4)) →
    ∃ (v0 : (c : Dev Cert.DcIdeal.nD) → Buf (Elt Ideal) ((c.tc : Thread Cert.DcIdeal.nD Cert.DcIdeal.τ).loc Cert.DcIdeal.main_v3_0)) (v1 : (c : Dev Cert.DcIdeal.nD) → Buf (Elt Ideal) ((c.tc : Thread Cert.DcIdeal.nD Cert.DcIdeal.τ).loc Cert.DcIdeal.main_v3_1)) (v2 : (c : Dev Cert.DcIdeal.nD) → Buf (Elt Ideal) ((c.tc : Thread Cert.DcIdeal.nD Cert.DcIdeal.τ).loc Cert.DcIdeal.main_v3_2)) (v3 : (c : Dev Cert.DcIdeal.nD) → Buf (Elt Ideal) ((c.tc : Thread Cert.DcIdeal.nD Cert.DcIdeal.τ).loc Cert.DcIdeal.main_v3_3)) (v4 : (c : Dev Cert.DcIdeal.nD) → Buf (Elt Ideal) ((c.tc : Thread Cert.DcIdeal.nD Cert.DcIdeal.τ).loc Cert.DcIdeal.main_v3_4)) (v5 : (c : Dev Cert.DcIdeal.nD) → Buf (Elt Ideal) ((c.tc : Thread Cert.DcIdeal.nD Cert.DcIdeal.τ).loc Cert.DcIdeal.main_v3_5)),
      θ_run (Cert.DcIdeal.defs (F := Ideal)) (onTc (τ := Cert.DcIdeal.τ) (Cert.DcIdeal.main (F := Ideal))) ⟨m, fun _ => 0, g⟩ (fun r => ∀ c : Dev Cert.DcIdeal.nD,
          r.2.mem ((c.tc : Thread Cert.DcIdeal.nD Cert.DcIdeal.τ).loc Cert.DcIdeal.main_v3_0) = v0 c
          ∧ r.2.mem ((c.tc : Thread Cert.DcIdeal.nD Cert.DcIdeal.τ).loc Cert.DcIdeal.main_v3_1) = v1 c
          ∧ r.2.mem ((c.tc : Thread Cert.DcIdeal.nD Cert.DcIdeal.τ).loc Cert.DcIdeal.main_v3_2) = v2 c
          ∧ r.2.mem ((c.tc : Thread Cert.DcIdeal.nD Cert.DcIdeal.τ).loc Cert.DcIdeal.main_v3_3) = v3 c
          ∧ r.2.mem ((c.tc : Thread Cert.DcIdeal.nD Cert.DcIdeal.τ).loc Cert.DcIdeal.main_v3_4) = v4 c
          ∧ r.2.mem ((c.tc : Thread Cert.DcIdeal.nD Cert.DcIdeal.τ).loc Cert.DcIdeal.main_v3_5) = v5 c
          ∧ r.2.mem ((c.tc : Thread Cert.DcIdeal.nD Cert.DcIdeal.τ).loc Cert.DcIdeal.main_arg0) = m ((c.tc : Thread Cert.DcIdeal.nD Cert.DcIdeal.τ).loc Cert.DcIdeal.main_arg0)
          ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
          ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
          ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
          ∧ r.2.mem ((c.tc : Thread Cert.DcIdeal.nD Cert.DcIdeal.τ).loc Cert.DcIdeal.main_arg4) = m ((c.tc : Thread Cert.DcIdeal.nD Cert.DcIdeal.τ).loc Cert.DcIdeal.main_arg4))
      ∧ θ_run (Cert.DcRefIdeal.defs (F := Ideal)) (onTc (τ := Cert.DcRefIdeal.τ) (Cert.DcRefIdeal.main (F := Ideal))) ⟨m', fun _ => 0, g'⟩ (fun r => ∀ c : Dev Cert.DcRefIdeal.nD,
          r.2.mem ((c.tc : Thread Cert.DcRefIdeal.nD Cert.DcRefIdeal.τ).loc Cert.DcRefIdeal.main_v86) = v0 c
          ∧ r.2.mem ((c.tc : Thread Cert.DcRefIdeal.nD Cert.DcRefIdeal.τ).loc Cert.DcRefIdeal.main_v87) = v1 c
          ∧ r.2.mem ((c.tc : Thread Cert.DcRefIdeal.nD Cert.DcRefIdeal.τ).loc Cert.DcRefIdeal.main_v88) = v2 c
          ∧ r.2.mem ((c.tc : Thread Cert.DcRefIdeal.nD Cert.DcRefIdeal.τ).loc Cert.DcRefIdeal.main_v89) = v3 c
          ∧ r.2.mem ((c.tc : Thread Cert.DcRefIdeal.nD Cert.DcRefIdeal.τ).loc Cert.DcRefIdeal.main_v90) = v4 c
          ∧ r.2.mem ((c.tc : Thread Cert.DcRefIdeal.nD Cert.DcRefIdeal.τ).loc Cert.DcRefIdeal.main_v91) = v5 c
          ∧ r.2.mem ((c.tc : Thread Cert.DcRefIdeal.nD Cert.DcRefIdeal.τ).loc Cert.DcRefIdeal.main_arg0) = m' ((c.tc : Thread Cert.DcRefIdeal.nD Cert.DcRefIdeal.τ).loc Cert.DcRefIdeal.main_arg0)
          ∧ r.2.mem ((c.tc : Thread Cert.DcRefIdeal.nD Cert.DcRefIdeal.τ).loc Cert.DcRefIdeal.main_arg1) = m' ((c.tc : Thread Cert.DcRefIdeal.nD Cert.DcRefIdeal.τ).loc Cert.DcRefIdeal.main_arg1)
          ∧ r.2.mem ((c.tc : Thread Cert.DcRefIdeal.nD Cert.DcRefIdeal.τ).loc Cert.DcRefIdeal.main_arg2) = m' ((c.tc : Thread Cert.DcRefIdeal.nD Cert.DcRefIdeal.τ).loc Cert.DcRefIdeal.main_arg2)
          ∧ r.2.mem ((c.tc : Thread Cert.DcRefIdeal.nD Cert.DcRefIdeal.τ).loc Cert.DcRefIdeal.main_arg3) = m' ((c.tc : Thread Cert.DcRefIdeal.nD Cert.DcRefIdeal.τ).loc Cert.DcRefIdeal.main_arg3)
          ∧ r.2.mem ((c.tc : Thread Cert.DcRefIdeal.nD Cert.DcRefIdeal.τ).loc Cert.DcRefIdeal.main_arg4) = m' ((c.tc : Thread Cert.DcRefIdeal.nD Cert.DcRefIdeal.τ).loc Cert.DcRefIdeal.main_arg4))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)) →
    ∃ (v0 : (c : Dev Cert.DuIdeal.nD) → Buf (Elt Ideal) ((c.tc : Thread Cert.DuIdeal.nD Cert.DuIdeal.τ).loc Cert.DuIdeal.main_v1)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v1) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v42) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v6) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v2_0)) (v1 : (c : Dev Cert.DxIdeal.nD) → Buf (Elt Ideal) ((c.tc : Thread Cert.DxIdeal.nD Cert.DxIdeal.τ).loc Cert.DxIdeal.main_v2_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2_0) = v0 c
          ∧ r.2.mem ((c.tc : Thread Cert.DxIdeal.nD Cert.DxIdeal.τ).loc Cert.DxIdeal.main_v2_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v39) = v0 c
          ∧ r.2.mem ((c.tc : Thread Cert.DxRefIdeal.nD Cert.DxRefIdeal.τ).loc Cert.DxRefIdeal.main_v40) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v40) = v0 c
          ∧ r.2.mem ((c.tc : Thread Cert.InDxRefIdeal.nD Cert.InDxRefIdeal.τ).loc Cert.InDxRefIdeal.main_v41) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_InDwGates_InDwGatesIdeal : Prop :=
  True

def algebraic_InDwGatesIdeal_InDwGatesRefIdeal [hInDwGatesIdeal : Cert.InDwGatesIdeal.Facts] [hInDwGatesRefIdeal : Cert.InDwGatesRefIdeal.Facts] : Prop :=
  ∀ (m : (ℓ : Loc Cert.InDwGatesIdeal.nD Cert.InDwGatesIdeal.τ Cert.InDwGatesIdeal.sig) → Buf (Elt Ideal) ℓ) (g : Dev Cert.InDwGatesIdeal.nD → PrngReg)
    (m' : (ℓ : Loc Cert.InDwGatesRefIdeal.nD Cert.InDwGatesRefIdeal.τ Cert.InDwGatesRefIdeal.sig) → Buf (Elt Ideal) ℓ) (g' : Dev Cert.InDwGatesRefIdeal.nD → PrngReg), Pre_InDwGatesIdeal m →
    (∀ c : Dev Cert.InDwGatesIdeal.nD,
      m' ((c.tc : Thread Cert.InDwGatesRefIdeal.nD Cert.InDwGatesRefIdeal.τ).loc Cert.InDwGatesRefIdeal.main_arg0) = m ((c.tc : Thread Cert.InDwGatesIdeal.nD Cert.InDwGatesIdeal.τ).loc Cert.InDwGatesIdeal.main_arg0)
      ∧ m' ((c.tc : Thread Cert.InDwGatesRefIdeal.nD Cert.InDwGatesRefIdeal.τ).loc Cert.InDwGatesRefIdeal.main_arg1) = m ((c.tc : Thread Cert.InDwGatesIdeal.nD Cert.InDwGatesIdeal.τ).loc Cert.InDwGatesIdeal.main_arg1)) →
    ∃ (v0 : (c : Dev Cert.InDwGatesIdeal.nD) → Buf (Elt Ideal) ((c.tc : Thread Cert.InDwGatesIdeal.nD Cert.InDwGatesIdeal.τ).loc Cert.InDwGatesIdeal.main_v0)),
      θ_run (Cert.InDwGatesIdeal.defs (F := Ideal)) (onTc (τ := Cert.InDwGatesIdeal.τ) (Cert.InDwGatesIdeal.main (F := Ideal))) ⟨m, fun _ => 0, g⟩ (fun r => ∀ c : Dev Cert.InDwGatesIdeal.nD,
          r.2.mem ((c.tc : Thread Cert.InDwGatesIdeal.nD Cert.InDwGatesIdeal.τ).loc Cert.InDwGatesIdeal.main_v0) = v0 c
          ∧ r.2.mem ((c.tc : Thread Cert.InDwGatesIdeal.nD Cert.InDwGatesIdeal.τ).loc Cert.InDwGatesIdeal.main_arg0) = m ((c.tc : Thread Cert.InDwGatesIdeal.nD Cert.InDwGatesIdeal.τ).loc Cert.InDwGatesIdeal.main_arg0)
          ∧ r.2.mem ((c.tc : Thread Cert.InDwGatesIdeal.nD Cert.InDwGatesIdeal.τ).loc Cert.InDwGatesIdeal.main_arg1) = m ((c.tc : Thread Cert.InDwGatesIdeal.nD Cert.InDwGatesIdeal.τ).loc Cert.InDwGatesIdeal.main_arg1))
      ∧ θ_run (Cert.InDwGatesRefIdeal.defs (F := Ideal)) (onTc (τ := Cert.InDwGatesRefIdeal.τ) (Cert.InDwGatesRefIdeal.main (F := Ideal))) ⟨m', fun _ => 0, g'⟩ (fun r => ∀ c : Dev Cert.InDwGatesRefIdeal.nD,
          r.2.mem ((c.tc : Thread Cert.InDwGatesRefIdeal.nD Cert.InDwGatesRefIdeal.τ).loc Cert.InDwGatesRefIdeal.main_v6) = v0 c
          ∧ r.2.mem ((c.tc : Thread Cert.InDwGatesRefIdeal.nD Cert.InDwGatesRefIdeal.τ).loc Cert.InDwGatesRefIdeal.main_arg0) = m' ((c.tc : Thread Cert.InDwGatesRefIdeal.nD Cert.InDwGatesRefIdeal.τ).loc Cert.InDwGatesRefIdeal.main_arg0)
          ∧ r.2.mem ((c.tc : Thread Cert.InDwGatesRefIdeal.nD Cert.InDwGatesRefIdeal.τ).loc Cert.InDwGatesRefIdeal.main_arg1) = m' ((c.tc : Thread Cert.InDwGatesRefIdeal.nD Cert.InDwGatesRefIdeal.τ).loc Cert.InDwGatesRefIdeal.main_arg1))

def preserves_InDwOther_InDwOtherIdeal : Prop :=
  True

def algebraic_InDwOtherIdeal_InDwOtherRefIdeal [hInDwOtherIdeal : Cert.InDwOtherIdeal.Facts] [hInDwOtherRefIdeal : Cert.InDwOtherRefIdeal.Facts] : Prop :=
  ∀ (m : (ℓ : Loc Cert.InDwOtherIdeal.nD Cert.InDwOtherIdeal.τ Cert.InDwOtherIdeal.sig) → Buf (Elt Ideal) ℓ) (g : Dev Cert.InDwOtherIdeal.nD → PrngReg)
    (m' : (ℓ : Loc Cert.InDwOtherRefIdeal.nD Cert.InDwOtherRefIdeal.τ Cert.InDwOtherRefIdeal.sig) → Buf (Elt Ideal) ℓ) (g' : Dev Cert.InDwOtherRefIdeal.nD → PrngReg), Pre_InDwOtherIdeal m →
    (∀ c : Dev Cert.InDwOtherIdeal.nD,
      m' ((c.tc : Thread Cert.InDwOtherRefIdeal.nD Cert.InDwOtherRefIdeal.τ).loc Cert.InDwOtherRefIdeal.main_arg0) = m ((c.tc : Thread Cert.InDwOtherIdeal.nD Cert.InDwOtherIdeal.τ).loc Cert.InDwOtherIdeal.main_arg0)
      ∧ m' ((c.tc : Thread Cert.InDwOtherRefIdeal.nD Cert.InDwOtherRefIdeal.τ).loc Cert.InDwOtherRefIdeal.main_arg1) = m ((c.tc : Thread Cert.InDwOtherIdeal.nD Cert.InDwOtherIdeal.τ).loc Cert.InDwOtherIdeal.main_arg1)) →
    ∃ (v0 : (c : Dev Cert.InDwOtherIdeal.nD) → Buf (Elt Ideal) ((c.tc : Thread Cert.InDwOtherIdeal.nD Cert.InDwOtherIdeal.τ).loc Cert.InDwOtherIdeal.main_v0)),
      θ_run (Cert.InDwOtherIdeal.defs (F := Ideal)) (onTc (τ := Cert.InDwOtherIdeal.τ) (Cert.InDwOtherIdeal.main (F := Ideal))) ⟨m, fun _ => 0, g⟩ (fun r => ∀ c : Dev Cert.InDwOtherIdeal.nD,
          r.2.mem ((c.tc : Thread Cert.InDwOtherIdeal.nD Cert.InDwOtherIdeal.τ).loc Cert.InDwOtherIdeal.main_v0) = v0 c
          ∧ r.2.mem ((c.tc : Thread Cert.InDwOtherIdeal.nD Cert.InDwOtherIdeal.τ).loc Cert.InDwOtherIdeal.main_arg0) = m ((c.tc : Thread Cert.InDwOtherIdeal.nD Cert.InDwOtherIdeal.τ).loc Cert.InDwOtherIdeal.main_arg0)
          ∧ r.2.mem ((c.tc : Thread Cert.InDwOtherIdeal.nD Cert.InDwOtherIdeal.τ).loc Cert.InDwOtherIdeal.main_arg1) = m ((c.tc : Thread Cert.InDwOtherIdeal.nD Cert.InDwOtherIdeal.τ).loc Cert.InDwOtherIdeal.main_arg1))
      ∧ θ_run (Cert.InDwOtherRefIdeal.defs (F := Ideal)) (onTc (τ := Cert.InDwOtherRefIdeal.τ) (Cert.InDwOtherRefIdeal.main (F := Ideal))) ⟨m', fun _ => 0, g'⟩ (fun r => ∀ c : Dev Cert.InDwOtherRefIdeal.nD,
          r.2.mem ((c.tc : Thread Cert.InDwOtherRefIdeal.nD Cert.InDwOtherRefIdeal.τ).loc Cert.InDwOtherRefIdeal.main_v6) = v0 c
          ∧ r.2.mem ((c.tc : Thread Cert.InDwOtherRefIdeal.nD Cert.InDwOtherRefIdeal.τ).loc Cert.InDwOtherRefIdeal.main_arg0) = m' ((c.tc : Thread Cert.InDwOtherRefIdeal.nD Cert.InDwOtherRefIdeal.τ).loc Cert.InDwOtherRefIdeal.main_arg0)
          ∧ r.2.mem ((c.tc : Thread Cert.InDwOtherRefIdeal.nD Cert.InDwOtherRefIdeal.τ).loc Cert.InDwOtherRefIdeal.main_arg1) = m' ((c.tc : Thread Cert.InDwOtherRefIdeal.nD Cert.InDwOtherRefIdeal.τ).loc Cert.InDwOtherRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_v14) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v20) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v29) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)) →
    ∃ (v0 : (c : Dev Cert.FfnLossIdeal.nD) → Buf (Elt Ideal) ((c.tc : Thread Cert.FfnLossIdeal.nD Cert.FfnLossIdeal.τ).loc Cert.FfnLossIdeal.main_v2_0)) (v1 : (c : Dev Cert.FfnLossIdeal.nD) → Buf (Elt Ideal) ((c.tc : Thread Cert.FfnLossIdeal.nD Cert.FfnLossIdeal.τ).loc Cert.FfnLossIdeal.main_v2_1)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v2_0) = v0 c
          ∧ r.2.mem ((c.tc : Thread Cert.FfnLossIdeal.nD Cert.FfnLossIdeal.τ).loc Cert.FfnLossIdeal.main_v2_1) = v1 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v19) = v0 c
          ∧ r.2.mem ((c.tc : Thread Cert.FfnLossRefIdeal.nD Cert.FfnLossRefIdeal.τ).loc Cert.FfnLossRefIdeal.main_v20) = v1 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3))

def preserves_MlaFwd_MlaFwdIdeal : Prop :=
  IdealRules.named_const.Statement Cert.MlaFwdIdeal.κ "mask" .f32 0xF149F2CA#32 ⊥

def algebraic_MlaFwdIdeal_MlaFwdRefIdeal_pre_mla_finite [hMlaFwdIdeal : Cert.MlaFwdIdeal.Facts] [hMlaFwdRefIdeal : Cert.MlaFwdRefIdeal.Facts] [hPre_mla_finite : Cert.Pre_mla_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_mla_finite m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v0_0)) (v1 : (c : Dev Cert.MlaFwdIdeal.nD) → Buf (Elt Ideal) ((c.tc : Thread Cert.MlaFwdIdeal.nD Cert.MlaFwdIdeal.τ).loc Cert.MlaFwdIdeal.main_v0_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v0_0) = v0 c
          ∧ r.2.mem ((c.tc : Thread Cert.MlaFwdIdeal.nD Cert.MlaFwdIdeal.τ).loc Cert.MlaFwdIdeal.main_v0_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v39) = v0 c
          ∧ r.2.mem ((c.tc : Thread Cert.MlaFwdRefIdeal.nD Cert.MlaFwdRefIdeal.τ).loc Cert.MlaFwdRefIdeal.main_v24) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_FoxFwd_FoxFwdIdeal : Prop :=
  IdealRules.named_const.Statement Cert.FoxFwdIdeal.κ "mask" .f32 0xF149F2CA#32 ⊥

def algebraic_FoxFwdIdeal_FoxFwdRefIdeal_pre_fox_finite [hFoxFwdIdeal : Cert.FoxFwdIdeal.Facts] [hFoxFwdRefIdeal : Cert.FoxFwdRefIdeal.Facts] [hPre_fox_finite : Cert.Pre_fox_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_fox_finite m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v2_0)) (v1 : (c : Dev Cert.FoxFwdIdeal.nD) → Buf (Elt Ideal) ((c.tc : Thread Cert.FoxFwdIdeal.nD Cert.FoxFwdIdeal.τ).loc Cert.FoxFwdIdeal.main_v2_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v2_0) = v0 c
          ∧ r.2.mem ((c.tc : Thread Cert.FoxFwdIdeal.nD Cert.FoxFwdIdeal.τ).loc Cert.FoxFwdIdeal.main_v2_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v46) = v0 c
          ∧ r.2.mem ((c.tc : Thread Cert.FoxFwdRefIdeal.nD Cert.FoxFwdRefIdeal.τ).loc Cert.FoxFwdRefIdeal.main_v48) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def Claim : Prop :=
  ∃ (hMerge : Cert.Merge.Facts) (hMergeIdeal : Cert.MergeIdeal.Facts) (hMergeRefIdeal : Cert.MergeRefIdeal.Facts) (hDc : Cert.Dc.Facts) (hDcIdeal : Cert.DcIdeal.Facts) (hDcRefIdeal : Cert.DcRefIdeal.Facts) (hDu : Cert.Du.Facts) (hDuIdeal : Cert.DuIdeal.Facts) (hDuRefIdeal : Cert.DuRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDx : Cert.Dx.Facts) (hDxIdeal : Cert.DxIdeal.Facts) (hDxRefIdeal : Cert.DxRefIdeal.Facts) (hInDx : Cert.InDx.Facts) (hInDxIdeal : Cert.InDxIdeal.Facts) (hInDxRefIdeal : Cert.InDxRefIdeal.Facts) (hInDwGates : Cert.InDwGates.Facts) (hInDwGatesIdeal : Cert.InDwGatesIdeal.Facts) (hInDwGatesRefIdeal : Cert.InDwGatesRefIdeal.Facts) (hInDwOther : Cert.InDwOther.Facts) (hInDwOtherIdeal : Cert.InDwOtherIdeal.Facts) (hInDwOtherRefIdeal : Cert.InDwOtherRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hMergeFwd : Cert.MergeFwd.Facts) (hMergeFwdIdeal : Cert.MergeFwdIdeal.Facts) (hMergeFwdRefIdeal : Cert.MergeFwdRefIdeal.Facts) (hFfnDown : Cert.FfnDown.Facts) (hFfnDownIdeal : Cert.FfnDownIdeal.Facts) (hFfnDownRefIdeal : Cert.FfnDownRefIdeal.Facts) (hFfnAct : Cert.FfnAct.Facts) (hFfnActIdeal : Cert.FfnActIdeal.Facts) (hFfnActRefIdeal : Cert.FfnActRefIdeal.Facts) (hFfnLoss : Cert.FfnLoss.Facts) (hFfnLossIdeal : Cert.FfnLossIdeal.Facts) (hFfnLossRefIdeal : Cert.FfnLossRefIdeal.Facts) (hMlaFwd : Cert.MlaFwd.Facts) (hMlaFwdIdeal : Cert.MlaFwdIdeal.Facts) (hMlaFwdRefIdeal : Cert.MlaFwdRefIdeal.Facts) (hFoxFwd : Cert.FoxFwd.Facts) (hFoxFwdIdeal : Cert.FoxFwdIdeal.Facts) (hFoxFwdRefIdeal : Cert.FoxFwdRefIdeal.Facts) (hPre_all_finite : Cert.Pre_all_finite.Facts) (hPre_mla_finite : Cert.Pre_mla_finite.Facts) (hPre_fox_finite : Cert.Pre_fox_finite.Facts),
    quiescent_Merge (hMerge := hMerge)
    ∧ quiescent_MergeIdeal (hMergeIdeal := hMergeIdeal)
    ∧ quiescent_MergeRefIdeal (hMergeRefIdeal := hMergeRefIdeal)
    ∧ quiescent_Dc (hDc := hDc)
    ∧ quiescent_DcIdeal (hDcIdeal := hDcIdeal)
    ∧ quiescent_DcIdeal_pre_all_finite (hDcIdeal := hDcIdeal) (hPre_all_finite := hPre_all_finite)
    ∧ quiescent_DcRefIdeal (hDcRefIdeal := hDcRefIdeal)
    ∧ quiescent_DcRefIdeal_pre_all_finite (hDcRefIdeal := hDcRefIdeal) (hPre_all_finite := hPre_all_finite)
    ∧ quiescent_Du (hDu := hDu)
    ∧ quiescent_DuIdeal (hDuIdeal := hDuIdeal)
    ∧ quiescent_DuRefIdeal (hDuRefIdeal := hDuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dx (hDx := hDx)
    ∧ quiescent_DxIdeal (hDxIdeal := hDxIdeal)
    ∧ quiescent_DxRefIdeal (hDxRefIdeal := hDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDwGates (hInDwGates := hInDwGates)
    ∧ quiescent_InDwGatesIdeal (hInDwGatesIdeal := hInDwGatesIdeal)
    ∧ quiescent_InDwGatesRefIdeal (hInDwGatesRefIdeal := hInDwGatesRefIdeal)
    ∧ quiescent_InDwOther (hInDwOther := hInDwOther)
    ∧ quiescent_InDwOtherIdeal (hInDwOtherIdeal := hInDwOtherIdeal)
    ∧ quiescent_InDwOtherRefIdeal (hInDwOtherRefIdeal := hInDwOtherRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_MlaFwd (hMlaFwd := hMlaFwd)
    ∧ quiescent_MlaFwdIdeal (hMlaFwdIdeal := hMlaFwdIdeal)
    ∧ quiescent_MlaFwdIdeal_pre_mla_finite (hMlaFwdIdeal := hMlaFwdIdeal) (hPre_mla_finite := hPre_mla_finite)
    ∧ quiescent_MlaFwdRefIdeal (hMlaFwdRefIdeal := hMlaFwdRefIdeal)
    ∧ quiescent_MlaFwdRefIdeal_pre_mla_finite (hMlaFwdRefIdeal := hMlaFwdRefIdeal) (hPre_mla_finite := hPre_mla_finite)
    ∧ quiescent_FoxFwd (hFoxFwd := hFoxFwd)
    ∧ quiescent_FoxFwdIdeal (hFoxFwdIdeal := hFoxFwdIdeal)
    ∧ quiescent_FoxFwdIdeal_pre_fox_finite (hFoxFwdIdeal := hFoxFwdIdeal) (hPre_fox_finite := hPre_fox_finite)
    ∧ quiescent_FoxFwdRefIdeal (hFoxFwdRefIdeal := hFoxFwdRefIdeal)
    ∧ quiescent_FoxFwdRefIdeal_pre_fox_finite (hFoxFwdRefIdeal := hFoxFwdRefIdeal) (hPre_fox_finite := hPre_fox_finite)
    ∧ preserves_Merge_MergeIdeal
    ∧ algebraic_MergeIdeal_MergeRefIdeal (hMergeIdeal := hMergeIdeal) (hMergeRefIdeal := hMergeRefIdeal)
    ∧ preserves_Dc_DcIdeal
    ∧ algebraic_DcIdeal_DcRefIdeal_pre_all_finite (hDcIdeal := hDcIdeal) (hDcRefIdeal := hDcRefIdeal) (hPre_all_finite := hPre_all_finite)
    ∧ preserves_Du_DuIdeal
    ∧ algebraic_DuIdeal_DuRefIdeal (hDuIdeal := hDuIdeal) (hDuRefIdeal := hDuRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dx_DxIdeal
    ∧ algebraic_DxIdeal_DxRefIdeal (hDxIdeal := hDxIdeal) (hDxRefIdeal := hDxRefIdeal)
    ∧ preserves_InDx_InDxIdeal
    ∧ algebraic_InDxIdeal_InDxRefIdeal (hInDxIdeal := hInDxIdeal) (hInDxRefIdeal := hInDxRefIdeal)
    ∧ preserves_InDwGates_InDwGatesIdeal
    ∧ algebraic_InDwGatesIdeal_InDwGatesRefIdeal (hInDwGatesIdeal := hInDwGatesIdeal) (hInDwGatesRefIdeal := hInDwGatesRefIdeal)
    ∧ preserves_InDwOther_InDwOtherIdeal
    ∧ algebraic_InDwOtherIdeal_InDwOtherRefIdeal (hInDwOtherIdeal := hInDwOtherIdeal) (hInDwOtherRefIdeal := hInDwOtherRefIdeal)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnAct_FfnActIdeal
    ∧ algebraic_FfnActIdeal_FfnActRefIdeal (hFfnActIdeal := hFfnActIdeal) (hFfnActRefIdeal := hFfnActRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_MlaFwd_MlaFwdIdeal
    ∧ algebraic_MlaFwdIdeal_MlaFwdRefIdeal_pre_mla_finite (hMlaFwdIdeal := hMlaFwdIdeal) (hMlaFwdRefIdeal := hMlaFwdRefIdeal) (hPre_mla_finite := hPre_mla_finite)
    ∧ preserves_FoxFwd_FoxFwdIdeal
    ∧ algebraic_FoxFwdIdeal_FoxFwdRefIdeal_pre_fox_finite (hFoxFwdIdeal := hFoxFwdIdeal) (hFoxFwdRefIdeal := hFoxFwdRefIdeal) (hPre_fox_finite := hPre_fox_finite)
-- ==== Pre_all_finite.lean ====
abbrev S4224x5632 : Shape := ⟨2, ![4224, 5632]⟩
abbrev S4224x1024 : Shape := ⟨2, ![4224, 1024]⟩
abbrev S2816x1024 : Shape := ⟨2, ![2816, 1024]⟩
abbrev S3x5632 : Shape := ⟨2, ![3, 5632]⟩
abbrev S5632 : Shape := ⟨1, ![5632]⟩
abbrev S_ : Shape := ⟨0, ![]⟩

class Facts : Prop where
  bcast_S_S4224x5632 : S_.BroadcastsInDim S4224x5632 (![] : Fin 0 → Fin S4224x5632.rank)
  reducesTo_S4224x5632_S_d0_1 : S4224x5632.ReducesTo [0, 1] S_
  h_S_ : 0 < S_.numel
  bcast_S_S4224x1024 : S_.BroadcastsInDim S4224x1024 (![] : Fin 0 → Fin S4224x1024.rank)
  reducesTo_S4224x1024_S_d0_1 : S4224x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_arg4 : FVec F S5632 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  main_v23

def fn {F : FTy → Type} [FloatOps F] (main_arg0 : FVec F S4224x5632 .f32) (main_arg1 : FVec F S4224x1024 .f32) (main_arg2 : FVec F S2816x1024 .f32) (main_arg3 : FVec F S3x5632 .f32) (main_arg4 : FVec F S5632 .f32) : IVec S_ 1 :=
  let main_v0 : FVec F S4224x5632 .f32 := Host.absf main_arg0
  let main_cst : FVec F S_ .f32 := constant S_ .f32 0x7F800000#32
  let main_v1 : FVec F S4224x5632 .f32 := broadcastInDim S4224x5632 ![] bcast_S_S4224x5632 main_cst
  let main_v2 : IVec S4224x5632 1 := cmpf .olt main_v0 main_v1
  let main_c : IVec S_ 1 := constantI S_ 1 1#1
  let main_v3 : IVec S_ 1 := (fun x v => Host.reduce IntOp.andi x v reducesTo_S4224x5632_S_d0_1 h_S_) main_v2 main_c
  let main_v4 : FVec F S4224x1024 .f32 := Host.absf main_arg1
  let main_cst_0 : FVec F S_ .f32 := constant S_ .f32 0x7F800000#32
  let main_v5 : FVec F S4224x1024 .f32 := broadcastInDim S4224x1024 ![] bcast_S_S4224x1024 main_cst_0
  let main_v6 : IVec S4224x1024 1 := cmpf .olt main_v4 main_v5
  let main_c_1 : IVec S_ 1 := constantI S_ 1 1#1
  let main_v7 : IVec S_ 1 := (fun x v => Host.reduce IntOp.andi x v reducesTo_S4224x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_v13 main_v16
-- ==== Pre_fox_finite.lean ====
abbrev S4224x512 : Shape := ⟨2, ![4224, 512]⟩
abbrev S4224x8 : Shape := ⟨2, ![4224, 8]⟩
abbrev S_ : Shape := ⟨0, ![]⟩

class Facts : Prop where
  bitsLt_bf16_f32 : FTy.bits .bf16 < FTy.bits .f32
  bcast_S_S4224x512 : S_.BroadcastsInDim S4224x512 (![] : Fin 0 → Fin S4224x512.rank)
  reducesTo_S4224x512_S_d0_1 : S4224x512.ReducesTo [0, 1] S_
  h_S_ : 0 < S_.numel
  bcast_S_S4224x8 : S_.BroadcastsInDim S4224x8 (![] : Fin 0 → Fin S4224x8.rank)
  reducesTo_S4224x8_S_d0_1 : S4224x8.ReducesTo [0, 1] S_

variable [Facts]

def fn {F : FTy → Type} [FloatOps F] (main_arg0 : FVec F S4224x512 .bf16) (main_arg1 : FVec F S4224x512 .bf16) (main_arg2 : FVec F S4224x512 .bf16) (main_arg3 : FVec F S4224x8 .f32) : IVec S_ 1 :=
  let main_v0 : FVec F S4224x512 .f32 := (extf .f32 · bitsLt_bf16_f32) main_arg0
  let main_v1 : FVec F S4224x512 .f32 := Host.absf main_v0
  let main_cst : FVec F S_ .f32 := constant S_ .f32 0x7F800000#32
  let main_v2 : FVec F S4224x512 .f32 := broadcastInDim S4224x512 ![] bcast_S_S4224x512 main_cst
  let main_v3 : IVec S4224x512 1 := cmpf .olt main_v1 main_v2
  let main_c : IVec S_ 1 := constantI S_ 1 1#1
  let main_v4 : IVec S_ 1 := (fun x v => Host.reduce IntOp.andi x v reducesTo_S4224x512_S_d0_1 h_S_) main_v3 main_c
  let main_v5 : FVec F S4224x512 .f32 := (extf .f32 · bitsLt_bf16_f32) main_arg1
  let main_v6 : FVec F S4224x512 .f32 := Host.absf main_v5
  let main_cst_0 : FVec F S_ .f32 := constant S_ .f32 0x7F800000#32
  let main_v7 : FVec F S4224x512 .f32 := broadcastInDim S4224x512 ![] bcast_S_S4224x512 main_cst_0
  let main_v8 : IVec S4224x512 1 := cmpf .olt main_v6 main_v7
  let main_c_1 : IVec S_ 1 := constantI S_ 1 1#1
  let main_v9 : IVec S_ 1 := (fun x v => Host.reduce IntOp.andi x v reducesTo_S4224x512_S_d0_1 h_S_) main_v8 main_c_1
  let main_v10 : IVec S_ 1 := andi main_v4 main_v9
  let main_v11 : FVec F S4224x8 .f32 := Host.absf main_arg3
  let main_cst_2 : FVec F S_ .f32 := constant S_ .f32 0x7F800000#32
  let main_v12 : FVec F S4224x8 .f32 := broadcastInDim S4224x8 ![] bcast_S_S4224x8 main_cst_2
  let main_v13 : IVec S4224x8 1 := cmpf .olt main_v11 main_v12
  let main_c_3 : IVec S_ 1 := constantI S_ 1 1#1
  let main_v14 : IVec S_ 1 := (fun x v => Host.reduce IntOp.andi x v reducesTo_S4224x8_S_d0_1 h_S_) main_v13 main_c_3
  let main_v15 : IVec S_ 1 := andi main_v10 main_v14
  main_v15
-- ==== Pre_mla_finite.lean ====
abbrev S4224x1024 : Shape := ⟨2, ![4224, 1024]⟩
abbrev S4224x512 : Shape := ⟨2, ![4224, 512]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  h_S_ : 0 < S_.numel

variable [Facts]

def fn {F : FTy → Type} [FloatOps F] (main_arg0 : FVec F S4224x1024 .bf16) (main_arg1 : FVec F S4224x1024 .bf16) (main_arg2 : FVec F S4224x512 .bf16) : IVec S_ 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_c : IVec S_ 1 := constantI S_ 1 1#1
  let main_v4 : IVec S_ 1 := (fun x v => Host.reduce IntOp.andi x v reducesTo_S4224x1024_S_d0_1 h_S_) main_v3 main_c
  let main_v5 : FVec F S4224x1024 .f32 := (extf .f32 · bitsLt_bf16_f32) main_arg1
  let main_v6 : FVec F S4224x1024 .f32 := Host.absf main_v5
  let main_cst_0 : FVec F S_ .f32 := constant S_ .f32 0x7F800000#32
  let main_v7 : FVec F S4224x1024 .f32 := broadcastInDim S4224x1024 ![] bcast_S_S4224x1024 main_cst_0
  let main_v8 : IVec S4224x1024 1 := cmpf .olt main_v6 main_v7
  let main_c_1 : IVec S_ 1 := constantI S_ 1 1#1
  let main_v9 : IVec S_ 1 := (fun x v => Host.reduce IntOp.andi x v reducesTo_S4224x1024_S_d0_1 h_S_) main_v8 main_c_1
  let main_v10 : IVec S_ 1 := andi main_v4 main_v9
  main_v10
-- ==== Merge.lean ====
abbrev S4224x1024 : Shape := ⟨2, ![4224, 1024]⟩
abbrev S4224x5888 : Shape := ⟨2, ![4224, 5888]⟩
abbrev S4224x512 : Shape := ⟨2, ![4224, 512]⟩
abbrev S3x512x1024 : Shape := ⟨3, ![3, 512, 1024]⟩
abbrev S1024x1024 : Shape := ⟨2, ![1024, 1024]⟩
abbrev S4224x3072 : Shape := ⟨2, ![4224, 3072]⟩
abbrev S384x1024 : Shape := ⟨2, ![384, 1024]⟩
abbrev S384x512 : Shape := ⟨2, ![384, 512]⟩
abbrev S384x3072 : Shape := ⟨2, ![384, 3072]⟩
abbrev S1x512x1024 : Shape := ⟨3, ![1, 512, 1024]⟩
abbrev S512x1024 : Shape := ⟨2, ![512, 1024]⟩

abbrev nBuf : Space → Nat
  | .hbm => 15
  | .vmem => 26
  | .smem => 0
  | _ => 0

abbrev bufTy : (tb : Table) → Fin (tcTables nBuf tb) → BufTy
  | .hbm, ⟨0, _⟩ => ⟨S4224x1024, .f32⟩
  | .hbm, ⟨1, _⟩ => ⟨S4224x5888, .f32⟩
  | .hbm, ⟨2, _⟩ => ⟨S4224x512, .bf16⟩
  | .hbm, ⟨3, _⟩ => ⟨S4224x512, .bf16⟩
  | .hbm, ⟨4, _⟩ => ⟨S4224x512, .bf16⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S4224x3072, .bf16⟩
  | .hbm, ⟨10, _⟩ => ⟨S4224x512, .bf16⟩
  | .hbm, ⟨11, _⟩ => ⟨S4224x512, .bf16⟩
  | .hbm, ⟨12, _⟩ => ⟨S4224x512, .bf16⟩
  | .hbm, ⟨13, _⟩ => ⟨S3x512x1024, .f32⟩
  | .hbm, ⟨14, _⟩ => ⟨S1024x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S384x512, .bf16⟩
  | .local _ .vmem, ⟨12, _⟩ => ⟨S384x512, .bf16⟩
  | .local _ .vmem, ⟨13, _⟩ => ⟨S384x512, .bf16⟩
  | .local _ .vmem, ⟨14, _⟩ => ⟨S3x512x1024, .bf16⟩
  | .local _ .vmem, ⟨15, _⟩ => ⟨S1024x1024, .bf16⟩
  | .local _ .vmem, ⟨16, _⟩ => ⟨S384x3072, .bf16⟩
  | .local _ .vmem, ⟨17, _⟩ => ⟨S384x3072, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S384x512, .bf16⟩
  | .local _ .vmem, ⟨23, _⟩ => ⟨S384x512, .bf16⟩
  | .local _ .vmem, ⟨24, _⟩ => ⟨S3x512x1024, .f32⟩
  | .local _ .vmem, ⟨25, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeRefIdeal.lean ====
abbrev S4224x1024 : Shape := ⟨2, ![4224, 1024]⟩
abbrev S4224x5888 : Shape := ⟨2, ![4224, 5888]⟩
abbrev S4224x512 : Shape := ⟨2, ![4224, 512]⟩
abbrev S3x512x1024 : Shape := ⟨3, ![3, 512, 1024]⟩
abbrev S1024x1024 : Shape := ⟨2, ![1024, 1024]⟩
abbrev S4224x3072 : Shape := ⟨2, ![4224, 3072]⟩
abbrev S4224x1x512 : Shape := ⟨3, ![4224, 1, 512]⟩
abbrev S4224x3x512 : Shape := ⟨3, ![4224, 3, 512]⟩
abbrev S4224x3x1024 : Shape := ⟨3, ![4224, 3, 1024]⟩
abbrev S_ : Shape := ⟨0, ![]⟩
abbrev S3x1024x4224 : Shape := ⟨3, ![3, 1024, 4224]⟩
abbrev S3x4224x512 : Shape := ⟨3, ![3, 4224, 512]⟩
abbrev S3x1024x512 : Shape := ⟨3, ![3, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x5888, .f32⟩
  | .hbm, ⟨2, _⟩ => ⟨S4224x512, .bf16⟩
  | .hbm, ⟨3, _⟩ => ⟨S4224x512, .bf16⟩
  | .hbm, ⟨4, _⟩ => ⟨S4224x512, .bf16⟩
  | .hbm, ⟨5, _⟩ => ⟨S3x512x1024, .f32⟩
  | .hbm, ⟨6, _⟩ => ⟨S1024x1024, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x3072, .f32⟩
  | .hbm, ⟨11, _⟩ => ⟨S4224x1x512, .f32⟩
  | .hbm, ⟨12, _⟩ => ⟨S4224x1x512, .f32⟩
  | .hbm, ⟨13, _⟩ => ⟨S4224x1x512, .f32⟩
  | .hbm, ⟨14, _⟩ => ⟨S4224x3x512, .f32⟩
  | .hbm, ⟨15, _⟩ => ⟨S4224x3x1024, .f32⟩
  | .hbm, ⟨16, _⟩ => ⟨S4224x3x1024, .f32⟩
  | .hbm, ⟨17, _⟩ => ⟨S4224x3x1024, .f32⟩
  | .hbm, ⟨18, _⟩ => ⟨S_, .f32⟩
  | .hbm, ⟨19, _⟩ => ⟨S4224x3x1024, .f32⟩
  | .hbm, ⟨20, _⟩ => ⟨S4224x3x1024, .f32⟩
  | .hbm, ⟨21, _⟩ => ⟨S_, .f32⟩
  | .hbm, ⟨22, _⟩ => ⟨S4224x3x1024, .f32⟩
  | .hbm, ⟨23, _⟩ => ⟨S4224x3x1024, .f32⟩
  | .hbm, ⟨24, _⟩ => ⟨S_, .f32⟩
  | .hbm, ⟨25, _⟩ => ⟨S4224x3x1024, .f32⟩
  | .hbm, ⟨26, _⟩ => ⟨S4224x3x1024, .f32⟩
  | .hbm, ⟨27, _⟩ => ⟨S4224x3x1024, .f32⟩
  | .hbm, ⟨28, _⟩ => ⟨S3x1024x4224, .f32⟩
  | .hbm, ⟨29, _⟩ => ⟨S4224x3x1024, .f32⟩
  | .hbm, ⟨30, _⟩ => ⟨S4224x3x1024, .f32⟩
  | .hbm, ⟨31, _⟩ => ⟨S_, .f32⟩
  | .hbm, ⟨32, _⟩ => ⟨S4224x1024, .f32⟩
  | .hbm, ⟨33, _⟩ => ⟨S4224x1024, .f32⟩
  | .hbm, ⟨34, _⟩ => ⟨S1024x1024, .f32⟩
  | .hbm, ⟨35, _⟩ => ⟨S1024x1024, .f32⟩
  | .hbm, ⟨36, _⟩ => ⟨S4224x1024, .f32⟩
  | .hbm, ⟨37, _⟩ => ⟨S4224x3x1024, .f32⟩
  | .hbm, ⟨38, _⟩ => ⟨S4224x3x1024, .f32⟩
  | .hbm, ⟨39, _⟩ => ⟨S4224x3x1024, .f32⟩
  | .hbm, ⟨40, _⟩ => ⟨S3x1024x4224, .f32⟩
  | .hbm, ⟨41, _⟩ => ⟨S3x4224x512, .f32⟩
  | .hbm, ⟨42, _⟩ => ⟨S4224x3x512, .f32⟩
  | .hbm, ⟨43, _⟩ => ⟨S3x1024x512, .f32⟩
  | .hbm, ⟨44, _⟩ => ⟨S3x512x1024, .f32⟩
  | .hbm, ⟨45, _⟩ => ⟨S4224x3x1024, .f32⟩
  | .hbm, ⟨46, _⟩ => ⟨S4224x3072, .f32⟩
  | .hbm, ⟨47, _⟩ => ⟨S4224x1x512, .f32⟩
  | .hbm, ⟨48, _⟩ => ⟨S4224x512, .f32⟩
  | .hbm, ⟨49, _⟩ => ⟨S4224x1x512, .f32⟩
  | .hbm, ⟨50, _⟩ => ⟨S4224x512, .f32⟩
  | .hbm, ⟨51, _⟩ => ⟨S4224x1x512, .f32⟩
  | .hbm, ⟨52, _⟩ => ⟨S4224x512, .f32⟩
  | .hbm, ⟨53, _⟩ => ⟨S4224x3072, .bf16⟩
  | .hbm, ⟨54, _⟩ => ⟨S4224x512, .bf16⟩
  | .hbm, ⟨55, _⟩ => ⟨S4224x512, .bf16⟩
  | .hbm, ⟨56, _⟩ => ⟨S4224x512, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Dc.lean ====
abbrev S4224x5632 : Shape := ⟨2, ![4224, 5632]⟩
abbrev S4224x1024 : Shape := ⟨2, ![4224, 1024]⟩
abbrev S2816x1024 : Shape := ⟨2, ![2816, 1024]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1x5632 : Shape := ⟨2, ![1, 5632]⟩
abbrev S4224x2816 : Shape := ⟨2, ![4224, 2816]⟩
abbrev S8x2816 : Shape := ⟨2, ![8, 2816]⟩
abbrev S128x2816 : Shape := ⟨2, ![128, 2816]⟩
abbrev S1x2816 : Shape := ⟨2, ![1, 2816]⟩
abbrev S128x1024 : Shape := ⟨2, ![128, 1024]⟩
abbrev S120x2816 : Shape := ⟨2, ![120, 2816]⟩
abbrev S2816 : Shape := ⟨1, ![2816]⟩

abbrev nBuf : Space → Nat
  | .hbm => 16
  | .vmem => 23
  | .smem => 0
  | _ => 0

abbrev bufTy : (tb : Table) → Fin (tcTables nBuf tb) → BufTy
  | .hbm, ⟨0, _⟩ => ⟨S4224x5632, .f32⟩
  | .hbm, ⟨1, _⟩ => ⟨S4224x1024, .f32⟩
  | .hbm, ⟨2, _⟩ => ⟨S2816x1024, .f32⟩
  | .hbm, ⟨3, _⟩ => ⟨S3x5632, .f32⟩
  | .hbm, ⟨4, _⟩ => ⟨S5632, .f32⟩
  | .hbm, ⟨5, _⟩ => ⟨S_, .i32⟩
  | .hbm, ⟨6, _⟩ => ⟨S_, .f32⟩
  | .hbm, ⟨7, _⟩ => ⟨S8x5632, .f32⟩
  | .hbm, ⟨8, _⟩ => ⟨S2816x1024, .bf16⟩
  | .hbm, ⟨9, _⟩ => ⟨S1x5632, .f32⟩
  | .hbm, ⟨10, _⟩ => ⟨S4224x2816, .f32⟩
  | .hbm, ⟨11, _⟩ => ⟨S4224x2816, .f32⟩
  | .hbm, ⟨12, _⟩ => ⟨S8x2816, .f32⟩
  | .hbm, ⟨13, _⟩ => ⟨S8x2816, .f32⟩
  | .hbm, ⟨14, _⟩ => ⟨S8x2816, .f32⟩
  | .hbm, ⟨15, _⟩ => ⟨S8x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S8x2816, .f32⟩
  | .local _ .vmem, ⟨9, _⟩ => ⟨S8x2816, .f32⟩
  | .local _ .vmem, ⟨10, _⟩ => ⟨S1x2816, .f32⟩
  | .local _ .vmem, ⟨11, _⟩ => ⟨S1x2816, .f32⟩
  | .local _ .vmem, ⟨12, _⟩ => ⟨S128x1024, .f32⟩
  | .local _ .vmem, ⟨13, _⟩ => ⟨S128x1024, .f32⟩
  | .local _ .vmem, ⟨14, _⟩ => ⟨S2816x1024, .bf16⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .vmem, ⟨18, _⟩ => ⟨S128x2816, .f32⟩
  | .local _ .vmem, ⟨19, _⟩ => ⟨S8x2816, .f32⟩
  | .local _ .vmem, ⟨20, _⟩ => ⟨S8x2816, .f32⟩
  | .local _ .vmem, ⟨21, _⟩ => ⟨S8x2816, .f32⟩
  | .local _ .vmem, ⟨22, _⟩ => ⟨S8x2816, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DcRefIdeal.lean ====
abbrev S4224x5632 : Shape := ⟨2, ![4224, 5632]⟩
abbrev S4224x1024 : Shape := ⟨2, ![4224, 1024]⟩
abbrev S2816x1024 : Shape := ⟨2, ![2816, 1024]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4226x5632 : Shape := ⟨2, ![4226, 5632]⟩
abbrev S1x5632 : Shape := ⟨2, ![1, 5632]⟩
abbrev S4224x2816 : Shape := ⟨2, ![4224, 2816]⟩
abbrev S8x5632 : Shape := ⟨2, ![8, 5632]⟩
abbrev S8x2816 : Shape := ⟨2, ![8, 2816]⟩

abbrev nBuf : Space → Nat
  | .hbm => 129
  | .vmem => 0
  | .smem => 0
  | _ => 0

abbrev hbmTy0_0 (i : Nat) : BufTy := match i % 128 with
  | 0 => ⟨S4224x5632, .f32⟩
  | 1 => ⟨S4224x1024, .f32⟩
  | 2 => ⟨S2816x1024, .f32⟩
  | 3 => ⟨S3x5632, .f32⟩
  | 4 => ⟨S5632, .f32⟩
  | 5 => ⟨S_, .f32⟩
  | 6 => ⟨S2x5632, .f32⟩
  | 7 => ⟨S4226x5632, .f32⟩
  | 8 => ⟨S1x5632, .f32⟩
  | 9 => ⟨S5632, .f32⟩
  | 10 => ⟨S4224x5632, .f32⟩
  | 11 => ⟨S1x5632, .f32⟩
  | 12 => ⟨S4224x5632, .f32⟩
  | 13 => ⟨S4224x5632, .f32⟩
  | 14 => ⟨S1x5632, .f32⟩
  | 15 => ⟨S4224x5632, .f32⟩
  | 16 => ⟨S4224x5632, .f32⟩
  | 17 => ⟨S1x5632, .f32⟩
  | 18 => ⟨S5632, .f32⟩
  | 19 => ⟨S4224x5632, .f32⟩
  | 20 => ⟨S1x5632, .f32⟩
  | 21 => ⟨S4224x5632, .f32⟩
  | 22 => ⟨S4224x5632, .f32⟩
  | 23 => ⟨S4224x5632, .f32⟩
  | 24 => ⟨S1x5632, .f32⟩
  | 25 => ⟨S5632, .f32⟩
  | 26 => ⟨S4224x5632, .f32⟩
  | 27 => ⟨S1x5632, .f32⟩
  | 28 => ⟨S4224x5632, .f32⟩
  | 29 => ⟨S4224x5632, .f32⟩
  | 30 => ⟨S4224x5632, .f32⟩
  | 31 => ⟨S4224x2816, .f32⟩
  | 32 => ⟨S4224x2816, .f32⟩
  | 33 => ⟨S4224x2816, .f32⟩
  | 34 => ⟨S4224x2816, .f32⟩
  | 35 => ⟨S_, .f32⟩
  | 36 => ⟨S4224x2816, .f32⟩
  | 37 => ⟨S4224x2816, .f32⟩
  | 38 => ⟨S_, .f32⟩
  | 39 => ⟨S4224x2816, .f32⟩
  | 40 => ⟨S4224x2816, .f32⟩
  | 41 => ⟨S_, .f32⟩
  | 42 => ⟨S4224x2816, .f32⟩
  | 43 => ⟨S4224x2816, .f32⟩
  | 44 => ⟨S4224x2816, .f32⟩
  | 45 => ⟨S4224x2816, .f32⟩
  | 46 => ⟨S4224x2816, .f32⟩
  | 47 => ⟨S4224x1024, .f32⟩
  | 48 => ⟨S4224x2816, .f32⟩
  | 49 => ⟨S4224x2816, .f32⟩
  | 50 => ⟨S4224x2816, .f32⟩
  | 51 => ⟨S4224x2816, .f32⟩
  | 52 => ⟨S4224x2816, .f32⟩
  | 53 => ⟨S4224x2816, .f32⟩
  | 54 => ⟨S4224x2816, .f32⟩
  | 55 => ⟨S4224x5632, .f32⟩
  | 56 => ⟨S_, .f32⟩
  | 57 => ⟨S2x5632, .f32⟩
  | 58 => ⟨S4226x5632, .f32⟩
  | 59 => ⟨S1x5632, .f32⟩
  | 60 => ⟨S5632, .f32⟩
  | 61 => ⟨S4224x5632, .f32⟩
  | 62 => ⟨S1x5632, .f32⟩
  | 63 => ⟨S4224x5632, .f32⟩
  | 64 => ⟨S4224x5632, .f32⟩
  | 65 => ⟨S1x5632, .f32⟩
  | 66 => ⟨S4224x5632, .f32⟩
  | 67 => ⟨S4224x5632, .f32⟩
  | 68 => ⟨S1x5632, .f32⟩
  | 69 => ⟨S5632, .f32⟩
  | 70 => ⟨S4224x5632, .f32⟩
  | 71 => ⟨S1x5632, .f32⟩
  | 72 => ⟨S4224x5632, .f32⟩
  | 73 => ⟨S4224x5632, .f32⟩
  | 74 => ⟨S4224x5632, .f32⟩
  | 75 => ⟨S1x5632, .f32⟩
  | 76 => ⟨S5632, .f32⟩
  | 77 => ⟨S4224x5632, .f32⟩
  | 78 => ⟨S1x5632, .f32⟩
  | 79 => ⟨S4224x5632, .f32⟩
  | 80 => ⟨S4224x5632, .f32⟩
  | 81 => ⟨S4224x5632, .f32⟩
  | 82 => ⟨S4224x5632, .f32⟩
  | 83 => ⟨S_, .f32⟩
  | 84 => ⟨S5632, .f32⟩
  | 85 => ⟨S1x5632, .f32⟩
  | 86 => ⟨S_, .f32⟩
  | 87 => ⟨S5632, .f32⟩
  | 88 => ⟨S1x5632, .f32⟩
  | 89 => ⟨S_, .f32⟩
  | 90 => ⟨S3x5632, .f32⟩
  | 91 => ⟨S4224x5632, .f32⟩
  | 92 => ⟨S_, .f32⟩
  | 93 => ⟨S5632, .f32⟩
  | 94 => ⟨S1x5632, .f32⟩
  | 95 => ⟨S_, .f32⟩
  | 96 => ⟨S5632, .f32⟩
  | 97 => ⟨S1x5632, .f32⟩
  | 98 => ⟨S_, .f32⟩
  | 99 => ⟨S3x5632, .f32⟩
  | 100 => ⟨S3x5632, .f32⟩
  | 101 => ⟨S_, .f32⟩
  | 102 => ⟨S5632, .f32⟩
  | 103 => ⟨S1x5632, .f32⟩
  | 104 => ⟨S_, .f32⟩
  | 105 => ⟨S5632, .f32⟩
  | 106 => ⟨S4224x5632, .f32⟩
  | 107 => ⟨S_, .f32⟩
  | 108 => ⟨S5632, .f32⟩
  | 109 => ⟨S1x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .i32⟩
  | 117 => ⟨S_, .f32⟩
  | 118 => ⟨S8x5632, .f32⟩
  | 119 => ⟨S1x5632, .f32⟩
  | 120 => ⟨S_, .i32⟩
  | 121 => ⟨S_, .f32⟩
  | 122 => ⟨S8x5632, .f32⟩
  | 123 => ⟨S4224x2816, .f32⟩
  | 124 => ⟨S4224x2816, .f32⟩
  | 125 => ⟨S8x2816, .f32⟩
  | 126 => ⟨S8x2816, .f32⟩
  | 127 => ⟨S8x2816, .f32⟩
  | _ => ⟨S4224x5632, .f32⟩

abbrev hbmTy0_1 (i : Nat) : BufTy := match i % 128 with
  | 0 => ⟨S8x2816, .f32⟩
  | _ => ⟨S4224x5632, .f32⟩

abbrev hbmTy (i : Nat) : BufTy := match i / 128 with
  | 0 => hbmTy0_0 i
  | 1 => hbmTy0_1 i
  | _ => ⟨S4224x5632, .f32⟩

abbrev bufTy : (tb : Table) → Fin (tcTables nBuf tb) → BufTy
  | .hbm, ⟨i, _⟩ => hbmTy i
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_cst_0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_1 : Ref sig .tc := ⟨.hbm, 83, rfl⟩
abbrev main_v61 : Ref sig .tc := ⟨.hbm, 84, rfl⟩
abbrev main_v62 : Ref sig .tc := ⟨.hbm, 85, rfl⟩
abbrev main_cst_2 : Ref sig .tc := ⟨.hbm, 86, rfl⟩
abbrev main_v63 : Ref sig .tc := ⟨.hbm, 87, rfl⟩
abbrev main_v64 : Ref sig .tc := ⟨.hbm, 88, rfl⟩
abbrev main_cst_3 : Ref sig .tc := ⟨.hbm, 89, rfl⟩
abbrev main_v65 : Ref sig .tc := ⟨.hbm, 90, rfl⟩
abbrev main_v66 : Ref sig .tc := ⟨.hbm, 91, rfl⟩
abbrev main_cst_4 : Ref sig .tc := ⟨.hbm, 92, rfl⟩
abbrev main_v67 : Ref sig .tc := ⟨.hbm, 93, rfl⟩
abbrev main_v68 : Ref sig .tc := ⟨.hbm, 94, rfl⟩
abbrev main_cst_5 : Ref sig .tc := ⟨.hbm, 95, rfl⟩
abbrev main_v69 : Ref sig .tc := ⟨.hbm, 96, rfl⟩
abbrev main_v70 : Ref sig .tc := ⟨.hbm, 97, rfl⟩
abbrev main_cst_6 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_v76 : Ref sig .tc := ⟨.hbm, 106, rfl⟩
abbrev main_cst_9 : Ref sig .tc := ⟨.hbm, 107, rfl⟩
abbrev main_v77 : Ref sig .tc := ⟨.hbm, 108, rfl⟩
abbrev main_v78 : Ref sig .tc := ⟨.hbm, 109, rfl⟩
abbrev main_cst_10 : Ref sig .tc := ⟨.hbm, 110, rfl⟩
abbrev main_v79 : Ref sig .tc := ⟨.hbm, 111, rfl⟩
abbrev main_v80 : Ref sig .tc := ⟨.hbm, 112, rfl⟩
abbrev main_cst_11 : Ref sig .tc := ⟨.hbm, 113, rfl⟩
abbrev main_v81 : Ref sig .tc := ⟨.hbm, 114, rfl⟩
abbrev main_v82 : Ref sig .tc := ⟨.hbm, 115, rfl⟩
abbrev main_c : Ref sig .tc := ⟨.hbm, 116, rfl⟩
abbrev main_call2_v0 : Ref sig .tc := ⟨.hbm, 117, rfl⟩
abbrev main_v83 : Ref sig .tc := ⟨.hbm, 118, rfl⟩
abbrev main_v84 : Ref sig .tc := ⟨.hbm, 119, rfl⟩
abbrev main_c_12 : Ref sig .tc := ⟨.hbm, 120, rfl⟩
abbrev main_call3_v0 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Du.lean ====
abbrev S4224x2816 : Shape := ⟨2, ![4224, 2816]⟩
abbrev S3x5632 : Shape := ⟨2, ![3, 5632]⟩
abbrev S_ : Shape := ⟨0, ![]⟩
abbrev S8x5632 : Shape := ⟨2, ![8, 5632]⟩
abbrev S4224x5632 : Shape := ⟨2, ![4224, 5632]⟩
abbrev S192x2816 : Shape := ⟨2, ![192, 2816]⟩
abbrev S8x2816 : Shape := ⟨2, ![8, 2816]⟩
abbrev S192x5632 : Shape := ⟨2, ![192, 5632]⟩
abbrev S1x2816 : Shape := ⟨2, ![1, 2816]⟩
abbrev S184x2816 : Shape := ⟨2, ![184, 2816]⟩

abbrev nBuf : Space → Nat
  | .hbm => 7
  | .vmem => 12
  | .smem => 0
  | _ => 0

abbrev bufTy : (tb : Table) → Fin (tcTables nBuf tb) → BufTy
  | .hbm, ⟨0, _⟩ => ⟨S4224x2816, .f32⟩
  | .hbm, ⟨1, _⟩ => ⟨S4224x2816, .f32⟩
  | .hbm, ⟨2, _⟩ => ⟨S3x5632, .f32⟩
  | .hbm, ⟨3, _⟩ => ⟨S_, .i32⟩
  | .hbm, ⟨4, _⟩ => ⟨S_, .f32⟩
  | .hbm, ⟨5, _⟩ => ⟨S8x5632, .f32⟩
  | .hbm, ⟨6, _⟩ => ⟨S4224x5632, .bf16⟩
  | .local _ .vmem, ⟨0, _⟩ => ⟨S192x2816, .f32⟩
  | .local _ .vmem, ⟨1, _⟩ => ⟨S192x2816, .f32⟩
  | .local _ .vmem, ⟨2, _⟩ => ⟨S192x2816, .f32⟩
  | .local _ .vmem, ⟨3, _⟩ => ⟨S192x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S8x2816, .f32⟩
  | .local _ .vmem, ⟨9, _⟩ => ⟨S8x2816, .f32⟩
  | .local _ .vmem, ⟨10, _⟩ => ⟨S192x5632, .bf16⟩
  | .local _ .vmem, ⟨11, _⟩ => ⟨S192x5632, .bf16⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.muli v0 c24_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.muli v0 c24_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DuRefIdeal.lean ====
abbrev S4224x2816 : Shape := ⟨2, ![4224, 2816]⟩
abbrev S3x5632 : Shape := ⟨2, ![3, 5632]⟩
abbrev S_ : Shape := ⟨0, ![]⟩
abbrev S4224x5632 : Shape := ⟨2, ![4224, 5632]⟩
abbrev S5632 : Shape := ⟨1, ![5632]⟩
abbrev S2x5632 : Shape := ⟨2, ![2, 5632]⟩
abbrev S4226x5632 : Shape := ⟨2, ![4226, 5632]⟩
abbrev S1x5632 : Shape := ⟨2, ![1, 5632]⟩

abbrev nBuf : Space → Nat
  | .hbm => 53
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S4224x2816, .f32⟩
  | .hbm, ⟨2, _⟩ => ⟨S3x5632, .f32⟩
  | .hbm, ⟨3, _⟩ => ⟨S_, .f32⟩
  | .hbm, ⟨4, _⟩ => ⟨S4224x5632, .f32⟩
  | .hbm, ⟨5, _⟩ => ⟨S_, .f32⟩
  | .hbm, ⟨6, _⟩ => ⟨S5632, .f32⟩
  | .hbm, ⟨7, _⟩ => ⟨S_, .f32⟩
  | .hbm, ⟨8, _⟩ => ⟨S2x5632, .f32⟩
  | .hbm, ⟨9, _⟩ => ⟨S4226x5632, .f32⟩
  | .hbm, ⟨10, _⟩ => ⟨S_, .f32⟩
  | .hbm, ⟨11, _⟩ => ⟨S2x5632, .f32⟩
  | .hbm, ⟨12, _⟩ => ⟨S1x5632, .f32⟩
  | .hbm, ⟨13, _⟩ => ⟨S5632, .f32⟩
  | .hbm, ⟨14, _⟩ => ⟨S4224x5632, .f32⟩
  | .hbm, ⟨15, _⟩ => ⟨S1x5632, .f32⟩
  | .hbm, ⟨16, _⟩ => ⟨S4224x5632, .f32⟩
  | .hbm, ⟨17, _⟩ => ⟨S4224x5632, .f32⟩
  | .hbm, ⟨18, _⟩ => ⟨S1x5632, .f32⟩
  | .hbm, ⟨19, _⟩ => ⟨S4224x5632, .f32⟩
  | .hbm, ⟨20, _⟩ => ⟨S4224x5632, .f32⟩
  | .hbm, ⟨21, _⟩ => ⟨S1x5632, .f32⟩
  | .hbm, ⟨22, _⟩ => ⟨S5632, .f32⟩
  | .hbm, ⟨23, _⟩ => ⟨S4224x5632, .f32⟩
  | .hbm, ⟨24, _⟩ => ⟨S1x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S1x5632, .f32⟩
  | .hbm, ⟨29, _⟩ => ⟨S5632, .f32⟩
  | .hbm, ⟨30, _⟩ => ⟨S4224x5632, .f32⟩
  | .hbm, ⟨31, _⟩ => ⟨S1x5632, .f32⟩
  | .hbm, ⟨32, _⟩ => ⟨S4224x5632, .f32⟩
  | .hbm, ⟨33, _⟩ => ⟨S4224x5632, .f32⟩
  | .hbm, ⟨34, _⟩ => ⟨S4224x5632, .f32⟩
  | .hbm, ⟨35, _⟩ => ⟨S4224x5632, .f32⟩
  | .hbm, ⟨36, _⟩ => ⟨S4224x5632, .f32⟩
  | .hbm, ⟨37, _⟩ => ⟨S4224x5632, .f32⟩
  | .hbm, ⟨38, _⟩ => ⟨S_, .f32⟩
  | .hbm, ⟨39, _⟩ => ⟨S4226x5632, .f32⟩
  | .hbm, ⟨40, _⟩ => ⟨S4224x5632, .f32⟩
  | .hbm, ⟨41, _⟩ => ⟨S4224x5632, .f32⟩
  | .hbm, ⟨42, _⟩ => ⟨S_, .f32⟩
  | .hbm, ⟨43, _⟩ => ⟨S4226x5632, .f32⟩
  | .hbm, ⟨44, _⟩ => ⟨S4226x5632, .f32⟩
  | .hbm, ⟨45, _⟩ => ⟨S4224x5632, .f32⟩
  | .hbm, ⟨46, _⟩ => ⟨S4224x5632, .f32⟩
  | .hbm, ⟨47, _⟩ => ⟨S_, .f32⟩
  | .hbm, ⟨48, _⟩ => ⟨S4226x5632, .f32⟩
  | .hbm, ⟨49, _⟩ => ⟨S4226x5632, .f32⟩
  | .hbm, ⟨50, _⟩ => ⟨S2x5632, .f32⟩
  | .hbm, ⟨51, _⟩ => ⟨S4224x5632, .f32⟩
  | .hbm, ⟨52, _⟩ => ⟨S4224x5632, .bf16⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== DwDown.lean ====
abbrev S4224x2816 : Shape := ⟨2, ![4224, 2816]⟩
abbrev S4224x1024 : Shape := ⟨2, ![4224, 1024]⟩
abbrev S2816x1024 : Shape := ⟨2, ![2816, 1024]⟩
abbrev S384x2816 : Shape := ⟨2, ![384, 2816]⟩
abbrev S384x1024 : Shape := ⟨2, ![384, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .bf16⟩
  | .local _ .vmem, ⟨0, _⟩ => ⟨S384x2816, .bf16⟩
  | .local _ .vmem, ⟨1, _⟩ => ⟨S384x2816, .bf16⟩
  | .local _ .vmem, ⟨2, _⟩ => ⟨S384x1024, .f32⟩
  | .local _ .vmem, ⟨3, _⟩ => ⟨S384x1024, .f32⟩
  | .local _ .vmem, ⟨4, _⟩ => ⟨S2816x1024, .bf16⟩
  | .local _ .vmem, ⟨5, _⟩ => ⟨S2816x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwDownRefIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S4224x1024 : Shape := ⟨2, ![4224, 1024]⟩
abbrev S4224x5632 : Shape := ⟨2, ![4224, 5632]⟩
abbrev S1024x5632 : Shape := ⟨2, ![1024, 5632]⟩
abbrev S384x1024 : Shape := ⟨2, ![384, 1024]⟩
abbrev S384x2816 : Shape := ⟨2, ![384, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .bf16⟩
  | .local _ .vmem, ⟨0, _⟩ => ⟨S384x1024, .bf16⟩
  | .local _ .vmem, ⟨1, _⟩ => ⟨S384x1024, .bf16⟩
  | .local _ .vmem, ⟨2, _⟩ => ⟨S384x2816, .bf16⟩
  | .local _ .vmem, ⟨3, _⟩ => ⟨S384x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S4224x1024 : Shape := ⟨2, ![4224, 1024]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S_, .f32⟩
  | .hbm, ⟨3, _⟩ => ⟨S1024x5632, .f32⟩
  | .hbm, ⟨4, _⟩ => ⟨S4224x1024, .f32⟩
  | .hbm, ⟨5, _⟩ => ⟨S4224x5632, .f32⟩
  | .hbm, ⟨6, _⟩ => ⟨S4224x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx.lean ====
abbrev S4224x5632 : Shape := ⟨2, ![4224, 5632]⟩
abbrev S1024x5632 : Shape := ⟨2, ![1024, 5632]⟩
abbrev S4224x1024 : Shape := ⟨2, ![4224, 1024]⟩
abbrev S1024 : Shape := ⟨1, ![1024]⟩
abbrev S1x1024 : Shape := ⟨2, ![1, 1024]⟩
abbrev S384x5632 : Shape := ⟨2, ![384, 5632]⟩
abbrev S384x1024 : Shape := ⟨2, ![384, 1024]⟩
abbrev S384 : Shape := ⟨1, ![384]⟩
abbrev S384x1 : Shape := ⟨2, ![384, 1]⟩

abbrev nBuf : Space → Nat
  | .hbm => 9
  | .vmem => 11
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S1024x5632, .bf16⟩
  | .hbm, ⟨6, _⟩ => ⟨S1x1024, .f32⟩
  | .hbm, ⟨7, _⟩ => ⟨S4224x1024, .f32⟩
  | .hbm, ⟨8, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S1024x5632, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxRefIdeal.lean ====
abbrev S4224x5632 : Shape := ⟨2, ![4224, 5632]⟩
abbrev S1024x5632 : Shape := ⟨2, ![1024, 5632]⟩
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x5632, .f32⟩
  | .hbm, ⟨26, _⟩ => ⟨S4224x5632, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S_, .f32⟩
  | .hbm, ⟨35, _⟩ => ⟨S1024, .f32⟩
  | .hbm, ⟨36, _⟩ => ⟨S4224x1024, .f32⟩
  | .hbm, ⟨37, _⟩ => ⟨S_, .f32⟩
  | .hbm, ⟨38, _⟩ => ⟨S4224, .f32⟩
  | .hbm, ⟨39, _⟩ => ⟨S4224x1, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S1x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InDx.lean ====
abbrev S4224x3072 : Shape := ⟨2, ![4224, 3072]⟩
abbrev S4224x2816 : Shape := ⟨2, ![4224, 2816]⟩
abbrev S1024x5888 : Shape := ⟨2, ![1024, 5888]⟩
abbrev S4224x1024 : Shape := ⟨2, ![4224, 1024]⟩
abbrev S1024 : Shape := ⟨1, ![1024]⟩
abbrev S1x1024 : Shape := ⟨2, ![1, 1024]⟩
abbrev S384x3072 : Shape := ⟨2, ![384, 3072]⟩
abbrev S384x2816 : Shape := ⟨2, ![384, 2816]⟩
abbrev S384x1024 : Shape := ⟨2, ![384, 1024]⟩
abbrev S1024x3072 : Shape := ⟨2, ![1024, 3072]⟩
abbrev S1024x2816 : Shape := ⟨2, ![1024, 2816]⟩
abbrev S384 : Shape := ⟨1, ![384]⟩
abbrev S384x1 : Shape := ⟨2, ![384, 1]⟩

abbrev nBuf : Space → Nat
  | .hbm => 10
  | .vmem => 13
  | .smem => 0
  | _ => 0

abbrev bufTy : (tb : Table) → Fin (tcTables nBuf tb) → BufTy
  | .hbm, ⟨0, _⟩ => ⟨S4224x3072, .bf16⟩
  | .hbm, ⟨1, _⟩ => ⟨S4224x2816, .bf16⟩
  | .hbm, ⟨2, _⟩ => ⟨S1024x5888, .f32⟩
  | .hbm, ⟨3, _⟩ => ⟨S4224x1024, .f32⟩
  | .hbm, ⟨4, _⟩ => ⟨S1024, .f32⟩
  | .hbm, ⟨5, _⟩ => ⟨S4224x1024, .f32⟩
  | .hbm, ⟨6, _⟩ => ⟨S1024x5888, .bf16⟩
  | .hbm, ⟨7, _⟩ => ⟨S1x1024, .f32⟩
  | .hbm, ⟨8, _⟩ => ⟨S4224x1024, .f32⟩
  | .hbm, ⟨9, _⟩ => ⟨S1x1024, .f32⟩
  | .local _ .vmem, ⟨0, _⟩ => ⟨S384x3072, .bf16⟩
  | .local _ .vmem, ⟨1, _⟩ => ⟨S384x3072, .bf16⟩
  | .local _ .vmem, ⟨2, _⟩ => ⟨S384x2816, .bf16⟩
  | .local _ .vmem, ⟨3, _⟩ => ⟨S384x2816, .bf16⟩
  | .local _ .vmem, ⟨4, _⟩ => ⟨S1024x5888, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x1024, .f32⟩
  | _, _ => ⟨S4224x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S4224x3072 : Shape := ⟨2, ![4224, 3072]⟩
abbrev S4224x2816 : Shape := ⟨2, ![4224, 2816]⟩
abbrev S1024x5888 : Shape := ⟨2, ![1024, 5888]⟩
abbrev S4224x1024 : Shape := ⟨2, ![4224, 1024]⟩
abbrev S1024 : Shape := ⟨1, ![1024]⟩
abbrev S4224x5888 : Shape := ⟨2, ![4224, 5888]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4224x3072, .bf16⟩
  | .hbm, ⟨1, _⟩ => ⟨S4224x2816, .bf16⟩
  | .hbm, ⟨2, _⟩ => ⟨S1024x5888, .f32⟩
  | .hbm, ⟨3, _⟩ => ⟨S4224x1024, .f32⟩
  | .hbm, ⟨4, _⟩ => ⟨S1024, .f32⟩
  | .hbm, ⟨5, _⟩ => ⟨S4224x1024, .f32⟩
  | .hbm, ⟨6, _⟩ => ⟨S4224x5888, .bf16⟩
  | .hbm, ⟨7, _⟩ => ⟨S4224x5888, .f32⟩
  | .hbm, ⟨8, _⟩ => ⟨S4224x1024, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1024, .f32⟩
  | .hbm, ⟨24, _⟩ => ⟨S4224x1024, .f32⟩
  | .hbm, ⟨25, _⟩ => ⟨S1x1024, .f32⟩
  | .hbm, ⟨26, _⟩ => ⟨S4224x1024, .f32⟩
  | .hbm, ⟨27, _⟩ => ⟨S4224x1024, .f32⟩
  | .hbm, ⟨28, _⟩ => ⟨S4224x5888, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S1024, .f32⟩
  | .hbm, ⟨38, _⟩ => ⟨S4224x1024, .f32⟩
  | .hbm, ⟨39, _⟩ => ⟨S_, .f32⟩
  | .hbm, ⟨40, _⟩ => ⟨S4224, .f32⟩
  | .hbm, ⟨41, _⟩ => ⟨S4224x1, .f32⟩
  | .hbm, ⟨42, _⟩ => ⟨S4224x1024, .f32⟩
  | .hbm, ⟨43, _⟩ => ⟨S4224x1024, .f32⟩
  | .hbm, ⟨44, _⟩ => ⟨S4224x1, .f32⟩
  | .hbm, ⟨45, _⟩ => ⟨S_, .f32⟩
  | .hbm, ⟨46, _⟩ => ⟨S4224x1, .f32⟩
  | .hbm, ⟨47, _⟩ => ⟨S4224x1, .f32⟩
  | .hbm, ⟨48, _⟩ => ⟨S_, .f32⟩
  | .hbm, ⟨49, _⟩ => ⟨S4224, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S1x1024, .f32⟩
  | _, _ => ⟨S4224x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== InDwGates.lean ====
abbrev S4224x1024 : Shape := ⟨2, ![4224, 1024]⟩
abbrev S4224x3072 : Shape := ⟨2, ![4224, 3072]⟩
abbrev S1024x3072 : Shape := ⟨2, ![1024, 3072]⟩
abbrev S384x1024 : Shape := ⟨2, ![384, 1024]⟩
abbrev S384x3072 : Shape := ⟨2, ![384, 3072]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x3072, .bf16⟩
  | .hbm, ⟨2, _⟩ => ⟨S1024x3072, .bf16⟩
  | .local _ .vmem, ⟨0, _⟩ => ⟨S384x1024, .bf16⟩
  | .local _ .vmem, ⟨1, _⟩ => ⟨S384x1024, .bf16⟩
  | .local _ .vmem, ⟨2, _⟩ => ⟨S384x3072, .bf16⟩
  | .local _ .vmem, ⟨3, _⟩ => ⟨S384x3072, .bf16⟩
  | .local _ .vmem, ⟨4, _⟩ => ⟨S1024x3072, .bf16⟩
  | .local _ .vmem, ⟨5, _⟩ => ⟨S1024x3072, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InDwGatesRefIdeal.lean ====
abbrev S4224x1024 : Shape := ⟨2, ![4224, 1024]⟩
abbrev S4224x3072 : Shape := ⟨2, ![4224, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x3072, .bf16⟩
  | .hbm, ⟨2, _⟩ => ⟨S_, .f32⟩
  | .hbm, ⟨3, _⟩ => ⟨S1024x3072, .f32⟩
  | .hbm, ⟨4, _⟩ => ⟨S4224x1024, .f32⟩
  | .hbm, ⟨5, _⟩ => ⟨S4224x3072, .f32⟩
  | .hbm, ⟨6, _⟩ => ⟨S4224x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwOther.lean ====
abbrev S4224x1024 : Shape := ⟨2, ![4224, 1024]⟩
abbrev S4224x2816 : Shape := ⟨2, ![4224, 2816]⟩
abbrev S1024x2816 : Shape := ⟨2, ![1024, 2816]⟩
abbrev S384x1024 : Shape := ⟨2, ![384, 1024]⟩
abbrev S384x2816 : Shape := ⟨2, ![384, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1024x2816, .bf16⟩
  | .local _ .vmem, ⟨0, _⟩ => ⟨S384x1024, .bf16⟩
  | .local _ .vmem, ⟨1, _⟩ => ⟨S384x1024, .bf16⟩
  | .local _ .vmem, ⟨2, _⟩ => ⟨S384x2816, .bf16⟩
  | .local _ .vmem, ⟨3, _⟩ => ⟨S384x2816, .bf16⟩
  | .local _ .vmem, ⟨4, _⟩ => ⟨S1024x2816, .bf16⟩
  | .local _ .vmem, ⟨5, _⟩ => ⟨S1024x2816, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InDwOtherRefIdeal.lean ====
abbrev S4224x1024 : Shape := ⟨2, ![4224, 1024]⟩
abbrev S4224x2816 : Shape := ⟨2, ![4224, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S4224x1024 : Shape := ⟨2, ![4224, 1024]⟩
abbrev S1024 : Shape := ⟨1, ![1024]⟩
abbrev S1024x5888 : Shape := ⟨2, ![1024, 5888]⟩
abbrev S1x1024 : Shape := ⟨2, ![1, 1024]⟩
abbrev S4224x5888 : Shape := ⟨2, ![4224, 5888]⟩
abbrev S384x1024 : Shape := ⟨2, ![384, 1024]⟩
abbrev S384x5888 : Shape := ⟨2, ![384, 5888]⟩
abbrev S384 : Shape := ⟨1, ![384]⟩
abbrev S384x1 : Shape := ⟨2, ![384, 1]⟩

abbrev nBuf : Space → Nat
  | .hbm => 7
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5888, .f32⟩
  | .hbm, ⟨3, _⟩ => ⟨S1x1024, .f32⟩
  | .hbm, ⟨4, _⟩ => ⟨S1024x5888, .bf16⟩
  | .hbm, ⟨5, _⟩ => ⟨S4224x1024, .bf16⟩
  | .hbm, ⟨6, _⟩ => ⟨S4224x5888, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x5888, .bf16⟩
  | .local _ .vmem, ⟨4, _⟩ => ⟨S384x1024, .bf16⟩
  | .local _ .vmem, ⟨5, _⟩ => ⟨S384x1024, .bf16⟩
  | .local _ .vmem, ⟨6, _⟩ => ⟨S384x5888, .f32⟩
  | .local _ .vmem, ⟨7, _⟩ => ⟨S384x5888, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x5888 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S4224x1024 : Shape := ⟨2, ![4224, 1024]⟩
abbrev S1024 : Shape := ⟨1, ![1024]⟩
abbrev S1024x5888 : Shape := ⟨2, ![1024, 5888]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x5888 : Shape := ⟨2, ![4224, 5888]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5888, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S4224x1024, .f32⟩
  | .hbm, ⟨19, _⟩ => ⟨S4224x1024, .bf16⟩
  | .hbm, ⟨20, _⟩ => ⟨S4224x5888, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnUp.lean ====
abbrev S4224x1024 : Shape := ⟨2, ![4224, 1024]⟩
abbrev S1024 : Shape := ⟨1, ![1024]⟩
abbrev S1024x5632 : Shape := ⟨2, ![1024, 5632]⟩
abbrev S1x1024 : Shape := ⟨2, ![1, 1024]⟩
abbrev S4224x5632 : Shape := ⟨2, ![4224, 5632]⟩
abbrev S384x1024 : Shape := ⟨2, ![384, 1024]⟩
abbrev S384x5632 : Shape := ⟨2, ![384, 5632]⟩
abbrev S384 : Shape := ⟨1, ![384]⟩
abbrev S384x1 : Shape := ⟨2, ![384, 1]⟩

abbrev nBuf : Space → Nat
  | .hbm => 7
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S4224x1024, .bf16⟩
  | .hbm, ⟨6, _⟩ => ⟨S4224x5632, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x5632, .bf16⟩
  | .local _ .vmem, ⟨4, _⟩ => ⟨S384x1024, .bf16⟩
  | .local _ .vmem, ⟨5, _⟩ => ⟨S384x1024, .bf16⟩
  | .local _ .vmem, ⟨6, _⟩ => ⟨S384x5632, .f32⟩
  | .local _ .vmem, ⟨7, _⟩ => ⟨S384x5632, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S4224x1024 : Shape := ⟨2, ![4224, 1024]⟩
abbrev S1024 : Shape := ⟨1, ![1024]⟩
abbrev S1024x5632 : Shape := ⟨2, ![1024, 5632]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x5632 : Shape := ⟨2, ![4224, 5632]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5632, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S4224x1024, .f32⟩
  | .hbm, ⟨19, _⟩ => ⟨S4224x1024, .bf16⟩
  | .hbm, ⟨20, _⟩ => ⟨S4224x5632, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MergeFwd.lean ====
abbrev S4224x1024 : Shape := ⟨2, ![4224, 1024]⟩
abbrev S4224x5888 : Shape := ⟨2, ![4224, 5888]⟩
abbrev S4224x512 : Shape := ⟨2, ![4224, 512]⟩
abbrev S3x512x1024 : Shape := ⟨3, ![3, 512, 1024]⟩
abbrev S1024x1024 : Shape := ⟨2, ![1024, 1024]⟩
abbrev S384x1024 : Shape := ⟨2, ![384, 1024]⟩
abbrev S384x512 : Shape := ⟨2, ![384, 512]⟩
abbrev S1x512x1024 : Shape := ⟨3, ![1, 512, 1024]⟩
abbrev S512x1024 : Shape := ⟨2, ![512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4224x1024, .f32⟩
  | .hbm, ⟨1, _⟩ => ⟨S4224x5888, .f32⟩
  | .hbm, ⟨2, _⟩ => ⟨S4224x512, .bf16⟩
  | .hbm, ⟨3, _⟩ => ⟨S4224x512, .bf16⟩
  | .hbm, ⟨4, _⟩ => ⟨S4224x512, .bf16⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S384x512, .bf16⟩
  | .local _ .vmem, ⟨12, _⟩ => ⟨S384x512, .bf16⟩
  | .local _ .vmem, ⟨13, _⟩ => ⟨S384x512, .bf16⟩
  | .local _ .vmem, ⟨14, _⟩ => ⟨S3x512x1024, .bf16⟩
  | .local _ .vmem, ⟨15, _⟩ => ⟨S1024x1024, .bf16⟩
  | .local _ .vmem, ⟨16, _⟩ => ⟨S384x1024, .f32⟩
  | .local _ .vmem, ⟨17, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S4224x1024 : Shape := ⟨2, ![4224, 1024]⟩
abbrev S4224x5888 : Shape := ⟨2, ![4224, 5888]⟩
abbrev S4224x512 : Shape := ⟨2, ![4224, 512]⟩
abbrev S3x512x1024 : Shape := ⟨3, ![3, 512, 1024]⟩
abbrev S1024x1024 : Shape := ⟨2, ![1024, 1024]⟩
abbrev S4224x3072 : Shape := ⟨2, ![4224, 3072]⟩
abbrev S4224x1x512 : Shape := ⟨3, ![4224, 1, 512]⟩
abbrev S4224x3x512 : Shape := ⟨3, ![4224, 3, 512]⟩
abbrev S4224x3x1024 : Shape := ⟨3, ![4224, 3, 1024]⟩
abbrev S_ : Shape := ⟨0, ![]⟩
abbrev S3x1024x4224 : Shape := ⟨3, ![3, 1024, 4224]⟩

abbrev nBuf : Space → Nat
  | .hbm => 31
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x5888, .f32⟩
  | .hbm, ⟨2, _⟩ => ⟨S4224x512, .bf16⟩
  | .hbm, ⟨3, _⟩ => ⟨S4224x512, .bf16⟩
  | .hbm, ⟨4, _⟩ => ⟨S4224x512, .bf16⟩
  | .hbm, ⟨5, _⟩ => ⟨S3x512x1024, .f32⟩
  | .hbm, ⟨6, _⟩ => ⟨S1024x1024, .f32⟩
  | .hbm, ⟨7, _⟩ => ⟨S4224x512, .f32⟩
  | .hbm, ⟨8, _⟩ => ⟨S4224x512, .f32⟩
  | .hbm, ⟨9, _⟩ => ⟨S4224x512, .f32⟩
  | .hbm, ⟨10, _⟩ => ⟨S4224x3072, .f32⟩
  | .hbm, ⟨11, _⟩ => ⟨S4224x1x512, .f32⟩
  | .hbm, ⟨12, _⟩ => ⟨S4224x1x512, .f32⟩
  | .hbm, ⟨13, _⟩ => ⟨S4224x1x512, .f32⟩
  | .hbm, ⟨14, _⟩ => ⟨S4224x3x512, .f32⟩
  | .hbm, ⟨15, _⟩ => ⟨S4224x3x1024, .f32⟩
  | .hbm, ⟨16, _⟩ => ⟨S4224x3x1024, .f32⟩
  | .hbm, ⟨17, _⟩ => ⟨S4224x3x1024, .f32⟩
  | .hbm, ⟨18, _⟩ => ⟨S_, .f32⟩
  | .hbm, ⟨19, _⟩ => ⟨S4224x3x1024, .f32⟩
  | .hbm, ⟨20, _⟩ => ⟨S4224x3x1024, .f32⟩
  | .hbm, ⟨21, _⟩ => ⟨S_, .f32⟩
  | .hbm, ⟨22, _⟩ => ⟨S4224x3x1024, .f32⟩
  | .hbm, ⟨23, _⟩ => ⟨S4224x3x1024, .f32⟩
  | .hbm, ⟨24, _⟩ => ⟨S3x1024x4224, .f32⟩
  | .hbm, ⟨25, _⟩ => ⟨S4224x3x1024, .f32⟩
  | .hbm, ⟨26, _⟩ => ⟨S4224x3x1024, .f32⟩
  | .hbm, ⟨27, _⟩ => ⟨S_, .f32⟩
  | .hbm, ⟨28, _⟩ => ⟨S4224x1024, .f32⟩
  | .hbm, ⟨29, _⟩ => ⟨S4224x1024, .f32⟩
  | .hbm, ⟨30, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== FfnDown.lean ====
abbrev S4224x2816 : Shape := ⟨2, ![4224, 2816]⟩
abbrev S2816x1024 : Shape := ⟨2, ![2816, 1024]⟩
abbrev S4224x1024 : Shape := ⟨2, ![4224, 1024]⟩
abbrev S384x2816 : Shape := ⟨2, ![384, 2816]⟩
abbrev S384x1024 : Shape := ⟨2, ![384, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .f32⟩
  | .hbm, ⟨2, _⟩ => ⟨S4224x1024, .f32⟩
  | .hbm, ⟨3, _⟩ => ⟨S2816x1024, .bf16⟩
  | .hbm, ⟨4, _⟩ => ⟨S4224x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .f32⟩
  | .hbm, ⟨2, _⟩ => ⟨S4224x1024, .f32⟩
  | .hbm, ⟨3, _⟩ => ⟨S4224x2816, .f32⟩
  | .hbm, ⟨4, _⟩ => ⟨S4224x1024, .f32⟩
  | .hbm, ⟨5, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnAct.lean ====
abbrev S4224x5632 : Shape := ⟨2, ![4224, 5632]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1x5632 : Shape := ⟨2, ![1, 5632]⟩
abbrev S4224x2816 : Shape := ⟨2, ![4224, 2816]⟩
abbrev S192x2816 : Shape := ⟨2, ![192, 2816]⟩
abbrev S8x2816 : Shape := ⟨2, ![8, 2816]⟩
abbrev S1x2816 : Shape := ⟨2, ![1, 2816]⟩
abbrev S184x2816 : Shape := ⟨2, ![184, 2816]⟩

abbrev nBuf : Space → Nat
  | .hbm => 8
  | .vmem => 14
  | .smem => 0
  | _ => 0

abbrev bufTy : (tb : Table) → Fin (tcTables nBuf tb) → BufTy
  | .hbm, ⟨0, _⟩ => ⟨S4224x5632, .f32⟩
  | .hbm, ⟨1, _⟩ => ⟨S3x5632, .f32⟩
  | .hbm, ⟨2, _⟩ => ⟨S5632, .f32⟩
  | .hbm, ⟨3, _⟩ => ⟨S_, .i32⟩
  | .hbm, ⟨4, _⟩ => ⟨S_, .f32⟩
  | .hbm, ⟨5, _⟩ => ⟨S8x5632, .f32⟩
  | .hbm, ⟨6, _⟩ => ⟨S1x5632, .f32⟩
  | .hbm, ⟨7, _⟩ => ⟨S4224x2816, .bf16⟩
  | .local _ .vmem, ⟨0, _⟩ => ⟨S192x2816, .f32⟩
  | .local _ .vmem, ⟨1, _⟩ => ⟨S192x2816, .f32⟩
  | .local _ .vmem, ⟨2, _⟩ => ⟨S192x2816, .f32⟩
  | .local _ .vmem, ⟨3, _⟩ => ⟨S192x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S8x2816, .f32⟩
  | .local _ .vmem, ⟨9, _⟩ => ⟨S8x2816, .f32⟩
  | .local _ .vmem, ⟨10, _⟩ => ⟨S1x2816, .f32⟩
  | .local _ .vmem, ⟨11, _⟩ => ⟨S1x2816, .f32⟩
  | .local _ .vmem, ⟨12, _⟩ => ⟨S192x2816, .bf16⟩
  | .local _ .vmem, ⟨13, _⟩ => ⟨S192x2816, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S192x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnActRefIdeal.lean ====
abbrev S4224x5632 : Shape := ⟨2, ![4224, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4226x5632 : Shape := ⟨2, ![4226, 5632]⟩
abbrev S1x5632 : Shape := ⟨2, ![1, 5632]⟩
abbrev S4224x2816 : Shape := ⟨2, ![4224, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x5632, .f32⟩
  | .hbm, ⟨5, _⟩ => ⟨S4226x5632, .f32⟩
  | .hbm, ⟨6, _⟩ => ⟨S1x5632, .f32⟩
  | .hbm, ⟨7, _⟩ => ⟨S5632, .f32⟩
  | .hbm, ⟨8, _⟩ => ⟨S4224x5632, .f32⟩
  | .hbm, ⟨9, _⟩ => ⟨S1x5632, .f32⟩
  | .hbm, ⟨10, _⟩ => ⟨S4224x5632, .f32⟩
  | .hbm, ⟨11, _⟩ => ⟨S4224x5632, .f32⟩
  | .hbm, ⟨12, _⟩ => ⟨S1x5632, .f32⟩
  | .hbm, ⟨13, _⟩ => ⟨S4224x5632, .f32⟩
  | .hbm, ⟨14, _⟩ => ⟨S4224x5632, .f32⟩
  | .hbm, ⟨15, _⟩ => ⟨S1x5632, .f32⟩
  | .hbm, ⟨16, _⟩ => ⟨S5632, .f32⟩
  | .hbm, ⟨17, _⟩ => ⟨S4224x5632, .f32⟩
  | .hbm, ⟨18, _⟩ => ⟨S1x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S1x5632, .f32⟩
  | .hbm, ⟨23, _⟩ => ⟨S5632, .f32⟩
  | .hbm, ⟨24, _⟩ => ⟨S4224x5632, .f32⟩
  | .hbm, ⟨25, _⟩ => ⟨S1x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x2816, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S_, .f32⟩
  | .hbm, ⟨34, _⟩ => ⟨S4224x2816, .f32⟩
  | .hbm, ⟨35, _⟩ => ⟨S4224x2816, .f32⟩
  | .hbm, ⟨36, _⟩ => ⟨S_, .f32⟩
  | .hbm, ⟨37, _⟩ => ⟨S4224x2816, .f32⟩
  | .hbm, ⟨38, _⟩ => ⟨S4224x2816, .f32⟩
  | .hbm, ⟨39, _⟩ => ⟨S4224x2816, .f32⟩
  | .hbm, ⟨40, _⟩ => ⟨S4224x2816, .f32⟩
  | .hbm, ⟨41, _⟩ => ⟨S4224x2816, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== FfnLoss.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S_ : Shape := ⟨0, ![]⟩
abbrev S1x1 : Shape := ⟨2, ![1, 1]⟩
abbrev S384x2816 : Shape := ⟨2, ![384, 2816]⟩
abbrev S384x1024 : Shape := ⟨2, ![384, 1024]⟩
abbrev S384x1 : Shape := ⟨2, ![384, 1]⟩
abbrev S1x384x1024 : Shape := ⟨3, ![1, 384, 1024]⟩
abbrev S1 : Shape := ⟨1, ![1]⟩
abbrev S1x1x1 : Shape := ⟨3, ![1, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .f32⟩
  | .hbm, ⟨2, _⟩ => ⟨S4224x1024, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S4224x1024, .f32⟩
  | .hbm, ⟨7, _⟩ => ⟨S2816x1024, .bf16⟩
  | .hbm, ⟨8, _⟩ => ⟨S4224x1024, .f32⟩
  | .hbm, ⟨9, _⟩ => ⟨S1x1, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S1x1, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnLossRefIdeal.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .f32⟩
  | .hbm, ⟨2, _⟩ => ⟨S4224x1024, .f32⟩
  | .hbm, ⟨3, _⟩ => ⟨S4096x1024, .f32⟩
  | .hbm, ⟨4, _⟩ => ⟨S4224x2816, .f32⟩
  | .hbm, ⟨5, _⟩ => ⟨S4224x1024, .f32⟩
  | .hbm, ⟨6, _⟩ => ⟨S4224x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4224x1024, .f32⟩
  | .hbm, ⟨33, _⟩ => ⟨S1x1, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== MlaFwd.lean ====
abbrev S4224x1024 : Shape := ⟨2, ![4224, 1024]⟩
abbrev S4224x512 : Shape := ⟨2, ![4224, 512]⟩
abbrev S8x4224x1 : Shape := ⟨3, ![8, 4224, 1]⟩
abbrev S384x512 : Shape := ⟨2, ![384, 512]⟩
abbrev S4224x256 : Shape := ⟨2, ![4224, 256]⟩
abbrev S384x256 : Shape := ⟨2, ![384, 256]⟩
abbrev S4x384x1 : Shape := ⟨3, ![4, 384, 1]⟩
abbrev S1x128 : Shape := ⟨2, ![1, 128]⟩
abbrev S384x128 : Shape := ⟨2, ![384, 128]⟩
abbrev S384x1 : Shape := ⟨2, ![384, 1]⟩
abbrev S768x512 : Shape := ⟨2, ![768, 512]⟩
abbrev S768x256 : Shape := ⟨2, ![768, 256]⟩
abbrev S1x768 : Shape := ⟨2, ![1, 768]⟩
abbrev S768x128 : Shape := ⟨2, ![768, 128]⟩
abbrev S384x768 : Shape := ⟨2, ![384, 768]⟩
abbrev S384 : Shape := ⟨1, ![384]⟩
abbrev S1x384 : Shape := ⟨2, ![1, 384]⟩
abbrev S384x384 : Shape := ⟨2, ![384, 384]⟩
abbrev S1x384x1 : Shape := ⟨3, ![1, 384, 1]⟩

abbrev nBuf : Space → Nat
  | .hbm => 5
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x512, .bf16⟩
  | .hbm, ⟨3, _⟩ => ⟨S4224x512, .bf16⟩
  | .hbm, ⟨4, _⟩ => ⟨S8x4224x1, .f32⟩
  | .local _ .vmem, ⟨0, _⟩ => ⟨S384x512, .bf16⟩
  | .local _ .vmem, ⟨1, _⟩ => ⟨S384x512, .bf16⟩
  | .local _ .vmem, ⟨2, _⟩ => ⟨S4224x512, .bf16⟩
  | .local _ .vmem, ⟨3, _⟩ => ⟨S4224x512, .bf16⟩
  | .local _ .vmem, ⟨4, _⟩ => ⟨S4224x256, .bf16⟩
  | .local _ .vmem, ⟨5, _⟩ => ⟨S4224x256, .bf16⟩
  | .local _ .vmem, ⟨6, _⟩ => ⟨S384x256, .bf16⟩
  | .local _ .vmem, ⟨7, _⟩ => ⟨S384x256, .bf16⟩
  | .local _ .vmem, ⟨8, _⟩ => ⟨S4x384x1, .f32⟩
  | .local _ .vmem, ⟨9, _⟩ => ⟨S4x384x1, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

@[reducible] def k0_t1_loop (i : grid0.Coords) : Scf.Loop 32 :=
  let c0_i32_16 : BitVec 32 := 0#32
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_12 : BitVec 32 := 0#32
  let v29 : BitVec 1 := Scalar.cmpi .slt arg1 c0_i32_12
  let v30 : BitVec 32 := Scalar.extui v29
  let v31 : BitVec 32 := Scalar.subi v28 v30
  let c2_i32 : BitVec 32 := 2#32
  let c0_i32_13 : BitVec 32 := 0#32
  let v32 : BitVec 1 := Scalar.cmpi .sgt c2_i32 c0_i32_13
  let v33 : BitVec 32 := Scalar.extui v32
  let c0_i32_14 : BitVec 32 := 0#32
  let v34 : BitVec 1 := Scalar.cmpi .slt c2_i32 c0_i32_14
  let v35 : BitVec 32 := Scalar.extui v34
  let v36 : BitVec 32 := Scalar.subi v33 v35
  let v37 : BitVec 1 := Scalar.cmpi .ne v31 v36
  let v38 : BitVec 32 := Scalar.remsi arg1 c2_i32
  let c0_i32_15 : BitVec 32 := 0#32
  let v39 : BitVec 1 := Scalar.cmpi .ne v38 c0_i32_15
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_18 : BitVec 32 := 1#32
  ⟨c0_i32_16, v47, c1_i32_18⟩
def k0_mult1 (i : grid0.Coords) (k0_t1 : Fin (k0_t1_loop i).trips) : BitVec 32 :=
  let c2_i32_68 : BitVec 32 := 2#32
  let c0_i32_16 : BitVec 32 := 0#32
  let c1_i32_18 : BitVec 32 := 1#32
  let arg7 : BitVec 32 := Scf.iv c0_i32_16 c1_i32_18 k0_t1
  let v226 : BitVec 32 := Scalar.muli c2_i32_68 arg7
  let c384_i32_69 : BitVec 32 := 384#32
  let v227 : BitVec 32 := Scalar.muli v226 c384_i32_69
  v227
def k0_off1 (i : grid0.Coords) (k0_t1 : Fin (k0_t1_loop i).trips) : Fin 2 → Nat :=
  let c2_i32_68 : BitVec 32 := 2#32
  let c0_i32_16 : BitVec 32 := 0#32
  let c1_i32_18 : BitVec 32 := 1#32
  let arg7 : BitVec 32 := Scf.iv c0_i32_16 c1_i32_18 k0_t1
  let v226 : BitVec 32 := Scalar.muli c2_i32_68 arg7
  let c384_i32_69 : BitVec 32 := 384#32
  let v227 : BitVec 32 := Scalar.muli v226 c384_i32_69
  let v228 : BitVec 32 := v227
  let v229 : Index := Scalar.indexCast v228
  let c0_70 : Index := 0#32
  ![v229.toNat, 0]
def k0_off2 (i : grid0.Coords) (k0_t1 : Fin (k0_t1_loop i).trips) : Fin 2 → Nat :=
  let c2_i32_68 : BitVec 32 := 2#32
  let c0_i32_16 : BitVec 32 := 0#32
  let c1_i32_18 : BitVec 32 := 1#32
  let arg7 : BitVec 32 := Scf.iv c0_i32_16 c1_i32_18 k0_t1
  let v226 : BitVec 32 := Scalar.muli c2_i32_68 arg7
  let c384_i32_69 : BitVec 32 := 384#32
  let v227 : BitVec 32 := Scalar.muli v226 c384_i32_69
  let v228 : BitVec 32 := v227
  let v231 : Index := Scalar.indexCast v228
  let c0_71 : Index := 0#32
  ![v231.toNat, 0]
@[reducible] def k0_t2_loop (i : grid0.Coords) : Scf.Loop 32 :=
  let c0_i32_16 : BitVec 32 := 0#32
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_12 : BitVec 32 := 0#32
  let v29 : BitVec 1 := Scalar.cmpi .slt arg1 c0_i32_12
  let v30 : BitVec 32 := Scalar.extui v29
  let v31 : BitVec 32 := Scalar.subi v28 v30
  let c2_i32 : BitVec 32 := 2#32
  let c0_i32_13 : BitVec 32 := 0#32
  let v32 : BitVec 1 := Scalar.cmpi .sgt c2_i32 c0_i32_13
  let v33 : BitVec 32 := Scalar.extui v32
  let c0_i32_14 : BitVec 32 := 0#32
  let v34 : BitVec 1 := Scalar.cmpi .slt c2_i32 c0_i32_14
  let v35 : BitVec 32 := Scalar.extui v34
  let v36 : BitVec 32 := Scalar.subi v33 v35
  let v37 : BitVec 1 := Scalar.cmpi .ne v31 v36
  let v38 : BitVec 32 := Scalar.remsi arg1 c2_i32
  let c0_i32_15 : BitVec 32 := 0#32
  let v39 : BitVec 1 := Scalar.cmpi .ne v38 c0_i32_15
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let v44 : BitVec 32 := Scalar.addi c0_i32_16 v43
  let c1_i32_19 : BitVec 32 := 1#32
  ⟨v47, v44, c1_i32_19⟩
def k0_mult2 (i : grid0.Coords) (k0_t2 : Fin (k0_t2_loop i).trips) : BitVec 32 :=
  let c2_i32_68 : BitVec 32 := 2#32
  let c0_i32_16 : BitVec 32 := 0#32
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_12 : BitVec 32 := 0#32
  let v29 : BitVec 1 := Scalar.cmpi .slt arg1 c0_i32_12
  let v30 : BitVec 32 := Scalar.extui v29
  let v31 : BitVec 32 := Scalar.subi v28 v30
  let c2_i32 : BitVec 32 := 2#32
  let c0_i32_13 : BitVec 32 := 0#32
  let v32 : BitVec 1 := Scalar.cmpi .sgt c2_i32 c0_i32_13
  let v33 : BitVec 32 := Scalar.extui v32
  let c0_i32_14 : BitVec 32 := 0#32
  let v34 : BitVec 1 := Scalar.cmpi .slt c2_i32 c0_i32_14
  let v35 : BitVec 32 := Scalar.extui v34
  let v36 : BitVec 32 := Scalar.subi v33 v35
  let v37 : BitVec 1 := Scalar.cmpi .ne v31 v36
  let v38 : BitVec 32 := Scalar.remsi arg1 c2_i32
  let c0_i32_15 : BitVec 32 := 0#32
  let v39 : BitVec 1 := Scalar.cmpi .ne v38 c0_i32_15
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg7 : BitVec 32 := Scf.iv v47 c1_i32_19 k0_t2
  let v226 : BitVec 32 := Scalar.muli c2_i32_68 arg7
  let c384_i32_69 : BitVec 32 := 384#32
  let v227 : BitVec 32 := Scalar.muli v226 c384_i32_69
  v227
def k0_off3 (i : grid0.Coords) (k0_t2 : Fin (k0_t2_loop i).trips) : Fin 2 → Nat :=
  let c2_i32_68 : BitVec 32 := 2#32
  let c0_i32_16 : BitVec 32 := 0#32
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_12 : BitVec 32 := 0#32
  let v29 : BitVec 1 := Scalar.cmpi .slt arg1 c0_i32_12
  let v30 : BitVec 32 := Scalar.extui v29
  let v31 : BitVec 32 := Scalar.subi v28 v30
  let c2_i32 : BitVec 32 := 2#32
  let c0_i32_13 : BitVec 32 := 0#32
  let v32 : BitVec 1 := Scalar.cmpi .sgt c2_i32 c0_i32_13
  let v33 : BitVec 32 := Scalar.extui v32
  let c0_i32_14 : BitVec 32 := 0#32
  let v34 : BitVec 1 := Scalar.cmpi .slt c2_i32 c0_i32_14
  let v35 : BitVec 32 := Scalar.extui v34
  let v36 : BitVec 32 := Scalar.subi v33 v35
  let v37 : BitVec 1 := Scalar.cmpi .ne v31 v36
  let v38 : BitVec 32 := Scalar.remsi arg1 c2_i32
  let c0_i32_15 : BitVec 32 := 0#32
  let v39 : BitVec 1 := Scalar.cmpi .ne v38 c0_i32_15
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg7 : BitVec 32 := Scf.iv v47 c1_i32_19 k0_t2
  let v226 : BitVec 32 := Scalar.muli c2_i32_68 arg7
  let c384_i32_69 : BitVec 32 := 384#32
  let v227 : BitVec 32 := Scalar.muli v226 c384_i32_69
  let v228 : BitVec 32 := v227
  let v229 : Index := Scalar.indexCast v228
  let c0_70 : Index := 0#32
  ![v229.toNat, 0]
def k0_off4 (i : grid0.Coords) (k0_t2 : Fin (k0_t2_loop i).trips) : Fin 2 → Nat :=
  let c2_i32_68 : BitVec 32 := 2#32
  let c0_i32_16 : BitVec 32 := 0#32
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_12 : BitVec 32 := 0#32
  let v29 : BitVec 1 := Scalar.cmpi .slt arg1 c0_i32_12
  let v30 : BitVec 32 := Scalar.extui v29
  let v31 : BitVec 32 := Scalar.subi v28 v30
  let c2_i32 : BitVec 32 := 2#32
  let c0_i32_13 : BitVec 32 := 0#32
  let v32 : BitVec 1 := Scalar.cmpi .sgt c2_i32 c0_i32_13
  let v33 : BitVec 32 := Scalar.extui v32
  let c0_i32_14 : BitVec 32 := 0#32
  let v34 : BitVec 1 := Scalar.cmpi .slt c2_i32 c0_i32_14
  let v35 : BitVec 32 := Scalar.extui v34
  let v36 : BitVec 32 := Scalar.subi v33 v35
  let v37 : BitVec 1 := Scalar.cmpi .ne v31 v36
  let v38 : BitVec 32 := Scalar.remsi arg1 c2_i32
  let c0_i32_15 : BitVec 32 := 0#32
  let v39 : BitVec 1 := Scalar.cmpi .ne v38 c0_i32_15
  let v40 : BitVec 1 := Scalar.andi v37 v39
  let v26 : BitVec 32 := Scalar.divsi arg1 c2_i32
  let c1_i32 : BitVec 32 := 1#32
  let v41 : BitVec 32 := Scalar.subi v26 c1_i32
  let v42 : BitVec 32 := Scalar.select v40 v41 v26
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg7 : BitVec 32 := Scf.iv v47 c1_i32_19 k0_t2
  let v226 : BitVec 32 := Scalar.muli c2_i32_68 arg7
  let c384_i32_69 : BitVec 32 := 384#32
  let v227 : BitVec 32 := Scalar.muli v226 c384_i32_69
  let v228 : BitVec 32 := v227
  let v231 : Index := Scalar.indexCast v228
  let c0_71 : Index := 0#32
  ![v231.toNat, 0]
@[reducible] def k0_t3_loop (i : grid0.Coords) : Scf.Loop 32 :=
  let c0_i32_26 : BitVec 32 := 0#32
  let arg1 : BitVec 32 := BitVec.ofNat 32 (i 1).val
  let c2_i32_20 : BitVec 32 := 2#32
  let c0_i32_21 : BitVec 32 := 0#32
  let v50 : BitVec 1 := Scalar.cmpi .eq c2_i32_20 c0_i32_21
  let c1_i32_22 : BitVec 32 := 1#32
  let v51 : BitVec 32 := Scalar.select v50 c1_i32_22 c2_i32_20
  let v52 : BitVec 32 := Scalar.remsi arg1 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let c1_i32_28 : BitVec 32 := 1#32
  ⟨c0_i32_26, v64, c1_i32_28⟩
def k0_mult3 (i : grid0.Coords) : BitVec 32 :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  v227
def k0_off5 (i : grid0.Coords) : Fin 2 → Nat :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  let v228 : BitVec 32 := v227
  let v229 : Index := Scalar.indexCast v228
  let c0_70 : Index := 0#32
  ![v229.toNat, 0]
def k0_off6 (i : grid0.Coords) : Fin 2 → Nat :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  let v228 : BitVec 32 := v227
  let v231 : Index := Scalar.indexCast v228
  let c0_71 : Index := 0#32
  ![v231.toNat, 0]
@[reducible] def k0_t4_loop (i : grid0.Coords) : Scf.Loop 32 :=
  let c0_i32_26 : BitVec 32 := 0#32
  let arg1 : BitVec 32 := BitVec.ofNat 32 (i 1).val
  let c2_i32_20 : BitVec 32 := 2#32
  let c0_i32_21 : BitVec 32 := 0#32
  let v50 : BitVec 1 := Scalar.cmpi .eq c2_i32_20 c0_i32_21
  let c1_i32_22 : BitVec 32 := 1#32
  let v51 : BitVec 32 := Scalar.select v50 c1_i32_22 c2_i32_20
  let v52 : BitVec 32 := Scalar.remsi arg1 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.subi v59 c0_i32_26
  let c1_i32_27 : BitVec 32 := 1#32
  let v62 : BitVec 32 := Scalar.divsi v60 c1_i32_27
  let v63 : BitVec 32 := Scalar.muli v62 c1_i32_27
  let v64 : BitVec 32 := Scalar.addi c0_i32_26 v63
  let v61 : BitVec 32 := Scalar.addi c0_i32_26 v60
  let c1_i32_29 : BitVec 32 := 1#32
  ⟨v64, v61, c1_i32_29⟩
def k0_mult4 (i : grid0.Coords) : BitVec 32 :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  v227
def k0_off7 (i : grid0.Coords) : Fin 2 → Nat :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  let v228 : BitVec 32 := v227
  let v229 : Index := Scalar.indexCast v228
  let c0_70 : Index := 0#32
  ![v229.toNat, 0]
def k0_off8 (i : grid0.Coords) : Fin 2 → Nat :=
  let arg1 : BitVec 32 := BitVec.ofNat 32 (i 1).val
  let c1_i32_68 : BitVec 32 := 1#32
  let v226 : BitVec 32 := Scalar.subi arg1 c1_i32_68
  let c384_i32_69 : BitVec 32 := 384#32
  let v227 : BitVec 32 := Scalar.muli v226 c384_i32_69
  let v228 : BitVec 32 := v227
  let v231 : Index := Scalar.indexCast v228
  let c0_71 : Index := 0#32
  ![v231.toNat, 0]
def k0_mult5 (i : grid0.Coords) : BitVec 32 :=
  let arg1 : BitVec 32 := BitVec.ofNat 32 (i 1).val
  let c384_i32_30 : BitVec 32 := 384#32
  let v67 : BitVec 32 := Scalar.muli arg1 c384_i32_30
  v67
def k0_off9 (i : grid0.Coords) : Fin 2 → Nat :=
  let arg1 : BitVec 32 := BitVec.ofNat 32 (i 1).val
  let c384_i32_30 : BitVec 32 := 384#32
  let v67 : BitVec 32 := Scalar.muli arg1 c384_i32_30
  let v68 : BitVec 32 := v67
  let v69 : Index := Scalar.indexCast v68
  let c0_31 : Index := 0#32
  ![v69.toNat, 0]
def k0_off10 (i : grid0.Coords) : Fin 2 → Nat :=
  let arg1 : BitVec 32 := BitVec.ofNat 32 (i 1).val
  let c384_i32_30 : BitVec 32 := 384#32
  let v67 : BitVec 32 := Scalar.muli arg1 c384_i32_30
  let v68 : BitVec 32 := v67
  let v71 : Index := Scalar.indexCast v68
  let c0_32 : Index := 0#32
  ![v71.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaFwdIdeal.lean ====
variable {F : FTy → Type} [FloatOps F] [Named F]
def κ : String → Option EReal := fun
  | "mask" => some ⊥
  | _ => none
-- ==== MlaFwdRefIdeal.lean ====
abbrev S4224x1024 : Shape := ⟨2, ![4224, 1024]⟩
abbrev S4224x512 : Shape := ⟨2, ![4224, 512]⟩
abbrev S4224x8x128 : Shape := ⟨3, ![4224, 8, 128]⟩
abbrev S8x4224x4224 : Shape := ⟨3, ![8, 4224, 4224]⟩
abbrev S_ : Shape := ⟨0, ![]⟩
abbrev S4224x8x64 : Shape := ⟨3, ![4224, 8, 64]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S8x4224 : Shape := ⟨2, ![8, 4224]⟩
abbrev S8x4224x1 : Shape := ⟨3, ![8, 4224, 1]⟩
abbrev S8x64x4224 : Shape := ⟨3, ![8, 64, 4224]⟩

abbrev nBuf : Space → Nat
  | .hbm => 53
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x512, .bf16⟩
  | .hbm, ⟨3, _⟩ => ⟨S4224x1024, .f32⟩
  | .hbm, ⟨4, _⟩ => ⟨S4224x8x128, .f32⟩
  | .hbm, ⟨5, _⟩ => ⟨S4224x1024, .f32⟩
  | .hbm, ⟨6, _⟩ => ⟨S4224x8x128, .f32⟩
  | .hbm, ⟨7, _⟩ => ⟨S8x4224x4224, .f32⟩
  | .hbm, ⟨8, _⟩ => ⟨S_, .f32⟩
  | .hbm, ⟨9, _⟩ => ⟨S8x4224x4224, .f32⟩
  | .hbm, ⟨10, _⟩ => ⟨S8x4224x4224, .f32⟩
  | .hbm, ⟨11, _⟩ => ⟨S4224x512, .f32⟩
  | .hbm, ⟨12, _⟩ => ⟨S4224x8x64, .f32⟩
  | .hbm, ⟨13, _⟩ => ⟨S4224, .i32⟩
  | .hbm, ⟨14, _⟩ => ⟨S1x4224, .i32⟩
  | .hbm, ⟨15, _⟩ => ⟨S4224x1, .i32⟩
  | .hbm, ⟨16, _⟩ => ⟨S4224x4224, .i32⟩
  | .hbm, ⟨17, _⟩ => ⟨S4224x4224, .i32⟩
  | .hbm, ⟨18, _⟩ => ⟨S4224x4224, .i1⟩
  | .hbm, ⟨19, _⟩ => ⟨S_, .f32⟩
  | .hbm, ⟨20, _⟩ => ⟨S_, .f32⟩
  | .hbm, ⟨21, _⟩ => ⟨S8x4224x4224, .i1⟩
  | .hbm, ⟨22, _⟩ => ⟨S8x4224x4224, .f32⟩
  | .hbm, ⟨23, _⟩ => ⟨S8x4224x4224, .f32⟩
  | .hbm, ⟨24, _⟩ => ⟨S_, .f32⟩
  | .hbm, ⟨25, _⟩ => ⟨S8x4224, .f32⟩
  | .hbm, ⟨26, _⟩ => ⟨S8x4224x1, .f32⟩
  | .hbm, ⟨27, _⟩ => ⟨S8x4224x4224, .f32⟩
  | .hbm, ⟨28, _⟩ => ⟨S8x4224x4224, .f32⟩
  | .hbm, ⟨29, _⟩ => ⟨S8x4224x4224, .f32⟩
  | .hbm, ⟨30, _⟩ => ⟨S_, .f32⟩
  | .hbm, ⟨31, _⟩ => ⟨S8x4224, .f32⟩
  | .hbm, ⟨32, _⟩ => ⟨S8x4224x1, .f32⟩
  | .hbm, ⟨33, _⟩ => ⟨S8x4224x1, .f32⟩
  | .hbm, ⟨34, _⟩ => ⟨S8x4224x1, .f32⟩
  | .hbm, ⟨35, _⟩ => ⟨S_, .f32⟩
  | .hbm, ⟨36, _⟩ => ⟨S8x4224, .f32⟩
  | .hbm, ⟨37, _⟩ => ⟨S_, .f32⟩
  | .hbm, ⟨38, _⟩ => ⟨S8x4224, .f32⟩
  | .hbm, ⟨39, _⟩ => ⟨S8x4224, .f32⟩
  | .hbm, ⟨40, _⟩ => ⟨S8x4224x1, .f32⟩
  | .hbm, ⟨41, _⟩ => ⟨S8x4224x4224, .f32⟩
  | .hbm, ⟨42, _⟩ => ⟨S8x4224x4224, .f32⟩
  | .hbm, ⟨43, _⟩ => ⟨S8x4224x4224, .f32⟩
  | .hbm, ⟨44, _⟩ => ⟨S_, .f32⟩
  | .hbm, ⟨45, _⟩ => ⟨S8x4224, .f32⟩
  | .hbm, ⟨46, _⟩ => ⟨S8x4224x1, .f32⟩
  | .hbm, ⟨47, _⟩ => ⟨S8x4224x4224, .f32⟩
  | .hbm, ⟨48, _⟩ => ⟨S8x4224x4224, .f32⟩
  | .hbm, ⟨49, _⟩ => ⟨S8x64x4224, .f32⟩
  | .hbm, ⟨50, _⟩ => ⟨S4224x8x64, .f32⟩
  | .hbm, ⟨51, _⟩ => ⟨S4224x512, .f32⟩
  | .hbm, ⟨52, _⟩ => ⟨S4224x512, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== FoxFwd.lean ====
abbrev S4224x512 : Shape := ⟨2, ![4224, 512]⟩
abbrev S4224x8 : Shape := ⟨2, ![4224, 8]⟩
abbrev S8x4224 : Shape := ⟨2, ![8, 4224]⟩
abbrev S8x1x4224 : Shape := ⟨3, ![8, 1, 4224]⟩
abbrev S8x4224x1 : Shape := ⟨3, ![8, 4224, 1]⟩
abbrev S384x256 : Shape := ⟨2, ![384, 256]⟩
abbrev S4224x256 : Shape := ⟨2, ![4224, 256]⟩
abbrev S4x1x4224 : Shape := ⟨3, ![4, 1, 4224]⟩
abbrev S4x384x1 : Shape := ⟨3, ![4, 384, 1]⟩
abbrev S1x128 : Shape := ⟨2, ![1, 128]⟩
abbrev S384x128 : Shape := ⟨2, ![384, 128]⟩
abbrev S384x1 : Shape := ⟨2, ![384, 1]⟩
abbrev S768x256 : Shape := ⟨2, ![768, 256]⟩
abbrev S1x768 : Shape := ⟨2, ![1, 768]⟩
abbrev S768x128 : Shape := ⟨2, ![768, 128]⟩
abbrev S1x1x768 : Shape := ⟨3, ![1, 1, 768]⟩
abbrev S384x768 : Shape := ⟨2, ![384, 768]⟩
abbrev S384 : Shape := ⟨1, ![384]⟩
abbrev S1x384 : Shape := ⟨2, ![1, 384]⟩
abbrev S1x1x384 : Shape := ⟨3, ![1, 1, 384]⟩
abbrev S384x384 : Shape := ⟨2, ![384, 384]⟩
abbrev S1x384x1 : Shape := ⟨3, ![1, 384, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x512, .bf16⟩
  | .hbm, ⟨3, _⟩ => ⟨S4224x8, .f32⟩
  | .hbm, ⟨4, _⟩ => ⟨S8x4224, .f32⟩
  | .hbm, ⟨5, _⟩ => ⟨S8x1x4224, .f32⟩
  | .hbm, ⟨6, _⟩ => ⟨S4224x512, .bf16⟩
  | .hbm, ⟨7, _⟩ => ⟨S8x4224x1, .f32⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S4x1x4224, .f32⟩
  | .local _ .vmem, ⟨7, _⟩ => ⟨S4x1x4224, .f32⟩
  | .local _ .vmem, ⟨8, _⟩ => ⟨S384x256, .bf16⟩
  | .local _ .vmem, ⟨9, _⟩ => ⟨S384x256, .bf16⟩
  | .local _ .vmem, ⟨10, _⟩ => ⟨S4x384x1, .f32⟩
  | .local _ .vmem, ⟨11, _⟩ => ⟨S4x384x1, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

@[reducible] def k0_t1_loop (i : grid0.Coords) : Scf.Loop 32 :=
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_22 : BitVec 32 := 1#32
  ⟨c0_i32_20, v61, c1_i32_22⟩
def k0_mult1 (i : grid0.Coords) (k0_t1 : Fin (k0_t1_loop i).trips) : BitVec 32 :=
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  v249
def k0_off1 (i : grid0.Coords) (k0_t1 : Fin (k0_t1_loop i).trips) : Fin 2 → Nat :=
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  let v250 : BitVec 32 := v249
  let v251 : Index := Scalar.indexCast v250
  let c0_78 : Index := 0#32
  ![v251.toNat, 0]
def k0_off2 (i : grid0.Coords) (k0_t1 : Fin (k0_t1_loop i).trips) : Fin 3 → Nat :=
  let c0_80 : Index := 0#32
  let c0_81 : Index := 0#32
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  let v250 : BitVec 32 := v249
  let v259 : Index := Scalar.indexCast v250
  ![0, 0, v259.toNat]
def k0_off3 (i : grid0.Coords) (k0_t1 : Fin (k0_t1_loop i).trips) : Fin 3 → Nat :=
  let c1_86 : Index := 1#32
  let c0_87 : Index := 0#32
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  let v250 : BitVec 32 := v249
  let v284 : Index := Scalar.indexCast v250
  ![1, 0, v284.toNat]
def k0_off4 (i : grid0.Coords) (k0_t1 : Fin (k0_t1_loop i).trips) : Fin 3 → Nat :=
  let c2_92 : Index := 2#32
  let c0_93 : Index := 0#32
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  let v250 : BitVec 32 := v249
  let v309 : Index := Scalar.indexCast v250
  ![2, 0, v309.toNat]
def k0_off5 (i : grid0.Coords) (k0_t1 : Fin (k0_t1_loop i).trips) : Fin 3 → Nat :=
  let c3_98 : Index := 3#32
  let c0_99 : Index := 0#32
  let c2_i32_76 : BitVec 32 := 2#32
  let c0_i32_20 : BitVec 32 := 0#32
  let c1_i32_22 : BitVec 32 := 1#32
  let arg8 : BitVec 32 := Scf.iv c0_i32_20 c1_i32_22 k0_t1
  let v248 : BitVec 32 := Scalar.muli c2_i32_76 arg8
  let c384_i32_77 : BitVec 32 := 384#32
  let v249 : BitVec 32 := Scalar.muli v248 c384_i32_77
  let v250 : BitVec 32 := v249
  let v334 : Index := Scalar.indexCast v250
  ![3, 0, v334.toNat]
@[reducible] def k0_t2_loop (i : grid0.Coords) : Scf.Loop 32 :=
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let v58 : BitVec 32 := Scalar.addi c0_i32_20 v57
  let c1_i32_23 : BitVec 32 := 1#32
  ⟨v61, v58, c1_i32_23⟩
def k0_mult2 (i : grid0.Coords) (k0_t2 : Fin (k0_t2_loop i).trips) : BitVec 32 :=
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  v249
def k0_off6 (i : grid0.Coords) (k0_t2 : Fin (k0_t2_loop i).trips) : Fin 2 → Nat :=
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  let v250 : BitVec 32 := v249
  let v251 : Index := Scalar.indexCast v250
  let c0_78 : Index := 0#32
  ![v251.toNat, 0]
def k0_off7 (i : grid0.Coords) (k0_t2 : Fin (k0_t2_loop i).trips) : Fin 3 → Nat :=
  let c0_80 : Index := 0#32
  let c0_81 : Index := 0#32
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  let v250 : BitVec 32 := v249
  let v259 : Index := Scalar.indexCast v250
  ![0, 0, v259.toNat]
def k0_off8 (i : grid0.Coords) (k0_t2 : Fin (k0_t2_loop i).trips) : Fin 3 → Nat :=
  let c1_86 : Index := 1#32
  let c0_87 : Index := 0#32
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  let v250 : BitVec 32 := v249
  let v284 : Index := Scalar.indexCast v250
  ![1, 0, v284.toNat]
def k0_off9 (i : grid0.Coords) (k0_t2 : Fin (k0_t2_loop i).trips) : Fin 3 → Nat :=
  let c2_92 : Index := 2#32
  let c0_93 : Index := 0#32
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  let v250 : BitVec 32 := v249
  let v309 : Index := Scalar.indexCast v250
  ![2, 0, v309.toNat]
def k0_off10 (i : grid0.Coords) (k0_t2 : Fin (k0_t2_loop i).trips) : Fin 3 → Nat :=
  let c3_98 : Index := 3#32
  let c0_99 : Index := 0#32
  let c2_i32_76 : BitVec 32 := 2#32
  let c0_i32_20 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_16 : BitVec 32 := 0#32
  let v43 : BitVec 1 := Scalar.cmpi .slt arg1 c0_i32_16
  let v44 : BitVec 32 := Scalar.extui v43
  let v45 : BitVec 32 := Scalar.subi v42 v44
  let c2_i32 : BitVec 32 := 2#32
  let c0_i32_17 : BitVec 32 := 0#32
  let v46 : BitVec 1 := Scalar.cmpi .sgt c2_i32 c0_i32_17
  let v47 : BitVec 32 := Scalar.extui v46
  let c0_i32_18 : BitVec 32 := 0#32
  let v48 : BitVec 1 := Scalar.cmpi .slt c2_i32 c0_i32_18
  let v49 : BitVec 32 := Scalar.extui v48
  let v50 : BitVec 32 := Scalar.subi v47 v49
  let v51 : BitVec 1 := Scalar.cmpi .ne v45 v50
  let v52 : BitVec 32 := Scalar.remsi arg1 c2_i32
  let c0_i32_19 : BitVec 32 := 0#32
  let v53 : BitVec 1 := Scalar.cmpi .ne v52 c0_i32_19
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_20
  let c1_i32_21 : BitVec 32 := 1#32
  let v59 : BitVec 32 := Scalar.divsi v57 c1_i32_21
  let v60 : BitVec 32 := Scalar.muli v59 c1_i32_21
  let v61 : BitVec 32 := Scalar.addi c0_i32_20 v60
  let c1_i32_23 : BitVec 32 := 1#32
  let arg8 : BitVec 32 := Scf.iv v61 c1_i32_23 k0_t2
  let v248 : BitVec 32 := Scalar.muli c2_i32_76 arg8
  let c384_i32_77 : BitVec 32 := 384#32
  let v249 : BitVec 32 := Scalar.muli v248 c384_i32_77
  let v250 : BitVec 32 := v249
  let v334 : Index := Scalar.indexCast v250
  ![3, 0, v334.toNat]
@[reducible] def k0_t3_loop (i : grid0.Coords) : Scf.Loop 32 :=
  let c0_i32_30 : BitVec 32 := 0#32
  let arg1 : BitVec 32 := BitVec.ofNat 32 (i 1).val
  let c2_i32_24 : BitVec 32 := 2#32
  let c0_i32_25 : BitVec 32 := 0#32
  let v64 : BitVec 1 := Scalar.cmpi .eq c2_i32_24 c0_i32_25
  let c1_i32_26 : BitVec 32 := 1#32
  let v65 : BitVec 32 := Scalar.select v64 c1_i32_26 c2_i32_24
  let v66 : BitVec 32 := Scalar.remsi arg1 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let v74 : BitVec 32 := Scalar.subi v73 c0_i32_30
  let c1_i32_31 : BitVec 32 := 1#32
  let v76 : BitVec 32 := Scalar.divsi v74 c1_i32_31
  let v77 : BitVec 32 := Scalar.muli v76 c1_i32_31
  let v78 : BitVec 32 := Scalar.addi c0_i32_30 v77
  let c1_i32_32 : BitVec 32 := 1#32
  ⟨c0_i32_30, v78, c1_i32_32⟩
def k0_mult3 (i : grid0.Coords) : BitVec 32 :=
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  v249
def k0_off11 (i : grid0.Coords) : Fin 2 → Nat :=
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v251 : Index := Scalar.indexCast v250
  let c0_78 : Index := 0#32
  ![v251.toNat, 0]
def k0_off12 (i : grid0.Coords) : Fin 3 → Nat :=
  let c0_80 : Index := 0#32
  let c0_81 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v259 : Index := Scalar.indexCast v250
  ![0, 0, v259.toNat]
def k0_off13 (i : grid0.Coords) : Fin 3 → Nat :=
  let c1_86 : Index := 1#32
  let c0_87 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v284 : Index := Scalar.indexCast v250
  ![1, 0, v284.toNat]
def k0_off14 (i : grid0.Coords) : Fin 3 → Nat :=
  let c2_92 : Index := 2#32
  let c0_93 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v309 : Index := Scalar.indexCast v250
  ![2, 0, v309.toNat]
def k0_off15 (i : grid0.Coords) : Fin 3 → Nat :=
  let c3_98 : Index := 3#32
  let c0_99 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v334 : Index := Scalar.indexCast v250
  ![3, 0, v334.toNat]
@[reducible] def k0_t4_loop (i : grid0.Coords) : Scf.Loop 32 :=
  let c0_i32_30 : BitVec 32 := 0#32
  let arg1 : BitVec 32 := BitVec.ofNat 32 (i 1).val
  let c2_i32_24 : BitVec 32 := 2#32
  let c0_i32_25 : BitVec 32 := 0#32
  let v64 : BitVec 1 := Scalar.cmpi .eq c2_i32_24 c0_i32_25
  let c1_i32_26 : BitVec 32 := 1#32
  let v65 : BitVec 32 := Scalar.select v64 c1_i32_26 c2_i32_24
  let v66 : BitVec 32 := Scalar.remsi arg1 v65
  let c0_i32_28 : BitVec 32 := 0#32
  let v68 : BitVec 1 := Scalar.cmpi .slt v66 c0_i32_28
  let c0_i32_29 : BitVec 32 := 0#32
  let v69 : BitVec 1 := Scalar.cmpi .slt v65 c0_i32_29
  let v70 : BitVec 1 := Scalar.xori v68 v69
  let c0_i32_27 : BitVec 32 := 0#32
  let v67 : BitVec 1 := Scalar.cmpi .ne v66 c0_i32_27
  let v71 : BitVec 1 := Scalar.andi v70 v67
  let v72 : BitVec 32 := Scalar.addi v66 v65
  let v73 : BitVec 32 := Scalar.select v71 v72 v66
  let v74 : BitVec 32 := Scalar.subi v73 c0_i32_30
  let c1_i32_31 : BitVec 32 := 1#32
  let v76 : BitVec 32 := Scalar.divsi v74 c1_i32_31
  let v77 : BitVec 32 := Scalar.muli v76 c1_i32_31
  let v78 : BitVec 32 := Scalar.addi c0_i32_30 v77
  let v75 : BitVec 32 := Scalar.addi c0_i32_30 v74
  let c1_i32_33 : BitVec 32 := 1#32
  ⟨v78, v75, c1_i32_33⟩
def k0_mult4 (i : grid0.Coords) : BitVec 32 :=
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  v249
def k0_off16 (i : grid0.Coords) : Fin 2 → Nat :=
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v251 : Index := Scalar.indexCast v250
  let c0_78 : Index := 0#32
  ![v251.toNat, 0]
def k0_off17 (i : grid0.Coords) : Fin 3 → Nat :=
  let c0_80 : Index := 0#32
  let c0_81 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v259 : Index := Scalar.indexCast v250
  ![0, 0, v259.toNat]
def k0_off18 (i : grid0.Coords) : Fin 3 → Nat :=
  let c1_86 : Index := 1#32
  let c0_87 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v284 : Index := Scalar.indexCast v250
  ![1, 0, v284.toNat]
def k0_off19 (i : grid0.Coords) : Fin 3 → Nat :=
  let c2_92 : Index := 2#32
  let c0_93 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v309 : Index := Scalar.indexCast v250
  ![2, 0, v309.toNat]
def k0_off20 (i : grid0.Coords) : Fin 3 → Nat :=
  let c3_98 : Index := 3#32
  let c0_99 : Index := 0#32
  let arg1 : BitVec 32 := BitVec.ofNat 32 (i 1).val
  let c1_i32_76 : BitVec 32 := 1#32
  let v248 : BitVec 32 := Scalar.subi arg1 c1_i32_76
  let c384_i32_77 : BitVec 32 := 384#32
  let v249 : BitVec 32 := Scalar.muli v248 c384_i32_77
  let v250 : BitVec 32 := v249
  let v334 : Index := Scalar.indexCast v250
  ![3, 0, v334.toNat]
def k0_mult5 (i : grid0.Coords) : BitVec 32 :=
  let arg1 : BitVec 32 := BitVec.ofNat 32 (i 1).val
  let c384_i32_34 : BitVec 32 := 384#32
  let v81 : BitVec 32 := Scalar.muli arg1 c384_i32_34
  v81
def k0_off21 (i : grid0.Coords) : Fin 2 → Nat :=
  let arg1 : BitVec 32 := BitVec.ofNat 32 (i 1).val
  let c384_i32_34 : BitVec 32 := 384#32
  let v81 : BitVec 32 := Scalar.muli arg1 c384_i32_34
  let v82 : BitVec 32 := v81
  let v83 : Index := Scalar.indexCast v82
  let c0_35 : Index := 0#32
  ![v83.toNat, 0]
def k0_off22 (i : grid0.Coords) : Fin 3 → Nat :=
  let c0_37 : Index := 0#32
  let c0_38 : Index := 0#32
  let arg1 : BitVec 32 := BitVec.ofNat 32 (i 1).val
  let c384_i32_34 : BitVec 32 := 384#32
  let v81 : BitVec 32 := Scalar.muli arg1 c384_i32_34
  let v82 : BitVec 32 := v81
  let v91 : Index := Scalar.indexCast v82
  ![0, 0, v91.toNat]
def k0_off23 (i : grid0.Coords) : Fin 3 → Nat :=
  let c1 : Index := 1#32
  let c0_44 : Index := 0#32
  let arg1 : BitVec 32 := BitVec.ofNat 32 (i 1).val
  let c384_i32_34 : BitVec 32 := 384#32
  let v81 : BitVec 32 := Scalar.muli arg1 c384_i32_34
  let v82 : BitVec 32 := v81
  let v121 : Index := Scalar.indexCast v82
  ![1, 0, v121.toNat]
def k0_off24 (i : grid0.Coords) : Fin 3 → Nat :=
  let c2 : Index := 2#32
  let c0_50 : Index := 0#32
  let arg1 : BitVec 32 := BitVec.ofNat 32 (i 1).val
  let c384_i32_34 : BitVec 32 := 384#32
  let v81 : BitVec 32 := Scalar.muli arg1 c384_i32_34
  let v82 : BitVec 32 := v81
  let v151 : Index := Scalar.indexCast v82
  ![2, 0, v151.toNat]
def k0_off25 (i : grid0.Coords) : Fin 3 → Nat :=
  let c3 : Index := 3#32
  let c0_56 : Index := 0#32
  let arg1 : BitVec 32 := BitVec.ofNat 32 (i 1).val
  let c384_i32_34 : BitVec 32 := 384#32
  let v81 : BitVec 32 := Scalar.muli arg1 c384_i32_34
  let v82 : BitVec 32 := v81
  let v181 : Index := Scalar.indexCast v82
  ![3, 0, v181.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxFwdIdeal.lean ====
variable {F : FTy → Type} [FloatOps F] [Named F]
def κ : String → Option EReal := fun
  | "mask" => some ⊥
  | _ => none
-- ==== FoxFwdRefIdeal.lean ====
abbrev S4224x512 : Shape := ⟨2, ![4224, 512]⟩
abbrev S4224x8 : Shape := ⟨2, ![4224, 8]⟩
abbrev S4224x8x64 : Shape := ⟨3, ![4224, 8, 64]⟩
abbrev S8x4224x4224 : Shape := ⟨3, ![8, 4224, 4224]⟩
abbrev S_ : Shape := ⟨0, ![]⟩
abbrev S8x4224 : Shape := ⟨2, ![8, 4224]⟩
abbrev S8x4224x1 : Shape := ⟨3, ![8, 4224, 1]⟩
abbrev S8x1x4224 : Shape := ⟨3, ![8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S8x64x4224 : Shape := ⟨3, ![8, 64, 4224]⟩

abbrev nBuf : Space → Nat
  | .hbm => 63
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x512, .bf16⟩
  | .hbm, ⟨3, _⟩ => ⟨S4224x8, .f32⟩
  | .hbm, ⟨4, _⟩ => ⟨S4224x512, .f32⟩
  | .hbm, ⟨5, _⟩ => ⟨S4224x8x64, .f32⟩
  | .hbm, ⟨6, _⟩ => ⟨S4224x512, .f32⟩
  | .hbm, ⟨7, _⟩ => ⟨S4224x8x64, .f32⟩
  | .hbm, ⟨8, _⟩ => ⟨S8x4224x4224, .f32⟩
  | .hbm, ⟨9, _⟩ => ⟨S_, .f32⟩
  | .hbm, ⟨10, _⟩ => ⟨S8x4224x4224, .f32⟩
  | .hbm, ⟨11, _⟩ => ⟨S8x4224x4224, .f32⟩
  | .hbm, ⟨12, _⟩ => ⟨S8x4224, .f32⟩
  | .hbm, ⟨13, _⟩ => ⟨S8x4224x1, .f32⟩
  | .hbm, ⟨14, _⟩ => ⟨S8x4224x4224, .f32⟩
  | .hbm, ⟨15, _⟩ => ⟨S8x4224x4224, .f32⟩
  | .hbm, ⟨16, _⟩ => ⟨S8x1x4224, .f32⟩
  | .hbm, ⟨17, _⟩ => ⟨S8x4224x4224, .f32⟩
  | .hbm, ⟨18, _⟩ => ⟨S8x4224x4224, .f32⟩
  | .hbm, ⟨19, _⟩ => ⟨S4224x512, .f32⟩
  | .hbm, ⟨20, _⟩ => ⟨S4224x8x64, .f32⟩
  | .hbm, ⟨21, _⟩ => ⟨S4224, .i32⟩
  | .hbm, ⟨22, _⟩ => ⟨S1x4224, .i32⟩
  | .hbm, ⟨23, _⟩ => ⟨S4224x1, .i32⟩
  | .hbm, ⟨24, _⟩ => ⟨S4224x4224, .i32⟩
  | .hbm, ⟨25, _⟩ => ⟨S4224x4224, .i32⟩
  | .hbm, ⟨26, _⟩ => ⟨S4224x4224, .i1⟩
  | .hbm, ⟨27, _⟩ => ⟨S_, .f32⟩
  | .hbm, ⟨28, _⟩ => ⟨S_, .f32⟩
  | .hbm, ⟨29, _⟩ => ⟨S8x4224x4224, .i1⟩
  | .hbm, ⟨30, _⟩ => ⟨S8x4224x4224, .f32⟩
  | .hbm, ⟨31, _⟩ => ⟨S8x4224x4224, .f32⟩
  | .hbm, ⟨32, _⟩ => ⟨S_, .f32⟩
  | .hbm, ⟨33, _⟩ => ⟨S8x4224, .f32⟩
  | .hbm, ⟨34, _⟩ => ⟨S8x4224x1, .f32⟩
  | .hbm, ⟨35, _⟩ => ⟨S8x4224x4224, .f32⟩
  | .hbm, ⟨36, _⟩ => ⟨S8x4224x4224, .f32⟩
  | .hbm, ⟨37, _⟩ => ⟨S8x4224x4224, .f32⟩
  | .hbm, ⟨38, _⟩ => ⟨S_, .f32⟩
  | .hbm, ⟨39, _⟩ => ⟨S8x4224, .f32⟩
  | .hbm, ⟨40, _⟩ => ⟨S8x4224x1, .f32⟩
  | .hbm, ⟨41, _⟩ => ⟨S8x4224x1, .f32⟩
  | .hbm, ⟨42, _⟩ => ⟨S8x4224x1, .f32⟩
  | .hbm, ⟨43, _⟩ => ⟨S_, .f32⟩
  | .hbm, ⟨44, _⟩ => ⟨S8x4224, .f32⟩
  | .hbm, ⟨45, _⟩ => ⟨S_, .f32⟩
  | .hbm, ⟨46, _⟩ => ⟨S8x4224, .f32⟩
  | .hbm, ⟨47, _⟩ => ⟨S8x4224, .f32⟩
  | .hbm, ⟨48, _⟩ => ⟨S8x4224x1, .f32⟩
  | .hbm, ⟨49, _⟩ => ⟨S8x4224x4224, .f32⟩
  | .hbm, ⟨50, _⟩ => ⟨S8x4224x4224, .f32⟩
  | .hbm, ⟨51, _⟩ => ⟨S8x4224x4224, .f32⟩
  | .hbm, ⟨52, _⟩ => ⟨S_, .f32⟩
  | .hbm, ⟨53, _⟩ => ⟨S8x4224, .f32⟩
  | .hbm, ⟨54, _⟩ => ⟨S8x4224x1, .f32⟩
  | .hbm, ⟨55, _⟩ => ⟨S8x4224x4224, .f32⟩
  | .hbm, ⟨56, _⟩ => ⟨S8x4224x4224, .f32⟩
  | .hbm, ⟨57, _⟩ => ⟨S8x64x4224, .f32⟩
  | .hbm, ⟨58, _⟩ => ⟨S4224x8x64, .f32⟩
  | .hbm, ⟨59, _⟩ => ⟨S4224x512, .f32⟩
  | .hbm, ⟨60, _⟩ => ⟨S4224x512, .bf16⟩
  | .hbm, ⟨61, _⟩ => ⟨S8x4224x1, .f32⟩
  | .hbm, ⟨62, _⟩ => ⟨S8x4224x1, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.Tactic
public import Idealize.ShloMosaic.Lib.Pipeline.ValueKit

@[expose] public section

noncomputable section

namespace Cert.Common

open Idealize.ShloMosaic

/-- An array's element at two natural numbers, zero outside the array. -/
def at2 {a b : ℕ} (X : (⟨2, ![a, b]⟩ : Shape).Idx → EReal) (i j : ℕ) : EReal :=
  if h : i < a ∧ j < b then X (ix2 ⟨i, h.1⟩ ⟨j, h.2⟩) else 0

/-- Inside the array it is the element. -/
theorem at2_eq {a b : ℕ} (X : (⟨2, ![a, b]⟩ : Shape).Idx → EReal) (i : Fin a) (j : Fin b) : at2 X i.val j.val = X (ix2 i j) :=
  dif_pos ⟨i.isLt, j.isLt⟩

/-- The same, from bounds. -/
theorem at2_lt {a b : ℕ} (X : (⟨2, ![a, b]⟩ : Shape).Idx → EReal) (i j : ℕ) (hi : i < a) (hj : j < b) :
    at2 X i j = X (ix2 ⟨i, hi⟩ ⟨j, hj⟩) :=
  dif_pos ⟨hi, hj⟩

/-- A sum over all rows, taken block by block. -/
theorem sum_blocks {M : Type*} [AddCommMonoid M] (S n N : ℕ) (hN : N = S * n) (g : ℕ → M) :
    ∑ s ∈ Finset.range S, ∑ q : Fin n, g (n * s + q.val) = ∑ k : Fin N, g k.val := by
  subst hN
  rw [← Fin.sum_univ_univ_mul_add S n g, Finset.sum_range]
  exact Finset.sum_congr rfl fun s _ => Finset.sum_congr rfl fun q _ => by rw [Nat.mul_comm]

end Cert.Common

end
-- ==== Proof.MergeSpec.lean ====
module

public import proofs.«01_k».proof.Proof.Common

@[expose] public section

set_option maxRecDepth 16384

noncomputable section

namespace Cert.Merge.Spec

open Idealize.ShloMosaic Cert.Common

/-! ## The gradients, element by element -/

section Spec
variable (dh : (⟨2, ![4224, 1024]⟩ : Shape).Idx → EReal) (pj : (⟨2, ![4224, 5888]⟩ : Shape).Idx → EReal)
  (oa ob oc : (⟨2, ![4224, 512]⟩ : Shape).Idx → EReal) (wb : (⟨3, ![3, 512, 1024]⟩ : Shape).Idx → EReal)
  (wo : (⟨2, ![1024, 1024]⟩ : Shape).Idx → EReal)

/-- Branch `n`'s gate at row `l`, channel `d`. -/
def gate (n : Fin 3) (l : ℕ) (d : Fin 1024) : EReal := Ideal.logistic (at2 pj l (1024 * n.val + d.val))

/-- Branch `n`'s output at row `l`. -/
def branch (n : Fin 3) (l : ℕ) (k : Fin 512) : EReal :=
  if n.val < 1 then at2 oa l k.val else if n.val - 1 < 1 then at2 ob l k.val else at2 oc l k.val

/-- Branch `n`'s output times its weight. -/
def mixed (n : Fin 3) (l : ℕ) (d : Fin 1024) : EReal := ∑ k : Fin 512, branch oa ob oc n l k * wb (ix3 n k d)

/-- The cotangent of the merged branches. -/
def dmerged (l : ℕ) (d : Fin 1024) : EReal := ∑ e : Fin 1024, at2 dh l e.val * wo (ix2 d e)

/-- The cotangent of branch `n` times its weight. -/
def dmixed (n : Fin 3) (l : ℕ) (d : Fin 1024) : EReal := dmerged dh wo l d * gate pj n l d

/-- The merged branches. -/
def merged (l : ℕ) (d : Fin 1024) : EReal :=
  gate pj 0 l d * mixed oa ob oc wb 0 l d + gate pj 1 l d * mixed oa ob oc wb 1 l d + gate pj 2 l d * mixed oa ob oc wb 2 l d

/-- The gradient of branch `n`'s gate before its sigmoid. -/
def dgate (n : Fin 3) (l : ℕ) (d : Fin 1024) : EReal :=
  dmerged dh wo l d * mixed oa ob oc wb n l d * gate pj n l d * (1 - gate pj n l d)

/-- The gradient of branch `n`'s output. -/
def dbranch (n : Fin 3) (l : ℕ) (k : Fin 512) : EReal := ∑ d : Fin 1024, dmixed dh pj wo n l d * wb (ix3 n k d)

/-- The gates' gradient as one array, the branches' columns side by side. -/
def dgates : (⟨2, ![4224, 3072]⟩ : Shape).Idx → EReal := fun i =>
  dgate dh pj oa ob oc wb wo ⟨(i 1).val / 1024, by have : (i 1).val < 3072 := (i 1).isLt; omega⟩ (i 0).val
    ⟨(i 1).val % 1024, Nat.mod_lt _ (by decide)⟩

/-- A branch's gradient as an array. -/
def dbranches (n : Fin 3) : (⟨2, ![4224, 512]⟩ : Shape).Idx → EReal := fun i => dbranch dh pj wb wo n (i 0).val (i 1)

/-- The gradient of the branches' weights. -/
def dweights : (⟨3, ![3, 512, 1024]⟩ : Shape).Idx → EReal := fun i =>
  ∑ l : Fin 4224, branch oa ob oc (i 0) l.val (i 1) * dmixed dh pj wo (i 0) l.val (i 2)

/-- The gradient of the output weight. -/
def dout : (⟨2, ![1024, 1024]⟩ : Shape).Idx → EReal := fun i =>
  ∑ l : Fin 4224, merged pj oa ob oc wb l.val (i 0) * at2 dh l.val (i 1).val

/-- The merged branches times the output weight, added to the residual stream. -/
def joined : (⟨2, ![4224, 1024]⟩ : Shape).Idx → EReal := fun i =>
  at2 dh (i 0).val (i 1).val + ∑ k : Fin 1024, merged pj oa ob oc wb (i 0).val k * wo (ix2 k (i 1))

end Spec

end Cert.Merge.Spec
-- ==== Proof.MergeValue.lean ====
module

public import proofs.«01_k».proof.Proof.Gen.MergeIdeal.Value
public import proofs.«01_k».proof.Proof.MergeSpec
public import Idealize.ShloMosaic.Lib.StableHlo.Run
public import Idealize.ShloMosaic.Lib.Pipeline.ReadBack

@[expose] public section

set_option maxRecDepth 16384

noncomputable section

namespace Cert.MergeIdeal.Tie

open Cert.MergeIdeal Cert.MergeIdeal.Gen Idealize.ShloMosaic Idealize.ShloMosaic.TcCoe Idealize.SL.Sem Cert.Common Cert.Merge.Spec
open Idealize.ShloMosaic.Pipeline (Dat)

variable (m : (ℓ : Loc nD τ sig) → Buf (Elt Ideal) ℓ)

theorem idx (t : Fin cfg0.N) : win0_0.index t = ![t.val, 0] ∧ win0_1.index t = ![t.val, 0] ∧ win0_2.index t = ![t.val, 1] ∧ win0_3.index t = ![t.val, 2]
    ∧ win0_4.index t = ![t.val, 0] ∧ win0_5.index t = ![t.val, 0] ∧ win0_6.index t = ![t.val, 0] ∧ win0_7.index t = ![0, 0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![0, 0, 0] ∧ win0_14.index t = ![0, 0] := by
  revert t
  decide +kernel

/-- The seven arguments as one device holds them. -/
abbrev a0 (c : Dev nD) : (⟨2, ![4224, 1024]⟩ : Shape).Idx → EReal := m ((c : Thread nD τ).loc main_arg0)
abbrev a1 (c : Dev nD) : (⟨2, ![4224, 5888]⟩ : Shape).Idx → EReal := m ((c : Thread nD τ).loc main_arg1)
abbrev a2 (c : Dev nD) : (⟨2, ![4224, 512]⟩ : Shape).Idx → EReal := m ((c : Thread nD τ).loc main_arg2)
abbrev a3 (c : Dev nD) : (⟨2, ![4224, 512]⟩ : Shape).Idx → EReal := m ((c : Thread nD τ).loc main_arg3)
abbrev a4 (c : Dev nD) : (⟨2, ![4224, 512]⟩ : Shape).Idx → EReal := m ((c : Thread nD τ).loc main_arg4)
abbrev a5 (c : Dev nD) : (⟨3, ![3, 512, 1024]⟩ : Shape).Idx → EReal := m ((c : Thread nD τ).loc main_arg5)
abbrev a6 (c : Dev nD) : (⟨2, ![1024, 1024]⟩ : Shape).Idx → EReal := m ((c : Thread nD τ).loc main_arg6)

theorem V_main_v0 (c : Dev nD) : (V m c main_v0 : S3x512x1024.Idx → EReal) = a5 m c := by
  unfold V
  simp only [hostOps0, List.flatten_cons, List.flatten_nil, List.append_nil, List.cons_append, List.nil_append]
  after_results
  rfl

theorem V_main_v1 (c : Dev nD) : (V m c main_v1 : S1024x1024.Idx → EReal) = a6 m c := by
  unfold V
  simp only [hostOps0, List.flatten_cons, List.flatten_nil, List.append_nil, List.cons_append, List.nil_append]
  after_results
  rfl

theorem blk0 (c : Dev nD) (t : Fin cfg0.N) (r : Fin 384) (l : Fin 1024) :
    (iblk m c 0 t : Vec Ideal S384x1024 .f32) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 1024) :
    (X0_1 m c t : Vec Ideal S384x1024 .f32) (ix2 r l) = at2 (a1 m c) (384 * t.val + r.val) (1024 * 0 + l.val) := by
  have ht : t.val < 11 := t.isLt
  rw [at2_lt _ _ _ (by omega) (by omega)]
  have h := (idx t).2.1
  unfold X0_1 Pipeline.Window.fill
  rw [dif_pos (moved0_1 t _)]
  blk_ext [iblk, V_main_arg1, h]

theorem blk2 (c : Dev nD) (t : Fin cfg0.N) (r : Fin 384) (l : Fin 1024) :
    (X0_2 m c t : Vec Ideal S384x1024 .f32) (ix2 r l) = at2 (a1 m c) (384 * t.val + r.val) (1024 * 1 + l.val) := by
  have ht : t.val < 11 := t.isLt
  rw [at2_lt _ _ _ (by omega) (by omega)]
  have h := (idx t).2.2.1
  unfold X0_2 Pipeline.Window.fill
  rw [dif_pos (moved0_2 t _)]
  blk_ext [iblk, V_main_arg1, h]

theorem blk3 (c : Dev nD) (t : Fin cfg0.N) (r : Fin 384) (l : Fin 1024) :
    (X0_3 m c t : Vec Ideal S384x1024 .f32) (ix2 r l) = at2 (a1 m c) (384 * t.val + r.val) (1024 * 2 + l.val) := by
  have ht : t.val < 11 := t.isLt
  rw [at2_lt _ _ _ (by omega) (by omega)]
  have h := (idx t).2.2.2.1
  unfold X0_3 Pipeline.Window.fill
  rw [dif_pos (moved0_3 t _)]
  blk_ext [iblk, V_main_arg1, h]

theorem blk4 (c : Dev nD) (t : Fin cfg0.N) (r : Fin 384) (l : Fin 512) :
    (iblk m c 4 t : Vec Ideal S384x512 .bf16) (ix2 r l) = branch (a2 m c) (a3 m c) (a4 m c) 0 (384 * t.val + r.val) l := by
  have ht : t.val < 11 := t.isLt
  show _ = at2 (a2 m c) (384 * t.val + r.val) l.val
  rw [at2_lt _ _ _ (by omega) (by omega)]
  have h := (idx t).2.2.2.2.1
  blk_ext [iblk, V_main_arg2, h]

theorem blk5 (c : Dev nD) (t : Fin cfg0.N) (r : Fin 384) (l : Fin 512) :
    (iblk m c 5 t : Vec Ideal S384x512 .bf16) (ix2 r l) = branch (a2 m c) (a3 m c) (a4 m c) 1 (384 * t.val + r.val) l := by
  have ht : t.val < 11 := t.isLt
  show _ = at2 (a3 m c) (384 * t.val + r.val) l.val
  rw [at2_lt _ _ _ (by omega) (by omega)]
  have h := (idx t).2.2.2.2.2.1
  blk_ext [iblk, V_main_arg3, h]

theorem blk6 (c : Dev nD) (t : Fin cfg0.N) (r : Fin 384) (l : Fin 512) :
    (iblk m c 6 t : Vec Ideal S384x512 .bf16) (ix2 r l) = branch (a2 m c) (a3 m c) (a4 m c) 2 (384 * t.val + r.val) l := by
  have ht : t.val < 11 := t.isLt
  show _ = at2 (a4 m c) (384 * t.val + r.val) l.val
  rw [at2_lt _ _ _ (by omega) (by omega)]
  have h := (idx t).2.2.2.2.2.2.1
  blk_ext [iblk, V_main_arg4, h]

theorem blk7 (c : Dev nD) (t : Fin cfg0.N) (n : Fin 3) (k : Fin 512) (d : Fin 1024) :
    (iblk m c 7 t : Vec Ideal S3x512x1024 .bf16) (ix3 n k d) = a5 m c (ix3 n k d) := by
  rw [← V_main_v0]
  have h := (idx t).2.2.2.2.2.2.2.1
  blk_ext [iblk, h]

theorem blk8 (c : Dev nD) (t : Fin cfg0.N) (d : Fin 1024) (e : Fin 1024) :
    (iblk m c 8 t : Vec Ideal S1024x1024 .bf16) (ix2 d e) = a6 m c (ix2 d e) := by
  rw [← V_main_v1]
  have h := (idx t).2.2.2.2.2.2.2.2.1
  blk_ext [iblk, h]

/-! ## The values one point computes -/

theorem pay6_apply (c : Dev nD) (t : Fin cfg0.N) (r : Fin 384) (d : Fin 1024) :
    k0_pay6 (F := Ideal) (iblk m c 0 t) (iblk m c 8 t) (ix2 r d) = dmerged (a0 m c) (a6 m c) (384 * t.val + r.val) d := by
  pointwise [k0_pay6, k0_pay5]
  simp only [blk0, blk8]
  rfl

theorem gate0_apply (c : Dev nD) (t : Fin cfg0.N) (r : Fin 384) (d : Fin 1024) :
    k0_pay7 (F := Ideal) (X0_1 m c t) (ix2 r d) = gate (a1 m c) 0 (384 * t.val + r.val) d := by
  pointwise [k0_pay7]
  rw [blk1]
  rfl

theorem mixed0_apply (c : Dev nD) (t : Fin cfg0.N) (r : Fin 384) (d : Fin 1024) :
    k0_pay8 (F := Ideal) (iblk m c 4 t) (View.ld (iblk m c 7 t) (Rect.unit ![0, 0, 0] ![1, 512, 1024] inb_S3x512x1024_S1x512x1024_0_0_0)) (ix2 r d)
      = mixed (a2 m c) (a3 m c) (a4 m c) (a5 m c) 0 (384 * t.val + r.val) d := by
  pointwise [k0_pay8]
  simp only [blk4, blk7]
  rfl

theorem dmixed0_apply (c : Dev nD) (t : Fin cfg0.N) (r : Fin 384) (d : Fin 1024) :
    k0_pay10 (F := Ideal) (iblk m c 0 t) (iblk m c 8 t) (X0_1 m c t) (ix2 r d) = dmixed (a0 m c) (a1 m c) (a6 m c) 0 (384 * t.val + r.val) d := by
  pointwise [k0_pay10]
  rw [pay6_apply, gate0_apply]
  rfl

theorem dgate0_apply (c : Dev nD) (t : Fin cfg0.N) (r : Fin 384) (d : Fin 1024) :
    k0_pay11 (F := Ideal) (iblk m c 0 t) (iblk m c 8 t) (X0_1 m c t) (iblk m c 4 t) (View.ld (iblk m c 7 t) (Rect.unit ![0, 0, 0] ![1, 512, 1024] inb_S3x512x1024_S1x512x1024_0_0_0)) (ix2 r d)
      = dgate (a0 m c) (a1 m c) (a2 m c) (a3 m c) (a4 m c) (a5 m c) (a6 m c) 0 (384 * t.val + r.val) d := by
  pointwise [k0_pay11]
  rw [pay6_apply, gate0_apply, mixed0_apply]
  rfl

theorem dbranch0_apply (c : Dev nD) (t : Fin cfg0.N) (r : Fin 384) (k : Fin 512) :
    k0_pay12 (F := Ideal) (iblk m c 0 t) (iblk m c 8 t) (X0_1 m c t) (View.ld (iblk m c 7 t) (Rect.unit ![0, 0, 0] ![1, 512, 1024] inb_S3x512x1024_S1x512x1024_0_0_0)) (ix2 r k)
      = dbranch (a0 m c) (a1 m c) (a5 m c) (a6 m c) 0 (384 * t.val + r.val) k := by
  pointwise [k0_pay12]
  simp only [dmixed0_apply, blk7]
  rfl

theorem gate1_apply (c : Dev nD) (t : Fin cfg0.N) (r : Fin 384) (d : Fin 1024) :
    k0_pay14 (F := Ideal) (X0_2 m c t) (ix2 r d) = gate (a1 m c) 1 (384 * t.val + r.val) d := by
  pointwise [k0_pay14]
  rw [blk2]
  rfl

theorem mixed1_apply (c : Dev nD) (t : Fin cfg0.N) (r : Fin 384) (d : Fin 1024) :
    k0_pay15 (F := Ideal) (iblk m c 5 t) (View.ld (iblk m c 7 t) (Rect.unit ![1, 0, 0] ![1, 512, 1024] inb_S3x512x1024_S1x512x1024_1_0_0)) (ix2 r d)
      = mixed (a2 m c) (a3 m c) (a4 m c) (a5 m c) 1 (384 * t.val + r.val) d := by
  pointwise [k0_pay15]
  simp only [blk5, blk7]
  rfl

theorem dmixed1_apply (c : Dev nD) (t : Fin cfg0.N) (r : Fin 384) (d : Fin 1024) :
    k0_pay17 (F := Ideal) (k0_pay6 (F := Ideal) (iblk m c 0 t) (iblk m c 8 t)) (X0_2 m c t) (ix2 r d) = dmixed (a0 m c) (a1 m c) (a6 m c) 1 (384 * t.val + r.val) d := by
  pointwise [k0_pay17]
  rw [pay6_apply, gate1_apply]
  rfl

theorem dgate1_apply (c : Dev nD) (t : Fin cfg0.N) (r : Fin 384) (d : Fin 1024) :
    k0_pay18 (F := Ideal) (k0_pay6 (F := Ideal) (iblk m c 0 t) (iblk m c 8 t)) (X0_2 m c t) (iblk m c 5 t) (View.ld (iblk m c 7 t) (Rect.unit ![1, 0, 0] ![1, 512, 1024] inb_S3x512x1024_S1x512x1024_1_0_0)) (ix2 r d)
      = dgate (a0 m c) (a1 m c) (a2 m c) (a3 m c) (a4 m c) (a5 m c) (a6 m c) 1 (384 * t.val + r.val) d := by
  pointwise [k0_pay18]
  rw [pay6_apply, gate1_apply, mixed1_apply]
  rfl

theorem dbranch1_apply (c : Dev nD) (t : Fin cfg0.N) (r : Fin 384) (k : Fin 512) :
    k0_pay19 (F := Ideal) (k0_pay6 (F := Ideal) (iblk m c 0 t) (iblk m c 8 t)) (X0_2 m c t) (View.ld (iblk m c 7 t) (Rect.unit ![1, 0, 0] ![1, 512, 1024] inb_S3x512x1024_S1x512x1024_1_0_0)) (ix2 r k)
      = dbranch (a0 m c) (a1 m c) (a5 m c) (a6 m c) 1 (384 * t.val + r.val) k := by
  pointwise [k0_pay19]
  simp only [dmixed1_apply, blk7]
  rfl

theorem gate2_apply (c : Dev nD) (t : Fin cfg0.N) (r : Fin 384) (d : Fin 1024) :
    k0_pay21 (F := Ideal) (X0_3 m c t) (ix2 r d) = gate (a1 m c) 2 (384 * t.val + r.val) d := by
  pointwise [k0_pay21]
  rw [blk3]
  rfl

theorem mixed2_apply (c : Dev nD) (t : Fin cfg0.N) (r : Fin 384) (d : Fin 1024) :
    k0_pay22 (F := Ideal) (iblk m c 6 t) (View.ld (iblk m c 7 t) (Rect.unit ![2, 0, 0] ![1, 512, 1024] inb_S3x512x1024_S1x512x1024_2_0_0)) (ix2 r d)
      = mixed (a2 m c) (a3 m c) (a4 m c) (a5 m c) 2 (384 * t.val + r.val) d := by
  pointwise [k0_pay22]
  simp only [blk6, blk7]
  rfl

theorem dmixed2_apply (c : Dev nD) (t : Fin cfg0.N) (r : Fin 384) (d : Fin 1024) :
    k0_pay24 (F := Ideal) (k0_pay6 (F := Ideal) (iblk m c 0 t) (iblk m c 8 t)) (X0_3 m c t) (ix2 r d) = dmixed (a0 m c) (a1 m c) (a6 m c) 2 (384 * t.val + r.val) d := by
  pointwise [k0_pay24]
  rw [pay6_apply, gate2_apply]
  rfl

theorem dgate2_apply (c : Dev nD) (t : Fin cfg0.N) (r : Fin 384) (d : Fin 1024) :
    k0_pay25 (F := Ideal) (k0_pay6 (F := Ideal) (iblk m c 0 t) (iblk m c 8 t)) (X0_3 m c t) (iblk m c 6 t) (View.ld (iblk m c 7 t) (Rect.unit ![2, 0, 0] ![1, 512, 1024] inb_S3x512x1024_S1x512x1024_2_0_0)) (ix2 r d)
      = dgate (a0 m c) (a1 m c) (a2 m c) (a3 m c) (a4 m c) (a5 m c) (a6 m c) 2 (384 * t.val + r.val) d := by
  pointwise [k0_pay25]
  rw [pay6_apply, gate2_apply, mixed2_apply]
  rfl

theorem dbranch2_apply (c : Dev nD) (t : Fin cfg0.N) (r : Fin 384) (k : Fin 512) :
    k0_pay26 (F := Ideal) (k0_pay6 (F := Ideal) (iblk m c 0 t) (iblk m c 8 t)) (X0_3 m c t) (View.ld (iblk m c 7 t) (Rect.unit ![2, 0, 0] ![1, 512, 1024] inb_S3x512x1024_S1x512x1024_2_0_0)) (ix2 r k)
      = dbranch (a0 m c) (a1 m c) (a5 m c) (a6 m c) 2 (384 * t.val + r.val) k := by
  pointwise [k0_pay26]
  simp only [dmixed2_apply, blk7]
  rfl

theorem merged_apply (c : Dev nD) (t : Fin cfg0.N) (r : Fin 384) (d : Fin 1024) :
    k0_pay23 (F := Ideal) (k0_pay16 (F := Ideal) (k0_pay9 (F := Ideal) (X0_1 m c t) (iblk m c 4 t) (View.ld (iblk m c 7 t) (Rect.unit ![0, 0, 0] ![1, 512, 1024] inb_S3x512x1024_S1x512x1024_0_0_0))) (X0_2 m c t) (iblk m c 5 t) (View.ld (iblk m c 7 t) (Rect.unit ![1, 0, 0] ![1, 512, 1024] inb_S3x512x1024_S1x512x1024_1_0_0))) (X0_3 m c t) (iblk m c 6 t) (View.ld (iblk m c 7 t) (Rect.unit ![2, 0, 0] ![1, 512, 1024] inb_S3x512x1024_S1x512x1024_2_0_0)) (ix2 r d)
      = merged (a1 m c) (a2 m c) (a3 m c) (a4 m c) (a5 m c) (384 * t.val + r.val) d := by
  pointwise [k0_pay23, k0_pay16, k0_pay9]
  rw [gate0_apply, gate1_apply, gate2_apply, mixed0_apply, mixed1_apply, mixed2_apply]
  rfl

/-! ## The accumulators -/

/-- What one point adds to the gradient of the branches' weights. -/
def termW (c : Dev nD) (t : ℕ) (j : S3x512x1024.Idx) : EReal :=
  ∑ q : Fin 384, branch (a2 m c) (a3 m c) (a4 m c) (j 0) (384 * t + q.val) (j 1) * dmixed (a0 m c) (a1 m c) (a6 m c) (j 0) (384 * t + q.val) (j 2)

/-- What one point adds to the gradient of the output weight. -/
def termO (c : Dev nD) (t : ℕ) (j : S1024x1024.Idx) : EReal :=
  ∑ q : Fin 384, merged (a1 m c) (a2 m c) (a3 m c) (a4 m c) (a5 m c) (384 * t + q.val) (j 0) * at2 (a0 m c) (384 * t + q.val) (j 1).val

theorem weight0_apply (c : Dev nD) (t : Fin cfg0.N) (A : Vec Ideal S3x512x1024 .f32) (z : Fin 1) (k : Fin 512) (d : Fin 1024) :
    k0_pay13 (F := Ideal) (iblk m c 4 t) (k0_pay10 (iblk m c 0 t) (iblk m c 8 t) (X0_1 m c t)) (View.ld A (Rect.unit ![0, 0, 0] ![1, 512, 1024] inb_S3x512x1024_S1x512x1024_0_0_0)) (ix3 z k d)
      = A (ix3 0 k d) + termW m c t.val (ix3 0 k d) := by
  pointwise [k0_pay13]
  simp only [dmixed0_apply, blk4]
  congr 1

theorem weight1_apply (c : Dev nD) (t : Fin cfg0.N) (A : Vec Ideal S3x512x1024 .f32) (z : Fin 1) (k : Fin 512) (d : Fin 1024) :
    k0_pay20 (F := Ideal) (iblk m c 5 t) (k0_pay17 (k0_pay6 (F := Ideal) (iblk m c 0 t) (iblk m c 8 t)) (X0_2 m c t)) (View.ld A (Rect.unit ![1, 0, 0] ![1, 512, 1024] inb_S3x512x1024_S1x512x1024_1_0_0)) (ix3 z k d)
      = A (ix3 1 k d) + termW m c t.val (ix3 1 k d) := by
  pointwise [k0_pay20]
  simp only [dmixed1_apply, blk5]
  congr 1

theorem weight2_apply (c : Dev nD) (t : Fin cfg0.N) (A : Vec Ideal S3x512x1024 .f32) (z : Fin 1) (k : Fin 512) (d : Fin 1024) :
    k0_pay1 (F := Ideal) (k0_pay27 (k0_pay6 (F := Ideal) (iblk m c 0 t) (iblk m c 8 t)) (X0_3 m c t) (iblk m c 6 t) (View.ld A (Rect.unit ![2, 0, 0] ![1, 512, 1024] inb_S3x512x1024_S1x512x1024_2_0_0))) (ix3 z k d)
      = A (ix3 2 k d) + termW m c t.val (ix3 2 k d) := by
  pointwise [k0_pay1, k0_pay27]
  simp only [dmixed2_apply, blk6]
  congr 1

theorem out_apply (c : Dev nD) (t : Fin cfg0.N) (A : Vec Ideal S1024x1024 .f32) (d e : Fin 1024) :
    k0_pay2 (F := Ideal) (k0_pay5 (iblk m c 0 t)) (k0_pay23 (F := Ideal) (k0_pay16 (F := Ideal) (k0_pay9 (F := Ideal) (X0_1 m c t) (iblk m c 4 t) (View.ld (iblk m c 7 t) (Rect.unit ![0, 0, 0] ![1, 512, 1024] inb_S3x512x1024_S1x512x1024_0_0_0))) (X0_2 m c t) (iblk m c 5 t) (View.ld (iblk m c 7 t) (Rect.unit ![1, 0, 0] ![1, 512, 1024] inb_S3x512x1024_S1x512x1024_1_0_0))) (X0_3 m c t) (iblk m c 6 t) (View.ld (iblk m c 7 t) (Rect.unit ![2, 0, 0] ![1, 512, 1024] inb_S3x512x1024_S1x512x1024_2_0_0))) A (ix2 d e)
      = A (ix2 d e) + termO m c t.val (ix2 d e) := by
  pointwise [k0_pay2, k0_pay5]
  simp only [merged_apply, blk0]
  congr 1

theorem zero3 (j : S3x512x1024.Idx) : k0_pay3 (F := Ideal) j = 0 := by
  pointwise [k0_pay3]

theorem zero4 (j : S1024x1024.Idx) : k0_pay4 (F := Ideal) j = 0 := by
  pointwise [k0_pay4]

theorem accW (c : Dev nD) (t : Fin cfg0.N) (j : S3x512x1024.Idx) :
    ((outsAt0 m c t.val t.isLt).2.2.2.2.1 : Vec Ideal S3x512x1024 .f32) j = 0 + ∑ k ∈ Finset.range (t.val % 11 + 1), termW m c (11 * (t.val / 11) + k) j := by
  refine Pipeline.eq_sum_of_reset_step_apply (fun n h => (outsAt0 m c n h).2.2.2.2.1) 11 (fun _ => 0) (termW m c) (fun t h j => ?_) (fun t h j => ?_) t j
  · rw [outsAt0_A m c t h]
    frame_open
    simp (disch := decide) only [↓ View.readCov_skip, ↓ View.readCov_cons_toLoadRect, ↓ View.readCov_fill]
    frame_out
    idx_vars j
    refine View.canon_append_of_piecesOf (Val := Elt Ideal) (s := S3x512x1024) (e := .f32) (fun j => (0 + termW m c t.val j : EReal)) [_] [_, _, _] ⟨fun x => ?_, fun x => ?_, fun x => ?_, trivial⟩ (ix3 j0 j1 j2) ?_
    · idx_vars x
      obtain rfl : x0 = 0 := Subsingleton.elim _ _
      have e : (Rect.unit (s := S3x512x1024) ![2, 0, 0] ![1, 512, 1024] inb_S3x512x1024_S1x512x1024_2_0_0).emb (ix3 0 x1 x2) = ix3 2 x1 x2 := by
        blk_ext []
      rw [e]
      refine (weight2_apply m c t _ 0 x1 x2).trans ?_
      rw [zero3]
    · idx_vars x
      obtain rfl : x0 = 0 := Subsingleton.elim _ _
      have e : (Rect.unit (s := S3x512x1024) ![1, 0, 0] ![1, 512, 1024] inb_S3x512x1024_S1x512x1024_1_0_0).emb (ix3 0 x1 x2) = ix3 1 x1 x2 := by
        blk_ext []
      rw [e]
      refine (weight1_apply m c t _ 0 x1 x2).trans ?_
      rw [zero3]
    · idx_vars x
      obtain rfl : x0 = 0 := Subsingleton.elim _ _
      have e : (Rect.unit (s := S3x512x1024) ![0, 0, 0] ![1, 512, 1024] inb_S3x512x1024_S1x512x1024_0_0_0).emb (ix3 0 x1 x2) = ix3 0 x1 x2 := by
        blk_ext []
      rw [e]
      refine (weight0_apply m c t _ 0 x1 x2).trans ?_
      rw [zero3]
    · exact View.cover_of_tiled _ ![1, 512, 1024] rfl _
  · rw [outsAt0_B m c t h]
    frame_out
    idx_vars j
    canon_tiles x h
    · idx_vars x
      obtain rfl : j0 = 2 := Fin.ext (by show j0.val = 2; omega)
      obtain rfl : j1 = x1 := Fin.ext h1
      obtain rfl : j2 = x2 := Fin.ext h2
      exact weight2_apply m c t _ x0 j1 j2
    · idx_vars x
      obtain rfl : j0 = 1 := Fin.ext (by show j0.val = 1; omega)
      obtain rfl : j1 = x1 := Fin.ext h1
      obtain rfl : j2 = x2 := Fin.ext h2
      exact weight1_apply m c t _ x0 j1 j2
    · idx_vars x
      obtain rfl : j0 = 0 := Fin.ext (by show j0.val = 0; omega)
      obtain rfl : j1 = x1 := Fin.ext h1
      obtain rfl : j2 = x2 := Fin.ext h2
      exact weight0_apply m c t _ x0 j1 j2

theorem accO (c : Dev nD) (t : Fin cfg0.N) (j : S1024x1024.Idx) :
    ((outsAt0 m c t.val t.isLt).2.2.2.2.2 : Vec Ideal S1024x1024 .f32) j = 0 + ∑ k ∈ Finset.range (t.val % 11 + 1), termO m c (11 * (t.val / 11) + k) j := by
  refine Pipeline.eq_sum_of_reset_step_apply (fun n h => (outsAt0 m c n h).2.2.2.2.2) 11 (fun _ => 0) (termO m c) (fun t h j => ?_) (fun t h j => ?_) t j
  · rw [outsAt0_A m c t h]
    frame_out
    idx_vars j
    refine (out_apply m c t _ j0 j1).trans ?_
    rw [zero4]
  · rw [outsAt0_B m c t h]
    frame_out
    idx_vars j
    exact out_apply m c t _ j0 j1

/-! ## The six arrays -/

theorem final13 (c : Dev nD) :
    (dats m 0 c).arrAt 13 cfg0.N = dweights (a0 m c) (a1 m c) (a2 m c) (a3 m c) (a4 m c) (a6 m c) := by
  refine (dats m 0 c).arrAt_eq_of_covers 13 _ (by decide +kernel) fun t hf y => ?_
  have ht : t.val < 11 := t.isLt
  have hm := (flush0_13 t).mp hf
  blk_simp
  rw [after0_13]
  have e : (win0_13.blk t).view.emb y = y := by
    blk_ext [(idx t).2.2.2.2.2.2.2.2.2.2.2.2.2.1]
  rw [e]
  refine (accW m c t y).trans ?_
  rw [hm, zero_add]
  unfold dweights termW
  refine Eq.trans ?_ (sum_blocks 11 384 4224 rfl fun l => branch (a2 m c) (a3 m c) (a4 m c) (y 0) l (y 1) * dmixed (a0 m c) (a1 m c) (a6 m c) (y 0) l (y 2))
  refine Finset.sum_congr rfl fun s hs => ?_
  rw [show 11 * (t.val / 11) + s = s by omega]

theorem final14 (c : Dev nD) :
    (dats m 0 c).arrAt 14 cfg0.N = dout (a0 m c) (a1 m c) (a2 m c) (a3 m c) (a4 m c) (a5 m c) := by
  refine (dats m 0 c).arrAt_eq_of_covers 14 _ (by decide +kernel) fun t hf y => ?_
  have ht : t.val < 11 := t.isLt
  have hm := (flush0_14 t).mp hf
  blk_simp
  rw [after0_14]
  have e : (win0_14.blk t).view.emb y = y := by
    blk_ext [(idx t).2.2.2.2.2.2.2.2.2.2.2.2.2.2]
  rw [e]
  refine (accO m c t y).trans ?_
  rw [hm, zero_add]
  unfold dout termO
  refine Eq.trans ?_ (sum_blocks 11 384 4224 rfl fun l => merged (a1 m c) (a2 m c) (a3 m c) (a4 m c) (a5 m c) l (y 0) * at2 (a0 m c) l (y 1).val)
  refine Finset.sum_congr rfl fun s hs => ?_
  rw [show 11 * (t.val / 11) + s = s by omega]

theorem final10 (c : Dev nD) :
    (dats m 0 c).arrAt 10 cfg0.N = dbranches (a0 m c) (a1 m c) (a5 m c) (a6 m c) 0 := by
  refine (dats m 0 c).arrAt_eq_of_covers 10 _ (by decide +kernel) fun t hf y => ?_
  have ht : t.val < 11 := t.isLt
  blk_simp
  rw [after0_10]
  idx_vars y
  have e : (win0_10.blk t).view.emb (ix2 y0 y1) = ix2 (⟨384 * t.val + y0.val, by omega⟩ : Fin 4224) y1 := by
    blk_ext [(idx t).2.2.2.2.2.2.2.2.2.2.1]
  rw [e]
  by_cases h : t.val % 11 = 0
  · rw [outsAt0_A m c t h]
    frame_out
    exact dbranch0_apply m c t y0 y1
  · rw [outsAt0_B m c t h]
    frame_out
    exact dbranch0_apply m c t y0 y1

theorem final11 (c : Dev nD) :
    (dats m 0 c).arrAt 11 cfg0.N = dbranches (a0 m c) (a1 m c) (a5 m c) (a6 m c) 1 := by
  refine (dats m 0 c).arrAt_eq_of_covers 11 _ (by decide +kernel) fun t hf y => ?_
  have ht : t.val < 11 := t.isLt
  blk_simp
  rw [after0_11]
  idx_vars y
  have e : (win0_11.blk t).view.emb (ix2 y0 y1) = ix2 (⟨384 * t.val + y0.val, by omega⟩ : Fin 4224) y1 := by
    blk_ext [(idx t).2.2.2.2.2.2.2.2.2.2.2.1]
  rw [e]
  by_cases h : t.val % 11 = 0
  · rw [outsAt0_A m c t h]
    frame_out
    exact dbranch1_apply m c t y0 y1
  · rw [outsAt0_B m c t h]
    frame_out
    exact dbranch1_apply m c t y0 y1

theorem final12 (c : Dev nD) :
    (dats m 0 c).arrAt 12 cfg0.N = dbranches (a0 m c) (a1 m c) (a5 m c) (a6 m c) 2 := by
  refine (dats m 0 c).arrAt_eq_of_covers 12 _ (by decide +kernel) fun t hf y => ?_
  have ht : t.val < 11 := t.isLt
  blk_simp
  rw [after0_12]
  idx_vars y
  have e : (win0_12.blk t).view.emb (ix2 y0 y1) = ix2 (⟨384 * t.val + y0.val, by omega⟩ : Fin 4224) y1 := by
    blk_ext [(idx t).2.2.2.2.2.2.2.2.2.2.2.2.1]
  rw [e]
  by_cases h : t.val % 11 = 0
  · rw [outsAt0_A m c t h]
    frame_out
    exact dbranch2_apply m c t y0 y1
  · rw [outsAt0_B m c t h]
    frame_out
    exact dbranch2_apply m c t y0 y1

theorem final9 (c : Dev nD) :
    (dats m 0 c).arrAt 9 cfg0.N = dgates (a0 m c) (a1 m c) (a2 m c) (a3 m c) (a4 m c) (a5 m c) (a6 m c) := by
  refine (dats m 0 c).arrAt_eq_of_covers 9 _ (by decide +kernel) fun t hf y => ?_
  have ht : t.val < 11 := t.isLt
  blk_simp
  rw [after0_9]
  have e : (win0_9.blk t).view.emb y = ix2 (⟨384 * t.val + (y 0).val, by have : (y 0).val < 384 := (y 0).isLt; omega⟩ : Fin 4224) (⟨(y 1).val, (y 1).isLt⟩ : Fin 3072) := by
    blk_ext [(idx t).2.2.2.2.2.2.2.2.2.1]
  rw [e]
  by_cases h : t.val % 11 = 0
  · rw [outsAt0_A m c t h]
    frame_out
    canon_tiles x h
    · have e0 : (⟨(y 1).val / 1024, by have : (y 1).val < 3072 := (y 1).isLt; omega⟩ : Fin 3) = 2 := Fin.ext (by show (y 1).val / 1024 = 2; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate2_apply m c t x0 x1
    · have e0 : (⟨(y 1).val / 1024, by have : (y 1).val < 3072 := (y 1).isLt; omega⟩ : Fin 3) = 1 := Fin.ext (by show (y 1).val / 1024 = 1; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate1_apply m c t x0 x1
    · have e0 : (⟨(y 1).val / 1024, by have : (y 1).val < 3072 := (y 1).isLt; omega⟩ : Fin 3) = 0 := Fin.ext (by show (y 1).val / 1024 = 0; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate0_apply m c t x0 x1
  · rw [outsAt0_B m c t h]
    frame_out
    canon_tiles x h
    · have e0 : (⟨(y 1).val / 1024, by have : (y 1).val < 3072 := (y 1).isLt; omega⟩ : Fin 3) = 2 := Fin.ext (by show (y 1).val / 1024 = 2; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate2_apply m c t x0 x1
    · have e0 : (⟨(y 1).val / 1024, by have : (y 1).val < 3072 := (y 1).isLt; omega⟩ : Fin 3) = 1 := Fin.ext (by show (y 1).val / 1024 = 1; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate1_apply m c t x0 x1
    · have e0 : (⟨(y 1).val / 1024, by have : (y 1).val < 3072 := (y 1).isLt; omega⟩ : Fin 3) = 0 := Fin.ext (by show (y 1).val / 1024 = 0; omega)
      have e1 : (⟨(y 1).val % 1024, Nat.mod_lt _ (by decide)⟩ : Fin 1024) = x 1 := Fin.ext (by show (y 1).val % 1024 = (x 1).val; omega)
      have e2 : 384 * t.val + (y 0).val = 384 * t.val + (x 0).val := by omega
      show _ = dgate _ _ _ _ _ _ _ (⟨(y 1).val / 1024, _⟩ : Fin 3) (384 * t.val + (y 0).val) (⟨(y 1).val % 1024, _⟩ : Fin 1024)
      rw [e0, e1, e2]
      idx_vars x
      exact dgate0_apply m c t x0 x1

end Cert.MergeIdeal.Tie

end
-- ==== Proof.MergeRef.lean ====
module

public import proofs.«01_k».proof.Proof.Gen.MergeRefIdeal.Read
public import proofs.«01_k».proof.Proof.MergeSpec

@[expose] public section

set_option maxRecDepth 16384

noncomputable section

namespace Cert.MergeRefIdeal.Tie

open Cert.MergeRefIdeal Cert.MergeRefIdeal.Read Idealize.ShloMosaic Cert.Common Cert.Merge.Spec

variable (dh : (⟨2, ![4224, 1024]⟩ : Shape).Idx → EReal) (pj : (⟨2, ![4224, 5888]⟩ : Shape).Idx → EReal)
  (oa ob oc : (⟨2, ![4224, 512]⟩ : Shape).Idx → EReal) (wb : (⟨3, ![3, 512, 1024]⟩ : Shape).Idx → EReal)
  (wo : (⟨2, ![1024, 1024]⟩ : Shape).Idx → EReal)

theorem gate_eq (l : Fin 4224) (n : Fin 3) (d : Fin 1024) :
    val_main_v14 (F := Ideal) pj (ix3 l n d) = gate pj n l.val d := by
  unfold gate
  rw [at2_lt _ _ _ l.isLt (by omega)]
  pointwise [val_main_v14, val_main_v13, val_main_v12, val_main_v11, val_main_v10, val_main_v9, val_main_v8, val_main_v3, val_main_cst, val_main_cst_0]
  simp only [Nat.mul_comm]
  rfl

theorem branch_eq (l : Fin 4224) (n : Fin 3) (k : Fin 512) :
    val_main_v7 (F := Ideal) oa ob oc (ix3 l n k) = branch oa ob oc n l.val k := by
  unfold branch
  simp only [at2_eq]
  pointwise [val_main_v7, val_main_v6, val_main_v5, val_main_v4]
  rfl

theorem mixed_eq (l : Fin 4224) (n : Fin 3) (d : Fin 1024) :
    val_main_v19 (F := Ideal) oa ob oc wb (ix3 l n d) = mixed oa ob oc wb n l.val d := by
  unfold mixed
  pointwise [val_main_v19, val_main_v18]
  refine Finset.sum_congr rfl fun k _ => ?_
  rw [branch_eq, mul_comm]

theorem dmerged_eq (l : Fin 4224) (d : Fin 1024) :
    val_main_v25 (F := Ideal) dh wo (ix2 l d) = dmerged dh wo l.val d := by
  unfold dmerged
  pointwise [val_main_v25]
  refine Finset.sum_congr rfl fun k _ => ?_
  rw [at2_eq]

theorem merged_eq (l : Fin 4224) (d : Fin 1024) :
    val_main_v21 (F := Ideal) pj oa ob oc wb (ix2 l d) = merged pj oa ob oc wb l.val d := by
  unfold merged
  pointwise [val_main_v21, val_main_v20, val_main_cst_2]
  simp only [Fin.sum_univ_three, gate_eq, mixed_eq]

theorem dmixed_eq (l : Fin 4224) (n : Fin 3) (d : Fin 1024) :
    val_main_v27 (F := Ideal) dh pj wo (ix3 l n d) = dmixed dh pj wo n l.val d := by
  unfold dmixed
  pointwise [val_main_v27, val_main_v26]
  rw [gate_eq, dmerged_eq, mul_comm]

/-- The reference's gradient of the gates. -/
theorem dgates_eq : val_main_v42 (F := Ideal) dh pj oa ob oc wb wo = dgates dh pj oa ob oc wb wo := by
  funext i
  idx_vars i
  unfold dgates dgate
  pointwise [val_main_v42, val_main_v35, val_main_v34, val_main_v28, val_main_v26, val_main_v17, val_main_v16, val_main_v15, val_main_cst_1]
  simp only [gate_eq, mixed_eq, dmerged_eq]
  rw [← mul_assoc]

/-- The reference's gradient of branch 0. -/
theorem dbranch0_eq : val_main_v43 (F := Ideal) dh pj wb wo = dbranches dh pj wb wo 0 := by
  funext i
  idx_vars i
  unfold dbranches dbranch
  pointwise [val_main_v43, val_main_v37, val_main_v36, val_main_v31, val_main_v30, val_main_v29]
  simp only [dmixed_eq]

/-- The reference's gradient of branch 1. -/
theorem dbranch1_eq : val_main_v44 (F := Ideal) dh pj wb wo = dbranches dh pj wb wo 1 := by
  funext i
  idx_vars i
  unfold dbranches dbranch
  pointwise [val_main_v44, val_main_v39, val_main_v38, val_main_v31, val_main_v30, val_main_v29]
  simp only [dmixed_eq]

/-- The reference's gradient of branch 2. -/
theorem dbranch2_eq : val_main_v45 (F := Ideal) dh pj wb wo = dbranches dh pj wb wo 2 := by
  funext i
  idx_vars i
  unfold dbranches dbranch
  pointwise [val_main_v45, val_main_v41, val_main_v40, val_main_v31, val_main_v30, val_main_v29]
  simp only [dmixed_eq]

/-- The reference's gradient of the branches' weights. -/
theorem dweights_eq : val_main_v33 (F := Ideal) dh pj oa ob oc wo = dweights dh pj oa ob oc wo := by
  funext i
  idx_vars i
  unfold dweights
  pointwise [val_main_v33, val_main_v32, val_main_v29]
  refine Finset.sum_congr rfl fun l _ => ?_
  rw [branch_eq, dmixed_eq, mul_comm]

/-- The reference's gradient of the output weight. -/
theorem dout_eq : val_main_v24 (F := Ideal) dh pj oa ob oc wb = dout dh pj oa ob oc wb := by
  funext i
  idx_vars i
  unfold dout
  pointwise [val_main_v24, val_main_v23]
  refine Finset.sum_congr rfl fun l _ => ?_
  rw [merged_eq, mul_comm]
  exact congrArg (_ * ·) (at2_eq dh l i1).symm

end Cert.MergeRefIdeal.Tie
-- ==== Proof.MergeClaim.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeValue
public import proofs.«01_k».proof.Proof.MergeRef

@[expose] public section

set_option maxRecDepth 16384

noncomputable section

namespace Cert.Merge.Tie

open Idealize.ShloMosaic Idealize.SL.Sem

/-- The kernel ends, its arguments unchanged and its counters at zero. -/
theorem frame_p : Cert.quiescent_Merge := fun m ρ _ => Cert.Merge.Gen.frame m ρ

/-- So does the kernel over the extended reals. -/
theorem frame_pi : Cert.quiescent_MergeIdeal := fun m ρ _ => Cert.MergeIdeal.Gen.frame m ρ

/-- So does the reference. -/
theorem frame_ri : Cert.quiescent_MergeRefIdeal := fun m ρ _ =>
  (θ_run Cert.MergeRefIdeal.defs _ _).mono
    (fun r h => ⟨fun c => (h c).2.2.2.2.2.2, Idealize.ShloMosaic.sem_eq_zero_of_no_sems (by decide) r.2⟩)
    (Cert.MergeRefIdeal.Value.run (F := Ideal) m ρ)

/-- Kernel and reference end with equal results. -/
theorem algebraic : Cert.algebraic_MergeIdeal_MergeRefIdeal := by
  intro m ρ m' ρ' _ hagree
  refine ⟨fun c => Cert.Merge.Spec.dgates (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), fun c => Cert.Merge.Spec.dbranches (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) 0, fun c => Cert.Merge.Spec.dbranches (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) 1, fun c => Cert.Merge.Spec.dbranches (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) 2, fun c => Cert.Merge.Spec.dweights (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg6)), fun c => Cert.Merge.Spec.dout (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)),
    (θ_run Cert.MergeIdeal.defs _ _).mono (fun r h c => ⟨(h c).1.trans (Cert.MergeIdeal.Tie.final9 m c), (h c).2.1.trans (Cert.MergeIdeal.Tie.final10 m c), (h c).2.2.1.trans (Cert.MergeIdeal.Tie.final11 m c), (h c).2.2.2.1.trans (Cert.MergeIdeal.Tie.final12 m c), (h c).2.2.2.2.1.trans (Cert.MergeIdeal.Tie.final13 m c), (h c).2.2.2.2.2.1.trans (Cert.MergeIdeal.Tie.final14 m c), (h c).2.2.2.2.2.2⟩)
      (Cert.MergeIdeal.Value.run_blocks m ρ), ?_⟩
  refine (θ_run Cert.MergeRefIdeal.defs _ _).mono (fun _ h c => ?_) (Cert.MergeRefIdeal.Value.run (F := Ideal) m' ρ')
  obtain ⟨e0, e1, e2, e3, e4, e5, e6⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine (Cert.MergeRefIdeal.Read.val_main_v42_eq (F := Ideal) _ _ _ _ _ _ _).trans ?_
    rw [e0, e1, e2, e3, e4, e5, e6]
    exact Cert.MergeRefIdeal.Tie.dgates_eq _ _ _ _ _ _ _
  · refine (Cert.MergeRefIdeal.Read.val_main_v43_eq (F := Ideal) _ _ _ _).trans ?_
    rw [e0, e1, e5, e6]
    exact Cert.MergeRefIdeal.Tie.dbranch0_eq _ _ _ _
  · refine (Cert.MergeRefIdeal.Read.val_main_v44_eq (F := Ideal) _ _ _ _).trans ?_
    rw [e0, e1, e5, e6]
    exact Cert.MergeRefIdeal.Tie.dbranch1_eq _ _ _ _
  · refine (Cert.MergeRefIdeal.Read.val_main_v45_eq (F := Ideal) _ _ _ _).trans ?_
    rw [e0, e1, e5, e6]
    exact Cert.MergeRefIdeal.Tie.dbranch2_eq _ _ _ _
  · refine (Cert.MergeRefIdeal.Read.val_main_v33_eq (F := Ideal) _ _ _ _ _ _).trans ?_
    rw [e0, e1, e2, e3, e4, e6]
    exact Cert.MergeRefIdeal.Tie.dweights_eq _ _ _ _ _ _
  · refine (Cert.MergeRefIdeal.Read.val_main_v24_eq (F := Ideal) _ _ _ _ _ _).trans ?_
    rw [e0, e1, e2, e3, e4, e5]
    exact Cert.MergeRefIdeal.Tie.dout_eq _ _ _ _ _ _

end Cert.Merge.Tie

end
-- ==== Proof.DcSpec.lean ====
module

public import proofs.«01_k».proof.Proof.Common

@[expose] public section

set_option maxRecDepth 16384

noncomputable section

namespace Cert.Dc.Spec

open Idealize.ShloMosaic Cert.Common

/-! ## The gradients, element by element -/

/-- The element `s` rows before row `k`, and zero before the first row. -/
def back (f : ℕ → ℕ → EReal) (s k l : ℕ) : EReal := if s ≤ k then f (k - s) l else 0

/-- A causal convolution of three taps with a bias. -/
def conv (f : ℕ → ℕ → EReal) (w0 w1 w2 b : ℕ → EReal) (k l : ℕ) : EReal :=
  b l + w0 l * back f 2 k l + w1 l * back f 1 k l + w2 l * f k l

/-- The cotangent of the gated pair: a row of the cotangent against a row of the weight. -/
def dact {L E : ℕ} (dh : (⟨2, ![L, E]⟩ : Shape).Idx → EReal) (wd : (⟨2, ![2816, E]⟩ : Shape).Idx → EReal) (k l : ℕ) : EReal :=
  ∑ e : Fin E, at2 dh k e.val * at2 wd l e.val

/-- The gradient of a swish gate's argument `x`, of a value `y`, at the cotangent `a`. -/
def dswish (a x y : EReal) : EReal := a * y * Ideal.logistic x * (1 + x * (1 - Ideal.logistic x))

/-- The gradient of the value beside a swish gate's argument `x`, at the cotangent `a`. -/
def dvalue (a x : EReal) : EReal := a * x * Ideal.logistic x

section Spec
variable (u : (⟨2, ![4224, 5632]⟩ : Shape).Idx → EReal) (dh : (⟨2, ![4224, 1024]⟩ : Shape).Idx → EReal)
  (wd : (⟨2, ![2816, 1024]⟩ : Shape).Idx → EReal) (w : (⟨2, ![3, 5632]⟩ : Shape).Idx → EReal) (b : (⟨1, ![5632]⟩ : Shape).Idx → EReal)

/-- The bias at a natural number, zero outside. -/
def bias (l : ℕ) : EReal := if h : l < 5632 then b (ix1 ⟨l, h⟩) else 0

/-- The convolution of all columns. -/
def cu (k l : ℕ) : EReal := conv (fun k l => at2 u k l) (fun l => at2 w 0 l) (fun l => at2 w 1 l) (fun l => at2 w 2 l) (bias b) k l

/-- The gate half's gradient. -/
def dg (k l : ℕ) : EReal := dswish (dact dh wd k l) (cu u w b k l) (cu u w b k (2816 + l))

/-- The value half's gradient. -/
def dv (k l : ℕ) : EReal := dvalue (dact dh wd k l) (cu u w b k l)

/-- The taps' gradient of a half whose columns begin at `o`: three rows, then rows of zeros. -/
def dtaps (o : ℕ) (d : ℕ → ℕ → EReal) (r l : ℕ) : EReal :=
  if r < 3 then ∑ k : Fin 4224, d k.val l * back (fun k l => at2 u k (o + l)) (2 - r) k.val l else 0

/-- The bias's gradient of a half: one row, then rows of zeros. -/
def dbias (d : ℕ → ℕ → EReal) (r l : ℕ) : EReal := if r < 1 then ∑ k : Fin 4224, d k.val l else 0

/-- The six results as arrays. -/
def out0 : (⟨2, ![4224, 2816]⟩ : Shape).Idx → EReal := fun i => dg u dh wd w b (i 0).val (i 1).val
@[inherit_doc out0] def out1 : (⟨2, ![4224, 2816]⟩ : Shape).Idx → EReal := fun i => dv u dh wd w b (i 0).val (i 1).val
@[inherit_doc out0] def out2 : (⟨2, ![8, 2816]⟩ : Shape).Idx → EReal := fun i => dtaps u 0 (dg u dh wd w b) (i 0).val (i 1).val
@[inherit_doc out0] def out3 : (⟨2, ![8, 2816]⟩ : Shape).Idx → EReal := fun i => dtaps u 2816 (dv u dh wd w b) (i 0).val (i 1).val
@[inherit_doc out0] def out4 : (⟨2, ![8, 2816]⟩ : Shape).Idx → EReal := fun i => dbias (dg u dh wd w b) (i 0).val (i 1).val
@[inherit_doc out0] def out5 : (⟨2, ![8, 2816]⟩ : Shape).Idx → EReal := fun i => dbias (dv u dh wd w b) (i 0).val (i 1).val

end Spec

/-! ## Real values -/

/-- A value that is a real number. -/
def IsReal (x : EReal) : Prop := ∃ r : ℝ, x = (r : EReal)

theorem IsReal.zero : IsReal 0 := ⟨0, rfl⟩
theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩

theorem IsReal.sum {n : ℕ} (f : Fin n → EReal) (h : ∀ i, IsReal (f i)) : IsReal (∑ i, f i) :=
  Finset.sum_induction f IsReal (fun _ _ => IsReal.add) IsReal.zero (fun i _ => h i)

/-- A value whose absolute value is below infinity is real. -/
theorem IsReal.of_abs {x : EReal} (h : max x (-x) < ⊤) : IsReal x := by
  induction x with
  | bot => simp at h
  | top => simp at h
  | coe r => exact ⟨r, rfl⟩

theorem IsReal.at2 {a b : ℕ} {X : (⟨2, ![a, b]⟩ : Shape).Idx → EReal} (h : ∀ i, IsReal (X i)) (k l : ℕ) : IsReal (at2 X k l) := by
  unfold Cert.Common.at2
  split
  · exact h _
  · exact IsReal.zero

theorem IsReal.back {f : ℕ → ℕ → EReal} (h : ∀ k l, IsReal (f k l)) (s k l : ℕ) : IsReal (back f s k l) := by
  unfold Cert.Dc.Spec.back
  split
  · exact h _ _
  · exact IsReal.zero

/-- The convolution of real values is real. -/
theorem isReal_cu {u : (⟨2, ![4224, 5632]⟩ : Shape).Idx → EReal} {w : (⟨2, ![3, 5632]⟩ : Shape).Idx → EReal}
    {b : (⟨1, ![5632]⟩ : Shape).Idx → EReal} (hu : ∀ i, IsReal (u i)) (hw : ∀ i, IsReal (w i)) (hb : ∀ i, IsReal (b i)) (k l : ℕ) :
    IsReal (cu u w b k l) := by
  have hbias : IsReal (bias b l) := by
    unfold bias
    split
    · exact hb _
    · exact IsReal.zero
  have hback : ∀ s, IsReal (Cert.Dc.Spec.back (fun k l => Cert.Common.at2 u k l) s k l) := fun s => IsReal.back (fun k l => IsReal.at2 hu k l) s k l
  exact ((hbias.add ((IsReal.at2 hw 0 l).mul (hback 2))).add ((IsReal.at2 hw 1 l).mul (hback 1))).add
    ((IsReal.at2 hw 2 l).mul (IsReal.at2 hu k l))

/-- The cotangent of the gated pair is real when both factors are. -/
theorem isReal_dact {L E : ℕ} {dh : (⟨2, ![L, E]⟩ : Shape).Idx → EReal} {wd : (⟨2, ![2816, E]⟩ : Shape).Idx → EReal}
    (hd : ∀ i, IsReal (dh i)) (hw : ∀ i, IsReal (wd i)) (k l : ℕ) : IsReal (dact dh wd k l) :=
  IsReal.sum _ fun e => (IsReal.at2 hd k e.val).mul (IsReal.at2 hw l e.val)

/-- On real values the product rule's two terms are the factored gradient of the swish. -/
theorem dswish_eq {a x y : EReal} (ha : IsReal a) (hx : IsReal x) (hy : IsReal y) :
    a * y * Ideal.logistic x + x * (a * y) * (Ideal.logistic x * (1 - Ideal.logistic x)) = dswish a x y := by
  obtain ⟨a, rfl⟩ := ha
  obtain ⟨x, rfl⟩ := hx
  obtain ⟨y, rfl⟩ := hy
  unfold dswish
  rw [Ideal.logistic_coe]
  generalize (1 + Real.exp (-x))⁻¹ = s
  have e : a * y * s + x * (a * y) * (s * (1 - s)) = a * y * s * (1 + x * (1 - s)) := by ring
  exact_mod_cast e

end Cert.Dc.Spec

end
-- ==== Proof.DcRows.lean ====
module

public import proofs.«01_k».proof.Proof.Gen.DcIdeal.Value
public import proofs.«01_k».proof.Proof.DcSpec
public import Idealize.ShloMosaic.Lib.StableHlo.Run
public import Idealize.ShloMosaic.Lib.WritesUnit
public import Idealize.ShloMosaic.Lib.Pipeline.ReadBack

@[expose] public section

set_option maxRecDepth 16384

noncomputable section

namespace Cert.DcIdeal.Tie

open Cert.DcIdeal Cert.DcIdeal.Gen Idealize.ShloMosaic Idealize.ShloMosaic.TcCoe Idealize.SL.Sem Cert.Common Cert.Dc.Spec
open Idealize.ShloMosaic.Pipeline (Dat)

/-! ## Rows of a small accumulator -/

/-- An accumulator of eight rows. -/
abbrev Acc := S8x2816.Idx → Elt Ideal .f32
/-- One row of it. -/
abbrev Row := S1x2816.Idx → Elt Ideal .f32

/-- Under the last row stored, the array is that row. -/
theorem canon_row {o : ℕ} (inb) (w : Row) (L : List (View.Piece (Elt Ideal) S8x2816 .f32)) (r : Fin 8) (l : Fin 2816) (h : r.val = o) :
    View.canon (⟨Rect.unit (s := S8x2816) ![o, 0] ![1, 2816] inb, w⟩ :: L) (ix2 r l) = w (ix2 0 l) := by
  have e : (Rect.unit (s := S8x2816) ![o, 0] ![1, 2816] inb).emb (ix2 0 l) = ix2 r l := by
    subst h
    blk_ext []
  rw [← e]
  exact View.canon_cons_emb _ _ _ _

/-- Off it, the array is what was stored before. -/
theorem canon_row_ne {o : ℕ} (inb) (w : Row) (L : List (View.Piece (Elt Ideal) S8x2816 .f32)) (r : Fin 8) (l : Fin 2816) (h : r.val ≠ o) :
    View.canon (⟨Rect.unit (s := S8x2816) ![o, 0] ![1, 2816] inb, w⟩ :: L) (ix2 r l) = View.canon L (ix2 r l) := by
  refine View.canon_cons_of_not_mem _ _ fun hm => h ?_
  have hb := (Rect.mem_set_unit (inb := inb)).mp hm 0
  have h1 : o ≤ r.val := hb.1
  have h2 : r.val < o + 1 := hb.2
  omega

/-- The whole array stored reads as itself. -/
theorem canon_all (z : Acc) (inb) :
    View.canon (Val := Elt Ideal) [⟨Rect.unit (s := S8x2816) ![0, 0] ![8, 2816] inb, z⟩] = z :=
  View.canon_unit_zero (by funext a; revert a; decide) inb z

/-- Three rows stored over an array of zeros. -/
theorem canon_three {i2 i1 i0 i8} (p2 p1 p0 : Row) (z : Acc) (g : ℕ → EReal) (r : Fin 8) (l : Fin 2816)
    (h2 : p2 (ix2 0 l) = 0 + g 2) (h1 : p1 (ix2 0 l) = 0 + g 1) (h0 : p0 (ix2 0 l) = 0 + g 0)
    (hz : z (ix2 r l) = (0 : EReal)) (hg : ∀ n, 3 ≤ n → g n = 0) :
    View.canon (Val := Elt Ideal) [⟨Rect.unit (s := S8x2816) ![2, 0] ![1, 2816] i2, p2⟩, ⟨Rect.unit (s := S8x2816) ![1, 0] ![1, 2816] i1, p1⟩,
      ⟨Rect.unit (s := S8x2816) ![0, 0] ![1, 2816] i0, p0⟩, ⟨Rect.unit (s := S8x2816) ![0, 0] ![8, 2816] i8, z⟩] (ix2 r l) = (0 + g r.val : EReal) := by
  by_cases e2 : r.val = 2
  · rw [canon_row _ _ _ _ _ e2, h2, e2]
  rw [canon_row_ne _ _ _ _ _ e2]
  by_cases e1 : r.val = 1
  · rw [canon_row _ _ _ _ _ e1, h1, e1]
  rw [canon_row_ne _ _ _ _ _ e1]
  by_cases e0 : r.val = 0
  · rw [canon_row _ _ _ _ _ e0, h0, e0]
  rw [canon_row_ne _ _ _ _ _ e0, canon_all, hz, hg _ (by omega), add_zero]

/-- One row stored over an array of zeros. -/
theorem canon_one {i0 i8} (p0 : Row) (z : Acc) (g : ℕ → EReal) (r : Fin 8) (l : Fin 2816)
    (h0 : p0 (ix2 0 l) = 0 + g 0) (hz : z (ix2 r l) = (0 : EReal)) (hg : ∀ n, 1 ≤ n → g n = 0) :
    View.canon (Val := Elt Ideal) [⟨Rect.unit (s := S8x2816) ![0, 0] ![1, 2816] i0, p0⟩, ⟨Rect.unit (s := S8x2816) ![0, 0] ![8, 2816] i8, z⟩] (ix2 r l)
      = (0 + g r.val : EReal) := by
  by_cases e0 : r.val = 0
  · rw [canon_row _ _ _ _ _ e0, h0, e0]
  rw [canon_row_ne _ _ _ _ _ e0, canon_all, hz, hg _ (by omega), add_zero]

section Carried
variable {κ : Kind} {sp : Space} (v : View sig κ sp S8x2816 .f32) (f : v.ty.Contents (Elt Ideal))

/-- Under the last row written, the array reads that row. -/
theorem read_row {o : ℕ} (inb) (w : Row) (L : List (View.Piece (Elt Ideal) S8x2816 .f32)) (r : Fin 8) (l : Fin 2816) (h : r.val = o) :
    v.read (Elt Ideal) (v.writes (Elt Ideal) f (⟨Rect.unit (s := S8x2816) ![o, 0] ![1, 2816] inb, w⟩ :: L)) (ix2 r l) = w (ix2 0 l) :=
  View.read_writes_cons_rows_of_mem v f inb w L (ix2 r l) (ix2 0 l) rfl (by show r.val = o + 0; omega) rfl

/-- Off it, the array reads what was there before. -/
theorem read_row_ne {o : ℕ} (inb) (w : Row) (L : List (View.Piece (Elt Ideal) S8x2816 .f32)) (r : Fin 8) (l : Fin 2816) (h : r.val ≠ o) :
    v.read (Elt Ideal) (v.writes (Elt Ideal) f (⟨Rect.unit (s := S8x2816) ![o, 0] ![1, 2816] inb, w⟩ :: L)) (ix2 r l)
      = v.read (Elt Ideal) (v.writes (Elt Ideal) f L) (ix2 r l) :=
  View.read_writes_cons_rows_of_not_mem v f inb w L (ix2 r l) rfl (W := 1) rfl (by show r.val < o ∨ o + 1 ≤ r.val; omega)

/-- Three rows written over a carried array. -/
theorem read_three {i2 i1 i0} (p2 p1 p0 : Row) (z : Acc) (hf : v.read (Elt Ideal) f = z) (g : ℕ → EReal) (r : Fin 8) (l : Fin 2816)
    (h2 : p2 (ix2 0 l) = (z (ix2 2 l) + g 2 : EReal)) (h1 : p1 (ix2 0 l) = (z (ix2 1 l) + g 1 : EReal))
    (h0 : p0 (ix2 0 l) = (z (ix2 0 l) + g 0 : EReal)) (hg : ∀ n, 3 ≤ n → g n = 0) :
    v.read (Elt Ideal) (v.writes (Elt Ideal) f [⟨Rect.unit (s := S8x2816) ![2, 0] ![1, 2816] i2, p2⟩,
      ⟨Rect.unit (s := S8x2816) ![1, 0] ![1, 2816] i1, p1⟩, ⟨Rect.unit (s := S8x2816) ![0, 0] ![1, 2816] i0, p0⟩]) (ix2 r l)
      = (z (ix2 r l) + g r.val : EReal) := by
  by_cases e2 : r.val = 2
  · rw [read_row v f _ _ _ _ _ e2, h2, e2, show r = 2 from Fin.ext e2]
  rw [read_row_ne v f _ _ _ _ _ e2]
  by_cases e1 : r.val = 1
  · rw [read_row v f _ _ _ _ _ e1, h1, e1, show r = 1 from Fin.ext e1]
  rw [read_row_ne v f _ _ _ _ _ e1]
  by_cases e0 : r.val = 0
  · rw [read_row v f _ _ _ _ _ e0, h0, e0, show r = 0 from Fin.ext e0]
  rw [read_row_ne v f _ _ _ _ _ e0, hg _ (by omega), add_zero]
  show v.read (Elt Ideal) f _ = _
  rw [hf]

/-- One row written over a carried array. -/
theorem read_one {i0} (p0 : Row) (z : Acc) (hf : v.read (Elt Ideal) f = z) (g : ℕ → EReal) (r : Fin 8) (l : Fin 2816)
    (h0 : p0 (ix2 0 l) = (z (ix2 0 l) + g 0 : EReal)) (hg : ∀ n, 1 ≤ n → g n = 0) :
    v.read (Elt Ideal) (v.writes (Elt Ideal) f [⟨Rect.unit (s := S8x2816) ![0, 0] ![1, 2816] i0, p0⟩]) (ix2 r l)
      = (z (ix2 r l) + g r.val : EReal) := by
  by_cases e0 : r.val = 0
  · rw [read_row v f _ _ _ _ _ e0, h0, e0, show r = 0 from Fin.ext e0]
  rw [read_row_ne v f _ _ _ _ _ e0, hg _ (by omega), add_zero]
  show v.read (Elt Ideal) f _ = _
  rw [hf]

end Carried

/-! ## The payloads -/

/-- The block's rows moved down by two, the two rows before it coming in at the top, zeros in the first block. -/
theorem pay12_apply (f : ℕ → ℕ → EReal) (t : ℕ) (b : BitVec 1) (x : Vec Ideal S128x2816 .f32) (p : Vec Ideal S8x2816 .f32)
    (hb : b = if t = 0 then 1#1 else 0#1) (hx : ∀ (r : Fin 128) (l : Fin 2816), x (ix2 r l) = f (128 * t + r.val) l.val)
    (hp : 0 < t → ∀ (r : Fin 8) (l : Fin 2816), p (ix2 r l) = f (128 * t - 8 + r.val) l.val) (r : Fin 128) (l : Fin 2816) :
    k0_pay12 b x p (ix2 r l) = back f 2 (128 * t + r.val) l.val := by
  have hr : r.val < 128 := r.isLt
  have h1 : ∀ r : Fin 128, IntOp.cmpi CmpIPredicate.slt (BitVec.ofNat 32 r.val) 2#32 = if r.val < 2 then 1#1 else 0#1 := by decide +kernel
  pointwise [k0_pay12]
  rw [h1]
  unfold back
  by_cases h : r.val < 2
  · rw [if_pos h, dif_pos (by omega)]
    show Scalar.select b (0 : EReal) _ = _
    by_cases ht : t = 0
    · rw [hb, if_pos ht, if_neg (by omega)]
      rfl
    · rw [hb, if_neg ht, if_pos (by omega)]
      show p _ = _
      rw [hp (by omega)]
      congr 1
      show 128 * t - 8 + (r.val + 8 - 2) % 8 = _
      omega
  · rw [if_neg h, if_pos (by omega)]
    show x _ = _
    rw [hx]
    congr 1
    show 128 * t + (r.val + 128 - 2) % 128 = _
    omega

/-- The same by one row. -/
theorem pay13_apply (f : ℕ → ℕ → EReal) (t : ℕ) (b : BitVec 1) (x : Vec Ideal S128x2816 .f32) (p : Vec Ideal S8x2816 .f32)
    (hb : b = if t = 0 then 1#1 else 0#1) (hx : ∀ (r : Fin 128) (l : Fin 2816), x (ix2 r l) = f (128 * t + r.val) l.val)
    (hp : 0 < t → ∀ (r : Fin 8) (l : Fin 2816), p (ix2 r l) = f (128 * t - 8 + r.val) l.val) (r : Fin 128) (l : Fin 2816) :
    k0_pay13 b x p (ix2 r l) = back f 1 (128 * t + r.val) l.val := by
  have hr : r.val < 128 := r.isLt
  have h1 : ∀ r : Fin 128, IntOp.cmpi CmpIPredicate.slt (BitVec.ofNat 32 r.val) 1#32 = if r.val < 1 then 1#1 else 0#1 := by decide +kernel
  pointwise [k0_pay13]
  rw [h1]
  unfold back
  by_cases h : r.val < 1
  · rw [if_pos h, dif_pos (by omega)]
    show Scalar.select b (0 : EReal) _ = _
    by_cases ht : t = 0
    · rw [hb, if_pos ht, if_neg (by omega)]
      rfl
    · rw [hb, if_neg ht, if_pos (by omega)]
      show p _ = _
      rw [hp (by omega)]
      congr 1
      show 128 * t - 8 + (r.val + 8 - 1) % 8 = _
      omega
  · rw [if_neg h, if_pos (by omega)]
    show x _ = _
    rw [hx]
    congr 1
    show 128 * t + (r.val + 128 - 1) % 128 = _
    omega

/-- The other half's moved rows are the same function. -/
theorem pay7_eq (i : grid0.Coords) (x : Vec Ideal S128x2816 .f32) (p : Vec Ideal S8x2816 .f32) :
    k0_pay7 i x p = k0_pay12 (Scalar.cmpi CmpIPredicate.eq (BitVec.ofNat 32 (i 0).val) 0#32) x p := rfl
@[inherit_doc pay7_eq] theorem pay8_eq (i : grid0.Coords) (x : Vec Ideal S128x2816 .f32) (p : Vec Ideal S8x2816 .f32) :
    k0_pay8 i x p = k0_pay13 (Scalar.cmpi CmpIPredicate.eq (BitVec.ofNat 32 (i 0).val) 0#32) x p := rfl

/-- The gate half of the convolution. -/
theorem pay11_apply (i : grid0.Coords) (x : Vec Ideal S128x2816 .f32) (p : Vec Ideal S8x2816 .f32) (b w0 w1 w2 : Vec Ideal S1x2816 .f32)
    (r : Fin 128) (l : Fin 2816) :
    k0_pay11 x (k0_pay8 i x p) (k0_pay9 i x p b w0) (k0_pay10 w1) w2 (ix2 r l)
      = b (ix2 0 l) + w0 (ix2 0 l) * k0_pay12 (Scalar.cmpi CmpIPredicate.eq (BitVec.ofNat 32 (i 0).val) 0#32) x p (ix2 r l)
        + w1 (ix2 0 l) * k0_pay13 (Scalar.cmpi CmpIPredicate.eq (BitVec.ofNat 32 (i 0).val) 0#32) x p (ix2 r l) + w2 (ix2 0 l) * x (ix2 r l) := by
  rw [← pay7_eq, ← pay8_eq]
  pointwise [k0_pay11, k0_pay9, k0_pay10]

/-- The cotangent of the gated pair. -/
theorem pay15_apply (d : Vec Ideal S128x1024 .f32) (wd : Vec Ideal S2816x1024 .bf16) (r : Fin 128) (l : Fin 2816) :
    k0_pay15 d wd (ix2 r l) = ∑ e : Fin 1024, d (ix2 r e) * wd (ix2 l e) := by
  pointwise [k0_pay15]

/-- The gate half's gradient. -/
theorem pay17_apply (cg : FVec Ideal S128x2816 .f32) (x : Vec Ideal S128x2816 .f32) (b0 : BitVec 1) (p : Vec Ideal S8x2816 .f32)
    (b w0 w1 w2 : Vec Ideal S1x2816 .f32) (d : Vec Ideal S128x1024 .f32) (wd : Vec Ideal S2816x1024 .bf16) (r : Fin 128) (l : Fin 2816) :
    k0_pay17 cg x (k0_pay13 b0 x p) (k0_pay14 b0 x p b w0) w1 w2 d wd (ix2 r l)
      = dswish (k0_pay15 d wd (ix2 r l)) (cg (ix2 r l))
          (b (ix2 0 l) + w0 (ix2 0 l) * k0_pay12 b0 x p (ix2 r l) + w1 (ix2 0 l) * k0_pay13 b0 x p (ix2 r l) + w2 (ix2 0 l) * x (ix2 r l)) := by
  unfold dswish
  pointwise [k0_pay17, k0_pay14, k0_pay16]

/-- The value half's gradient. -/
theorem pay18_apply (cg : FVec Ideal S128x2816 .f32) (d : Vec Ideal S128x1024 .f32) (wd : Vec Ideal S2816x1024 .bf16) (r : Fin 128) (l : Fin 2816) :
    k0_pay18 cg d wd (ix2 r l) = dvalue (k0_pay15 d wd (ix2 r l)) (cg (ix2 r l)) := by
  unfold dvalue
  pointwise [k0_pay18, k0_pay16]

/-! A row of an accumulator grows by a sum over the block's rows. -/

theorem pay19_apply (tap cg x t1 c0 : FVec Ideal S128x2816 .f32) (w1 w2 : Vec Ideal S1x2816 .f32) (d : Vec Ideal S128x1024 .f32)
    (wd : Vec Ideal S2816x1024 .bf16) (a : Vec Ideal S1x2816 .f32) (l : Fin 2816) :
    k0_pay19 tap cg x t1 c0 w1 w2 d wd a (ix2 0 l) = a (ix2 0 l) + ∑ q : Fin 128, k0_pay17 cg x t1 c0 w1 w2 d wd (ix2 q l) * tap (ix2 q l) := by
  pointwise [k0_pay19]

theorem pay22_apply (tap cg x t1 c0 : FVec Ideal S128x2816 .f32) (w1 w2 : Vec Ideal S1x2816 .f32) (d : Vec Ideal S128x1024 .f32)
    (wd : Vec Ideal S2816x1024 .bf16) (a : Vec Ideal S1x2816 .f32) (l : Fin 2816) :
    k0_pay22 (k0_pay20 a) (k0_pay21 tap cg x t1 c0 w1 w2 d wd) (ix2 0 l)
      = a (ix2 0 l) + ∑ q : Fin 128, k0_pay17 cg x t1 c0 w1 w2 d wd (ix2 q l) * tap (ix2 q l) := by
  pointwise [k0_pay22, k0_pay20, k0_pay21]

theorem pay23_apply (x d : FVec Ideal S128x2816 .f32) (a : Vec Ideal S1x2816 .f32) (l : Fin 2816) :
    k0_pay23 x d a (ix2 0 l) = a (ix2 0 l) + ∑ q : Fin 128, d (ix2 q l) * x (ix2 q l) := by
  pointwise [k0_pay23]

theorem pay24_apply (d : FVec Ideal S128x2816 .f32) (a : Vec Ideal S1x2816 .f32) (l : Fin 2816) :
    k0_pay24 d a (ix2 0 l) = a (ix2 0 l) + ∑ q : Fin 128, d (ix2 q l) := by
  pointwise [k0_pay24]

theorem pay25_apply (x d : FVec Ideal S128x2816 .f32) (a : Vec Ideal S1x2816 .f32) (l : Fin 2816) :
    k0_pay25 x d a (ix2 0 l) = a (ix2 0 l) + ∑ q : Fin 128, d (ix2 q l) * x (ix2 q l) := by
  pointwise [k0_pay25]

theorem pay26_apply (x d : FVec Ideal S128x2816 .f32) (a : Vec Ideal S1x2816 .f32) (l : Fin 2816) :
    k0_pay26 x d a (ix2 0 l) = a (ix2 0 l) + ∑ q : Fin 128, d (ix2 q l) * x (ix2 q l) := by
  pointwise [k0_pay26]

theorem pay1_apply (x d : FVec Ideal S128x2816 .f32) (a : Vec Ideal S1x2816 .f32) (l : Fin 2816) :
    k0_pay1 x d a (ix2 0 l) = a (ix2 0 l) + ∑ q : Fin 128, d (ix2 q l) * x (ix2 q l) := by
  pointwise [k0_pay1]

theorem pay2_apply (d : FVec Ideal S128x2816 .f32) (a : Vec Ideal S1x2816 .f32) (l : Fin 2816) :
    k0_pay2 d a (ix2 0 l) = a (ix2 0 l) + ∑ q : Fin 128, d (ix2 q l) := by
  pointwise [k0_pay2]

/-! The four zero fills. -/

theorem pay3_apply (j : S8x2816.Idx) : (k0_pay3 (F := Ideal) j : EReal) = 0 := by pointwise [k0_pay3]
theorem pay4_apply (j : S8x2816.Idx) : (k0_pay4 (F := Ideal) j : EReal) = 0 := by pointwise [k0_pay4]
theorem pay5_apply (j : S8x2816.Idx) : (k0_pay5 (F := Ideal) j : EReal) = 0 := by pointwise [k0_pay5]
theorem pay6_apply (j : S8x2816.Idx) : (k0_pay6 (F := Ideal) j : EReal) = 0 := by pointwise [k0_pay6]

end Cert.DcIdeal.Tie

end
-- ==== Proof.DcValue.lean ====
module

public import proofs.«01_k».proof.Proof.DcRows

@[expose] public section

set_option maxRecDepth 16384

noncomputable section

namespace Cert.DcIdeal.Tie

open Cert.DcIdeal Cert.DcIdeal.Gen Idealize.ShloMosaic Idealize.ShloMosaic.TcCoe Idealize.SL.Sem Cert.Common Cert.Dc.Spec
open Idealize.ShloMosaic.Pipeline (Dat)

variable (m : (ℓ : Loc nD τ sig) → Buf (Elt Ideal) ℓ) (c : Dev nD)

/-! ## The arguments -/

abbrev au : S4224x5632.Idx → EReal := m ((c : Thread nD τ).loc main_arg0)
abbrev adh : S4224x1024.Idx → EReal := m ((c : Thread nD τ).loc main_arg1)
abbrev awd : S2816x1024.Idx → EReal := m ((c : Thread nD τ).loc main_arg2)
abbrev aw : S3x5632.Idx → EReal := m ((c : Thread nD τ).loc main_arg3)
abbrev ab : S5632.Idx → EReal := m ((c : Thread nD τ).loc main_arg4)

/-! ## The blocks -/

theorem idx (t : Fin cfg0.N) : win0_0.index t = ![t.val, 0] ∧ win0_1.index t = ![t.val, 1] ∧ (0 < t.val → win0_2.index t = ![16 * t.val - 1, 0])
    ∧ (0 < t.val → win0_3.index t = ![16 * t.val - 1, 1]) ∧ win0_4.index t = ![0, 0] ∧ win0_5.index t = ![0, 1]
    ∧ win0_6.index t = ![0, 0] ∧ win0_7.index t = ![0, 1] ∧ win0_8.index t = ![t.val, 0] ∧ win0_9.index t = ![0, 0]
    ∧ win0_10.index t = ![t.val, 0] ∧ win0_11.index t = ![t.val, 0]
    ∧ win0_12.index t = ![0, 0] ∧ win0_13.index t = ![0, 0] ∧ win0_14.index t = ![0, 0] ∧ win0_15.index t = ![0, 0]
    ∧ Scalar.cmpi CmpIPredicate.eq (BitVec.ofNat 32 (grid0.coords t 0).val) 0#32 = if t.val = 0 then 1#1 else 0#1 := by
  revert t
  decide +kernel

theorem blk0 (t : Fin cfg0.N) (r : Fin 128) (l : Fin 2816) :
    (iblk m c 0 t : Vec Ideal S128x2816 .f32) (ix2 r l) = at2 (au m c) (128 * t.val + r.val) l.val := by
  have ht : t.val < 33 := t.isLt
  rw [at2_lt _ _ _ (by omega) (by omega)]
  have h := (idx t).1
  blk_ext [iblk, V_main_arg0, h]

theorem blk1 (t : Fin cfg0.N) (r : Fin 128) (l : Fin 2816) :
    (iblk m c 1 t : Vec Ideal S128x2816 .f32) (ix2 r l) = at2 (au m c) (128 * t.val + r.val) (2816 + l.val) := by
  have ht : t.val < 33 := t.isLt
  rw [at2_lt _ _ _ (by omega) (by omega)]
  have h := (idx t).2.1
  blk_ext [iblk, V_main_arg0, h]

theorem blk2 (t : Fin cfg0.N) (h0 : 0 < t.val) (r : Fin 8) (l : Fin 2816) :
    (iblk m c 2 t : Vec Ideal S8x2816 .f32) (ix2 r l) = at2 (au m c) (128 * t.val - 8 + r.val) l.val := by
  have ht : t.val < 33 := t.isLt
  rw [at2_lt _ _ _ (by omega) (by omega)]
  have h := (idx t).2.2.1 h0
  blk_ext [iblk, V_main_arg0, h]

theorem blk3 (t : Fin cfg0.N) (h0 : 0 < t.val) (r : Fin 8) (l : Fin 2816) :
    (iblk m c 3 t : Vec Ideal S8x2816 .f32) (ix2 r l) = at2 (au m c) (128 * t.val - 8 + r.val) (2816 + l.val) := by
  have ht : t.val < 33 := t.isLt
  rw [at2_lt _ _ _ (by omega) (by omega)]
  have h := (idx t).2.2.2.1 h0
  blk_ext [iblk, V_main_arg0, h]

/-- The taps as the kernel is given them: three rows, then rows of zeros up to eight. -/
def padded (w : FVec Ideal S3x5632 .f32) : FVec Ideal S8x5632 .f32 :=
  pad S8x5632 ![0, 0] ![5, 0] ![0, 0] w (sitofp .f32 (constantI S_ 32 0#32)) pads_S3x5632_S8x5632_050_000 h_S_

/-- A row below the third of the padded taps is a row of the taps. -/
theorem padded_apply (w : FVec Ideal S3x5632 .f32) (r : Fin 8) (hr : r.val < 3) (l : Fin 5632) :
    padded w (ix2 r l) = w (ix2 ⟨r.val, hr⟩ l) := by
  pointwise [padded]
  simp [hr]

theorem V_main_v0 : (V m c main_v0 : S8x5632.Idx → EReal) = padded (aw m c) := by
  unfold V
  simp only [hostOps0, hostOps0_1, hostOps0_2, List.flatten_cons, List.flatten_nil, List.append_nil, List.cons_append, List.nil_append]
  after_results
  rfl

theorem V_main_v1 : (V m c main_v1 : S2816x1024.Idx → EReal) = awd m c := by
  unfold V
  simp only [hostOps0, hostOps0_1, hostOps0_2, List.flatten_cons, List.flatten_nil, List.append_nil, List.cons_append, List.nil_append]
  after_results
  rfl

theorem V_main_v2 : (V m c main_v2 : S1x5632.Idx → EReal) = broadcastInDim S1x5632 ![1] bcast_S5632_S1x5632_1 (ab m c) := by
  unfold V
  simp only [hostOps0, hostOps0_1, hostOps0_2, List.flatten_cons, List.flatten_nil, List.append_nil, List.cons_append, List.nil_append]
  after_results

/-- A row of a small block. -/
abbrev rowOf (X : Vec Ideal S8x2816 .f32) (o : ℕ) (inb : ∀ a, (![o, 0] : Fin S8x2816.rank → ℕ) a + (![1, 2816] : Fin S8x2816.rank → ℕ) a ≤ S8x2816.size a) :
    Vec Ideal S1x2816 .f32 := View.ld X (Rect.unit (s := S8x2816) ![o, 0] ![1, 2816] inb)

/-- A row of an array loaded. -/
theorem ldRow (X : Vec Ideal S8x2816 .f32) (o : ℕ) (inb) (r : Fin 8) (hr : r.val = o) (l : Fin 2816) :
    View.ld X (Rect.unit (s := S8x2816) ![o, 0] ![1, 2816] inb) (ix2 0 l) = X (ix2 r l) :=
  View.ld_unit_apply_of X _ _ inb _ (ix2 r l) (Fin.forall_fin_two.mpr ⟨by show r.val = o + 0; omega, by show l.val = 0 + l.val; omega⟩)

/-- The taps of the gate half. -/
theorem row4 (t : Fin cfg0.N) (o : ℕ) (ho : o < 3) (inb) (l : Fin 2816) :
    rowOf (iblk m c 4 t : Vec Ideal S8x2816 .f32) o inb (ix2 0 l) = at2 (aw m c) o (l.val) := by
  refine (ldRow _ o inb (⟨o, by omega⟩ : Fin 8) rfl l).trans ?_
  rw [at2_lt _ _ _ ho (by omega)]
  refine Eq.trans ?_ (padded_apply _ (⟨o, by omega⟩ : Fin 8) ho _)
  rw [← V_main_v0]
  have h := (idx t).2.2.2.2.1
  blk_ext [iblk, h]

/-- The taps of the value half. -/
theorem row5 (t : Fin cfg0.N) (o : ℕ) (ho : o < 3) (inb) (l : Fin 2816) :
    rowOf (iblk m c 5 t : Vec Ideal S8x2816 .f32) o inb (ix2 0 l) = at2 (aw m c) o (2816 + l.val) := by
  refine (ldRow _ o inb (⟨o, by omega⟩ : Fin 8) rfl l).trans ?_
  rw [at2_lt _ _ _ ho (by omega)]
  refine Eq.trans ?_ (padded_apply _ (⟨o, by omega⟩ : Fin 8) ho _)
  rw [← V_main_v0]
  have h := (idx t).2.2.2.2.2.1
  blk_ext [iblk, h]

theorem blk6 (t : Fin cfg0.N) (l : Fin 2816) : (iblk m c 6 t : Vec Ideal S1x2816 .f32) (ix2 0 l) = bias (ab m c) l.val := by
  unfold bias
  rw [dif_pos (by omega)]
  have h := (idx t).2.2.2.2.2.2.1
  have e : (iblk m c 6 t : Vec Ideal S1x2816 .f32) (ix2 0 l) = (V m c main_v2 : S1x5632.Idx → EReal) (ix2 0 ⟨l.val, by omega⟩) := by
    blk_ext [iblk, h]
  rw [e, V_main_v2]
  pointwise []

theorem blk7 (t : Fin cfg0.N) (l : Fin 2816) : (iblk m c 7 t : Vec Ideal S1x2816 .f32) (ix2 0 l) = bias (ab m c) (2816 + l.val) := by
  unfold bias
  rw [dif_pos (by omega)]
  have h := (idx t).2.2.2.2.2.2.2.1
  have e : (iblk m c 7 t : Vec Ideal S1x2816 .f32) (ix2 0 l) = (V m c main_v2 : S1x5632.Idx → EReal) (ix2 0 ⟨2816 + l.val, by omega⟩) := by
    blk_ext [iblk, h]
  rw [e, V_main_v2]
  pointwise []

theorem blk8 (t : Fin cfg0.N) (r : Fin 128) (e : Fin 1024) :
    (iblk m c 8 t : Vec Ideal S128x1024 .f32) (ix2 r e) = at2 (adh m c) (128 * t.val + r.val) e.val := by
  have ht : t.val < 33 := t.isLt
  rw [at2_lt _ _ _ (by omega) (by omega)]
  have h := (idx t).2.2.2.2.2.2.2.2.1
  blk_ext [iblk, V_main_arg1, h]

theorem blk9 (t : Fin cfg0.N) (l : Fin 2816) (e : Fin 1024) :
    (iblk m c 9 t : Vec Ideal S2816x1024 .bf16) (ix2 l e) = at2 (awd m c) l.val e.val := by
  rw [at2_eq, ← V_main_v1]
  have h := (idx t).2.2.2.2.2.2.2.2.2.1
  blk_ext [iblk, h]

theorem first (t : Fin cfg0.N) :
    Scalar.cmpi CmpIPredicate.eq (BitVec.ofNat 32 (grid0.coords t 0).val) 0#32 = if t.val = 0 then 1#1 else 0#1 :=
  (idx t).2.2.2.2.2.2.2.2.2.2.2.2.2.2.2.2

/-! ## One block's values -/

/-- Whether a point is the first. -/
abbrev b0 (t : Fin cfg0.N) : BitVec 1 := Scalar.cmpi CmpIPredicate.eq (BitVec.ofNat 32 (grid0.coords t 0).val) 0#32

/-- The columns of the two halves before the convolution. -/
abbrev ug (k l : ℕ) : EReal := at2 (au m c) k (0 + l)
@[inherit_doc ug] abbrev uv (k l : ℕ) : EReal := at2 (au m c) k (2816 + l)

theorem tapG2 (t : Fin cfg0.N) (r : Fin 128) (l : Fin 2816) :
    k0_pay12 (b0 t) (iblk m c 0 t) (iblk m c 2 t) (ix2 r l) = back (ug m c) 2 (128 * t.val + r.val) l.val :=
  pay12_apply (ug m c) t.val _ _ _ (first t) (fun r l => by rw [blk0, ug, Nat.zero_add]) (fun h r l => by rw [blk2 m c t h, ug, Nat.zero_add]) r l

theorem tapG1 (t : Fin cfg0.N) (r : Fin 128) (l : Fin 2816) :
    k0_pay13 (b0 t) (iblk m c 0 t) (iblk m c 2 t) (ix2 r l) = back (ug m c) 1 (128 * t.val + r.val) l.val :=
  pay13_apply (ug m c) t.val _ _ _ (first t) (fun r l => by rw [blk0, ug, Nat.zero_add]) (fun h r l => by rw [blk2 m c t h, ug, Nat.zero_add]) r l

theorem tapV2 (t : Fin cfg0.N) (r : Fin 128) (l : Fin 2816) :
    k0_pay12 (b0 t) (iblk m c 1 t) (iblk m c 3 t) (ix2 r l) = back (uv m c) 2 (128 * t.val + r.val) l.val :=
  pay12_apply (uv m c) t.val _ _ _ (first t) (fun r l => blk1 m c t r l) (fun h r l => blk3 m c t h r l) r l

theorem tapV1 (t : Fin cfg0.N) (r : Fin 128) (l : Fin 2816) :
    k0_pay13 (b0 t) (iblk m c 1 t) (iblk m c 3 t) (ix2 r l) = back (uv m c) 1 (128 * t.val + r.val) l.val :=
  pay13_apply (uv m c) t.val _ _ _ (first t) (fun r l => blk1 m c t r l) (fun h r l => blk3 m c t h r l) r l

/-- The gate's convolution in a block. -/
abbrev cgB (t : Fin cfg0.N) : FVec Ideal S128x2816 .f32 :=
  k0_pay11 (iblk m c 0 t) (k0_pay8 (grid0.coords t) (iblk m c 0 t) (iblk m c 2 t))
    (k0_pay9 (grid0.coords t) (iblk m c 0 t) (iblk m c 2 t) (iblk m c 6 t) (rowOf (iblk m c 4 t) 0 inb_S8x2816_S1x2816_0_0))
    (k0_pay10 (rowOf (iblk m c 4 t) 1 inb_S8x2816_S1x2816_1_0)) (rowOf (iblk m c 4 t) 2 inb_S8x2816_S1x2816_2_0)

/-- The gate half's gradient in a block. -/
abbrev dgB (t : Fin cfg0.N) : FVec Ideal S128x2816 .f32 :=
  k0_pay17 (cgB m c t) (iblk m c 1 t) (k0_pay13 (b0 t) (iblk m c 1 t) (iblk m c 3 t))
    (k0_pay14 (b0 t) (iblk m c 1 t) (iblk m c 3 t) (iblk m c 7 t) (rowOf (iblk m c 5 t) 0 inb_S8x2816_S1x2816_0_0))
    (rowOf (iblk m c 5 t) 1 inb_S8x2816_S1x2816_1_0) (rowOf (iblk m c 5 t) 2 inb_S8x2816_S1x2816_2_0) (iblk m c 8 t) (iblk m c 9 t)

/-- The value half's gradient in a block. -/
abbrev dvB (t : Fin cfg0.N) : FVec Ideal S128x2816 .f32 := k0_pay18 (cgB m c t) (iblk m c 8 t) (iblk m c 9 t)

theorem cgB_apply (t : Fin cfg0.N) (r : Fin 128) (l : Fin 2816) :
    cgB m c t (ix2 r l) = cu (au m c) (aw m c) (ab m c) (128 * t.val + r.val) l.val := by
  refine (pay11_apply _ _ _ _ _ _ _ r l).trans ?_
  rw [row4 m c t 0 (by decide), row4 m c t 1 (by decide), row4 m c t 2 (by decide), blk6, blk0]
  refine Eq.trans (congr_arg₂ _ (congr_arg₂ _ (congr_arg₂ _ rfl (congr_arg₂ _ rfl (tapG2 m c t r l))) (congr_arg₂ _ rfl (tapG1 m c t r l))) rfl) ?_
  unfold cu conv back ug
  simp only [Nat.zero_add]

theorem da_apply (t : Fin cfg0.N) (r : Fin 128) (l : Fin 2816) :
    k0_pay15 (iblk m c 8 t : Vec Ideal S128x1024 .f32) (iblk m c 9 t : Vec Ideal S2816x1024 .bf16) (ix2 r l) = dact (adh m c) (awd m c) (128 * t.val + r.val) l.val := by
  refine (pay15_apply _ _ r l).trans (Finset.sum_congr rfl fun e _ => ?_)
  rw [blk8, blk9]

theorem dgB_apply (t : Fin cfg0.N) (r : Fin 128) (l : Fin 2816) :
    dgB m c t (ix2 r l) = dg (au m c) (adh m c) (awd m c) (aw m c) (ab m c) (128 * t.val + r.val) l.val := by
  refine (pay17_apply _ _ _ _ _ _ _ _ _ _ r l).trans ?_
  rw [da_apply, cgB_apply]
  unfold dg
  refine congr_arg _ ?_
  rw [row5 m c t 0 (by decide), row5 m c t 1 (by decide), row5 m c t 2 (by decide), blk7, blk1]
  exact congr_arg₂ _ (congr_arg₂ _ (congr_arg₂ _ rfl (congr_arg₂ _ rfl (tapV2 m c t r l))) (congr_arg₂ _ rfl (tapV1 m c t r l))) rfl

theorem dvB_apply (t : Fin cfg0.N) (r : Fin 128) (l : Fin 2816) :
    dvB m c t (ix2 r l) = dv (au m c) (adh m c) (awd m c) (aw m c) (ab m c) (128 * t.val + r.val) l.val := by
  refine (pay18_apply _ _ _ r l).trans ?_
  rw [da_apply, cgB_apply]
  rfl

/-! ## The accumulators -/

/-- What block `n` adds to a half's taps' gradient. -/
def tapTerm (o : ℕ) (d : ℕ → ℕ → EReal) (n : ℕ) (r l : ℕ) : EReal :=
  if r < 3 then ∑ q : Fin 128, d (128 * n + q.val) l * back (fun k l => at2 (au m c) k (o + l)) (2 - r) (128 * n + q.val) l else 0

/-- What block `n` adds to a half's bias's gradient. -/
def biasTerm (d : ℕ → ℕ → EReal) (n : ℕ) (r l : ℕ) : EReal := if r < 1 then ∑ q : Fin 128, d (128 * n + q.val) l else 0

theorem tapTerm_sum (o : ℕ) (d : ℕ → ℕ → EReal) (r l : ℕ) :
    ∑ n ∈ Finset.range 33, tapTerm m c o d n r l = dtaps (au m c) o d r l := by
  unfold tapTerm dtaps
  split
  · exact sum_blocks 33 128 4224 rfl fun k => d k l * back (fun k l => at2 (au m c) k (o + l)) (2 - r) k l
  · exact Finset.sum_const_zero

theorem biasTerm_sum (d : ℕ → ℕ → EReal) (r l : ℕ) : ∑ n ∈ Finset.range 33, biasTerm d n r l = dbias d r l := by
  unfold biasTerm dbias
  split
  · exact sum_blocks 33 128 4224 rfl fun k => d k l
  · exact Finset.sum_const_zero

/-- The two halves' gradients. -/
abbrev sg : ℕ → ℕ → EReal := dg (au m c) (adh m c) (awd m c) (aw m c) (ab m c)
@[inherit_doc sg] abbrev sv : ℕ → ℕ → EReal := dv (au m c) (adh m c) (awd m c) (aw m c) (ab m c)

section Rows
variable (t : Fin cfg0.N) (l : Fin 2816)

theorem g0 : ∑ q : Fin 128, dgB m c t (ix2 q l) * k0_pay12 (b0 t) (iblk m c 0 t) (iblk m c 2 t) (ix2 q l) = tapTerm m c 0 (sg m c) t.val 0 l.val :=
  Finset.sum_congr rfl fun q _ => congr_arg₂ _ (dgB_apply m c t q l) (tapG2 m c t q l)
theorem g1 : ∑ q : Fin 128, dgB m c t (ix2 q l) * k0_pay13 (b0 t) (iblk m c 0 t) (iblk m c 2 t) (ix2 q l) = tapTerm m c 0 (sg m c) t.val 1 l.val :=
  Finset.sum_congr rfl fun q _ => congr_arg₂ _ (dgB_apply m c t q l) (tapG1 m c t q l)
theorem g2 : ∑ q : Fin 128, dgB m c t (ix2 q l) * (iblk m c 0 t : Vec Ideal S128x2816 .f32) (ix2 q l) = tapTerm m c 0 (sg m c) t.val 2 l.val :=
  Finset.sum_congr rfl fun q _ => congr_arg₂ _ (dgB_apply m c t q l) ((blk0 m c t q l).trans (congr_arg (at2 (au m c) _) (Nat.zero_add _).symm))
theorem v0 : ∑ q : Fin 128, dvB m c t (ix2 q l) * k0_pay12 (b0 t) (iblk m c 1 t) (iblk m c 3 t) (ix2 q l) = tapTerm m c 2816 (sv m c) t.val 0 l.val :=
  Finset.sum_congr rfl fun q _ => congr_arg₂ _ (dvB_apply m c t q l) (tapV2 m c t q l)
theorem v1 : ∑ q : Fin 128, dvB m c t (ix2 q l) * k0_pay13 (b0 t) (iblk m c 1 t) (iblk m c 3 t) (ix2 q l) = tapTerm m c 2816 (sv m c) t.val 1 l.val :=
  Finset.sum_congr rfl fun q _ => congr_arg₂ _ (dvB_apply m c t q l) (tapV1 m c t q l)
theorem v2 : ∑ q : Fin 128, dvB m c t (ix2 q l) * (iblk m c 1 t : Vec Ideal S128x2816 .f32) (ix2 q l) = tapTerm m c 2816 (sv m c) t.val 2 l.val :=
  Finset.sum_congr rfl fun q _ => congr_arg₂ _ (dvB_apply m c t q l) (blk1 m c t q l)
theorem gb : ∑ q : Fin 128, dgB m c t (ix2 q l) = biasTerm (sg m c) t.val 0 l.val := Finset.sum_congr rfl fun q _ => dgB_apply m c t q l
theorem vb : ∑ q : Fin 128, dvB m c t (ix2 q l) = biasTerm (sv m c) t.val 0 l.val := Finset.sum_congr rfl fun q _ => dvB_apply m c t q l

end Rows

theorem tapTerm_zero (o : ℕ) (d : ℕ → ℕ → EReal) (n l : ℕ) : ∀ r, 3 ≤ r → tapTerm m c o d n r l = 0 := fun r h => if_neg (by omega)
theorem biasTerm_zero (d : ℕ → ℕ → EReal) (n l : ℕ) : ∀ r, 1 ≤ r → biasTerm d n r l = 0 := fun r h => if_neg (by omega)

theorem step12_A (t : Fin cfg0.N) (h0 : t.val % 33 = 0) (r : Fin 8) (l : Fin 2816) :
    (outsAt0 m c t.val t.isLt).2.2.1 (ix2 r l) = (0 + tapTerm m c 0 (sg m c) t.val r.val l.val : EReal) := by
  rw [outsAt0_A m c t h0]
  frame_open
  simp (disch := decide) only [↓ View.readCov_skip, ↓ View.readCov_cons_toLoadRect, ↓ View.readCov_fill]
  frame_out
  refine canon_three _ _ _ _ (fun r => tapTerm m c 0 (sg m c) t.val r l.val) r l ?_ ?_ ?_ (pay3_apply _) (tapTerm_zero m c 0 _ _ _)
  · exact (pay23_apply _ _ _ l).trans (congr_arg₂ _ ((ldRow _ 2 _ 2 rfl l).trans (pay3_apply _)) (g2 m c t l))
  · exact (pay22_apply _ _ _ _ _ _ _ _ _ _ l).trans (congr_arg₂ _ ((ldRow _ 1 _ 1 rfl l).trans (pay3_apply _)) (g1 m c t l))
  · exact (pay19_apply _ _ _ _ _ _ _ _ _ _ l).trans (congr_arg₂ _ ((ldRow _ 0 _ 0 rfl l).trans (pay3_apply _)) (g0 m c t l))

theorem step12_B (t : Fin cfg0.N) (h0 : ¬ t.val % 33 = 0) (r : Fin 8) (l : Fin 2816) :
    (outsAt0 m c t.val t.isLt).2.2.1 (ix2 r l)
      = ((outsAt0 m c (t.val - 1) (by omega)).2.2.1 (ix2 r l) + tapTerm m c 0 (sg m c) t.val r.val l.val : EReal) := by
  rw [outsAt0_B m c t h0]
  frame_out
  refine read_three _ _ _ _ _ _ (Memref.IsWhole.read_unread _ _) (fun r => tapTerm m c 0 (sg m c) t.val r l.val) r l ?_ ?_ ?_ (tapTerm_zero m c 0 _ _ _)
  · exact (pay23_apply _ _ _ l).trans (congr_arg₂ _ (ldRow _ 2 _ 2 rfl l) (g2 m c t l))
  · exact (pay22_apply _ _ _ _ _ _ _ _ _ _ l).trans (congr_arg₂ _ (ldRow _ 1 _ 1 rfl l) (g1 m c t l))
  · exact (pay19_apply _ _ _ _ _ _ _ _ _ _ l).trans (congr_arg₂ _ (ldRow _ 0 _ 0 rfl l) (g0 m c t l))

theorem step13_A (t : Fin cfg0.N) (h0 : t.val % 33 = 0) (r : Fin 8) (l : Fin 2816) :
    (outsAt0 m c t.val t.isLt).2.2.2.1 (ix2 r l) = (0 + tapTerm m c 2816 (sv m c) t.val r.val l.val : EReal) := by
  rw [outsAt0_A m c t h0]
  frame_open
  simp (disch := decide) only [↓ View.readCov_skip, ↓ View.readCov_cons_toLoadRect, ↓ View.readCov_fill]
  frame_out
  refine canon_three _ _ _ _ (fun r => tapTerm m c 2816 (sv m c) t.val r l.val) r l ?_ ?_ ?_ (pay4_apply _) (tapTerm_zero m c 2816 _ _ _)
  · exact (pay1_apply _ _ _ l).trans (congr_arg₂ _ ((ldRow _ 2 _ 2 rfl l).trans (pay4_apply _)) (v2 m c t l))
  · exact (pay26_apply _ _ _ l).trans (congr_arg₂ _ ((ldRow _ 1 _ 1 rfl l).trans (pay4_apply _)) (v1 m c t l))
  · exact (pay25_apply _ _ _ l).trans (congr_arg₂ _ ((ldRow _ 0 _ 0 rfl l).trans (pay4_apply _)) (v0 m c t l))

theorem step13_B (t : Fin cfg0.N) (h0 : ¬ t.val % 33 = 0) (r : Fin 8) (l : Fin 2816) :
    (outsAt0 m c t.val t.isLt).2.2.2.1 (ix2 r l)
      = ((outsAt0 m c (t.val - 1) (by omega)).2.2.2.1 (ix2 r l) + tapTerm m c 2816 (sv m c) t.val r.val l.val : EReal) := by
  rw [outsAt0_B m c t h0]
  frame_out
  refine read_three _ _ _ _ _ _ (Memref.IsWhole.read_unread _ _) (fun r => tapTerm m c 2816 (sv m c) t.val r l.val) r l ?_ ?_ ?_ (tapTerm_zero m c 2816 _ _ _)
  · exact (pay1_apply _ _ _ l).trans (congr_arg₂ _ (ldRow _ 2 _ 2 rfl l) (v2 m c t l))
  · exact (pay26_apply _ _ _ l).trans (congr_arg₂ _ (ldRow _ 1 _ 1 rfl l) (v1 m c t l))
  · exact (pay25_apply _ _ _ l).trans (congr_arg₂ _ (ldRow _ 0 _ 0 rfl l) (v0 m c t l))

theorem step14_A (t : Fin cfg0.N) (h0 : t.val % 33 = 0) (r : Fin 8) (l : Fin 2816) :
    (outsAt0 m c t.val t.isLt).2.2.2.2.1 (ix2 r l) = (0 + biasTerm (sg m c) t.val r.val l.val : EReal) := by
  rw [outsAt0_A m c t h0]
  frame_open
  simp (disch := decide) only [↓ View.readCov_skip, ↓ View.readCov_cons_toLoadRect, ↓ View.readCov_fill]
  frame_out
  refine canon_one _ _ (fun r => biasTerm (sg m c) t.val r l.val) r l ?_ (pay5_apply _) (biasTerm_zero _ _ _)
  exact (pay24_apply _ _ l).trans (congr_arg₂ _ ((ldRow _ 0 _ 0 rfl l).trans (pay5_apply _)) (gb m c t l))

theorem step14_B (t : Fin cfg0.N) (h0 : ¬ t.val % 33 = 0) (r : Fin 8) (l : Fin 2816) :
    (outsAt0 m c t.val t.isLt).2.2.2.2.1 (ix2 r l)
      = ((outsAt0 m c (t.val - 1) (by omega)).2.2.2.2.1 (ix2 r l) + biasTerm (sg m c) t.val r.val l.val : EReal) := by
  rw [outsAt0_B m c t h0]
  frame_out
  refine read_one _ _ _ _ (Memref.IsWhole.read_unread _ _) (fun r => biasTerm (sg m c) t.val r l.val) r l ?_ (biasTerm_zero _ _ _)
  exact (pay24_apply _ _ l).trans (congr_arg₂ _ (ldRow _ 0 _ 0 rfl l) (gb m c t l))

theorem step15_A (t : Fin cfg0.N) (h0 : t.val % 33 = 0) (r : Fin 8) (l : Fin 2816) :
    (outsAt0 m c t.val t.isLt).2.2.2.2.2 (ix2 r l) = (0 + biasTerm (sv m c) t.val r.val l.val : EReal) := by
  rw [outsAt0_A m c t h0]
  frame_open
  simp (disch := decide) only [↓ View.readCov_skip, ↓ View.readCov_cons_toLoadRect, ↓ View.readCov_fill]
  frame_out
  refine canon_one _ _ (fun r => biasTerm (sv m c) t.val r l.val) r l ?_ (pay6_apply _) (biasTerm_zero _ _ _)
  exact (pay2_apply _ _ l).trans (congr_arg₂ _ ((ldRow _ 0 _ 0 rfl l).trans (pay6_apply _)) (vb m c t l))

theorem step15_B (t : Fin cfg0.N) (h0 : ¬ t.val % 33 = 0) (r : Fin 8) (l : Fin 2816) :
    (outsAt0 m c t.val t.isLt).2.2.2.2.2 (ix2 r l)
      = ((outsAt0 m c (t.val - 1) (by omega)).2.2.2.2.2 (ix2 r l) + biasTerm (sv m c) t.val r.val l.val : EReal) := by
  rw [outsAt0_B m c t h0]
  frame_out
  refine read_one _ _ _ _ (Memref.IsWhole.read_unread _ _) (fun r => biasTerm (sv m c) t.val r l.val) r l ?_ (biasTerm_zero _ _ _)
  exact (pay2_apply _ _ l).trans (congr_arg₂ _ (ldRow _ 0 _ 0 rfl l) (vb m c t l))

/-! ## The result arrays -/

theorem final10 : (dats m 0 c).arrAt 10 cfg0.N = out0 (au m c) (adh m c) (awd m c) (aw m c) (ab m c) := by
  refine (dats m 0 c).arrAt_eq_of_covers 10 _ (by decide +kernel) fun t hf y => ?_
  have ht : t.val < 33 := t.isLt
  blk_simp
  rw [after0_10]
  idx_vars y
  have e : (win0_10.blk t).view.emb (ix2 y0 y1) = ix2 (⟨128 * t.val + y0.val, by omega⟩ : Fin 4224) y1 := by
    blk_ext [(idx t).2.2.2.2.2.2.2.2.2.2.1]
  rw [e]
  by_cases h : t.val % 33 = 0
  · rw [outsAt0_A m c t h]
    frame_out
    exact dgB_apply m c t y0 y1
  · rw [outsAt0_B m c t h]
    frame_out
    exact dgB_apply m c t y0 y1

theorem final11 : (dats m 0 c).arrAt 11 cfg0.N = out1 (au m c) (adh m c) (awd m c) (aw m c) (ab m c) := by
  refine (dats m 0 c).arrAt_eq_of_covers 11 _ (by decide +kernel) fun t hf y => ?_
  have ht : t.val < 33 := t.isLt
  blk_simp
  rw [after0_11]
  idx_vars y
  have e : (win0_11.blk t).view.emb (ix2 y0 y1) = ix2 (⟨128 * t.val + y0.val, by omega⟩ : Fin 4224) y1 := by
    blk_ext [(idx t).2.2.2.2.2.2.2.2.2.2.2.1]
  rw [e]
  by_cases h : t.val % 33 = 0
  · rw [outsAt0_A m c t h]
    frame_out
    exact dvB_apply m c t y0 y1
  · rw [outsAt0_B m c t h]
    frame_out
    exact dvB_apply m c t y0 y1

theorem acc12 (t : Fin cfg0.N) (r : Fin 8) (l : Fin 2816) :
    (outsAt0 m c t.val t.isLt).2.2.1 (ix2 r l)
      = (0 + ∑ k ∈ Finset.range (t.val % 33 + 1), tapTerm m c 0 (sg m c) (33 * (t.val / 33) + k) r.val l.val : EReal) :=
  Pipeline.eq_sum_of_reset_step_apply (fun n h => ((outsAt0 m c n h).2.2.1 : S8x2816.Idx → EReal)) 33 (fun _ => 0)
    (fun n j => tapTerm m c 0 (sg m c) n (j 0).val (j 1).val)
    (fun t h j => by idx_vars j; exact step12_A m c t h j0 j1) (fun t h j => by idx_vars j; exact step12_B m c t h j0 j1) t (ix2 r l)

theorem final12 : (dats m 0 c).arrAt 12 cfg0.N = out2 (au m c) (adh m c) (awd m c) (aw m c) (ab m c) := by
  refine (dats m 0 c).arrAt_eq_of_covers 12 _ (by decide +kernel) fun t hf y => ?_
  have ht : t.val < 33 := t.isLt
  have hm := (flush0_12 t).mp hf
  blk_simp
  rw [after0_12]
  idx_vars y
  have e : (win0_12.blk t).view.emb (ix2 y0 y1) = ix2 y0 y1 := by
    blk_ext [(idx t).2.2.2.2.2.2.2.2.2.2.2.2.1]
  rw [e]
  refine (acc12 m c t y0 y1).trans ?_
  rw [hm, zero_add, show t.val / 33 = 0 by omega]
  refine Eq.trans (Finset.sum_congr rfl fun n _ => ?_) (tapTerm_sum m c 0 (sg m c) y0.val y1.val)
  rw [Nat.mul_zero, Nat.zero_add]

theorem acc13 (t : Fin cfg0.N) (r : Fin 8) (l : Fin 2816) :
    (outsAt0 m c t.val t.isLt).2.2.2.1 (ix2 r l)
      = (0 + ∑ k ∈ Finset.range (t.val % 33 + 1), tapTerm m c 2816 (sv m c) (33 * (t.val / 33) + k) r.val l.val : EReal) :=
  Pipeline.eq_sum_of_reset_step_apply (fun n h => ((outsAt0 m c n h).2.2.2.1 : S8x2816.Idx → EReal)) 33 (fun _ => 0)
    (fun n j => tapTerm m c 2816 (sv m c) n (j 0).val (j 1).val)
    (fun t h j => by idx_vars j; exact step13_A m c t h j0 j1) (fun t h j => by idx_vars j; exact step13_B m c t h j0 j1) t (ix2 r l)

theorem final13 : (dats m 0 c).arrAt 13 cfg0.N = out3 (au m c) (adh m c) (awd m c) (aw m c) (ab m c) := by
  refine (dats m 0 c).arrAt_eq_of_covers 13 _ (by decide +kernel) fun t hf y => ?_
  have ht : t.val < 33 := t.isLt
  have hm := (flush0_13 t).mp hf
  blk_simp
  rw [after0_13]
  idx_vars y
  have e : (win0_13.blk t).view.emb (ix2 y0 y1) = ix2 y0 y1 := by
    blk_ext [(idx t).2.2.2.2.2.2.2.2.2.2.2.2.2.1]
  rw [e]
  refine (acc13 m c t y0 y1).trans ?_
  rw [hm, zero_add, show t.val / 33 = 0 by omega]
  refine Eq.trans (Finset.sum_congr rfl fun n _ => ?_) (tapTerm_sum m c 2816 (sv m c) y0.val y1.val)
  rw [Nat.mul_zero, Nat.zero_add]

theorem acc14 (t : Fin cfg0.N) (r : Fin 8) (l : Fin 2816) :
    (outsAt0 m c t.val t.isLt).2.2.2.2.1 (ix2 r l)
      = (0 + ∑ k ∈ Finset.range (t.val % 33 + 1), biasTerm (sg m c) (33 * (t.val / 33) + k) r.val l.val : EReal) :=
  Pipeline.eq_sum_of_reset_step_apply (fun n h => ((outsAt0 m c n h).2.2.2.2.1 : S8x2816.Idx → EReal)) 33 (fun _ => 0)
    (fun n j => biasTerm (sg m c) n (j 0).val (j 1).val)
    (fun t h j => by idx_vars j; exact step14_A m c t h j0 j1) (fun t h j => by idx_vars j; exact step14_B m c t h j0 j1) t (ix2 r l)

theorem final14 : (dats m 0 c).arrAt 14 cfg0.N = out4 (au m c) (adh m c) (awd m c) (aw m c) (ab m c) := by
  refine (dats m 0 c).arrAt_eq_of_covers 14 _ (by decide +kernel) fun t hf y => ?_
  have ht : t.val < 33 := t.isLt
  have hm := (flush0_14 t).mp hf
  blk_simp
  rw [after0_14]
  idx_vars y
  have e : (win0_14.blk t).view.emb (ix2 y0 y1) = ix2 y0 y1 := by
    blk_ext [(idx t).2.2.2.2.2.2.2.2.2.2.2.2.2.2.1]
  rw [e]
  refine (acc14 m c t y0 y1).trans ?_
  rw [hm, zero_add, show t.val / 33 = 0 by omega]
  refine Eq.trans (Finset.sum_congr rfl fun n _ => ?_) (biasTerm_sum (sg m c) y0.val y1.val)
  rw [Nat.mul_zero, Nat.zero_add]

theorem acc15 (t : Fin cfg0.N) (r : Fin 8) (l : Fin 2816) :
    (outsAt0 m c t.val t.isLt).2.2.2.2.2 (ix2 r l)
      = (0 + ∑ k ∈ Finset.range (t.val % 33 + 1), biasTerm (sv m c) (33 * (t.val / 33) + k) r.val l.val : EReal) :=
  Pipeline.eq_sum_of_reset_step_apply (fun n h => ((outsAt0 m c n h).2.2.2.2.2 : S8x2816.Idx → EReal)) 33 (fun _ => 0)
    (fun n j => biasTerm (sv m c) n (j 0).val (j 1).val)
    (fun t h j => by idx_vars j; exact step15_A m c t h j0 j1) (fun t h j => by idx_vars j; exact step15_B m c t h j0 j1) t (ix2 r l)

theorem final15 : (dats m 0 c).arrAt 15 cfg0.N = out5 (au m c) (adh m c) (awd m c) (aw m c) (ab m c) := by
  refine (dats m 0 c).arrAt_eq_of_covers 15 _ (by decide +kernel) fun t hf y => ?_
  have ht : t.val < 33 := t.isLt
  have hm := (flush0_15 t).mp hf
  blk_simp
  rw [after0_15]
  idx_vars y
  have e : (win0_15.blk t).view.emb (ix2 y0 y1) = ix2 y0 y1 := by
    blk_ext [(idx t).2.2.2.2.2.2.2.2.2.2.2.2.2.2.2.1]
  rw [e]
  refine (acc15 m c t y0 y1).trans ?_
  rw [hm, zero_add, show t.val / 33 = 0 by omega]
  refine Eq.trans (Finset.sum_congr rfl fun n _ => ?_) (biasTerm_sum (sv m c) y0.val y1.val)
  rw [Nat.mul_zero, Nat.zero_add]

end Cert.DcIdeal.Tie

end
-- ==== Proof.DcRef.lean ====
module

public import proofs.«01_k».proof.Proof.Gen.DcRefIdeal.Read
public import proofs.«01_k».proof.Proof.DcSpec

@[expose] public section

set_option maxRecDepth 16384

noncomputable section

namespace Cert.DcRefIdeal.Tie

open Cert.DcRefIdeal Cert.DcRefIdeal.Read Idealize.ShloMosaic Cert.Common Cert.Dc.Spec

section
variable (u : FVec Ideal S4224x5632 .f32) (dh : FVec Ideal S4224x1024 .f32) (wd : FVec Ideal S2816x1024 .f32)
  (w : FVec Ideal S3x5632 .f32) (b : FVec Ideal S5632 .f32)

/-- The array under two rows of zeros. -/
theorem v1_apply (k : Fin 4226) (l : Fin 5632) (s k' : ℕ) (h : k.val + s = k' + 2) (hk : k' < 4224) :
    val_main_v1 (F := Ideal) u (ix2 k l) = back (fun k l => at2 u k l) s k' l.val := by
  have hk4 : k.val < 4226 := k.isLt
  pointwise [val_main_v1, val_main_v0, val_main_cst]
  unfold back
  by_cases h2 : k.val < 2
  · rw [dif_pos h2, if_neg (by omega)]
  · rw [dif_neg h2]
    have hr : (if s ≤ k' then at2 u (k' - s) l.val else 0) = u (ix2 ⟨k' - s, by omega⟩ l) := by
      rw [if_pos (by omega), at2_lt _ _ _ (by omega) l.isLt]
    refine Eq.trans ?_ hr.symm
    exact congr_arg u (congr_arg₂ ix2 (Fin.ext (by show k.val - 2 = k' - s; omega)) rfl)

/-- The same array, written again for the gradient. -/
theorem v36_eq : val_main_v36 (F := Ideal) u = val_main_v1 u := rfl

/-- The convolution. -/
theorem v24_apply (k : Fin 4224) (l : Fin 5632) : val_main_v24 (F := Ideal) u w b (ix2 k l) = cu u w b k.val l.val := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2]
  rw [v1_apply u _ l 2 k.val rfl k.isLt, v1_apply u _ l 1 k.val (by show 1 + k.val + 1 = k.val + 2; omega) k.isLt,
    v1_apply u _ l 0 k.val (by show 2 + k.val + 0 = k.val + 2; omega) k.isLt]
  unfold cu conv bias
  rw [dif_pos l.isLt]
  simp only [at2_lt w 0 l.val (by decide) l.isLt, at2_lt w 1 l.val (by decide) l.isLt, at2_lt w 2 l.val (by decide) l.isLt]
  rfl

section Finite
variable (hu : ∀ i, IsReal (u i)) (hd : ∀ i, IsReal (dh i)) (hwd : ∀ i, IsReal (wd i)) (hw : ∀ i, IsReal (w i)) (hb : ∀ i, IsReal (b i))

/-- The cotangent of the gated pair. -/
theorem v30_apply (k : Fin 4224) (l : Fin 2816) : val_main_v30 (F := Ideal) dh wd (ix2 k l) = dact dh wd k.val l.val := by
  pointwise [val_main_v30]
  unfold dact
  simp only [at2_eq]

include hu hd hwd hw hb in
/-- The gate half's gradient. -/
theorem v33_apply (k : Fin 4224) (l : Fin 2816) : val_main_v33 (F := Ideal) u dh wd w b (ix2 k l) = dg u dh wd w b k.val l.val := by
  pointwise [val_main_v33, val_main_call1_v2, val_main_call1_v1, val_main_call1_v0, val_main_v32, val_main_v27_1, val_main_v27_2, val_main_v25,
    val_main_v26, val_main_call0_v7, val_main_call0_v6, val_main_call0_v4, val_main_call0_v3, val_main_call0_v2, val_main_call0_v1, val_main_call0_v0,
    val_main_call0_cst, val_main_call0_cst_0, val_main_call0_cst_1]
  rw [v24_apply, v24_apply, v30_apply]
  exact dswish_eq (isReal_dact hd hwd _ _) (isReal_cu hu hw hb _ _) (isReal_cu hu hw hb _ _)

/-- The value half's gradient. -/
theorem v31_apply (k : Fin 4224) (l : Fin 2816) : val_main_v31 (F := Ideal) u dh wd w b (ix2 k l) = dv u dh wd w b k.val l.val := by
  pointwise [val_main_v31, val_main_v27_0, val_main_v27_2, val_main_v25, val_main_call0_v4, val_main_call0_v3, val_main_call0_v2, val_main_call0_v1,
    val_main_call0_v0, val_main_call0_cst, val_main_call0_cst_0]
  rw [v24_apply, v30_apply]
  unfold dv dvalue
  rw [mul_comm, mul_assoc]
  rfl

/-- Both halves' gradients side by side. -/
def both (k l : ℕ) : EReal := if l < 2816 then dg u dh wd w b k l else dv u dh wd w b k (l - 2816)

include hu hd hwd hw hb in
theorem v34_apply (k : Fin 4224) (l : Fin 5632) : val_main_v34 (F := Ideal) u dh wd w b (ix2 k l) = both u dh wd w b k.val l.val := by
  pointwise [val_main_v34]
  unfold both
  by_cases h : l.val < 2816
  · rw [dif_pos h, if_pos h, v33_apply u dh wd w b hu hd hwd hw hb]
  · rw [dif_neg h, if_neg h]
    exact v31_apply u dh wd w b k _

include hu hd hwd hw hb in
/-- The taps' gradient of all columns. -/
theorem v83_apply (r : Fin 8) (l : Fin 5632) : val_main_v83 (F := Ideal) u dh wd w b (ix2 r l) = dtaps u 0 (both u dh wd w b) r.val l.val := by
  have hz : (FloatOps.sitofp FTy.f32 (0#32) : Ideal .f32) = (0 : EReal) := by
    show (((0#32 : BitVec 32).toInt : ℝ) : EReal) = 0
    simp
  have hs : ∀ (s : ℕ) (f : Fin 4224 → Fin 4226), (∀ x, (f x).val + s = x.val + 2) →
      ∑ x : Fin 1, ∑ x : Fin 4224, val_main_v34 (F := Ideal) u dh wd w b (ix2 x l) * val_main_v36 u (ix2 (f x) l)
        = ∑ k : Fin 4224, both u dh wd w b k.val l.val * back (fun k l => at2 u k (0 + l)) s k.val l.val := fun s f hf => by
    rw [Fin.sum_univ_one]
    refine Finset.sum_congr rfl fun k _ => ?_
    rw [v34_apply u dh wd w b hu hd hwd hw hb, v36_eq, v1_apply u (f k) l s k.val (hf k) k.isLt]
    simp only [Nat.zero_add]
  pointwise [val_main_v83, val_main_v82, val_main_v81, val_main_v80, val_main_v79, val_main_v78, val_main_v77, val_main_v76, val_main_v72, val_main_v71,
    val_main_v70, val_main_v69, val_main_v68, val_main_v67, val_main_v66, val_main_v65, val_main_v64, val_main_v63, val_main_v62, val_main_v61,
    val_main_v60, val_main_v55, val_main_v48, val_main_v39, val_main_call2_v0, val_main_c, val_main_cst_1, val_main_cst_2, val_main_cst_3,
    val_main_cst_4, val_main_cst_5, val_main_cst_6, val_main_cst_9, val_main_cst_10, val_main_cst_11]
  unfold dtaps
  by_cases h3 : r.val < 3
  · rw [dif_pos h3, if_pos h3]
    by_cases h0 : r.val = 0
    · rw [dif_neg (by omega), dif_neg (by omega), dif_pos (by omega), add_zero, zero_add, hs (2 - r.val) (fun x => ⟨x.val, by omega⟩) (fun x => by show x.val + (2 - r.val) = _; omega)]
    by_cases h1 : r.val = 1
    · rw [dif_neg (by omega), dif_pos (by omega), dif_neg (by omega), add_zero, zero_add, hs (2 - r.val) (fun x => ⟨1 + x.val, by omega⟩) (fun x => by show 1 + x.val + (2 - r.val) = _; omega)]
    · rw [dif_pos (by omega), dif_neg (by omega), dif_neg (by omega), add_zero, add_zero, hs (2 - r.val) (fun x => ⟨2 + x.val, by omega⟩) (fun x => by show 2 + x.val + (2 - r.val) = _; omega)]
  · rw [dif_neg h3, if_neg h3]
    exact hz

include hu hd hwd hw hb in
/-- The bias's gradient of all columns. -/
theorem v85_apply (r : Fin 8) (l : Fin 5632) : val_main_v85 (F := Ideal) u dh wd w b (ix2 r l) = dbias (both u dh wd w b) r.val l.val := by
  have hz : (FloatOps.sitofp FTy.f32 (0#32) : Ideal .f32) = (0 : EReal) := by
    show (((0#32 : BitVec 32).toInt : ℝ) : EReal) = 0
    simp
  pointwise [val_main_v85, val_main_v84, val_main_v75, val_main_v74, val_main_v73, val_main_call3_v0, val_main_c_12, val_main_cst_7, val_main_cst_8]
  unfold dbias
  by_cases h : r.val < 1
  · rw [dif_pos h, if_pos h, Fin.sum_univ_one]
    exact Finset.sum_congr rfl fun k _ => v34_apply u dh wd w b hu hd hwd hw hb k l
  · rw [dif_neg h, if_neg h]
    exact hz

/-- A gate column of both is the gate half's. -/
theorem both_gate (k : ℕ) (l : Fin 2816) : both u dh wd w b k l.val = dg u dh wd w b k l.val := if_pos l.isLt
/-- A value column of both is the value half's. -/
theorem both_value (k : ℕ) (l : Fin 2816) : both u dh wd w b k (2816 + l.val) = dv u dh wd w b k l.val := by
  unfold both
  rw [if_neg (by omega), Nat.add_sub_cancel_left]

/-! ## The six results -/

include hu hd hwd hw hb

theorem ref0 : val_main_v86 (F := Ideal) u dh wd w b = out0 u dh wd w b := by
  funext i
  idx_vars i
  pointwise [val_main_v86]
  exact (v34_apply u dh wd w b hu hd hwd hw hb _ _).trans (both_gate u dh wd w b _ i1)

theorem ref1 : val_main_v87 (F := Ideal) u dh wd w b = out1 u dh wd w b := by
  funext i
  idx_vars i
  pointwise [val_main_v87]
  exact (v34_apply u dh wd w b hu hd hwd hw hb _ _).trans (both_value u dh wd w b _ i1)

theorem ref2 : val_main_v88 (F := Ideal) u dh wd w b = out2 u dh wd w b := by
  funext i
  idx_vars i
  pointwise [val_main_v88]
  rw [v83_apply u dh wd w b hu hd hwd hw hb]
  show dtaps u 0 _ i0.val i1.val = dtaps u 0 _ i0.val i1.val
  unfold dtaps
  simp only [both_gate]

theorem ref3 : val_main_v89 (F := Ideal) u dh wd w b = out3 u dh wd w b := by
  funext i
  idx_vars i
  pointwise [val_main_v89]
  rw [v83_apply u dh wd w b hu hd hwd hw hb]
  show dtaps u 0 _ i0.val (2816 + i1.val) = dtaps u 2816 _ i0.val i1.val
  unfold dtaps back
  simp only [both_value, Nat.zero_add]

theorem ref4 : val_main_v90 (F := Ideal) u dh wd w b = out4 u dh wd w b := by
  funext i
  idx_vars i
  pointwise [val_main_v90]
  rw [v85_apply u dh wd w b hu hd hwd hw hb]
  show dbias _ i0.val i1.val = dbias _ i0.val i1.val
  unfold dbias
  simp only [both_gate]

theorem ref5 : val_main_v91 (F := Ideal) u dh wd w b = out5 u dh wd w b := by
  funext i
  idx_vars i
  pointwise [val_main_v91]
  rw [v85_apply u dh wd w b hu hd hwd hw hb]
  show dbias _ i0.val (2816 + i1.val) = dbias _ i0.val i1.val
  unfold dbias
  simp only [both_value]

end Finite
end

end Cert.DcRefIdeal.Tie

end
-- ==== Proof.DcPre.lean ====
module

public import proofs.«01_k».proof.Defs
public import proofs.«01_k».proof.Proof.Gen.Pre_all_finite
public import proofs.«01_k».proof.Proof.DcSpec
public import Idealize.ShloMosaic.Lib.ReduceAll

@[expose] public section

set_option maxRecDepth 16384

noncomputable section

namespace Cert.Dc.Pre

open Idealize.ShloMosaic Cert.Dc.Spec Cert.Pre_all_finite

instance : Subsingleton S_.Idx := ⟨fun _ _ => funext fun a => a.elim0⟩

/-- A value whose absolute value compares below infinity is real. -/
theorem real_of_cmp (x : EReal) (h : FloatOps.cmpf (F := Ideal) (φ := .f32) .olt (FloatOps.hostAbsf (F := Ideal) (φ := .f32) x) (FloatOps.ofBits (F := Ideal) .f32 0x7F800000#32) = 1#1) : IsReal x := by
  refine IsReal.of_abs ?_
  have e : Ideal.ofBits .f32 0x7F800000#32 = (⊤ : EReal) := by decide_cbv
  have h' : Ideal.cmp .olt (max x (-x)) (Ideal.ofBits .f32 0x7F800000#32) = 1#1 := h
  rw [e] at h'
  by_contra hn
  simp [Ideal.cmp, hn] at h'

/-- The precondition says that every argument's elements are real. -/
theorem finite (u : FVec Ideal S4224x5632 .f32) (dh : FVec Ideal S4224x1024 .f32) (wd : FVec Ideal S2816x1024 .f32)
    (w : FVec Ideal S3x5632 .f32) (b : FVec Ideal S5632 .f32) (h : fn (F := Ideal) u dh wd w b = fun _ => 1#1) :
    (∀ i, IsReal (u i)) ∧ (∀ i, IsReal (dh i)) ∧ (∀ i, IsReal (wd i)) ∧ (∀ i, IsReal (w i)) ∧ (∀ i, IsReal (b i)) := by
  have h0 := congrFun h (fun a => a.elim0)
  dsimp only [fn, fn_part1] at h0
  obtain ⟨h1, hb⟩ := IntOp.andi_eq_one.mp h0
  obtain ⟨h2, hw⟩ := IntOp.andi_eq_one.mp h1
  obtain ⟨h3, hwd⟩ := IntOp.andi_eq_one.mp h2
  obtain ⟨hu, hd⟩ := IntOp.andi_eq_one.mp h3
  exact ⟨fun i => real_of_cmp _ (Host.reduce_andi_all _ _ _ _ _ hu i), fun i => real_of_cmp _ (Host.reduce_andi_all _ _ _ _ _ hd i),
    fun i => real_of_cmp _ (Host.reduce_andi_all _ _ _ _ _ hwd i), fun i => real_of_cmp _ (Host.reduce_andi_all _ _ _ _ _ hw i),
    fun i => real_of_cmp _ (Host.reduce_andi_all _ _ _ _ _ hb i)⟩

end Cert.Dc.Pre

end
-- ==== Proof.DcClaim.lean ====
module

public import proofs.«01_k».proof.Defs
public import proofs.«01_k».proof.Proof.Gen.Dc.Frame
public import proofs.«01_k».proof.Proof.Gen.DcIdeal.Value
public import proofs.«01_k».proof.Proof.Gen.DcRefIdeal.Run
public import proofs.«01_k».proof.Proof.Gen.DcRefIdeal.Read
public import proofs.«01_k».proof.Proof.DcValue
public import proofs.«01_k».proof.Proof.DcRef
public import proofs.«01_k».proof.Proof.DcPre
public import proofs.«01_k».proof.Proof.Gen.Pre_all_finite

@[expose] public section

set_option maxRecDepth 16384

noncomputable section

namespace Cert.Dc.Tie

open Idealize.ShloMosaic Idealize.SL.Sem

/-- The kernel ends, its arguments unchanged and its counters at zero. -/
theorem frame_p : Cert.quiescent_Dc := fun m ρ _ => Cert.Dc.Gen.frame m ρ

/-- So does the kernel over the extended reals. -/
theorem frame_pi : Cert.quiescent_DcIdeal := fun m ρ _ => Cert.DcIdeal.Gen.frame m ρ

/-- So does the reference. -/
theorem frame_ri : Cert.quiescent_DcRefIdeal := fun m ρ _ =>
  (θ_run Cert.DcRefIdeal.defs _ _).mono
    (fun r h => ⟨fun c => (h c).2.2.2.2.2.2, Idealize.ShloMosaic.sem_eq_zero_of_no_sems (by decide) r.2⟩)
    (Cert.DcRefIdeal.Value.run (F := Ideal) m ρ)

/-- The frames hold under the precondition too. -/
theorem frame_pi_pre : Cert.quiescent_DcIdeal_pre_all_finite := fun m ρ _ => frame_pi m ρ trivial
@[inherit_doc frame_pi_pre] theorem frame_ri_pre : Cert.quiescent_DcRefIdeal_pre_all_finite := fun m ρ _ => frame_ri m ρ trivial

/-- Kernel and reference end with equal results. -/
theorem algebraic : Cert.algebraic_DcIdeal_DcRefIdeal_pre_all_finite := by
  intro m ρ m' ρ' hpre hagree
  refine ⟨fun c => Cert.Dc.Spec.out0 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)), fun c => Cert.Dc.Spec.out1 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)), fun c => Cert.Dc.Spec.out2 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)), fun c => Cert.Dc.Spec.out3 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)), fun c => Cert.Dc.Spec.out4 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)), fun c => Cert.Dc.Spec.out5 (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)),
    (θ_run Cert.DcIdeal.defs _ _).mono (fun r h c => ⟨(h c).1.trans (Cert.DcIdeal.Tie.final10 m c), (h c).2.1.trans (Cert.DcIdeal.Tie.final11 m c), (h c).2.2.1.trans (Cert.DcIdeal.Tie.final12 m c), (h c).2.2.2.1.trans (Cert.DcIdeal.Tie.final13 m c), (h c).2.2.2.2.1.trans (Cert.DcIdeal.Tie.final14 m c), (h c).2.2.2.2.2.1.trans (Cert.DcIdeal.Tie.final15 m c), (h c).2.2.2.2.2.2⟩)
      (Cert.DcIdeal.Value.run_blocks m ρ), ?_⟩
  refine (θ_run Cert.DcRefIdeal.defs _ _).mono (fun _ h c => ?_) (Cert.DcRefIdeal.Value.run (F := Ideal) m' ρ')
  obtain ⟨e0, e1, e2, e3, e4⟩ := hagree c
  obtain ⟨f0, f1, f2, f3, f4⟩ := Cert.Dc.Pre.finite _ _ _ _ _ (hpre c)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine (Cert.DcRefIdeal.Read.val_main_v86_eq (F := Ideal) m' c).trans ?_
    rw [e0, e1, e2, e3, e4]
    exact Cert.DcRefIdeal.Tie.ref0 _ _ _ _ _ f0 f1 f2 f3 f4
  · refine (Cert.DcRefIdeal.Read.val_main_v87_eq (F := Ideal) m' c).trans ?_
    rw [e0, e1, e2, e3, e4]
    exact Cert.DcRefIdeal.Tie.ref1 _ _ _ _ _ f0 f1 f2 f3 f4
  · refine (Cert.DcRefIdeal.Read.val_main_v88_eq (F := Ideal) m' c).trans ?_
    rw [e0, e1, e2, e3, e4]
    exact Cert.DcRefIdeal.Tie.ref2 _ _ _ _ _ f0 f1 f2 f3 f4
  · refine (Cert.DcRefIdeal.Read.val_main_v89_eq (F := Ideal) m' c).trans ?_
    rw [e0, e1, e2, e3, e4]
    exact Cert.DcRefIdeal.Tie.ref3 _ _ _ _ _ f0 f1 f2 f3 f4
  · refine (Cert.DcRefIdeal.Read.val_main_v90_eq (F := Ideal) m' c).trans ?_
    rw [e0, e1, e2, e3, e4]
    exact Cert.DcRefIdeal.Tie.ref4 _ _ _ _ _ f0 f1 f2 f3 f4
  · refine (Cert.DcRefIdeal.Read.val_main_v91_eq (F := Ideal) m' c).trans ?_
    rw [e0, e1, e2, e3, e4]
    exact Cert.DcRefIdeal.Tie.ref5 _ _ _ _ _ f0 f1 f2 f3 f4

end Cert.Dc.Tie

end
-- ==== Proof.DuValue.lean ====
module

public import proofs.«01_k».proof.Proof.Gen.DuIdeal.Value
public import proofs.«01_k».proof.Proof.Gen.DuRefIdeal.Read
public import Idealize.ShloMosaic.Lib.Pointwise
public import Idealize.ShloMosaic.Lib.Tactic
public import Idealize.ShloMosaic.Lib.StableHlo.Run
public import Idealize.ShloMosaic.Lib.Pipeline.ValueKit

@[expose] public section

set_option maxRecDepth 16384

noncomputable section

namespace Cert.DuIdeal.Tie

open Cert.DuIdeal Cert.DuIdeal.Gen Idealize.ShloMosaic Idealize.ShloMosaic.TcCoe Idealize.SL.Sem
open Idealize.ShloMosaic.Pipeline (Dat)

/-- Row `k` of an array of 4224 rows, and zero from row 4224 on. -/
def rowOr0 {n : ℕ} (X : (⟨2, ![4224, n]⟩ : Shape).Idx → EReal) (k : ℕ) (l : Fin n) : EReal :=
  if h : k < 4224 then X (ix2 ⟨k, h⟩ l) else 0

/-- The gradient before a causal convolution of three taps, one element: the cotangent of the row itself and of the two rows
    after it, each times its tap. -/
def tapsBack {n : ℕ} (X : (⟨2, ![4224, n]⟩ : Shape).Idx → EReal) (w2 w1 w0 : EReal) (k : ℕ) (l : Fin n) : EReal :=
  w2 * rowOr0 X k l + w1 * rowOr0 X (k + 1) l + w0 * rowOr0 X (k + 2) l

/-- One half of the payload of a block: row `r` of block `t` is the gradient at row `192 t + r`, the block being given
    with the eight rows that follow it, and those being replaced by zeros in the last block. -/
theorem pay3_apply (X : (⟨2, ![4224, 2816]⟩ : Shape).Idx → EReal) (t : ℕ) (ht : t < 22)
    (b : BitVec 1) (x : Vec Ideal S192x2816 .f32) (n : Vec Ideal S8x2816 .f32) (w2 w1 w0 : Vec Ideal S1x2816 .f32)
    (hb : b = if t = 21 then 1#1 else 0#1)
    (hx : ∀ (r : Fin 192) (l : Fin 2816), x (ix2 r l) = rowOr0 X (192 * t + r.val) l)
    (hn : t < 21 → ∀ (r : Fin 8) (l : Fin 2816), n (ix2 r l) = rowOr0 X (192 * (t + 1) + r.val) l)
    (r : Fin 192) (l : Fin 2816) :
    k0_pay3 b x n w2 w1 w0 (ix2 r l) = tapsBack X (w2 (ix2 0 l)) (w1 (ix2 0 l)) (w0 (ix2 0 l)) (192 * t + r.val) l := by
  have hr : r.val < 192 := r.isLt
  have h1 : IntOp.cmpi CmpIPredicate.sge (BitVec.ofNat 32 r.val) 191#32 = if 191 ≤ r.val then 1#1 else 0#1 := by
    have : ∀ r : Fin 192, IntOp.cmpi CmpIPredicate.sge (BitVec.ofNat 32 r.val) 191#32 = if 191 ≤ r.val then 1#1 else 0#1 := by
      decide +kernel
    exact this r
  have h2 : IntOp.cmpi CmpIPredicate.sge (BitVec.ofNat 32 r.val) 190#32 = if 190 ≤ r.val then 1#1 else 0#1 := by
    have : ∀ r : Fin 192, IntOp.cmpi CmpIPredicate.sge (BitVec.ofNat 32 r.val) 190#32 = if 190 ≤ r.val then 1#1 else 0#1 := by
      decide +kernel
    exact this r
  have next : ∀ (q : Fin 8), Scalar.select b (0 : EReal) (n (ix2 q l)) = rowOr0 X (192 * (t + 1) + q.val) l := by
    intro q
    by_cases h : t = 21
    · subst h
      rw [hb, if_pos rfl]
      unfold rowOr0
      rw [dif_neg (by omega)]
      rfl
    · rw [hb, if_neg h, ← hn (by omega)]
      rfl
  pointwise [k0_pay3]
  rw [h1, h2]
  unfold tapsBack
  congr 1
  · congr 1
    · rw [hx]
    · congr 1
      by_cases h : 191 ≤ r.val
      · rw [if_pos h, dif_neg (by omega)]
        show Scalar.select b (0 : EReal) _ = _
        rw [next]
        congr 1
        show 192 * (t + 1) + (r.val - 184 + 8 - 7) % 8 = _
        omega
      · rw [if_neg h]
        show x _ = _
        rw [hx]
        congr 1
        show 192 * t + (r.val + 192 - 191) % 192 = _
        omega
  · congr 1
    by_cases h : 190 ≤ r.val
    · rw [if_pos h, dif_neg (by omega)]
      show Scalar.select b (0 : EReal) _ = _
      rw [next]
      congr 1
      show 192 * (t + 1) + (r.val - 184 + 8 - 6) % 8 = _
      omega
    · rw [if_neg h]
      show x _ = _
      rw [hx]
      congr 1
      show 192 * t + (r.val + 192 - 190) % 192 = _
      omega

/-- The other half's payload is the same function. -/
theorem pay2_eq (i : grid0.Coords) (x : Vec Ideal S192x2816 .f32) (n : Vec Ideal S8x2816 .f32)
    (w2 w1 w0 : Vec Ideal S1x2816 .f32) (j : S192x2816.Idx) :
    k0_pay2 i x n w2 w1 w0 j = k0_pay3 (Scalar.cmpi CmpIPredicate.eq (BitVec.ofNat 32 (i 0).val) 21#32) x n w2 w1 w0 j := rfl

/-- The whole gradient before the convolution: the gate's columns, then the value's. -/
def grad (x y : (⟨2, ![4224, 2816]⟩ : Shape).Idx → EReal) (w : (⟨2, ![3, 5632]⟩ : Shape).Idx → EReal) :
    (⟨2, ![4224, 5632]⟩ : Shape).Idx → EReal := fun i =>
  if h : (i 1).val < 2816 then
    tapsBack x (w (ix2 2 (i 1))) (w (ix2 1 (i 1))) (w (ix2 0 (i 1))) (i 0).val ⟨(i 1).val, h⟩
  else
    tapsBack y (w (ix2 2 (i 1))) (w (ix2 1 (i 1))) (w (ix2 0 (i 1))) (i 0).val
      ⟨(i 1).val - 2816, by have : (i 1).val < 5632 := (i 1).isLt; omega⟩

variable (m : (ℓ : Loc nD τ sig) → Buf (Elt Ideal) ℓ)

/-- The windows' blocks: both halves move down with the point, the eight rows after them are the next block's first
    (in the last block, some rows of the array), and the taps' two halves stay. -/
theorem idx (t : Fin cfg0.N) : win0_0.index t = ![t.val, 0] ∧ win0_1.index t = ![t.val, 0] ∧ (t.val < 21 → win0_2.index t = ![24 * (t.val + 1), 0])
    ∧ (t.val < 21 → win0_3.index t = ![24 * (t.val + 1), 0]) ∧ win0_4.index t = ![0, 0] ∧ win0_5.index t = ![0, 1] ∧ win0_6.index t = ![t.val, 0]
    ∧ Scalar.cmpi CmpIPredicate.eq (BitVec.ofNat 32 (grid0.coords t 0).val) 21#32 = if t.val = 21 then 1#1 else 0#1 := by
  revert t
  decide +kernel

theorem blk0 (c : Dev nD) (t : Fin cfg0.N) (r : Fin 192) (l : Fin 2816) :
    (iblk m c 0 t : Vec Ideal S192x2816 .f32) (ix2 r l) = rowOr0 (m ((c : Thread nD τ).loc main_arg0)) (192 * t.val + r.val) l := by
  have ht : t.val < 22 := t.isLt
  unfold rowOr0
  rw [dif_pos (by omega)]
  have h := (idx t).1
  blk_ext [iblk, V_main_arg0, h]

theorem blk1 (c : Dev nD) (t : Fin cfg0.N) (r : Fin 192) (l : Fin 2816) :
    (iblk m c 1 t : Vec Ideal S192x2816 .f32) (ix2 r l) = rowOr0 (m ((c : Thread nD τ).loc main_arg1)) (192 * t.val + r.val) l := by
  have ht : t.val < 22 := t.isLt
  unfold rowOr0
  rw [dif_pos (by omega)]
  have h := (idx t).2.1
  blk_ext [iblk, V_main_arg1, h]

theorem blk2 (c : Dev nD) (t : Fin cfg0.N) (ht : t.val < 21) (r : Fin 8) (l : Fin 2816) :
    (iblk m c 2 t : Vec Ideal S8x2816 .f32) (ix2 r l) = rowOr0 (m ((c : Thread nD τ).loc main_arg0)) (192 * (t.val + 1) + r.val) l := by
  unfold rowOr0
  rw [dif_pos (by omega)]
  have h := (idx t).2.2.1 ht
  blk_ext [iblk, V_main_arg0, h]

theorem blk3 (c : Dev nD) (t : Fin cfg0.N) (ht : t.val < 21) (r : Fin 8) (l : Fin 2816) :
    (iblk m c 3 t : Vec Ideal S8x2816 .f32) (ix2 r l) = rowOr0 (m ((c : Thread nD τ).loc main_arg1)) (192 * (t.val + 1) + r.val) l := by
  unfold rowOr0
  rw [dif_pos (by omega)]
  have h := (idx t).2.2.2.1 ht
  blk_ext [iblk, V_main_arg1, h]

/-- The taps as the kernel is given them: three rows, then rows of zeros up to eight. -/
def padded (w : FVec Ideal S3x5632 .f32) : FVec Ideal S8x5632 .f32 :=
  pad S8x5632 ![0, 0] ![5, 0] ![0, 0] w (sitofp .f32 (constantI S_ 32 0#32)) pads_S3x5632_S8x5632_050_000 h_S_

theorem V_main_v0 (c : Dev nD) : (V m c main_v0 : S8x5632.Idx → EReal) = padded (m ((c : Thread nD τ).loc main_arg2)) := by
  unfold V
  simp only [hostOps0, hostOps0_1, List.flatten_cons, List.flatten_nil, List.append_nil, List.cons_append, List.nil_append]
  after_results
  rfl

/-- A row below the third of the padded taps is a row of the taps. -/
theorem padded_apply (w : FVec Ideal S3x5632 .f32) (r : Fin 8) (hr : r.val < 3) (l : Fin 5632) :
    padded w (ix2 r l) = w (ix2 ⟨r.val, hr⟩ l) := by
  pointwise [padded]
  simp [hr]

theorem blk4 (c : Dev nD) (t : Fin cfg0.N) (r : Fin 8) (hr : r.val < 3) (l : Fin 2816) :
    (iblk m c 4 t : Vec Ideal S8x2816 .f32) (ix2 r l)
      = (m ((c : Thread nD τ).loc main_arg2) : FVec Ideal S3x5632 .f32) (ix2 ⟨r.val, hr⟩ (⟨l.val, by omega⟩ : Fin 5632)) := by
  refine Eq.trans ?_ (padded_apply _ r hr _)
  rw [← V_main_v0]
  have h := (idx t).2.2.2.2.1
  blk_ext [iblk, h]

theorem blk5 (c : Dev nD) (t : Fin cfg0.N) (r : Fin 8) (hr : r.val < 3) (l : Fin 2816) :
    (iblk m c 5 t : Vec Ideal S8x2816 .f32) (ix2 r l)
      = (m ((c : Thread nD τ).loc main_arg2) : FVec Ideal S3x5632 .f32) (ix2 ⟨r.val, hr⟩ (⟨2816 + l.val, by omega⟩ : Fin 5632)) := by
  refine Eq.trans ?_ (padded_apply _ r hr _)
  rw [← V_main_v0]
  have h := (idx t).2.2.2.2.2.1
  blk_ext [iblk, h]

/-- The kernel's result array is the gradient. -/
theorem final (c : Dev nD) :
    (dats m 0 c).arrAt 6 cfg0.N = grad (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 22 := t.isLt
  blk_simp
  rw [after0_6]
  unfold out0_6
  canon_tiles x h
  · show k0_pay3 (F := Ideal) _ _ _ _ _ _ x = _
    have e : (win0_6.blk t).view.emb y = ix2 (⟨192 * t.val + (x 0).val, by omega⟩ : Fin 4224) (⟨2816 + (x 1).val, by omega⟩ : Fin 5632) := by
      blk_ext [(idx t).2.2.2.2.2.2.1]
    rw [e]
    idx_vars x
    rw [pay3_apply (m ((c : Thread nD τ).loc main_arg1)) t.val ht _ _ _ _ _ _ (idx t).2.2.2.2.2.2.2]
    · unfold grad
      rw [dif_neg (by show ¬ (2816 + _ < 2816); omega)]
      pointwise
      rw [blk5 m c t 2 (by decide), blk5 m c t 1 (by decide), blk5 m c t 0 (by decide)]
      congr 1
    · intro r l
      rw [← blk1]
      pointwise
    · intro h r l
      rw [← blk3 m c t h]
      pointwise
  · rw [pay2_eq]
    have e : (win0_6.blk t).view.emb y = ix2 (⟨192 * t.val + (x 0).val, by omega⟩ : Fin 4224) (⟨(x 1).val, by omega⟩ : Fin 5632) := by
      blk_ext [(idx t).2.2.2.2.2.2.1]
    rw [e]
    idx_vars x
    rw [pay3_apply (m ((c : Thread nD τ).loc main_arg0)) t.val ht _ _ _ _ _ _ (idx t).2.2.2.2.2.2.2]
    · unfold grad
      rw [dif_pos (by show x1.val < 2816; omega)]
      pointwise
      rw [blk4 m c t 2 (by decide), blk4 m c t 1 (by decide), blk4 m c t 0 (by decide)]
      rfl
    · intro r l
      rw [← blk0]
      pointwise
    · intro h r l
      rw [← blk2 m c t h]
      pointwise

end Cert.DuIdeal.Tie

namespace Cert.DuRefIdeal.Tie

open Cert.DuRefIdeal Cert.DuRefIdeal.Gen Cert.DuRefIdeal.Read Idealize.ShloMosaic Idealize.ShloMosaic.TcCoe Idealize.SL.Sem Idealize.ShloMosaic.StableHlo

/-- The reference's term is the gradient. -/
theorem ref_eq (x y : FVec Ideal S4224x2816 .f32) (w : FVec Ideal S3x5632 .f32) :
    val_main_v42 (F := Ideal) x y w = Cert.DuIdeal.Tie.grad x y w := by
  funext i
  idx_vars i
  pointwise [val_main_v42, val_main_v41, val_main_v39, val_main_v38, val_main_v37, val_main_v36, val_main_v35, val_main_v34, val_main_v33,
    val_main_v32, val_main_v31, val_main_v30, val_main_v29, val_main_v28, val_main_v24, val_main_v22, val_main_v21, val_main_v17, val_main_v15,
    val_main_v14, val_main_v8, val_main_v6, val_main_v5, val_main_cst_3, val_main_cst_4, val_main_cst_5]
  unfold Cert.DuIdeal.Tie.grad Cert.DuIdeal.Tie.tapsBack Cert.DuIdeal.Tie.rowOr0
  have hi : i0.val < 4224 := i0.isLt
  have e0 : ((ix2 i0 i1 : S4224x5632.Idx) 0).val = i0.val := rfl
  have e1 : ((ix2 i0 i1 : S4224x5632.Idx) 1).val = i1.val := rfl
  have c1 : (1 ≤ 2 + i0.val ∧ 2 + i0.val - 1 < 4224) ↔ i0.val + 1 < 4224 := by omega
  have c2 : (2 + i0.val < 4224) ↔ i0.val + 2 < 4224 := by omega
  have r1 : ∀ h h', (⟨2 + i0.val - 1, h⟩ : Fin 4224) = ⟨i0.val + 1, h'⟩ := fun _ _ => Fin.ext (by show 2 + i0.val - 1 = i0.val + 1; omega)
  have r2 : ∀ h h', (⟨2 + i0.val, h⟩ : Fin 4224) = ⟨i0.val + 2, h'⟩ := fun _ _ => Fin.ext (Nat.add_comm _ _)
  by_cases hc : i1.val < 2816
  · simp only [dif_pos hc, e0, e1, dif_pos hi]
    congr 1
    · congr 1
      by_cases h : i0.val + 1 < 4224
      · rw [dif_pos (c1.mpr h), dif_pos h, r1 _ h]
        rfl
      · rw [dif_neg (mt c1.mp h), dif_neg h, mul_zero]
    · by_cases h : i0.val + 2 < 4224
      · rw [dif_pos (c2.mpr h), dif_pos h, r2 _ h]
        rfl
      · rw [dif_neg (mt c2.mp h), dif_neg h, mul_zero]
  · simp only [dif_neg hc, e0, e1, dif_pos hi]
    congr 1
    · congr 1
      by_cases h : i0.val + 1 < 4224
      · rw [dif_pos (c1.mpr h), dif_pos h, r1 _ h]
        rfl
      · rw [dif_neg (mt c1.mp h), dif_neg h, mul_zero]
    · by_cases h : i0.val + 2 < 4224
      · rw [dif_pos (c2.mpr h), dif_pos h, r2 _ h]
        rfl
      · rw [dif_neg (mt c2.mp h), dif_neg h, mul_zero]

end Cert.DuRefIdeal.Tie

end
-- ==== Proof.DuClaim.lean ====
module

public import proofs.«01_k».proof.Defs
public import proofs.«01_k».proof.Proof.Gen.Du.Frame
public import proofs.«01_k».proof.Proof.Gen.DuIdeal.Value
public import proofs.«01_k».proof.Proof.Gen.DuRefIdeal.Run
public import proofs.«01_k».proof.Proof.Gen.DuRefIdeal.Read
public import proofs.«01_k».proof.Proof.DuValue

@[expose] public section

set_option maxRecDepth 16384

noncomputable section

namespace Cert.Du.Tie

open Idealize.ShloMosaic Idealize.SL.Sem

/-- The kernel ends, its arguments unchanged and its counters at zero. -/
theorem frame_p : Cert.quiescent_Du := fun m ρ _ => Cert.Du.Gen.frame m ρ

/-- So does the kernel over the extended reals. -/
theorem frame_pi : Cert.quiescent_DuIdeal := fun m ρ _ => Cert.DuIdeal.Gen.frame m ρ

/-- So does the reference. -/
theorem frame_ri : Cert.quiescent_DuRefIdeal := fun m ρ _ =>
  (θ_run Cert.DuRefIdeal.defs _ _).mono
    (fun r h => ⟨fun c => (h c).2, Idealize.ShloMosaic.sem_eq_zero_of_no_sems (by decide) r.2⟩)
    (Cert.DuRefIdeal.Value.run (F := Ideal) m ρ)

/-- Kernel and reference end with equal results. -/
theorem algebraic : Cert.algebraic_DuIdeal_DuRefIdeal := by
  intro m ρ m' ρ' _ hagree
  refine ⟨fun c => Cert.DuIdeal.Tie.grad (m ((c.tc : Thread Cert.DuIdeal.nD Cert.DuIdeal.τ).loc Cert.DuIdeal.main_arg0)) (m ((c.tc : Thread Cert.DuIdeal.nD Cert.DuIdeal.τ).loc Cert.DuIdeal.main_arg1)) (m ((c.tc : Thread Cert.DuIdeal.nD Cert.DuIdeal.τ).loc Cert.DuIdeal.main_arg2)),
    (θ_run Cert.DuIdeal.defs _ _).mono (fun r h c => ⟨(h c).1.trans (Cert.DuIdeal.Tie.final m c), (h c).2⟩)
      (Cert.DuIdeal.Value.run_blocks m ρ), ?_⟩
  refine (θ_run Cert.DuRefIdeal.defs _ _).mono (fun _ h c => ?_) (Cert.DuRefIdeal.Value.run (F := Ideal) m' ρ')
  obtain ⟨e0, e1, e2⟩ := hagree c
  refine ⟨(h c).1.trans ?_, (h c).2⟩
  · refine (Cert.DuRefIdeal.Read.val_main_v42_eq (F := Ideal) _ _ _).trans ?_
    rw [e0, e1, e2]
    exact Cert.DuRefIdeal.Tie.ref_eq _ _ _

end Cert.Du.Tie

end
-- ==== Proof.DwDownValue.lean ====
module

public import proofs.«01_k».proof.Proof.Gen.DwDownIdeal.Value
public import proofs.«01_k».proof.Proof.Gen.DwDownRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.DwDownIdeal.Tie

open Cert.DwDownIdeal Cert.DwDownIdeal.Gen Idealize.ShloMosaic Idealize.ShloMosaic.TcCoe Idealize.SL.Sem Cert.Common
open Idealize.ShloMosaic.Pipeline (Dat)

/-- The gradient of a product's weight: the input's columns against the cotangent's columns, summed over the rows. -/
def grad (X : (⟨2, ![4224, 2816]⟩ : Shape).Idx → EReal) (Y : (⟨2, ![4224, 1024]⟩ : Shape).Idx → EReal) :
    (⟨2, ![2816, 1024]⟩ : Shape).Idx → EReal := fun i => ∑ k : Fin 4224, at2 X k.val (i 0).val * at2 Y k.val (i 1).val

variable (m : (ℓ : Loc nD τ sig) → Buf (Elt Ideal) ℓ)

/-- The windows' blocks: both operands move down with the point within a column block; the result's block is the column block. -/
theorem idx (t : Fin cfg0.N) : win0_0.index t = ![t.val % 11, 0] ∧ win0_1.index t = ![t.val % 11, t.val / 11] ∧ win0_2.index t = ![0, t.val / 11] := by
  revert t
  decide +kernel

theorem blk0 (c : Dev nD) (t : Fin cfg0.N) (r : Fin 384) (l : Fin 2816) :
    (iblk m c 0 t : Vec Ideal S384x2816 .bf16) (ix2 r l) = at2 (m ((c : Thread nD τ).loc main_arg0)) (384 * (t.val % 11) + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 1024) :
    (iblk m c 1 t : Vec Ideal S384x1024 .f32) (ix2 r l) = at2 (m ((c : Thread nD τ).loc main_arg1)) (384 * (t.val % 11) + r.val) (1024 * (t.val / 11) + l.val) := by
  have ht : t.val < 11 := t.isLt
  rw [at2_lt _ _ _ (by omega) (by omega)]
  have h := (idx t).2.1
  blk_ext [iblk, V_main_arg1, h]

/-- What one point adds to the accumulator. -/
def term (X : (⟨2, ![4224, 2816]⟩ : Shape).Idx → EReal) (Y : (⟨2, ![4224, 1024]⟩ : Shape).Idx → EReal) (n : ℕ) (j : S2816x1024.Idx) : EReal :=
  ∑ q : Fin 384, at2 X (384 * (n % 11) + q.val) (j 0).val * at2 Y (384 * (n % 11) + q.val) (1024 * (n / 11) + (j 1).val)

theorem pay1_apply (j : S2816x1024.Idx) : k0_pay1 (F := Ideal) j = 0 := by
  pointwise [k0_pay1]

theorem pay2_apply (c : Dev nD) (t : Fin cfg0.N) (a : Vec Ideal S2816x1024 .f32) (j : S2816x1024.Idx) :
    k0_pay2 (F := Ideal) a (iblk m c 0 t) (iblk m c 1 t) j
      = a j + term (m ((c : Thread nD τ).loc main_arg0)) (m ((c : Thread nD τ).loc main_arg1)) t.val j := by
  idx_vars j
  pointwise [k0_pay2]
  unfold term
  simp only [blk0, blk1]
  rfl

/-- The accumulator after a point: the sum of what the points of its column block added so far. -/
theorem acc_eq (c : Dev nD) (t : Fin cfg0.N) (j : S2816x1024.Idx) :
    ((outsAt0 m c t.val t.isLt).2 : Vec Ideal S2816x1024 .f32) j = 0 + ∑ k ∈ Finset.range (t.val % 11 + 1),
      term (m ((c : Thread nD τ).loc main_arg0)) (m ((c : Thread nD τ).loc main_arg1)) (11 * (t.val / 11) + k) j := by
  refine Pipeline.eq_sum_of_reset_step_apply (fun n h => (outsAt0 m c n h).2) 11 (fun _ => 0) _ (fun t h j => ?_) (fun t h j => ?_) t j
  · rw [outsAt0_A m c t h (by omega)]
    frame_out
    rw [pay2_apply, pay1_apply]
  · by_cases h1 : t.val % 11 = 10
    · rw [outsAt0_C m c t h h1]
      frame_out
      rw [pay2_apply]
      simp only [read_unread_whole]
    · rw [outsAt0_B m c t h h1]
      frame_out
      rw [pay2_apply]
      simp only [read_unread_whole]

/-- The last point of a column block stores the accumulator. -/
theorem out_eq (c : Dev nD) (t : Fin cfg0.N) (h1 : t.val % 11 = 10) :
    ((outsAt0 m c t.val t.isLt).1 : Vec Ideal S2816x1024 .bf16) = (outsAt0 m c t.val t.isLt).2 := by
  rw [outsAt0_C m c t (by omega) h1]
  frame_out
  rfl

/-- The kernel's result array is the gradient. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 11 := t.isLt
  have hm := (flush0_2 t).mp hf
  blk_simp
  rw [after0_2, out_eq m c t hm]
  have e : (win0_2.blk t).view.emb y = ix2 (⟨(y 0).val, (y 0).isLt⟩ : Fin 2816) (⟨1024 * (t.val / 11) + (y 1).val, by have : (y 1).val < 1024 := (y 1).isLt; omega⟩ : Fin 1024) := by
    blk_ext [(idx t).2.2]
  rw [e]
  refine (acc_eq m c t y).trans ?_
  rw [hm, zero_add]
  unfold grad term
  refine Eq.trans ?_ (sum_blocks 11 384 4224 rfl fun k => at2 (m ((c : Thread nD τ).loc main_arg0)) k (y 0).val * at2 (m ((c : Thread nD τ).loc main_arg1)) k (1024 * (t.val / 11) + (y 1).val))
  refine Finset.sum_congr rfl fun s hs => ?_
  have hs' : s < 11 := Finset.mem_range.mp hs
  rw [show (11 * (t.val / 11) + s) % 11 = s by omega, show (11 * (t.val / 11) + s) / 11 = t.val / 11 by omega]

end Cert.DwDownIdeal.Tie

namespace Cert.DwDownRefIdeal.Tie

open Cert.DwDownRefIdeal Cert.DwDownRefIdeal.Gen Cert.DwDownRefIdeal.Read Idealize.ShloMosaic Idealize.ShloMosaic.TcCoe Idealize.SL.Sem Idealize.ShloMosaic.StableHlo Cert.Common

/-- The reference's term is the gradient. -/
theorem ref_eq (X : FVec Ideal S4224x2816 .bf16) (Y : FVec Ideal S4224x1024 .f32) :
    val_main_v5 (F := Ideal) X Y = Cert.DwDownIdeal.Tie.grad X Y := by
  funext i
  idx_vars i
  pointwise [val_main_cst, val_main_v0, val_main_v1, val_main_v2, val_main_v3, val_main_v4, val_main_v5]
  unfold Cert.DwDownIdeal.Tie.grad
  refine Finset.sum_congr rfl fun k _ => ?_
  refine (mul_comm _ _).trans ?_
  exact congrArg₂ (· * ·) (at2_eq X k i0).symm (at2_eq Y k i1).symm

end Cert.DwDownRefIdeal.Tie

end
-- ==== Proof.DwDownClaim.lean ====
module

public import proofs.«01_k».proof.Defs
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.DwDownValue

@[expose] public section

set_option maxRecDepth 16384

noncomputable section

namespace Cert.DwDown.Tie

open Idealize.ShloMosaic Idealize.SL.Sem

/-- The kernel ends, its arguments unchanged and its counters at zero. -/
theorem frame_p : Cert.quiescent_DwDown := fun m ρ _ => Cert.DwDown.Gen.frame m ρ

/-- So does the kernel over the extended reals. -/
theorem frame_pi : Cert.quiescent_DwDownIdeal := fun m ρ _ => Cert.DwDownIdeal.Gen.frame m ρ

/-- So does the reference. -/
theorem frame_ri : Cert.quiescent_DwDownRefIdeal := fun m ρ _ =>
  (θ_run Cert.DwDownRefIdeal.defs _ _).mono
    (fun r h => ⟨fun c => (h c).2, Idealize.ShloMosaic.sem_eq_zero_of_no_sems (by decide) r.2⟩)
    (Cert.DwDownRefIdeal.Value.run (F := Ideal) m ρ)

/-- Kernel and reference end with equal results. -/
theorem algebraic : Cert.algebraic_DwDownIdeal_DwDownRefIdeal := by
  intro m ρ m' ρ' _ hagree
  refine ⟨fun c => Cert.DwDownIdeal.Tie.grad (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)),
    (θ_run Cert.DwDownIdeal.defs _ _).mono (fun r h c => ⟨(h c).1.trans (Cert.DwDownIdeal.Tie.final m c), (h c).2⟩)
      (Cert.DwDownIdeal.Value.run_blocks m ρ), ?_⟩
  refine (θ_run Cert.DwDownRefIdeal.defs _ _).mono (fun _ h c => ?_) (Cert.DwDownRefIdeal.Value.run (F := Ideal) m' ρ')
  obtain ⟨e0, e1⟩ := hagree c
  refine ⟨(h c).1.trans ?_, (h c).2⟩
  · refine (Cert.DwDownRefIdeal.Read.val_main_v5_eq (F := Ideal) _ _).trans ?_
    rw [e0, e1]
    exact Cert.DwDownRefIdeal.Tie.ref_eq _ _

end Cert.DwDown.Tie

end
-- ==== Proof.DwUpValue.lean ====
module

public import proofs.«01_k».proof.Proof.Gen.DwUpIdeal.Value
public import proofs.«01_k».proof.Proof.Gen.DwUpRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.DwUpIdeal.Tie

open Cert.DwUpIdeal Cert.DwUpIdeal.Gen Idealize.ShloMosaic Idealize.ShloMosaic.TcCoe Idealize.SL.Sem Cert.Common
open Idealize.ShloMosaic.Pipeline (Dat)

/-- The gradient of a product's weight: the input's columns against the cotangent's columns, summed over the rows. -/
def grad (X : (⟨2, ![4224, 1024]⟩ : Shape).Idx → EReal) (Y : (⟨2, ![4224, 5632]⟩ : Shape).Idx → EReal) :
    (⟨2, ![1024, 5632]⟩ : Shape).Idx → EReal := fun i => ∑ k : Fin 4224, at2 X k.val (i 0).val * at2 Y k.val (i 1).val

variable (m : (ℓ : Loc nD τ sig) → Buf (Elt Ideal) ℓ)

/-- The windows' blocks: both operands move down with the point within a column block; the result's block is the column block. -/
theorem idx (t : Fin cfg0.N) : win0_0.index t = ![t.val % 11, 0] ∧ win0_1.index t = ![t.val % 11, t.val / 11] ∧ win0_2.index t = ![0, t.val / 11] := by
  revert t
  decide +kernel

theorem blk0 (c : Dev nD) (t : Fin cfg0.N) (r : Fin 384) (l : Fin 1024) :
    (iblk m c 0 t : Vec Ideal S384x1024 .bf16) (ix2 r l) = at2 (m ((c : Thread nD τ).loc main_arg0)) (384 * (t.val % 11) + r.val) l.val := by
  have ht : t.val < 22 := t.isLt
  rw [at2_lt _ _ _ (by omega) (by omega)]
  have h := (idx t).1
  blk_ext [iblk, V_main_arg0, h]

theorem blk1 (c : Dev nD) (t : Fin cfg0.N) (r : Fin 384) (l : Fin 2816) :
    (iblk m c 1 t : Vec Ideal S384x2816 .bf16) (ix2 r l) = at2 (m ((c : Thread nD τ).loc main_arg1)) (384 * (t.val % 11) + r.val) (2816 * (t.val / 11) + l.val) := by
  have ht : t.val < 22 := t.isLt
  rw [at2_lt _ _ _ (by omega) (by omega)]
  have h := (idx t).2.1
  blk_ext [iblk, V_main_arg1, h]

/-- What one point adds to the accumulator. -/
def term (X : (⟨2, ![4224, 1024]⟩ : Shape).Idx → EReal) (Y : (⟨2, ![4224, 5632]⟩ : Shape).Idx → EReal) (n : ℕ) (j : S1024x2816.Idx) : EReal :=
  ∑ q : Fin 384, at2 X (384 * (n % 11) + q.val) (j 0).val * at2 Y (384 * (n % 11) + q.val) (2816 * (n / 11) + (j 1).val)

theorem pay1_apply (j : S1024x2816.Idx) : k0_pay1 (F := Ideal) j = 0 := by
  pointwise [k0_pay1]

theorem pay2_apply (c : Dev nD) (t : Fin cfg0.N) (a : Vec Ideal S1024x2816 .f32) (j : S1024x2816.Idx) :
    k0_pay2 (F := Ideal) a (iblk m c 0 t) (iblk m c 1 t) j
      = a j + term (m ((c : Thread nD τ).loc main_arg0)) (m ((c : Thread nD τ).loc main_arg1)) t.val j := by
  idx_vars j
  pointwise [k0_pay2]
  unfold term
  simp only [blk0, blk1]
  rfl

/-- The accumulator after a point: the sum of what the points of its column block added so far. -/
theorem acc_eq (c : Dev nD) (t : Fin cfg0.N) (j : S1024x2816.Idx) :
    ((outsAt0 m c t.val t.isLt).2 : Vec Ideal S1024x2816 .f32) j = 0 + ∑ k ∈ Finset.range (t.val % 11 + 1),
      term (m ((c : Thread nD τ).loc main_arg0)) (m ((c : Thread nD τ).loc main_arg1)) (11 * (t.val / 11) + k) j := by
  refine Pipeline.eq_sum_of_reset_step_apply (fun n h => (outsAt0 m c n h).2) 11 (fun _ => 0) _ (fun t h j => ?_) (fun t h j => ?_) t j
  · rw [outsAt0_A m c t h (by omega)]
    frame_out
    rw [pay2_apply, pay1_apply]
  · by_cases h1 : t.val % 11 = 10
    · rw [outsAt0_C m c t h h1]
      frame_out
      rw [pay2_apply]
      simp only [read_unread_whole]
    · rw [outsAt0_B m c t h h1]
      frame_out
      rw [pay2_apply]
      simp only [read_unread_whole]

/-- The last point of a column block stores the accumulator. -/
theorem out_eq (c : Dev nD) (t : Fin cfg0.N) (h1 : t.val % 11 = 10) :
    ((outsAt0 m c t.val t.isLt).1 : Vec Ideal S1024x2816 .bf16) = (outsAt0 m c t.val t.isLt).2 := by
  rw [outsAt0_C m c t (by omega) h1]
  frame_out
  rfl

/-- The kernel's result array is the gradient. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 22 := t.isLt
  have hm := (flush0_2 t).mp hf
  blk_simp
  rw [after0_2, out_eq m c t hm]
  have e : (win0_2.blk t).view.emb y = ix2 (⟨(y 0).val, (y 0).isLt⟩ : Fin 1024) (⟨2816 * (t.val / 11) + (y 1).val, by have : (y 1).val < 2816 := (y 1).isLt; omega⟩ : Fin 5632) := by
    blk_ext [(idx t).2.2]
  rw [e]
  refine (acc_eq m c t y).trans ?_
  rw [hm, zero_add]
  unfold grad term
  refine Eq.trans ?_ (sum_blocks 11 384 4224 rfl fun k => at2 (m ((c : Thread nD τ).loc main_arg0)) k (y 0).val * at2 (m ((c : Thread nD τ).loc main_arg1)) k (2816 * (t.val / 11) + (y 1).val))
  refine Finset.sum_congr rfl fun s hs => ?_
  have hs' : s < 11 := Finset.mem_range.mp hs
  rw [show (11 * (t.val / 11) + s) % 11 = s by omega, show (11 * (t.val / 11) + s) / 11 = t.val / 11 by omega]

end Cert.DwUpIdeal.Tie

namespace Cert.DwUpRefIdeal.Tie

open Cert.DwUpRefIdeal Cert.DwUpRefIdeal.Gen Cert.DwUpRefIdeal.Read Idealize.ShloMosaic Idealize.ShloMosaic.TcCoe Idealize.SL.Sem Idealize.ShloMosaic.StableHlo Cert.Common

/-- The reference's term is the gradient. -/
theorem ref_eq (X : FVec Ideal S4224x1024 .bf16) (Y : FVec Ideal S4224x5632 .bf16) :
    val_main_v6 (F := Ideal) X Y = Cert.DwUpIdeal.Tie.grad X Y := by
  funext i
  idx_vars i
  pointwise [val_main_cst, val_main_v0, val_main_v1, val_main_v2, val_main_v3, val_main_v4, val_main_v5, val_main_v6]
  unfold Cert.DwUpIdeal.Tie.grad
  refine Finset.sum_congr rfl fun k _ => ?_
  refine (mul_comm _ _).trans ?_
  exact congrArg₂ (· * ·) (at2_eq X k i0).symm (at2_eq Y k i1).symm

end Cert.DwUpRefIdeal.Tie

end
-- ==== Proof.DwUpClaim.lean ====
module

public import proofs.«01_k».proof.Defs
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.DwUpValue

@[expose] public section

set_option maxRecDepth 16384

noncomputable section

namespace Cert.DwUp.Tie

open Idealize.ShloMosaic Idealize.SL.Sem

/-- The kernel ends, its arguments unchanged and its counters at zero. -/
theorem frame_p : Cert.quiescent_DwUp := fun m ρ _ => Cert.DwUp.Gen.frame m ρ

/-- So does the kernel over the extended reals. -/
theorem frame_pi : Cert.quiescent_DwUpIdeal := fun m ρ _ => Cert.DwUpIdeal.Gen.frame m ρ

/-- So does the reference. -/
theorem frame_ri : Cert.quiescent_DwUpRefIdeal := fun m ρ _ =>
  (θ_run Cert.DwUpRefIdeal.defs _ _).mono
    (fun r h => ⟨fun c => (h c).2, Idealize.ShloMosaic.sem_eq_zero_of_no_sems (by decide) r.2⟩)
    (Cert.DwUpRefIdeal.Value.run (F := Ideal) m ρ)

/-- Kernel and reference end with equal results. -/
theorem algebraic : Cert.algebraic_DwUpIdeal_DwUpRefIdeal := by
  intro m ρ m' ρ' _ hagree
  refine ⟨fun c => Cert.DwUpIdeal.Tie.grad (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1)),
    (θ_run Cert.DwUpIdeal.defs _ _).mono (fun r h c => ⟨(h c).1.trans (Cert.DwUpIdeal.Tie.final m c), (h c).2⟩)
      (Cert.DwUpIdeal.Value.run_blocks m ρ), ?_⟩
  refine (θ_run Cert.DwUpRefIdeal.defs _ _).mono (fun _ h c => ?_) (Cert.DwUpRefIdeal.Value.run (F := Ideal) m' ρ')
  obtain ⟨e0, e1⟩ := hagree c
  refine ⟨(h c).1.trans ?_, (h c).2⟩
  · refine (Cert.DwUpRefIdeal.Read.val_main_v6_eq (F := Ideal) _ _).trans ?_
    rw [e0, e1]
    exact Cert.DwUpRefIdeal.Tie.ref_eq _ _

end Cert.DwUp.Tie

end
-- ==== Proof.NormSpec.lean ====
module

public import proofs.«01_k».proof.Proof.Common

@[expose] public section

set_option maxRecDepth 16384

noncomputable section

namespace Cert.Norm.Spec

open Idealize.ShloMosaic Cert.Common

/-- The mean square of row `l`, plus the constant that keeps it away from zero. -/
def meanSq {L : ℕ} (h : (⟨2, ![L, 1024]⟩ : Shape).Idx → EReal) (l : ℕ) : EReal :=
  Ideal.div (∑ k : Fin 1024, at2 h l k.val * at2 h l k.val) (Ideal.ofBits .f32 1149239296#32) + Ideal.ofBits .f32 897988541#32

/-- Its inverse square root. -/
def invRms {L : ℕ} (h : (⟨2, ![L, 1024]⟩ : Shape).Idx → EReal) (l : ℕ) : EReal := Ideal.rsqrt (meanSq h l)

/-- Row `l` divided by the root of its mean square, and scaled. -/
def normed {L : ℕ} (h : (⟨2, ![L, 1024]⟩ : Shape).Idx → EReal) (g : Fin 1024 → EReal) (l : ℕ) (d : Fin 1024) : EReal :=
  at2 h l d.val * invRms h l * g d

/-- What the mean square passes back to every element of row `l`, for the cotangent `dy` of the normalised row. -/
def half {L : ℕ} (h : (⟨2, ![L, 1024]⟩ : Shape).Idx → EReal) (g : Fin 1024 → EReal) (dy : ℕ → Fin 1024 → EReal) (l : ℕ) : EReal :=
  Ideal.div ((∑ k : Fin 1024, at2 h l k.val * (dy l k * g k)) * (Ideal.ofBits .f32 3204448256#32 * Ideal.div (invRms h l) (meanSq h l)))
    (Ideal.ofBits .f32 1149239296#32)

/-- The gradient of the norm's input at row `l`, added to the residual stream's own cotangent. -/
def dx {L : ℕ} (h dh : (⟨2, ![L, 1024]⟩ : Shape).Idx → EReal) (g : Fin 1024 → EReal) (dy : ℕ → Fin 1024 → EReal) (l : ℕ) (d : Fin 1024) : EReal :=
  at2 dh l d.val + (dy l d * g d * invRms h l + at2 h l d.val * half h g dy l + half h g dy l * at2 h l d.val)

/-- The gradient of the norm's scale: one term for each row. -/
def dg {L : ℕ} (h : (⟨2, ![L, 1024]⟩ : Shape).Idx → EReal) (dy : ℕ → Fin 1024 → EReal) (d : Fin 1024) : EReal :=
  ∑ l : Fin L, at2 h l.val d.val * invRms h l.val * dy l.val d

end Cert.Norm.Spec
-- ==== Proof.DxValue.lean ====
module

public import proofs.«01_k».proof.Proof.Gen.DxIdeal.Value
public import proofs.«01_k».proof.Proof.Gen.DxRefIdeal.Read
public import proofs.«01_k».proof.Proof.NormSpec
public import Idealize.ShloMosaic.Lib.StableHlo.Run
public import Idealize.ShloMosaic.Lib.Pipeline.ReadBack

@[expose] public section

set_option maxRecDepth 16384

noncomputable section

namespace Cert.DxIdeal.Tie

open Cert.DxIdeal Cert.DxIdeal.Gen Idealize.ShloMosaic Idealize.ShloMosaic.TcCoe Idealize.SL.Sem Cert.Common Cert.Norm.Spec
open Idealize.ShloMosaic.Pipeline (Dat)

/-- The cotangent of the normalised row `l`: the cotangent of the product times the weight. -/
def dy (du : (⟨2, ![4224, 5632]⟩ : Shape).Idx → EReal) (w : (⟨2, ![1024, 5632]⟩ : Shape).Idx → EReal) (l : ℕ) (d : Fin 1024) : EReal :=
  ∑ k : Fin 5632, at2 du l k.val * w (ix2 d k)

/-- The gradient of the rows, as an array. -/
def gradX (du : (⟨2, ![4224, 5632]⟩ : Shape).Idx → EReal) (w : (⟨2, ![1024, 5632]⟩ : Shape).Idx → EReal) (h : (⟨2, ![4224, 1024]⟩ : Shape).Idx → EReal)
    (g : (⟨1, ![1024]⟩ : Shape).Idx → EReal) (dh : (⟨2, ![4224, 1024]⟩ : Shape).Idx → EReal) : (⟨2, ![4224, 1024]⟩ : Shape).Idx → EReal := fun i =>
  dx h dh (fun d => g (ix1 d)) (dy du w) (i 0).val (i 1)

/-- The gradient of the scale, as a row. -/
def gradG (du : (⟨2, ![4224, 5632]⟩ : Shape).Idx → EReal) (w : (⟨2, ![1024, 5632]⟩ : Shape).Idx → EReal) (h : (⟨2, ![4224, 1024]⟩ : Shape).Idx → EReal) :
    (⟨2, ![1, 1024]⟩ : Shape).Idx → EReal := fun i => dg h (dy du w) (i 1)

variable (m : (ℓ : Loc nD τ sig) → Buf (Elt Ideal) ℓ)

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := by
  revert t
  decide +kernel

/-- The five arguments as one device holds them. -/
abbrev a0 (c : Dev nD) : (⟨2, ![4224, 5632]⟩ : Shape).Idx → EReal := m ((c : Thread nD τ).loc main_arg0)
abbrev a1 (c : Dev nD) : (⟨2, ![1024, 5632]⟩ : Shape).Idx → EReal := m ((c : Thread nD τ).loc main_arg1)
abbrev a2 (c : Dev nD) : (⟨2, ![4224, 1024]⟩ : Shape).Idx → EReal := m ((c : Thread nD τ).loc main_arg2)
abbrev a3 (c : Dev nD) : (⟨1, ![1024]⟩ : Shape).Idx → EReal := m ((c : Thread nD τ).loc main_arg3)
abbrev a4 (c : Dev nD) : (⟨2, ![4224, 1024]⟩ : Shape).Idx → EReal := m ((c : Thread nD τ).loc main_arg4)

theorem V_main_v0 (c : Dev nD) : (V m c main_v0 : S1024x5632.Idx → EReal) = a1 m c := by
  unfold V
  simp only [hostOps0, List.flatten_cons, List.flatten_nil, List.append_nil, List.cons_append, List.nil_append]
  after_results
  rfl

theorem V_main_v1 (c : Dev nD) : (V m c main_v1 : S1x1024.Idx → EReal) = broadcastInDim S1x1024 ![1] bcast_S1024_S1x1024_1 (a3 m c) := by
  unfold V
  simp only [hostOps0, List.flatten_cons, List.flatten_nil, List.append_nil, List.cons_append, List.nil_append]
  after_results

theorem blk0 (c : Dev nD) (t : Fin cfg0.N) (r : Fin 384) (l : Fin 5632) :
    (iblk m c 0 t : Vec Ideal S384x5632 .bf16) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 1024) (l : Fin 5632) :
    (iblk m c 1 t : Vec Ideal S1024x5632 .bf16) (ix2 r l) = a1 m c (ix2 r l) := by
  have h := (idx t).2.1
  blk_ext [iblk, V_main_v0, h]

theorem blk2 (c : Dev nD) (t : Fin cfg0.N) (r : Fin 384) (l : Fin 1024) :
    (iblk m c 2 t : Vec Ideal S384x1024 .f32) (ix2 r l) = at2 (a2 m c) (384 * t.val + r.val) l.val := by
  have ht : t.val < 11 := t.isLt
  rw [at2_lt _ _ _ (by omega) (by omega)]
  have h := (idx t).2.2.1
  blk_ext [iblk, V_main_arg2, h]

theorem blk3 (c : Dev nD) (t : Fin cfg0.N) (z : Fin 1) (l : Fin 1024) :
    (iblk m c 3 t : Vec Ideal S1x1024 .f32) (ix2 z l) = a3 m c (ix1 l) := by
  have h := (idx t).2.2.2.1
  have e : (iblk m c 3 t : Vec Ideal S1x1024 .f32) (ix2 z l) = (V m c main_v1 : S1x1024.Idx → EReal) (ix2 z l) := by
    blk_ext [iblk, h]
  rw [e, V_main_v1]
  pointwise []

theorem blk4 (c : Dev nD) (t : Fin cfg0.N) (r : Fin 384) (l : Fin 1024) :
    (iblk m c 4 t : Vec Ideal S384x1024 .f32) (ix2 r l) = at2 (a4 m c) (384 * t.val + r.val) l.val := by
  have ht : t.val < 11 := t.isLt
  rw [at2_lt _ _ _ (by omega) (by omega)]
  have h := (idx t).2.2.2.2.1
  blk_ext [iblk, V_main_arg4, h]

theorem pay4_apply (c : Dev nD) (t : Fin cfg0.N) (r : Fin 384) (d : Fin 1024) :
    k0_pay4 (F := Ideal) (iblk m c 0 t) (iblk m c 1 t) (ix2 r d) = dy (a0 m c) (a1 m c) (384 * t.val + r.val) d := by
  pointwise [k0_pay4]
  simp only [blk0, blk1]
  rfl

theorem pay5_apply (c : Dev nD) (t : Fin cfg0.N) (r : Fin 384) (z : Fin 1) :
    k0_pay5 (F := Ideal) (iblk m c 2 t) (ix2 r z) = meanSq (a2 m c) (384 * t.val + r.val) := by
  pointwise [k0_pay5]
  simp only [blk2]
  rfl

theorem pay6_apply (c : Dev nD) (t : Fin cfg0.N) (r : Fin 384) (z : Fin 1) :
    k0_pay6 (F := Ideal) (iblk m c 2 t) (ix2 r z) = invRms (a2 m c) (384 * t.val + r.val) := by
  pointwise [k0_pay6]
  simp only [pay5_apply]
  rfl

theorem pay8_apply (c : Dev nD) (t : Fin cfg0.N) (r : Fin 384) (d : Fin 1024) :
    k0_pay8 (F := Ideal) (iblk m c 0 t) (iblk m c 1 t) (iblk m c 3 t) (ix2 r d) = dy (a0 m c) (a1 m c) (384 * t.val + r.val) d * a3 m c (ix1 d) := by
  pointwise [k0_pay8]
  simp only [pay4_apply, blk3]

theorem pay10_apply (c : Dev nD) (t : Fin cfg0.N) (r : Fin 384) (d : Fin 1024) :
    k0_pay10 (F := Ideal) (iblk m c 0 t) (iblk m c 1 t) (iblk m c 2 t) (iblk m c 3 t) (ix2 r d)
      = half (a2 m c) (fun d => a3 m c (ix1 d)) (dy (a0 m c) (a1 m c)) (384 * t.val + r.val) := by
  pointwise [k0_pay10]
  simp only [pay5_apply, pay6_apply, pay8_apply, blk2, Fin.sum_univ_one]
  rfl

/-- The row block one point stores. -/
theorem rows_apply (c : Dev nD) (t : Fin cfg0.N) (r : Fin 384) (d : Fin 1024) :
    k0_pay1 (F := Ideal) (iblk m c 2 t) (k0_pay9 (iblk m c 0 t) (iblk m c 1 t) (iblk m c 2 t) (iblk m c 3 t))
      (k0_pay10 (iblk m c 0 t) (iblk m c 1 t) (iblk m c 2 t) (iblk m c 3 t)) (iblk m c 4 t) (ix2 r d)
      = dx (a2 m c) (a4 m c) (fun d => a3 m c (ix1 d)) (dy (a0 m c) (a1 m c)) (384 * t.val + r.val) d := by
  pointwise [k0_pay1, k0_pay9]
  simp only [pay6_apply, pay8_apply, pay10_apply, blk2, blk4]
  rfl

/-- What one point adds to the gradient of the scale. -/
def term (c : Dev nD) (t : ℕ) (j : S1x1024.Idx) : EReal :=
  ∑ q : Fin 384, at2 (a2 m c) (384 * t + q.val) (j 1).val * invRms (a2 m c) (384 * t + q.val) * dy (a0 m c) (a1 m c) (384 * t + q.val) (j 1)

theorem scale_apply (c : Dev nD) (t : Fin cfg0.N) (A : Vec Ideal S1x1024 .f32) (z : Fin 1) (d : Fin 1024) :
    k0_pay2 (F := Ideal) (k0_pay7 (iblk m c 0 t) (iblk m c 1 t) (iblk m c 2 t)) A (ix2 z d) = A (ix2 z d) + term m c t.val (ix2 z d) := by
  pointwise [k0_pay2, k0_pay7]
  simp only [pay4_apply, pay6_apply, blk2]
  rfl

theorem zero_apply (j : S1x1024.Idx) : k0_pay3 (F := Ideal) j = 0 := by
  pointwise [k0_pay3]

theorem acc (c : Dev nD) (t : Fin cfg0.N) (j : S1x1024.Idx) :
    ((outsAt0 m c t.val t.isLt).2 : Vec Ideal S1x1024 .f32) j = 0 + ∑ k ∈ Finset.range (t.val % 11 + 1), term m c (11 * (t.val / 11) + k) j := by
  refine Pipeline.eq_sum_of_reset_step_apply (fun n h => (outsAt0 m c n h).2) 11 (fun _ => 0) (term m c) (fun t h j => ?_) (fun t h j => ?_) t j
  · rw [outsAt0_A m c t h]
    frame_out
    idx_vars j
    refine (scale_apply m c t _ j0 j1).trans ?_
    rw [zero_apply]
  · rw [outsAt0_B m c t h]
    frame_out
    idx_vars j
    exact scale_apply m c t _ j0 j1

/-- The array of the rows' gradient. -/
theorem final5 (c : Dev nD) : (dats m 0 c).arrAt 5 cfg0.N = gradX (a0 m c) (a1 m c) (a2 m c) (a3 m c) (a4 m c) := by
  refine (dats m 0 c).arrAt_eq_of_covers 5 _ (by decide +kernel) fun t hf y => ?_
  have ht : t.val < 11 := t.isLt
  blk_simp
  rw [after0_5]
  idx_vars y
  have e : (win0_5.blk t).view.emb (ix2 y0 y1) = ix2 (⟨384 * t.val + y0.val, by omega⟩ : Fin 4224) y1 := by
    blk_ext [(idx t).2.2.2.2.2.1]
  rw [e]
  by_cases h : t.val % 11 = 0
  · rw [outsAt0_A m c t h]
    frame_out
    exact rows_apply m c t y0 y1
  · rw [outsAt0_B m c t h]
    frame_out
    exact rows_apply m c t y0 y1

/-- The array of the scale's gradient. -/
theorem final6 (c : Dev nD) : (dats m 0 c).arrAt 6 cfg0.N = gradG (a0 m c) (a1 m c) (a2 m c) := by
  refine (dats m 0 c).arrAt_eq_of_covers 6 _ (by decide +kernel) fun t hf y => ?_
  have ht : t.val < 11 := t.isLt
  have hm := (flush0_6 t).mp hf
  blk_simp
  rw [after0_6]
  have e : (win0_6.blk t).view.emb y = y := by
    blk_ext [(idx t).2.2.2.2.2.2]
  rw [e]
  refine (acc m c t y).trans ?_
  rw [hm, zero_add]
  unfold gradG dg term
  refine Eq.trans ?_ (sum_blocks 11 384 4224 rfl fun l => at2 (a2 m c) l (y 1).val * invRms (a2 m c) l * dy (a0 m c) (a1 m c) l (y 1))
  refine Finset.sum_congr rfl fun s hs => ?_
  rw [show 11 * (t.val / 11) + s = s by omega]

end Cert.DxIdeal.Tie

namespace Cert.DxRefIdeal.Tie

open Cert.DxRefIdeal Cert.DxRefIdeal.Read Idealize.ShloMosaic Cert.Common Cert.Norm.Spec
open Cert.DxIdeal.Tie (dy gradX gradG)

variable (du : (⟨2, ![4224, 5632]⟩ : Shape).Idx → EReal) (w : (⟨2, ![1024, 5632]⟩ : Shape).Idx → EReal) (h : (⟨2, ![4224, 1024]⟩ : Shape).Idx → EReal)
  (g : (⟨1, ![1024]⟩ : Shape).Idx → EReal) (dh : (⟨2, ![4224, 1024]⟩ : Shape).Idx → EReal)

theorem dy_eq (l : Fin 4224) (d : Fin 1024) : val_main_v18 (F := Ideal) du w (ix2 l d) = dy du w l.val d := by
  unfold dy
  simp only [at2_eq]
  pointwise [val_main_v18, val_main_v17]

theorem meanSq_eq (l : Fin 4224) (z : Fin 1) : val_main_v6 (F := Ideal) h (ix2 l z) = meanSq h l.val := by
  unfold meanSq
  simp only [at2_eq]
  pointwise [val_main_v6, val_main_v5, val_main_v4, val_main_v3, val_main_v2, val_main_v1, val_main_v0, val_main_cst, val_main_cst_0, val_main_cst_1]

theorem inv_eq (l : Fin 4224) (z : Fin 1) : val_main_v7 (F := Ideal) h (ix2 l z) = invRms h l.val := by
  unfold invRms
  pointwise [val_main_v7]
  rw [meanSq_eq]

theorem scale_eq (l : Fin 4224) (z : Fin 1) :
    val_main_v10 (F := Ideal) h (ix2 l z) = Ideal.ofBits .f32 3204448256#32 * Ideal.div (invRms h l.val) (meanSq h l.val) := by
  pointwise [val_main_v10, val_main_v9, val_main_v8, val_main_cst_2]
  rw [inv_eq, meanSq_eq]

/-- The reference's gradient of the rows. -/
theorem gradX_eq : val_main_v39 (F := Ideal) du w h g dh = gradX du w h g dh := by
  funext i
  idx_vars i
  show _ = dx h dh (fun d => g (ix1 d)) (dy du w) i0.val i1
  unfold dx half
  simp only [at2_eq]
  pointwise [val_main_v39, val_main_v38, val_main_v37, val_main_v36, val_main_v35, val_main_v34, val_main_v33, val_main_v32, val_main_v31, val_main_v30,
    val_main_v29, val_main_v28, val_main_v27, val_main_v26, val_main_v25, val_main_v23, val_main_v22, val_main_v14, val_main_v13, val_main_cst_7,
    val_main_cst_6, val_main_cst_5, val_main_v11]
  simp only [dy_eq, inv_eq, scale_eq, Fin.sum_univ_one]

/-- The reference's gradient of the scale. -/
theorem gradG_eq : val_main_v40 (F := Ideal) du w h = gradG du w h := by
  funext i
  idx_vars i
  show _ = dg h (dy du w) i1
  unfold dg
  simp only [at2_eq]
  pointwise [val_main_v40, val_main_v24, val_main_v21, val_main_v20, val_main_v19, val_main_cst_4, val_main_cst_3, val_main_v12, val_main_v11]
  simp only [dy_eq, inv_eq, Fin.sum_univ_one]

end Cert.DxRefIdeal.Tie
-- ==== Proof.DxClaim.lean ====
module

public import proofs.«01_k».proof.Defs
public import proofs.«01_k».proof.Proof.Gen.Dx.Frame
public import proofs.«01_k».proof.Proof.Gen.DxIdeal.Value
public import proofs.«01_k».proof.Proof.Gen.DxRefIdeal.Run
public import proofs.«01_k».proof.Proof.Gen.DxRefIdeal.Read
public import proofs.«01_k».proof.Proof.DxValue

@[expose] public section

set_option maxRecDepth 16384

noncomputable section

namespace Cert.Dx.Tie

open Idealize.ShloMosaic Idealize.SL.Sem

/-- The kernel ends, its arguments unchanged and its counters at zero. -/
theorem frame_p : Cert.quiescent_Dx := fun m ρ _ => Cert.Dx.Gen.frame m ρ

/-- So does the kernel over the extended reals. -/
theorem frame_pi : Cert.quiescent_DxIdeal := fun m ρ _ => Cert.DxIdeal.Gen.frame m ρ

/-- So does the reference. -/
theorem frame_ri : Cert.quiescent_DxRefIdeal := fun m ρ _ =>
  (θ_run Cert.DxRefIdeal.defs _ _).mono
    (fun r h => ⟨fun c => (h c).2.2, Idealize.ShloMosaic.sem_eq_zero_of_no_sems (by decide) r.2⟩)
    (Cert.DxRefIdeal.Value.run (F := Ideal) m ρ)

/-- Kernel and reference end with equal results. -/
theorem algebraic : Cert.algebraic_DxIdeal_DxRefIdeal := by
  intro m ρ m' ρ' _ hagree
  refine ⟨fun c => Cert.DxIdeal.Tie.gradX (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)), fun c => Cert.DxIdeal.Tie.gradG (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)),
    (θ_run Cert.DxIdeal.defs _ _).mono (fun r h c => ⟨(h c).1.trans (Cert.DxIdeal.Tie.final5 m c), (h c).2.1.trans (Cert.DxIdeal.Tie.final6 m c), (h c).2.2⟩)
      (Cert.DxIdeal.Value.run_blocks m ρ), ?_⟩
  refine (θ_run Cert.DxRefIdeal.defs _ _).mono (fun _ h c => ?_) (Cert.DxRefIdeal.Value.run (F := Ideal) m' ρ')
  obtain ⟨e0, e1, e2, e3, e4⟩ := hagree c
  refine ⟨(h c).1.trans ?_, (h c).2.1.trans ?_, (h c).2.2⟩
  · refine (Cert.DxRefIdeal.Read.val_main_v39_eq (F := Ideal) m' c).trans ?_
    rw [e0, e1, e2, e3, e4]
    exact Cert.DxRefIdeal.Tie.gradX_eq _ _ _ _ _
  · refine (Cert.DxRefIdeal.Read.val_main_v40_eq (F := Ideal) _ _ _).trans ?_
    rw [e0, e1, e2]
    exact Cert.DxRefIdeal.Tie.gradG_eq _ _ _

end Cert.Dx.Tie

end
-- ==== Proof.InDxValue.lean ====
module

public import proofs.«01_k».proof.Proof.Gen.InDxIdeal.Value
public import proofs.«01_k».proof.Proof.Gen.InDxRefIdeal.Read
public import proofs.«01_k».proof.Proof.NormSpec
public import Idealize.ShloMosaic.Lib.StableHlo.Run
public import Idealize.ShloMosaic.Lib.Pipeline.ReadBack

@[expose] public section

set_option maxRecDepth 16384

noncomputable section

namespace Cert.InDxIdeal.Tie

open Cert.InDxIdeal Cert.InDxIdeal.Gen Idealize.ShloMosaic Idealize.ShloMosaic.TcCoe Idealize.SL.Sem Cert.Common Cert.Norm.Spec
open Idealize.ShloMosaic.Pipeline (Dat)

/-- The cotangent of the product: the gates' columns first, then the others'. -/
def dproj (dg : (⟨2, ![4224, 3072]⟩ : Shape).Idx → EReal) (dr : (⟨2, ![4224, 2816]⟩ : Shape).Idx → EReal) (l k : ℕ) : EReal :=
  if k < 3072 then at2 dg l k else at2 dr l (k - 3072)

/-- The cotangent of the normalised row `l`: the cotangent of the product times the weight. -/
def dy (dg : (⟨2, ![4224, 3072]⟩ : Shape).Idx → EReal) (dr : (⟨2, ![4224, 2816]⟩ : Shape).Idx → EReal) (w : (⟨2, ![1024, 5888]⟩ : Shape).Idx → EReal)
    (l : ℕ) (d : Fin 1024) : EReal :=
  ∑ k : Fin 5888, dproj dg dr l k.val * w (ix2 d k)

/-- A sum over all columns is a sum over the gates' and a sum over the others'. -/
theorem sum_split (f : ℕ → EReal) : ∑ k : Fin 5888, f k.val = ∑ k : Fin 3072, f k.val + ∑ k : Fin 2816, f (3072 + k.val) := by
  rw [Fin.sum_univ_eq_sum_range f 5888, show (5888 : ℕ) = 3072 + 2816 from rfl, Finset.sum_range_add, ← Fin.sum_univ_eq_sum_range f 3072,
    ← Fin.sum_univ_eq_sum_range (fun n : ℕ => f (3072 + n)) 2816]

/-- The two parts of the sum, each over its own cotangent. -/
theorem dy_split (dg : (⟨2, ![4224, 3072]⟩ : Shape).Idx → EReal) (dr : (⟨2, ![4224, 2816]⟩ : Shape).Idx → EReal) (w : (⟨2, ![1024, 5888]⟩ : Shape).Idx → EReal)
    (l : ℕ) (d : Fin 1024) :
    dy dg dr w l d = ∑ k : Fin 3072, at2 dg l k.val * at2 w d.val k.val + ∑ k : Fin 2816, at2 dr l k.val * at2 w d.val (3072 + k.val) := by
  have e : dy dg dr w l d = ∑ k : Fin 5888, (fun n : ℕ => dproj dg dr l n * at2 w d.val n) k.val := by
    unfold dy
    refine Finset.sum_congr rfl fun k _ => ?_
    show _ = dproj dg dr l k.val * at2 w d.val k.val
    rw [at2_eq w d k]
  rw [e, sum_split fun n : ℕ => dproj dg dr l n * at2 w d.val n]
  refine congrArg₂ (· + ·) (Finset.sum_congr rfl fun k _ => ?_) (Finset.sum_congr rfl fun k _ => ?_)
  · show dproj dg dr l k.val * _ = _
    unfold dproj
    rw [if_pos (by omega)]
  · show dproj dg dr l (3072 + k.val) * _ = _
    unfold dproj
    rw [if_neg (by omega), Nat.add_sub_cancel_left]

/-- The gradient of the rows, as an array. -/
def gradX (dg : (⟨2, ![4224, 3072]⟩ : Shape).Idx → EReal) (dr : (⟨2, ![4224, 2816]⟩ : Shape).Idx → EReal) (w : (⟨2, ![1024, 5888]⟩ : Shape).Idx → EReal)
    (h : (⟨2, ![4224, 1024]⟩ : Shape).Idx → EReal)
    (g : (⟨1, ![1024]⟩ : Shape).Idx → EReal) (dh : (⟨2, ![4224, 1024]⟩ : Shape).Idx → EReal) : (⟨2, ![4224, 1024]⟩ : Shape).Idx → EReal := fun i =>
  dx h dh (fun d => g (ix1 d)) (dy dg dr w) (i 0).val (i 1)

/-- The gradient of the scale, as a row. -/
def gradG (dg : (⟨2, ![4224, 3072]⟩ : Shape).Idx → EReal) (dr : (⟨2, ![4224, 2816]⟩ : Shape).Idx → EReal) (w : (⟨2, ![1024, 5888]⟩ : Shape).Idx → EReal)
    (h : (⟨2, ![4224, 1024]⟩ : Shape).Idx → EReal) :
    (⟨2, ![1, 1024]⟩ : Shape).Idx → EReal := fun i => Cert.Norm.Spec.dg h (dy dg dr w) (i 1)

variable (m : (ℓ : Loc nD τ sig) → Buf (Elt Ideal) ℓ)

theorem idx (t : Fin cfg0.N) : win0_0.index t = ![t.val, 0] ∧ win0_1.index t = ![t.val, 0] ∧ win0_2.index t = ![0, 0] ∧ win0_3.index t = ![t.val, 0] ∧ win0_4.index t = ![0, 0]
    ∧ win0_5.index t = ![t.val, 0] ∧ win0_6.index t = ![t.val, 0] ∧ win0_7.index t = ![0, 0] := by
  revert t
  decide +kernel

/-- The six arguments as one device holds them. -/
abbrev a0 (c : Dev nD) : (⟨2, ![4224, 3072]⟩ : Shape).Idx → EReal := m ((c : Thread nD τ).loc main_arg0)
abbrev a1 (c : Dev nD) : (⟨2, ![4224, 2816]⟩ : Shape).Idx → EReal := m ((c : Thread nD τ).loc main_arg1)
abbrev a2 (c : Dev nD) : (⟨2, ![1024, 5888]⟩ : Shape).Idx → EReal := m ((c : Thread nD τ).loc main_arg2)
abbrev a3 (c : Dev nD) : (⟨2, ![4224, 1024]⟩ : Shape).Idx → EReal := m ((c : Thread nD τ).loc main_arg3)
abbrev a4 (c : Dev nD) : (⟨1, ![1024]⟩ : Shape).Idx → EReal := m ((c : Thread nD τ).loc main_arg4)
abbrev a5 (c : Dev nD) : (⟨2, ![4224, 1024]⟩ : Shape).Idx → EReal := m ((c : Thread nD τ).loc main_arg5)

theorem V_main_v0 (c : Dev nD) : (V m c main_v0 : S1024x5888.Idx → EReal) = a2 m c := by
  unfold V
  simp only [hostOps0, List.flatten_cons, List.flatten_nil, List.append_nil, List.cons_append, List.nil_append]
  after_results
  rfl

theorem V_main_v1 (c : Dev nD) : (V m c main_v1 : S1x1024.Idx → EReal) = broadcastInDim S1x1024 ![1] bcast_S1024_S1x1024_1 (a4 m c) := by
  unfold V
  simp only [hostOps0, List.flatten_cons, List.flatten_nil, List.append_nil, List.cons_append, List.nil_append]
  after_results

theorem blk0 (c : Dev nD) (t : Fin cfg0.N) (r : Fin 384) (l : Fin 3072) :
    (iblk m c 0 t : Vec Ideal S384x3072 .bf16) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 2816) :
    (iblk m c 1 t : Vec Ideal S384x2816 .bf16) (ix2 r l) = at2 (a1 m c) (384 * t.val + r.val) l.val := by
  have ht : t.val < 11 := t.isLt
  rw [at2_lt _ _ _ (by omega) (by omega)]
  have h := (idx t).2.1
  blk_ext [iblk, V_main_arg1, h]

theorem blk2 (c : Dev nD) (t : Fin cfg0.N) (r : Fin 1024) (l : Fin 5888) :
    (iblk m c 2 t : Vec Ideal S1024x5888 .bf16) (ix2 r l) = a2 m c (ix2 r l) := by
  have h := (idx t).2.2.1
  blk_ext [iblk, V_main_v0, h]

theorem blk3 (c : Dev nD) (t : Fin cfg0.N) (r : Fin 384) (l : Fin 1024) :
    (iblk m c 3 t : Vec Ideal S384x1024 .f32) (ix2 r l) = at2 (a3 m c) (384 * t.val + r.val) l.val := by
  have ht : t.val < 11 := t.isLt
  rw [at2_lt _ _ _ (by omega) (by omega)]
  have h := (idx t).2.2.2.1
  blk_ext [iblk, V_main_arg3, h]

theorem blk4 (c : Dev nD) (t : Fin cfg0.N) (z : Fin 1) (l : Fin 1024) :
    (iblk m c 4 t : Vec Ideal S1x1024 .f32) (ix2 z l) = a4 m c (ix1 l) := by
  have h := (idx t).2.2.2.2.1
  have e : (iblk m c 4 t : Vec Ideal S1x1024 .f32) (ix2 z l) = (V m c main_v1 : S1x1024.Idx → EReal) (ix2 z l) := by
    blk_ext [iblk, h]
  rw [e, V_main_v1]
  pointwise []

theorem blk5 (c : Dev nD) (t : Fin cfg0.N) (r : Fin 384) (l : Fin 1024) :
    (iblk m c 5 t : Vec Ideal S384x1024 .f32) (ix2 r l) = at2 (a5 m c) (384 * t.val + r.val) l.val := by
  have ht : t.val < 11 := t.isLt
  rw [at2_lt _ _ _ (by omega) (by omega)]
  have h := (idx t).2.2.2.2.2.1
  blk_ext [iblk, V_main_arg5, h]

/-- The columns of the weight that the gates meet, and those that the others meet. -/
abbrev wGates (c : Dev nD) (t : Fin cfg0.N) : Vec Ideal S1024x3072 .bf16 :=
  View.ld (iblk m c 2 t) (Rect.unit ![0, 0] ![1024, 3072] inb_S1024x5888_S1024x3072_0_0)
abbrev wOther (c : Dev nD) (t : Fin cfg0.N) : Vec Ideal S1024x2816 .bf16 :=
  View.ld (iblk m c 2 t) (Rect.unit ![0, 3072] ![1024, 2816] inb_S1024x5888_S1024x2816_0_3072)

theorem wGates_apply (c : Dev nD) (t : Fin cfg0.N) (r : Fin 1024) (k : Fin 3072) : wGates m c t (ix2 r k) = at2 (a2 m c) r.val k.val := by
  rw [at2_lt _ _ _ (by omega) (by omega)]
  unfold wGates
  pointwise []
  rw [blk2]

theorem wOther_apply (c : Dev nD) (t : Fin cfg0.N) (r : Fin 1024) (k : Fin 2816) : wOther m c t (ix2 r k) = at2 (a2 m c) r.val (3072 + k.val) := by
  rw [at2_lt _ _ _ (by omega) (by omega)]
  unfold wOther
  pointwise []
  rw [blk2]

theorem pay4_apply (c : Dev nD) (t : Fin cfg0.N) (r : Fin 384) (d : Fin 1024) :
    k0_pay4 (F := Ideal) (iblk m c 0 t) (wGates m c t) (iblk m c 1 t) (wOther m c t) (ix2 r d) = dy (a0 m c) (a1 m c) (a2 m c) (384 * t.val + r.val) d := by
  rw [dy_split]
  generalize hg : wGates m c t = WG
  generalize ho : wOther m c t = WO
  pointwise [k0_pay4]
  simp only [← hg, ← ho, wGates_apply, wOther_apply, blk0, blk1]

theorem pay5_apply (c : Dev nD) (t : Fin cfg0.N) (r : Fin 384) (z : Fin 1) :
    k0_pay5 (F := Ideal) (iblk m c 3 t) (ix2 r z) = meanSq (a3 m c) (384 * t.val + r.val) := by
  pointwise [k0_pay5]
  simp only [blk3]
  rfl

theorem pay6_apply (c : Dev nD) (t : Fin cfg0.N) (r : Fin 384) (z : Fin 1) :
    k0_pay6 (F := Ideal) (iblk m c 3 t) (ix2 r z) = invRms (a3 m c) (384 * t.val + r.val) := by
  pointwise [k0_pay6]
  simp only [pay5_apply]
  rfl

theorem pay7_apply (c : Dev nD) (t : Fin cfg0.N) (r : Fin 384) (z : Fin 1) :
    k0_pay7 (F := Ideal) (iblk m c 3 t) (ix2 r z)
      = Ideal.ofBits .f32 3204448256#32 * Ideal.div (invRms (a3 m c) (384 * t.val + r.val)) (meanSq (a3 m c) (384 * t.val + r.val)) := by
  pointwise [k0_pay7]
  simp only [pay5_apply, pay6_apply]

theorem pay9_apply (c : Dev nD) (t : Fin cfg0.N) (r : Fin 384) (d : Fin 1024) :
    k0_pay9 (F := Ideal) (iblk m c 0 t) (wGates m c t) (iblk m c 1 t) (wOther m c t) (iblk m c 4 t) (ix2 r d) = dy (a0 m c) (a1 m c) (a2 m c) (384 * t.val + r.val) d * a4 m c (ix1 d) := by
  pointwise [k0_pay9]
  simp only [pay4_apply, blk4]

/-- The inner product of the row with its scaled cotangent. -/
theorem pay10_apply (c : Dev nD) (t : Fin cfg0.N) (r : Fin 384) (z : Fin 1) :
    k0_pay10 (F := Ideal) (iblk m c 0 t) (wGates m c t) (iblk m c 1 t) (wOther m c t) (iblk m c 3 t) (iblk m c 4 t) (ix2 r z)
      = ∑ k : Fin 1024, at2 (a3 m c) (384 * t.val + r.val) k.val * (dy (a0 m c) (a1 m c) (a2 m c) (384 * t.val + r.val) k * a4 m c (ix1 k)) := by
  pointwise [k0_pay10]
  simp only [pay9_apply, blk3]

/-- The row block one point stores. -/
theorem rows_apply (c : Dev nD) (t : Fin cfg0.N) (r : Fin 384) (d : Fin 1024) :
    k0_pay1 (F := Ideal) (iblk m c 3 t) (k0_pay6 (iblk m c 3 t)) (k0_pay7 (iblk m c 3 t)) (k0_pay9 (iblk m c 0 t) (wGates m c t) (iblk m c 1 t) (wOther m c t) (iblk m c 4 t))
      (k0_pay10 (iblk m c 0 t) (wGates m c t) (iblk m c 1 t) (wOther m c t) (iblk m c 3 t) (iblk m c 4 t)) (iblk m c 5 t) (ix2 r d)
      = dx (a3 m c) (a5 m c) (fun d => a4 m c (ix1 d)) (dy (a0 m c) (a1 m c) (a2 m c)) (384 * t.val + r.val) d := by
  pointwise [k0_pay1]
  simp only [pay6_apply, pay7_apply, pay9_apply, pay10_apply, blk3, blk5, Fin.sum_univ_one]
  rfl

/-- What one point adds to the gradient of the scale. -/
def term (c : Dev nD) (t : ℕ) (j : S1x1024.Idx) : EReal :=
  ∑ q : Fin 384, at2 (a3 m c) (384 * t + q.val) (j 1).val * invRms (a3 m c) (384 * t + q.val) * dy (a0 m c) (a1 m c) (a2 m c) (384 * t + q.val) (j 1)

theorem scale_apply (c : Dev nD) (t : Fin cfg0.N) (A : Vec Ideal S1x1024 .f32) (z : Fin 1) (d : Fin 1024) :
    k0_pay2 (F := Ideal) (k0_pay8 (iblk m c 0 t) (wGates m c t) (iblk m c 1 t) (wOther m c t) (iblk m c 3 t)) A (ix2 z d) = A (ix2 z d) + term m c t.val (ix2 z d) := by
  pointwise [k0_pay2, k0_pay8]
  simp only [pay4_apply, pay6_apply, blk3]
  rfl

theorem zero_apply (j : S1x1024.Idx) : k0_pay3 (F := Ideal) j = 0 := by
  pointwise [k0_pay3]

theorem acc (c : Dev nD) (t : Fin cfg0.N) (j : S1x1024.Idx) :
    ((outsAt0 m c t.val t.isLt).2 : Vec Ideal S1x1024 .f32) j = 0 + ∑ k ∈ Finset.range (t.val % 11 + 1), term m c (11 * (t.val / 11) + k) j := by
  refine Pipeline.eq_sum_of_reset_step_apply (fun n h => (outsAt0 m c n h).2) 11 (fun _ => 0) (term m c) (fun t h j => ?_) (fun t h j => ?_) t j
  · rw [outsAt0_A m c t h]
    frame_out
    idx_vars j
    refine (scale_apply m c t _ j0 j1).trans ?_
    rw [zero_apply]
  · rw [outsAt0_B m c t h]
    frame_out
    idx_vars j
    exact scale_apply m c t _ j0 j1

/-- The array of the rows' gradient. -/
theorem final6 (c : Dev nD) : (dats m 0 c).arrAt 6 cfg0.N = gradX (a0 m c) (a1 m c) (a2 m c) (a3 m c) (a4 m c) (a5 m c) := by
  refine (dats m 0 c).arrAt_eq_of_covers 6 _ (by decide +kernel) fun t hf y => ?_
  have ht : t.val < 11 := t.isLt
  blk_simp
  rw [after0_6]
  idx_vars y
  have e : (win0_6.blk t).view.emb (ix2 y0 y1) = ix2 (⟨384 * t.val + y0.val, by omega⟩ : Fin 4224) y1 := by
    blk_ext [(idx t).2.2.2.2.2.2.1]
  rw [e]
  by_cases h : t.val % 11 = 0
  · rw [outsAt0_A m c t h]
    frame_out
    exact rows_apply m c t y0 y1
  · rw [outsAt0_B m c t h]
    frame_out
    exact rows_apply m c t y0 y1

/-- The array of the scale's gradient. -/
theorem final7 (c : Dev nD) : (dats m 0 c).arrAt 7 cfg0.N = gradG (a0 m c) (a1 m c) (a2 m c) (a3 m c) := by
  refine (dats m 0 c).arrAt_eq_of_covers 7 _ (by decide +kernel) fun t hf y => ?_
  have ht : t.val < 11 := t.isLt
  have hm := (flush0_7 t).mp hf
  blk_simp
  rw [after0_7]
  have e : (win0_7.blk t).view.emb y = y := by
    blk_ext [(idx t).2.2.2.2.2.2.2]
  rw [e]
  refine (acc m c t y).trans ?_
  rw [hm, zero_add]
  unfold gradG Cert.Norm.Spec.dg term
  refine Eq.trans ?_ (sum_blocks 11 384 4224 rfl fun l => at2 (a3 m c) l (y 1).val * invRms (a3 m c) l * dy (a0 m c) (a1 m c) (a2 m c) l (y 1))
  refine Finset.sum_congr rfl fun s hs => ?_
  rw [show 11 * (t.val / 11) + s = s by omega]

end Cert.InDxIdeal.Tie

namespace Cert.InDxRefIdeal.Tie

open Cert.InDxRefIdeal Cert.InDxRefIdeal.Read Idealize.ShloMosaic Cert.Common Cert.Norm.Spec
open Cert.InDxIdeal.Tie (dproj dy gradX gradG)

variable (dg : (⟨2, ![4224, 3072]⟩ : Shape).Idx → EReal) (dr : (⟨2, ![4224, 2816]⟩ : Shape).Idx → EReal) (w : (⟨2, ![1024, 5888]⟩ : Shape).Idx → EReal)
    (h : (⟨2, ![4224, 1024]⟩ : Shape).Idx → EReal)
  (g : (⟨1, ![1024]⟩ : Shape).Idx → EReal) (dh : (⟨2, ![4224, 1024]⟩ : Shape).Idx → EReal)

theorem dproj_eq (l : Fin 4224) (k : Fin 5888) : val_main_v1 (F := Ideal) dg dr (ix2 l k) = dproj dg dr l.val k.val := by
  unfold dproj
  by_cases hk : k.val < 3072
  · rw [if_pos hk, at2_lt _ _ _ l.isLt hk]
    pointwise [val_main_v1, val_main_v0]
    rw [dif_pos hk]
  · rw [if_neg hk, at2_lt _ _ _ l.isLt (by omega)]
    pointwise [val_main_v1, val_main_v0]
    rw [dif_neg hk]

theorem dy_eq (l : Fin 4224) (d : Fin 1024) : val_main_v19 (F := Ideal) dg dr w (ix2 l d) = dy dg dr w l.val d := by
  unfold dy
  pointwise [val_main_v19]
  simp only [dproj_eq]

theorem meanSq_eq (l : Fin 4224) (z : Fin 1) : val_main_v8 (F := Ideal) h (ix2 l z) = meanSq h l.val := by
  unfold meanSq
  simp only [at2_eq]
  pointwise [val_main_v8, val_main_v7, val_main_v6, val_main_v5, val_main_v4, val_main_v3, val_main_v2, val_main_cst, val_main_cst_0, val_main_cst_1]

theorem inv_eq (l : Fin 4224) (z : Fin 1) : val_main_v9 (F := Ideal) h (ix2 l z) = invRms h l.val := by
  unfold invRms
  pointwise [val_main_v9]
  rw [meanSq_eq]

theorem scale_eq (l : Fin 4224) (z : Fin 1) :
    val_main_v12 (F := Ideal) h (ix2 l z) = Ideal.ofBits .f32 3204448256#32 * Ideal.div (invRms h l.val) (meanSq h l.val) := by
  pointwise [val_main_v12, val_main_v11, val_main_v10, val_main_cst_2]
  rw [inv_eq, meanSq_eq]

/-- The reference's gradient of the rows. -/
theorem gradX_eq : val_main_v40 (F := Ideal) dg dr w h g dh = gradX dg dr w h g dh := by
  funext i
  idx_vars i
  show _ = dx h dh (fun d => g (ix1 d)) (dy dg dr w) i0.val i1
  unfold dx half
  simp only [at2_eq]
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v15, val_main_cst_7, val_main_cst_6,
    val_main_cst_5]
  simp only [dy_eq, inv_eq, scale_eq, Fin.sum_univ_one]

/-- The reference's gradient of the scale. -/
theorem gradG_eq : val_main_v41 (F := Ideal) dg dr w h = gradG dg dr w h := by
  funext i
  idx_vars i
  show _ = Cert.Norm.Spec.dg h (dy dg dr w) i1
  unfold Cert.Norm.Spec.dg
  simp only [at2_eq]
  pointwise [val_main_v41, val_main_v25, val_main_v22, val_main_v21, val_main_v20, val_main_cst_4, val_main_cst_3, val_main_v14, val_main_v13]
  simp only [dy_eq, inv_eq, Fin.sum_univ_one]

end Cert.InDxRefIdeal.Tie

end
-- ==== Proof.InDxClaim.lean ====
module

public import proofs.«01_k».proof.Defs
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.InDxValue

@[expose] public section

set_option maxRecDepth 16384

noncomputable section

namespace Cert.InDx.Tie

open Idealize.ShloMosaic Idealize.SL.Sem

/-- The kernel ends, its arguments unchanged and its counters at zero. -/
theorem frame_p : Cert.quiescent_InDx := fun m ρ _ => Cert.InDx.Gen.frame m ρ

/-- So does the kernel over the extended reals. -/
theorem frame_pi : Cert.quiescent_InDxIdeal := fun m ρ _ => Cert.InDxIdeal.Gen.frame m ρ

/-- So does the reference. -/
theorem frame_ri : Cert.quiescent_InDxRefIdeal := fun m ρ _ =>
  (θ_run Cert.InDxRefIdeal.defs _ _).mono
    (fun r h => ⟨fun c => (h c).2.2, Idealize.ShloMosaic.sem_eq_zero_of_no_sems (by decide) r.2⟩)
    (Cert.InDxRefIdeal.Value.run (F := Ideal) m ρ)

/-- Kernel and reference end with equal results. -/
theorem algebraic : Cert.algebraic_InDxIdeal_InDxRefIdeal := by
  intro m ρ m' ρ' _ hagree
  refine ⟨fun c => Cert.InDxIdeal.Tie.gradX (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)), fun c => Cert.InDxIdeal.Tie.gradG (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)),
    (θ_run Cert.InDxIdeal.defs _ _).mono (fun r h c => ⟨(h c).1.trans (Cert.InDxIdeal.Tie.final6 m c), (h c).2.1.trans (Cert.InDxIdeal.Tie.final7 m c), (h c).2.2⟩)
      (Cert.InDxIdeal.Value.run_blocks m ρ), ?_⟩
  refine (θ_run Cert.InDxRefIdeal.defs _ _).mono (fun _ h c => ?_) (Cert.InDxRefIdeal.Value.run (F := Ideal) m' ρ')
  obtain ⟨e0, e1, e2, e3, e4, e5⟩ := hagree c
  refine ⟨(h c).1.trans ?_, (h c).2.1.trans ?_, (h c).2.2⟩
  · refine (Cert.InDxRefIdeal.Read.val_main_v40_eq (F := Ideal) m' c).trans ?_
    rw [e0, e1, e2, e3, e4, e5]
    exact Cert.InDxRefIdeal.Tie.gradX_eq _ _ _ _ _ _
  · refine (Cert.InDxRefIdeal.Read.val_main_v41_eq (F := Ideal) _ _ _ _).trans ?_
    rw [e0, e1, e2, e3]
    exact Cert.InDxRefIdeal.Tie.gradG_eq _ _ _ _

end Cert.InDx.Tie

end
-- ==== Proof.InDwGatesValue.lean ====
module

public import proofs.«01_k».proof.Proof.Gen.InDwGatesIdeal.Value
public import proofs.«01_k».proof.Proof.Gen.InDwGatesRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.InDwGatesIdeal.Tie

open Cert.InDwGatesIdeal Cert.InDwGatesIdeal.Gen Idealize.ShloMosaic Idealize.ShloMosaic.TcCoe Idealize.SL.Sem Cert.Common
open Idealize.ShloMosaic.Pipeline (Dat)

/-- The gradient of a product's weight: the input's columns against the cotangent's columns, summed over the rows. -/
def grad (X : (⟨2, ![4224, 1024]⟩ : Shape).Idx → EReal) (Y : (⟨2, ![4224, 3072]⟩ : Shape).Idx → EReal) :
    (⟨2, ![1024, 3072]⟩ : Shape).Idx → EReal := fun i => ∑ k : Fin 4224, at2 X k.val (i 0).val * at2 Y k.val (i 1).val

variable (m : (ℓ : Loc nD τ sig) → Buf (Elt Ideal) ℓ)

/-- The windows' blocks: both operands move down with the point within a column block; the result's block is the column block. -/
theorem idx (t : Fin cfg0.N) : win0_0.index t = ![t.val % 11, 0] ∧ win0_1.index t = ![t.val % 11, t.val / 11] ∧ win0_2.index t = ![0, t.val / 11] := by
  revert t
  decide +kernel

theorem blk0 (c : Dev nD) (t : Fin cfg0.N) (r : Fin 384) (l : Fin 1024) :
    (iblk m c 0 t : Vec Ideal S384x1024 .bf16) (ix2 r l) = at2 (m ((c : Thread nD τ).loc main_arg0)) (384 * (t.val % 11) + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 3072) :
    (iblk m c 1 t : Vec Ideal S384x3072 .bf16) (ix2 r l) = at2 (m ((c : Thread nD τ).loc main_arg1)) (384 * (t.val % 11) + r.val) (3072 * (t.val / 11) + l.val) := by
  have ht : t.val < 11 := t.isLt
  rw [at2_lt _ _ _ (by omega) (by omega)]
  have h := (idx t).2.1
  blk_ext [iblk, V_main_arg1, h]

/-- What one point adds to the accumulator. -/
def term (X : (⟨2, ![4224, 1024]⟩ : Shape).Idx → EReal) (Y : (⟨2, ![4224, 3072]⟩ : Shape).Idx → EReal) (n : ℕ) (j : S1024x3072.Idx) : EReal :=
  ∑ q : Fin 384, at2 X (384 * (n % 11) + q.val) (j 0).val * at2 Y (384 * (n % 11) + q.val) (3072 * (n / 11) + (j 1).val)

theorem pay1_apply (j : S1024x3072.Idx) : k0_pay1 (F := Ideal) j = 0 := by
  pointwise [k0_pay1]

theorem pay2_apply (c : Dev nD) (t : Fin cfg0.N) (a : Vec Ideal S1024x3072 .f32) (j : S1024x3072.Idx) :
    k0_pay2 (F := Ideal) a (iblk m c 0 t) (iblk m c 1 t) j
      = a j + term (m ((c : Thread nD τ).loc main_arg0)) (m ((c : Thread nD τ).loc main_arg1)) t.val j := by
  idx_vars j
  pointwise [k0_pay2]
  unfold term
  simp only [blk0, blk1]
  rfl

/-- The accumulator after a point: the sum of what the points of its column block added so far. -/
theorem acc_eq (c : Dev nD) (t : Fin cfg0.N) (j : S1024x3072.Idx) :
    ((outsAt0 m c t.val t.isLt).2 : Vec Ideal S1024x3072 .f32) j = 0 + ∑ k ∈ Finset.range (t.val % 11 + 1),
      term (m ((c : Thread nD τ).loc main_arg0)) (m ((c : Thread nD τ).loc main_arg1)) (11 * (t.val / 11) + k) j := by
  refine Pipeline.eq_sum_of_reset_step_apply (fun n h => (outsAt0 m c n h).2) 11 (fun _ => 0) _ (fun t h j => ?_) (fun t h j => ?_) t j
  · rw [outsAt0_A m c t h (by omega)]
    frame_out
    rw [pay2_apply, pay1_apply]
  · by_cases h1 : t.val % 11 = 10
    · rw [outsAt0_C m c t h h1]
      frame_out
      rw [pay2_apply]
      simp only [read_unread_whole]
    · rw [outsAt0_B m c t h h1]
      frame_out
      rw [pay2_apply]
      simp only [read_unread_whole]

/-- The last point of a column block stores the accumulator. -/
theorem out_eq (c : Dev nD) (t : Fin cfg0.N) (h1 : t.val % 11 = 10) :
    ((outsAt0 m c t.val t.isLt).1 : Vec Ideal S1024x3072 .bf16) = (outsAt0 m c t.val t.isLt).2 := by
  rw [outsAt0_C m c t (by omega) h1]
  frame_out
  rfl

/-- The kernel's result array is the gradient. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 11 := t.isLt
  have hm := (flush0_2 t).mp hf
  blk_simp
  rw [after0_2, out_eq m c t hm]
  have e : (win0_2.blk t).view.emb y = ix2 (⟨(y 0).val, (y 0).isLt⟩ : Fin 1024) (⟨3072 * (t.val / 11) + (y 1).val, by have : (y 1).val < 3072 := (y 1).isLt; omega⟩ : Fin 3072) := by
    blk_ext [(idx t).2.2]
  rw [e]
  refine (acc_eq m c t y).trans ?_
  rw [hm, zero_add]
  unfold grad term
  refine Eq.trans ?_ (sum_blocks 11 384 4224 rfl fun k => at2 (m ((c : Thread nD τ).loc main_arg0)) k (y 0).val * at2 (m ((c : Thread nD τ).loc main_arg1)) k (3072 * (t.val / 11) + (y 1).val))
  refine Finset.sum_congr rfl fun s hs => ?_
  have hs' : s < 11 := Finset.mem_range.mp hs
  rw [show (11 * (t.val / 11) + s) % 11 = s by omega, show (11 * (t.val / 11) + s) / 11 = t.val / 11 by omega]

end Cert.InDwGatesIdeal.Tie

namespace Cert.InDwGatesRefIdeal.Tie

open Cert.InDwGatesRefIdeal Cert.InDwGatesRefIdeal.Gen Cert.InDwGatesRefIdeal.Read Idealize.ShloMosaic Idealize.ShloMosaic.TcCoe Idealize.SL.Sem Idealize.ShloMosaic.StableHlo Cert.Common

/-- The reference's term is the gradient. -/
theorem ref_eq (X : FVec Ideal S4224x1024 .bf16) (Y : FVec Ideal S4224x3072 .bf16) :
    val_main_v6 (F := Ideal) X Y = Cert.InDwGatesIdeal.Tie.grad X Y := by
  funext i
  idx_vars i
  pointwise [val_main_cst, val_main_v0, val_main_v1, val_main_v2, val_main_v3, val_main_v4, val_main_v5, val_main_v6]
  unfold Cert.InDwGatesIdeal.Tie.grad
  refine Finset.sum_congr rfl fun k _ => ?_
  refine (mul_comm _ _).trans ?_
  exact congrArg₂ (· * ·) (at2_eq X k i0).symm (at2_eq Y k i1).symm

end Cert.InDwGatesRefIdeal.Tie

end
-- ==== Proof.InDwGatesClaim.lean ====
module

public import proofs.«01_k».proof.Defs
public import proofs.«01_k».proof.Proof.Gen.InDwGates.Frame
public import proofs.«01_k».proof.Proof.Gen.InDwGatesIdeal.Value
public import proofs.«01_k».proof.Proof.Gen.InDwGatesRefIdeal.Run
public import proofs.«01_k».proof.Proof.Gen.InDwGatesRefIdeal.Read
public import proofs.«01_k».proof.Proof.InDwGatesValue

@[expose] public section

set_option maxRecDepth 16384

noncomputable section

namespace Cert.InDwGates.Tie

open Idealize.ShloMosaic Idealize.SL.Sem

/-- The kernel ends, its arguments unchanged and its counters at zero. -/
theorem frame_p : Cert.quiescent_InDwGates := fun m ρ _ => Cert.InDwGates.Gen.frame m ρ

/-- So does the kernel over the extended reals. -/
theorem frame_pi : Cert.quiescent_InDwGatesIdeal := fun m ρ _ => Cert.InDwGatesIdeal.Gen.frame m ρ

/-- So does the reference. -/
theorem frame_ri : Cert.quiescent_InDwGatesRefIdeal := fun m ρ _ =>
  (θ_run Cert.InDwGatesRefIdeal.defs _ _).mono
    (fun r h => ⟨fun c => (h c).2, Idealize.ShloMosaic.sem_eq_zero_of_no_sems (by decide) r.2⟩)
    (Cert.InDwGatesRefIdeal.Value.run (F := Ideal) m ρ)

/-- Kernel and reference end with equal results. -/
theorem algebraic : Cert.algebraic_InDwGatesIdeal_InDwGatesRefIdeal := by
  intro m ρ m' ρ' _ hagree
  refine ⟨fun c => Cert.InDwGatesIdeal.Tie.grad (m ((c.tc : Thread Cert.InDwGatesIdeal.nD Cert.InDwGatesIdeal.τ).loc Cert.InDwGatesIdeal.main_arg0)) (m ((c.tc : Thread Cert.InDwGatesIdeal.nD Cert.InDwGatesIdeal.τ).loc Cert.InDwGatesIdeal.main_arg1)),
    (θ_run Cert.InDwGatesIdeal.defs _ _).mono (fun r h c => ⟨(h c).1.trans (Cert.InDwGatesIdeal.Tie.final m c), (h c).2⟩)
      (Cert.InDwGatesIdeal.Value.run_blocks m ρ), ?_⟩
  refine (θ_run Cert.InDwGatesRefIdeal.defs _ _).mono (fun _ h c => ?_) (Cert.InDwGatesRefIdeal.Value.run (F := Ideal) m' ρ')
  obtain ⟨e0, e1⟩ := hagree c
  refine ⟨(h c).1.trans ?_, (h c).2⟩
  · refine (Cert.InDwGatesRefIdeal.Read.val_main_v6_eq (F := Ideal) _ _).trans ?_
    rw [e0, e1]
    exact Cert.InDwGatesRefIdeal.Tie.ref_eq _ _

end Cert.InDwGates.Tie

end
-- ==== Proof.InDwOtherValue.lean ====
module

public import proofs.«01_k».proof.Proof.Gen.InDwOtherIdeal.Value
public import proofs.«01_k».proof.Proof.Gen.InDwOtherRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.InDwOtherIdeal.Tie

open Cert.InDwOtherIdeal Cert.InDwOtherIdeal.Gen Idealize.ShloMosaic Idealize.ShloMosaic.TcCoe Idealize.SL.Sem Cert.Common
open Idealize.ShloMosaic.Pipeline (Dat)

/-- The gradient of a product's weight: the input's columns against the cotangent's columns, summed over the rows. -/
def grad (X : (⟨2, ![4224, 1024]⟩ : Shape).Idx → EReal) (Y : (⟨2, ![4224, 2816]⟩ : Shape).Idx → EReal) :
    (⟨2, ![1024, 2816]⟩ : Shape).Idx → EReal := fun i => ∑ k : Fin 4224, at2 X k.val (i 0).val * at2 Y k.val (i 1).val

variable (m : (ℓ : Loc nD τ sig) → Buf (Elt Ideal) ℓ)

/-- The windows' blocks: both operands move down with the point within a column block; the result's block is the column block. -/
theorem idx (t : Fin cfg0.N) : win0_0.index t = ![t.val % 11, 0] ∧ win0_1.index t = ![t.val % 11, t.val / 11] ∧ win0_2.index t = ![0, t.val / 11] := by
  revert t
  decide +kernel

theorem blk0 (c : Dev nD) (t : Fin cfg0.N) (r : Fin 384) (l : Fin 1024) :
    (iblk m c 0 t : Vec Ideal S384x1024 .bf16) (ix2 r l) = at2 (m ((c : Thread nD τ).loc main_arg0)) (384 * (t.val % 11) + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 2816) :
    (iblk m c 1 t : Vec Ideal S384x2816 .bf16) (ix2 r l) = at2 (m ((c : Thread nD τ).loc main_arg1)) (384 * (t.val % 11) + r.val) (2816 * (t.val / 11) + l.val) := by
  have ht : t.val < 11 := t.isLt
  rw [at2_lt _ _ _ (by omega) (by omega)]
  have h := (idx t).2.1
  blk_ext [iblk, V_main_arg1, h]

/-- What one point adds to the accumulator. -/
def term (X : (⟨2, ![4224, 1024]⟩ : Shape).Idx → EReal) (Y : (⟨2, ![4224, 2816]⟩ : Shape).Idx → EReal) (n : ℕ) (j : S1024x2816.Idx) : EReal :=
  ∑ q : Fin 384, at2 X (384 * (n % 11) + q.val) (j 0).val * at2 Y (384 * (n % 11) + q.val) (2816 * (n / 11) + (j 1).val)

theorem pay1_apply (j : S1024x2816.Idx) : k0_pay1 (F := Ideal) j = 0 := by
  pointwise [k0_pay1]

theorem pay2_apply (c : Dev nD) (t : Fin cfg0.N) (a : Vec Ideal S1024x2816 .f32) (j : S1024x2816.Idx) :
    k0_pay2 (F := Ideal) a (iblk m c 0 t) (iblk m c 1 t) j
      = a j + term (m ((c : Thread nD τ).loc main_arg0)) (m ((c : Thread nD τ).loc main_arg1)) t.val j := by
  idx_vars j
  pointwise [k0_pay2]
  unfold term
  simp only [blk0, blk1]
  rfl

/-- The accumulator after a point: the sum of what the points of its column block added so far. -/
theorem acc_eq (c : Dev nD) (t : Fin cfg0.N) (j : S1024x2816.Idx) :
    ((outsAt0 m c t.val t.isLt).2 : Vec Ideal S1024x2816 .f32) j = 0 + ∑ k ∈ Finset.range (t.val % 11 + 1),
      term (m ((c : Thread nD τ).loc main_arg0)) (m ((c : Thread nD τ).loc main_arg1)) (11 * (t.val / 11) + k) j := by
  refine Pipeline.eq_sum_of_reset_step_apply (fun n h => (outsAt0 m c n h).2) 11 (fun _ => 0) _ (fun t h j => ?_) (fun t h j => ?_) t j
  · rw [outsAt0_A m c t h (by omega)]
    frame_out
    rw [pay2_apply, pay1_apply]
  · by_cases h1 : t.val % 11 = 10
    · rw [outsAt0_C m c t h h1]
      frame_out
      rw [pay2_apply]
      simp only [read_unread_whole]
    · rw [outsAt0_B m c t h h1]
      frame_out
      rw [pay2_apply]
      simp only [read_unread_whole]

/-- The last point of a column block stores the accumulator. -/
theorem out_eq (c : Dev nD) (t : Fin cfg0.N) (h1 : t.val % 11 = 10) :
    ((outsAt0 m c t.val t.isLt).1 : Vec Ideal S1024x2816 .bf16) = (outsAt0 m c t.val t.isLt).2 := by
  rw [outsAt0_C m c t (by omega) h1]
  frame_out
  rfl

/-- The kernel's result array is the gradient. -/
theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 11 := t.isLt
  have hm := (flush0_2 t).mp hf
  blk_simp
  rw [after0_2, out_eq m c t hm]
  have e : (win0_2.blk t).view.emb y = ix2 (⟨(y 0).val, (y 0).isLt⟩ : Fin 1024) (⟨2816 * (t.val / 11) + (y 1).val, by have : (y 1).val < 2816 := (y 1).isLt; omega⟩ : Fin 2816) := by
    blk_ext [(idx t).2.2]
  rw [e]
  refine (acc_eq m c t y).trans ?_
  rw [hm, zero_add]
  unfold grad term
  refine Eq.trans ?_ (sum_blocks 11 384 4224 rfl fun k => at2 (m ((c : Thread nD τ).loc main_arg0)) k (y 0).val * at2 (m ((c : Thread nD τ).loc main_arg1)) k (2816 * (t.val / 11) + (y 1).val))
  refine Finset.sum_congr rfl fun s hs => ?_
  have hs' : s < 11 := Finset.mem_range.mp hs
  rw [show (11 * (t.val / 11) + s) % 11 = s by omega, show (11 * (t.val / 11) + s) / 11 = t.val / 11 by omega]

end Cert.InDwOtherIdeal.Tie

namespace Cert.InDwOtherRefIdeal.Tie

open Cert.InDwOtherRefIdeal Cert.InDwOtherRefIdeal.Gen Cert.InDwOtherRefIdeal.Read Idealize.ShloMosaic Idealize.ShloMosaic.TcCoe Idealize.SL.Sem Idealize.ShloMosaic.StableHlo Cert.Common

/-- The reference's term is the gradient. -/
theorem ref_eq (X : FVec Ideal S4224x1024 .bf16) (Y : FVec Ideal S4224x2816 .bf16) :
    val_main_v6 (F := Ideal) X Y = Cert.InDwOtherIdeal.Tie.grad X Y := by
  funext i
  idx_vars i
  pointwise [val_main_cst, val_main_v0, val_main_v1, val_main_v2, val_main_v3, val_main_v4, val_main_v5, val_main_v6]
  unfold Cert.InDwOtherIdeal.Tie.grad
  refine Finset.sum_congr rfl fun k _ => ?_
  refine (mul_comm _ _).trans ?_
  exact congrArg₂ (· * ·) (at2_eq X k i0).symm (at2_eq Y k i1).symm

end Cert.InDwOtherRefIdeal.Tie

end
-- ==== Proof.InDwOtherClaim.lean ====
module

public import proofs.«01_k».proof.Defs
public import proofs.«01_k».proof.Proof.Gen.InDwOther.Frame
public import proofs.«01_k».proof.Proof.Gen.InDwOtherIdeal.Value
public import proofs.«01_k».proof.Proof.Gen.InDwOtherRefIdeal.Run
public import proofs.«01_k».proof.Proof.Gen.InDwOtherRefIdeal.Read
public import proofs.«01_k».proof.Proof.InDwOtherValue

@[expose] public section

set_option maxRecDepth 16384

noncomputable section

namespace Cert.InDwOther.Tie

open Idealize.ShloMosaic Idealize.SL.Sem

/-- The kernel ends, its arguments unchanged and its counters at zero. -/
theorem frame_p : Cert.quiescent_InDwOther := fun m ρ _ => Cert.InDwOther.Gen.frame m ρ

/-- So does the kernel over the extended reals. -/
theorem frame_pi : Cert.quiescent_InDwOtherIdeal := fun m ρ _ => Cert.InDwOtherIdeal.Gen.frame m ρ

/-- So does the reference. -/
theorem frame_ri : Cert.quiescent_InDwOtherRefIdeal := fun m ρ _ =>
  (θ_run Cert.InDwOtherRefIdeal.defs _ _).mono
    (fun r h => ⟨fun c => (h c).2, Idealize.ShloMosaic.sem_eq_zero_of_no_sems (by decide) r.2⟩)
    (Cert.InDwOtherRefIdeal.Value.run (F := Ideal) m ρ)

/-- Kernel and reference end with equal results. -/
theorem algebraic : Cert.algebraic_InDwOtherIdeal_InDwOtherRefIdeal := by
  intro m ρ m' ρ' _ hagree
  refine ⟨fun c => Cert.InDwOtherIdeal.Tie.grad (m ((c.tc : Thread Cert.InDwOtherIdeal.nD Cert.InDwOtherIdeal.τ).loc Cert.InDwOtherIdeal.main_arg0)) (m ((c.tc : Thread Cert.InDwOtherIdeal.nD Cert.InDwOtherIdeal.τ).loc Cert.InDwOtherIdeal.main_arg1)),
    (θ_run Cert.InDwOtherIdeal.defs _ _).mono (fun r h c => ⟨(h c).1.trans (Cert.InDwOtherIdeal.Tie.final m c), (h c).2⟩)
      (Cert.InDwOtherIdeal.Value.run_blocks m ρ), ?_⟩
  refine (θ_run Cert.InDwOtherRefIdeal.defs _ _).mono (fun _ h c => ?_) (Cert.InDwOtherRefIdeal.Value.run (F := Ideal) m' ρ')
  obtain ⟨e0, e1⟩ := hagree c
  refine ⟨(h c).1.trans ?_, (h c).2⟩
  · refine (Cert.InDwOtherRefIdeal.Read.val_main_v6_eq (F := Ideal) _ _).trans ?_
    rw [e0, e1]
    exact Cert.InDwOtherRefIdeal.Tie.ref_eq _ _

end Cert.InDwOther.Tie

end
-- ==== Proof.InProjValue.lean ====
module

public import proofs.«01_k».proof.Proof.Gen.InProjIdeal.Value
public import proofs.«01_k».proof.Proof.Gen.InProjRefIdeal.Read
public import proofs.«01_k».proof.Proof.NormSpec
public import Idealize.ShloMosaic.Lib.StableHlo.Run
public import Idealize.ShloMosaic.Lib.Pipeline.ReadBack

@[expose] public section

set_option maxRecDepth 16384

noncomputable section

namespace Cert.InProjIdeal.Tie

open Cert.InProjIdeal Cert.InProjIdeal.Gen Idealize.ShloMosaic Idealize.ShloMosaic.TcCoe Idealize.SL.Sem Cert.Common Cert.Norm.Spec
open Idealize.ShloMosaic.Pipeline (Dat)

/-- The normalised rows, as an array. -/
def rows (h : (⟨2, ![4224, 1024]⟩ : Shape).Idx → EReal) (g : (⟨1, ![1024]⟩ : Shape).Idx → EReal) : (⟨2, ![4224, 1024]⟩ : Shape).Idx → EReal := fun i =>
  normed h (fun d => g (ix1 d)) (i 0).val (i 1)

/-- The product of the normalised rows with a weight, as an array. -/
def prod (h : (⟨2, ![4224, 1024]⟩ : Shape).Idx → EReal) (g : (⟨1, ![1024]⟩ : Shape).Idx → EReal) (w : (⟨2, ![1024, 5888]⟩ : Shape).Idx → EReal) :
    (⟨2, ![4224, 5888]⟩ : Shape).Idx → EReal := fun i => ∑ k : Fin 1024, normed h (fun d => g (ix1 d)) (i 0).val k * w (ix2 k (i 1))

variable (m : (ℓ : Loc nD τ sig) → Buf (Elt Ideal) ℓ)

theorem idx (t : Fin cfg0.N) : win0_0.index t = ![t.val, 0] ∧ win0_1.index t = ![0, 0] ∧ win0_2.index t = ![0, 0] ∧ win0_3.index t = ![t.val, 0]
    ∧ win0_4.index t = ![t.val, 0] := by
  revert t
  decide +kernel

/-- The three arguments as one device holds them. -/
abbrev a0 (c : Dev nD) : (⟨2, ![4224, 1024]⟩ : Shape).Idx → EReal := m ((c : Thread nD τ).loc main_arg0)
abbrev a1 (c : Dev nD) : (⟨1, ![1024]⟩ : Shape).Idx → EReal := m ((c : Thread nD τ).loc main_arg1)
abbrev a2 (c : Dev nD) : (⟨2, ![1024, 5888]⟩ : Shape).Idx → EReal := m ((c : Thread nD τ).loc main_arg2)

theorem V_scale (c : Dev nD) : (V m c main_v0 : S1x1024.Idx → EReal) = broadcastInDim S1x1024 ![1] bcast_S1024_S1x1024_1 (a1 m c) := by
  unfold V
  simp only [hostOps0, List.flatten_cons, List.flatten_nil, List.append_nil, List.cons_append, List.nil_append]
  after_results

theorem V_weight (c : Dev nD) : (V m c main_v1 : S1024x5888.Idx → EReal) = a2 m c := by
  unfold V
  simp only [hostOps0, List.flatten_cons, List.flatten_nil, List.append_nil, List.cons_append, List.nil_append]
  after_results
  rfl

theorem blk0 (c : Dev nD) (t : Fin cfg0.N) (r : Fin 384) (l : Fin 1024) :
    (iblk m c 0 t : Vec Ideal S384x1024 .f32) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (z : Fin 1) (l : Fin 1024) :
    (iblk m c 1 t : Vec Ideal S1x1024 .f32) (ix2 z l) = a1 m c (ix1 l) := by
  have h := (idx t).2.1
  have e : (iblk m c 1 t : Vec Ideal S1x1024 .f32) (ix2 z l) = (V m c main_v0 : S1x1024.Idx → EReal) (ix2 z l) := by
    blk_ext [iblk, h]
  rw [e, V_scale]
  pointwise []

theorem blk2 (c : Dev nD) (t : Fin cfg0.N) (r : Fin 1024) (l : Fin 5888) :
    (iblk m c 2 t : Vec Ideal S1024x5888 .bf16) (ix2 r l) = a2 m c (ix2 r l) := by
  rw [← V_weight]
  have h := (idx t).2.2.1
  blk_ext [iblk, h]

theorem pay1_apply (c : Dev nD) (t : Fin cfg0.N) (r : Fin 384) (d : Fin 1024) :
    k0_pay1 (F := Ideal) (iblk m c 0 t) (iblk m c 1 t) (ix2 r d) = normed (a0 m c) (fun d => a1 m c (ix1 d)) (384 * t.val + r.val) d := by
  pointwise [k0_pay1]
  simp only [blk0, blk1]
  rfl

/-- The array of the normalised rows. -/
theorem final3 (c : Dev nD) : (dats m 0 c).arrAt 3 cfg0.N = rows (a0 m c) (a1 m c) := by
  refine (dats m 0 c).arrAt_eq_of_covers 3 _ (by decide +kernel) fun t hf y => ?_
  have ht : t.val < 11 := t.isLt
  blk_simp
  rw [after0_3]
  idx_vars y
  have e : (win0_3.blk t).view.emb (ix2 y0 y1) = ix2 (⟨384 * t.val + y0.val, by omega⟩ : Fin 4224) y1 := by
    blk_ext [(idx t).2.2.2.1]
  rw [e]
  unfold outsAt0
  frame_out
  exact pay1_apply m c t y0 y1

/-- The array of the product. -/
theorem final4 (c : Dev nD) : (dats m 0 c).arrAt 4 cfg0.N = prod (a0 m c) (a1 m c) (a2 m c) := by
  refine (dats m 0 c).arrAt_eq_of_covers 4 _ (by decide +kernel) fun t hf y => ?_
  have ht : t.val < 11 := t.isLt
  blk_simp
  rw [after0_4]
  idx_vars y
  have e : (win0_4.blk t).view.emb (ix2 y0 y1) = ix2 (⟨384 * t.val + y0.val, by omega⟩ : Fin 4224) y1 := by
    blk_ext [(idx t).2.2.2.2]
  rw [e]
  unfold outsAt0
  frame_out
  pointwise [k0_pay2]
  simp only [pay1_apply, blk2]
  rfl

end Cert.InProjIdeal.Tie

namespace Cert.InProjRefIdeal.Tie

open Cert.InProjRefIdeal Cert.InProjRefIdeal.Read Idealize.ShloMosaic Cert.Common Cert.Norm.Spec
open Cert.InProjIdeal.Tie (rows prod)

variable (h : (⟨2, ![4224, 1024]⟩ : Shape).Idx → EReal) (g : (⟨1, ![1024]⟩ : Shape).Idx → EReal) (w : (⟨2, ![1024, 5888]⟩ : Shape).Idx → EReal)

theorem normed_eq (l : Fin 4224) (d : Fin 1024) : val_main_v12 (F := Ideal) h g (ix2 l d) = normed h (fun d => g (ix1 d)) l.val d := by
  unfold normed invRms meanSq
  simp only [at2_eq]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- The reference's normalised rows. -/
theorem rows_eq : val_main_v13 (F := Ideal) h g = rows h g := by
  funext i
  idx_vars i
  pointwise [val_main_v13]
  exact normed_eq h g i0 i1

/-- The reference's product. -/
theorem prod_eq : val_main_v14 (F := Ideal) h g w = prod h g w := by
  funext i
  idx_vars i
  pointwise [val_main_v14]
  simp only [normed_eq]
  rfl

end Cert.InProjRefIdeal.Tie

end
-- ==== Proof.InProjClaim.lean ====
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjValue

@[expose] public section

set_option maxRecDepth 16384

noncomputable section

namespace Cert.InProj.Tie

open Idealize.ShloMosaic Idealize.SL.Sem

/-- The kernel ends, its arguments unchanged and its counters at zero. -/
theorem frame_p : Cert.quiescent_InProj := fun m ρ _ => Cert.InProj.Gen.frame m ρ

/-- So does the kernel over the extended reals. -/
theorem frame_pi : Cert.quiescent_InProjIdeal := fun m ρ _ => Cert.InProjIdeal.Gen.frame m ρ

/-- So does the reference. -/
theorem frame_ri : Cert.quiescent_InProjRefIdeal := fun m ρ _ =>
  (θ_run Cert.InProjRefIdeal.defs _ _).mono
    (fun r h => ⟨fun c => (h c).2.2, Idealize.ShloMosaic.sem_eq_zero_of_no_sems (by decide) r.2⟩)
    (Cert.InProjRefIdeal.Value.run (F := Ideal) m ρ)

/-- Kernel and reference end with equal results. -/
theorem algebraic : Cert.algebraic_InProjIdeal_InProjRefIdeal := by
  intro m ρ m' ρ' _ hagree
  refine ⟨fun c => Cert.InProjIdeal.Tie.rows (m ((c.tc : Thread Cert.InProjIdeal.nD Cert.InProjIdeal.τ).loc Cert.InProjIdeal.main_arg0)) (m ((c.tc : Thread Cert.InProjIdeal.nD Cert.InProjIdeal.τ).loc Cert.InProjIdeal.main_arg1)), fun c => Cert.InProjIdeal.Tie.prod (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    (θ_run Cert.InProjIdeal.defs _ _).mono (fun r h c => ⟨(h c).1.trans (Cert.InProjIdeal.Tie.final3 m c), (h c).2.1.trans (Cert.InProjIdeal.Tie.final4 m c), (h c).2.2⟩)
      (Cert.InProjIdeal.Value.run_blocks m ρ), ?_⟩
  refine (θ_run Cert.InProjRefIdeal.defs _ _).mono (fun _ h c => ?_) (Cert.InProjRefIdeal.Value.run (F := Ideal) m' ρ')
  obtain ⟨e0, e1, e2⟩ := hagree c
  refine ⟨(h c).1.trans ?_, (h c).2.1.trans ?_, (h c).2.2⟩
  · refine (Cert.InProjRefIdeal.Read.val_main_v13_eq (F := Ideal) _ _).trans ?_
    rw [e0, e1]
    exact Cert.InProjRefIdeal.Tie.rows_eq _ _
  · refine (Cert.InProjRefIdeal.Read.val_main_v14_eq (F := Ideal) _ _ _).trans ?_
    rw [e0, e1, e2]
    exact Cert.InProjRefIdeal.Tie.prod_eq _ _ _

end Cert.InProj.Tie

end
-- ==== Proof.FfnUpValue.lean ====
module

public import proofs.«01_k».proof.Proof.Gen.FfnUpIdeal.Value
public import proofs.«01_k».proof.Proof.Gen.FfnUpRefIdeal.Read
public import proofs.«01_k».proof.Proof.NormSpec
public import Idealize.ShloMosaic.Lib.StableHlo.Run
public import Idealize.ShloMosaic.Lib.Pipeline.ReadBack

@[expose] public section

set_option maxRecDepth 16384

noncomputable section

namespace Cert.FfnUpIdeal.Tie

open Cert.FfnUpIdeal Cert.FfnUpIdeal.Gen Idealize.ShloMosaic Idealize.ShloMosaic.TcCoe Idealize.SL.Sem Cert.Common Cert.Norm.Spec
open Idealize.ShloMosaic.Pipeline (Dat)

/-- The normalised rows, as an array. -/
def rows (h : (⟨2, ![4224, 1024]⟩ : Shape).Idx → EReal) (g : (⟨1, ![1024]⟩ : Shape).Idx → EReal) : (⟨2, ![4224, 1024]⟩ : Shape).Idx → EReal := fun i =>
  normed h (fun d => g (ix1 d)) (i 0).val (i 1)

/-- The product of the normalised rows with a weight, as an array. -/
def prod (h : (⟨2, ![4224, 1024]⟩ : Shape).Idx → EReal) (g : (⟨1, ![1024]⟩ : Shape).Idx → EReal) (w : (⟨2, ![1024, 5632]⟩ : Shape).Idx → EReal) :
    (⟨2, ![4224, 5632]⟩ : Shape).Idx → EReal := fun i => ∑ k : Fin 1024, normed h (fun d => g (ix1 d)) (i 0).val k * w (ix2 k (i 1))

variable (m : (ℓ : Loc nD τ sig) → Buf (Elt Ideal) ℓ)

theorem idx (t : Fin cfg0.N) : win0_0.index t = ![t.val, 0] ∧ win0_1.index t = ![0, 0] ∧ win0_2.index t = ![0, 0] ∧ win0_3.index t = ![t.val, 0]
    ∧ win0_4.index t = ![t.val, 0] := by
  revert t
  decide +kernel

/-- The three arguments as one device holds them. -/
abbrev a0 (c : Dev nD) : (⟨2, ![4224, 1024]⟩ : Shape).Idx → EReal := m ((c : Thread nD τ).loc main_arg0)
abbrev a1 (c : Dev nD) : (⟨1, ![1024]⟩ : Shape).Idx → EReal := m ((c : Thread nD τ).loc main_arg1)
abbrev a2 (c : Dev nD) : (⟨2, ![1024, 5632]⟩ : Shape).Idx → EReal := m ((c : Thread nD τ).loc main_arg2)

theorem V_scale (c : Dev nD) : (V m c main_v0 : S1x1024.Idx → EReal) = broadcastInDim S1x1024 ![1] bcast_S1024_S1x1024_1 (a1 m c) := by
  unfold V
  simp only [hostOps0, List.flatten_cons, List.flatten_nil, List.append_nil, List.cons_append, List.nil_append]
  after_results

theorem V_weight (c : Dev nD) : (V m c main_v1 : S1024x5632.Idx → EReal) = a2 m c := by
  unfold V
  simp only [hostOps0, List.flatten_cons, List.flatten_nil, List.append_nil, List.cons_append, List.nil_append]
  after_results
  rfl

theorem blk0 (c : Dev nD) (t : Fin cfg0.N) (r : Fin 384) (l : Fin 1024) :
    (iblk m c 0 t : Vec Ideal S384x1024 .f32) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (z : Fin 1) (l : Fin 1024) :
    (iblk m c 1 t : Vec Ideal S1x1024 .f32) (ix2 z l) = a1 m c (ix1 l) := by
  have h := (idx t).2.1
  have e : (iblk m c 1 t : Vec Ideal S1x1024 .f32) (ix2 z l) = (V m c main_v0 : S1x1024.Idx → EReal) (ix2 z l) := by
    blk_ext [iblk, h]
  rw [e, V_scale]
  pointwise []

theorem blk2 (c : Dev nD) (t : Fin cfg0.N) (r : Fin 1024) (l : Fin 5632) :
    (iblk m c 2 t : Vec Ideal S1024x5632 .bf16) (ix2 r l) = a2 m c (ix2 r l) := by
  rw [← V_weight]
  have h := (idx t).2.2.1
  blk_ext [iblk, h]

theorem pay1_apply (c : Dev nD) (t : Fin cfg0.N) (r : Fin 384) (d : Fin 1024) :
    k0_pay1 (F := Ideal) (iblk m c 0 t) (iblk m c 1 t) (ix2 r d) = normed (a0 m c) (fun d => a1 m c (ix1 d)) (384 * t.val + r.val) d := by
  pointwise [k0_pay1]
  simp only [blk0, blk1]
  rfl

/-- The array of the normalised rows. -/
theorem final3 (c : Dev nD) : (dats m 0 c).arrAt 3 cfg0.N = rows (a0 m c) (a1 m c) := by
  refine (dats m 0 c).arrAt_eq_of_covers 3 _ (by decide +kernel) fun t hf y => ?_
  have ht : t.val < 11 := t.isLt
  blk_simp
  rw [after0_3]
  idx_vars y
  have e : (win0_3.blk t).view.emb (ix2 y0 y1) = ix2 (⟨384 * t.val + y0.val, by omega⟩ : Fin 4224) y1 := by
    blk_ext [(idx t).2.2.2.1]
  rw [e]
  unfold outsAt0
  frame_out
  exact pay1_apply m c t y0 y1

/-- The array of the product. -/
theorem final4 (c : Dev nD) : (dats m 0 c).arrAt 4 cfg0.N = prod (a0 m c) (a1 m c) (a2 m c) := by
  refine (dats m 0 c).arrAt_eq_of_covers 4 _ (by decide +kernel) fun t hf y => ?_
  have ht : t.val < 11 := t.isLt
  blk_simp
  rw [after0_4]
  idx_vars y
  have e : (win0_4.blk t).view.emb (ix2 y0 y1) = ix2 (⟨384 * t.val + y0.val, by omega⟩ : Fin 4224) y1 := by
    blk_ext [(idx t).2.2.2.2]
  rw [e]
  unfold outsAt0
  frame_out
  pointwise [k0_pay2]
  simp only [pay1_apply, blk2]
  rfl

end Cert.FfnUpIdeal.Tie

namespace Cert.FfnUpRefIdeal.Tie

open Cert.FfnUpRefIdeal Cert.FfnUpRefIdeal.Read Idealize.ShloMosaic Cert.Common Cert.Norm.Spec
open Cert.FfnUpIdeal.Tie (rows prod)

variable (h : (⟨2, ![4224, 1024]⟩ : Shape).Idx → EReal) (g : (⟨1, ![1024]⟩ : Shape).Idx → EReal) (w : (⟨2, ![1024, 5632]⟩ : Shape).Idx → EReal)

theorem normed_eq (l : Fin 4224) (d : Fin 1024) : val_main_v12 (F := Ideal) h g (ix2 l d) = normed h (fun d => g (ix1 d)) l.val d := by
  unfold normed invRms meanSq
  simp only [at2_eq]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- The reference's normalised rows. -/
theorem rows_eq : val_main_v13 (F := Ideal) h g = rows h g := by
  funext i
  idx_vars i
  pointwise [val_main_v13]
  exact normed_eq h g i0 i1

/-- The reference's product. -/
theorem prod_eq : val_main_v14 (F := Ideal) h g w = prod h g w := by
  funext i
  idx_vars i
  pointwise [val_main_v14]
  simp only [normed_eq]
  rfl

end Cert.FfnUpRefIdeal.Tie

end
-- ==== Proof.FfnUpClaim.lean ====
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpValue

@[expose] public section

set_option maxRecDepth 16384

noncomputable section

namespace Cert.FfnUp.Tie

open Idealize.ShloMosaic Idealize.SL.Sem

/-- The kernel ends, its arguments unchanged and its counters at zero. -/
theorem frame_p : Cert.quiescent_FfnUp := fun m ρ _ => Cert.FfnUp.Gen.frame m ρ

/-- So does the kernel over the extended reals. -/
theorem frame_pi : Cert.quiescent_FfnUpIdeal := fun m ρ _ => Cert.FfnUpIdeal.Gen.frame m ρ

/-- So does the reference. -/
theorem frame_ri : Cert.quiescent_FfnUpRefIdeal := fun m ρ _ =>
  (θ_run Cert.FfnUpRefIdeal.defs _ _).mono
    (fun r h => ⟨fun c => (h c).2.2, Idealize.ShloMosaic.sem_eq_zero_of_no_sems (by decide) r.2⟩)
    (Cert.FfnUpRefIdeal.Value.run (F := Ideal) m ρ)

/-- Kernel and reference end with equal results. -/
theorem algebraic : Cert.algebraic_FfnUpIdeal_FfnUpRefIdeal := by
  intro m ρ m' ρ' _ hagree
  refine ⟨fun c => Cert.FfnUpIdeal.Tie.rows (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)), fun c => Cert.FfnUpIdeal.Tie.prod (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)),
    (θ_run Cert.FfnUpIdeal.defs _ _).mono (fun r h c => ⟨(h c).1.trans (Cert.FfnUpIdeal.Tie.final3 m c), (h c).2.1.trans (Cert.FfnUpIdeal.Tie.final4 m c), (h c).2.2⟩)
      (Cert.FfnUpIdeal.Value.run_blocks m ρ), ?_⟩
  refine (θ_run Cert.FfnUpRefIdeal.defs _ _).mono (fun _ h c => ?_) (Cert.FfnUpRefIdeal.Value.run (F := Ideal) m' ρ')
  obtain ⟨e0, e1, e2⟩ := hagree c
  refine ⟨(h c).1.trans ?_, (h c).2.1.trans ?_, (h c).2.2⟩
  · refine (Cert.FfnUpRefIdeal.Read.val_main_v13_eq (F := Ideal) _ _).trans ?_
    rw [e0, e1]
    exact Cert.FfnUpRefIdeal.Tie.rows_eq _ _
  · refine (Cert.FfnUpRefIdeal.Read.val_main_v14_eq (F := Ideal) _ _ _).trans ?_
    rw [e0, e1, e2]
    exact Cert.FfnUpRefIdeal.Tie.prod_eq _ _ _

end Cert.FfnUp.Tie

end
-- ==== Proof.MergeFwdValue.lean ====
module

public import proofs.«01_k».proof.Proof.Gen.MergeFwdIdeal.Value
public import proofs.«01_k».proof.Proof.Gen.MergeFwdRefIdeal.Read
public import proofs.«01_k».proof.Proof.MergeSpec
public import Idealize.ShloMosaic.Lib.StableHlo.Run
public import Idealize.ShloMosaic.Lib.Pipeline.ReadBack

@[expose] public section

set_option maxRecDepth 16384

noncomputable section

namespace Cert.MergeFwdIdeal.Tie

open Cert.MergeFwdIdeal Cert.MergeFwdIdeal.Gen Idealize.ShloMosaic Idealize.ShloMosaic.TcCoe Idealize.SL.Sem Cert.Common Cert.Merge.Spec
open Idealize.ShloMosaic.Pipeline (Dat)

variable (m : (ℓ : Loc nD τ sig) → Buf (Elt Ideal) ℓ)

theorem idx (t : Fin cfg0.N) : win0_0.index t = ![t.val, 0] ∧ win0_1.index t = ![t.val, 0] ∧ win0_2.index t = ![t.val, 1] ∧ win0_3.index t = ![t.val, 2]
    ∧ win0_4.index t = ![t.val, 0] ∧ win0_5.index t = ![t.val, 0] ∧ win0_6.index t = ![t.val, 0] ∧ win0_7.index t = ![0, 0, 0] ∧ win0_8.index t = ![0, 0]
    ∧ win0_9.index t = ![t.val, 0] := by
  revert t
  decide +kernel

/-- The seven arguments as one device holds them. -/
abbrev a0 (c : Dev nD) : (⟨2, ![4224, 1024]⟩ : Shape).Idx → EReal := m ((c : Thread nD τ).loc main_arg0)
abbrev a1 (c : Dev nD) : (⟨2, ![4224, 5888]⟩ : Shape).Idx → EReal := m ((c : Thread nD τ).loc main_arg1)
abbrev a2 (c : Dev nD) : (⟨2, ![4224, 512]⟩ : Shape).Idx → EReal := m ((c : Thread nD τ).loc main_arg2)
abbrev a3 (c : Dev nD) : (⟨2, ![4224, 512]⟩ : Shape).Idx → EReal := m ((c : Thread nD τ).loc main_arg3)
abbrev a4 (c : Dev nD) : (⟨2, ![4224, 512]⟩ : Shape).Idx → EReal := m ((c : Thread nD τ).loc main_arg4)
abbrev a5 (c : Dev nD) : (⟨3, ![3, 512, 1024]⟩ : Shape).Idx → EReal := m ((c : Thread nD τ).loc main_arg5)
abbrev a6 (c : Dev nD) : (⟨2, ![1024, 1024]⟩ : Shape).Idx → EReal := m ((c : Thread nD τ).loc main_arg6)

theorem V_main_v0 (c : Dev nD) : (V m c main_v0 : S3x512x1024.Idx → EReal) = a5 m c := by
  unfold V
  simp only [hostOps0, List.flatten_cons, List.flatten_nil, List.append_nil, List.cons_append, List.nil_append]
  after_results
  rfl

theorem V_main_v1 (c : Dev nD) : (V m c main_v1 : S1024x1024.Idx → EReal) = a6 m c := by
  unfold V
  simp only [hostOps0, List.flatten_cons, List.flatten_nil, List.append_nil, List.cons_append, List.nil_append]
  after_results
  rfl

theorem blk0 (c : Dev nD) (t : Fin cfg0.N) (r : Fin 384) (l : Fin 1024) :
    (iblk m c 0 t : Vec Ideal S384x1024 .f32) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 384) (l : Fin 1024) :
    (X0_1 m c t : Vec Ideal S384x1024 .f32) (ix2 r l) = at2 (a1 m c) (384 * t.val + r.val) (1024 * 0 + l.val) := by
  have ht : t.val < 11 := t.isLt
  rw [at2_lt _ _ _ (by omega) (by omega)]
  have h := (idx t).2.1
  unfold X0_1 Pipeline.Window.fill
  rw [dif_pos (moved0_1 t _)]
  blk_ext [iblk, V_main_arg1, h]

theorem blk2 (c : Dev nD) (t : Fin cfg0.N) (r : Fin 384) (l : Fin 1024) :
    (X0_2 m c t : Vec Ideal S384x1024 .f32) (ix2 r l) = at2 (a1 m c) (384 * t.val + r.val) (1024 * 1 + l.val) := by
  have ht : t.val < 11 := t.isLt
  rw [at2_lt _ _ _ (by omega) (by omega)]
  have h := (idx t).2.2.1
  unfold X0_2 Pipeline.Window.fill
  rw [dif_pos (moved0_2 t _)]
  blk_ext [iblk, V_main_arg1, h]

theorem blk3 (c : Dev nD) (t : Fin cfg0.N) (r : Fin 384) (l : Fin 1024) :
    (X0_3 m c t : Vec Ideal S384x1024 .f32) (ix2 r l) = at2 (a1 m c) (384 * t.val + r.val) (1024 * 2 + l.val) := by
  have ht : t.val < 11 := t.isLt
  rw [at2_lt _ _ _ (by omega) (by omega)]
  have h := (idx t).2.2.2.1
  unfold X0_3 Pipeline.Window.fill
  rw [dif_pos (moved0_3 t _)]
  blk_ext [iblk, V_main_arg1, h]

theorem blk4 (c : Dev nD) (t : Fin cfg0.N) (r : Fin 384) (l : Fin 512) :
    (iblk m c 4 t : Vec Ideal S384x512 .bf16) (ix2 r l) = branch (a2 m c) (a3 m c) (a4 m c) 0 (384 * t.val + r.val) l := by
  have ht : t.val < 11 := t.isLt
  show _ = at2 (a2 m c) (384 * t.val + r.val) l.val
  rw [at2_lt _ _ _ (by omega) (by omega)]
  have h := (idx t).2.2.2.2.1
  blk_ext [iblk, V_main_arg2, h]

theorem blk5 (c : Dev nD) (t : Fin cfg0.N) (r : Fin 384) (l : Fin 512) :
    (iblk m c 5 t : Vec Ideal S384x512 .bf16) (ix2 r l) = branch (a2 m c) (a3 m c) (a4 m c) 1 (384 * t.val + r.val) l := by
  have ht : t.val < 11 := t.isLt
  show _ = at2 (a3 m c) (384 * t.val + r.val) l.val
  rw [at2_lt _ _ _ (by omega) (by omega)]
  have h := (idx t).2.2.2.2.2.1
  blk_ext [iblk, V_main_arg3, h]

theorem blk6 (c : Dev nD) (t : Fin cfg0.N) (r : Fin 384) (l : Fin 512) :
    (iblk m c 6 t : Vec Ideal S384x512 .bf16) (ix2 r l) = branch (a2 m c) (a3 m c) (a4 m c) 2 (384 * t.val + r.val) l := by
  have ht : t.val < 11 := t.isLt
  show _ = at2 (a4 m c) (384 * t.val + r.val) l.val
  rw [at2_lt _ _ _ (by omega) (by omega)]
  have h := (idx t).2.2.2.2.2.2.1
  blk_ext [iblk, V_main_arg4, h]

theorem blk7 (c : Dev nD) (t : Fin cfg0.N) (n : Fin 3) (k : Fin 512) (d : Fin 1024) :
    (iblk m c 7 t : Vec Ideal S3x512x1024 .bf16) (ix3 n k d) = a5 m c (ix3 n k d) := by
  rw [← V_main_v0]
  have h := (idx t).2.2.2.2.2.2.2.1
  blk_ext [iblk, h]

theorem blk8 (c : Dev nD) (t : Fin cfg0.N) (d : Fin 1024) (e : Fin 1024) :
    (iblk m c 8 t : Vec Ideal S1024x1024 .bf16) (ix2 d e) = a6 m c (ix2 d e) := by
  rw [← V_main_v1]
  have h := (idx t).2.2.2.2.2.2.2.2.1
  blk_ext [iblk, h]

/-- The merged branches of one row block. -/
theorem merged_apply (c : Dev nD) (t : Fin cfg0.N) (r : Fin 384) (d : Fin 1024) :
    k0_pay2 (F := Ideal) (X0_1 m c t) (iblk m c 4 t) (View.ld (iblk m c 7 t) (Rect.unit ![0, 0, 0] ![1, 512, 1024] inb_S3x512x1024_S1x512x1024_0_0_0))
      (X0_2 m c t) (iblk m c 5 t) (View.ld (iblk m c 7 t) (Rect.unit ![1, 0, 0] ![1, 512, 1024] inb_S3x512x1024_S1x512x1024_1_0_0))
      (X0_3 m c t) (iblk m c 6 t) (View.ld (iblk m c 7 t) (Rect.unit ![2, 0, 0] ![1, 512, 1024] inb_S3x512x1024_S1x512x1024_2_0_0)) (ix2 r d)
      = merged (a1 m c) (a2 m c) (a3 m c) (a4 m c) (a5 m c) (384 * t.val + r.val) d := by
  pointwise [k0_pay2]
  simp only [blk1, blk2, blk3, blk4, blk5, blk6, blk7]
  rfl

/-- The kernel's result array. -/
theorem final (c : Dev nD) : (dats m 0 c).arrAt 9 cfg0.N = joined (a0 m c) (a1 m c) (a2 m c) (a3 m c) (a4 m c) (a5 m c) (a6 m c) := by
  refine (dats m 0 c).arrAt_eq_of_covers 9 _ (by decide +kernel) fun t hf y => ?_
  have ht : t.val < 11 := t.isLt
  blk_simp
  rw [after0_9]
  idx_vars y
  have e : (win0_9.blk t).view.emb (ix2 y0 y1) = ix2 (⟨384 * t.val + y0.val, by omega⟩ : Fin 4224) y1 := by
    blk_ext [(idx t).2.2.2.2.2.2.2.2.2]
  rw [e]
  unfold outsAt0
  frame_out
  pointwise [k0_pay1, k0_pay3]
  rw [blk0]
  refine congrArg (at2 (a0 m c) (384 * t.val + y0.val) y1.val + ·) (Finset.sum_congr rfl fun k _ => ?_)
  exact congrArg₂ (· * ·) (merged_apply m c t y0 k) (blk8 m c t k y1)

end Cert.MergeFwdIdeal.Tie

namespace Cert.MergeFwdRefIdeal.Tie

open Cert.MergeFwdRefIdeal Cert.MergeFwdRefIdeal.Read Idealize.ShloMosaic Cert.Common Cert.Merge.Spec

variable (h : (⟨2, ![4224, 1024]⟩ : Shape).Idx → EReal) (pj : (⟨2, ![4224, 5888]⟩ : Shape).Idx → EReal)
  (oa ob oc : (⟨2, ![4224, 512]⟩ : Shape).Idx → EReal) (wb : (⟨3, ![3, 512, 1024]⟩ : Shape).Idx → EReal)
  (wo : (⟨2, ![1024, 1024]⟩ : Shape).Idx → EReal)

theorem gate_eq (l : Fin 4224) (n : Fin 3) (d : Fin 1024) :
    val_main_v14 (F := Ideal) pj (ix3 l n d) = gate pj n l.val d := by
  unfold gate
  rw [at2_lt _ _ _ l.isLt (by omega)]
  pointwise [val_main_v14, val_main_v13, val_main_v12, val_main_v11, val_main_v10, val_main_v9, val_main_v8, val_main_v3, val_main_cst, val_main_cst_0]
  simp only [Nat.mul_comm]
  rfl

theorem branch_eq (l : Fin 4224) (n : Fin 3) (k : Fin 512) :
    val_main_v7 (F := Ideal) oa ob oc (ix3 l n k) = branch oa ob oc n l.val k := by
  unfold branch
  simp only [at2_eq]
  pointwise [val_main_v7, val_main_v6, val_main_v5, val_main_v4]
  rfl

theorem mixed_eq (l : Fin 4224) (n : Fin 3) (d : Fin 1024) :
    val_main_v16 (F := Ideal) oa ob oc wb (ix3 l n d) = mixed oa ob oc wb n l.val d := by
  unfold mixed
  pointwise [val_main_v16, val_main_v15]
  refine Finset.sum_congr rfl fun k _ => ?_
  rw [branch_eq, mul_comm]

theorem merged_eq (l : Fin 4224) (d : Fin 1024) :
    val_main_v18 (F := Ideal) pj oa ob oc wb (ix2 l d) = merged pj oa ob oc wb l.val d := by
  unfold merged
  pointwise [val_main_v18, val_main_v17, val_main_cst_1]
  simp only [Fin.sum_univ_three, gate_eq, mixed_eq]

/-- The reference's result. -/
theorem ref_eq : val_main_v20 (F := Ideal) h pj oa ob oc wb wo = joined h pj oa ob oc wb wo := by
  funext i
  idx_vars i
  show _ = at2 h i0.val i1.val + ∑ k : Fin 1024, merged pj oa ob oc wb i0.val k * wo (ix2 k i1)
  simp only [at2_eq]
  pointwise [val_main_v20, val_main_v19]
  simp only [merged_eq]

end Cert.MergeFwdRefIdeal.Tie

end
-- ==== Proof.MergeFwdClaim.lean ====
module

public import proofs.«01_k».proof.Defs
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.MergeFwdValue

@[expose] public section

set_option maxRecDepth 16384

noncomputable section

namespace Cert.MergeFwd.Tie

open Idealize.ShloMosaic Idealize.SL.Sem

/-- The kernel ends, its arguments unchanged and its counters at zero. -/
theorem frame_p : Cert.quiescent_MergeFwd := fun m ρ _ => Cert.MergeFwd.Gen.frame m ρ

/-- So does the kernel over the extended reals. -/
theorem frame_pi : Cert.quiescent_MergeFwdIdeal := fun m ρ _ => Cert.MergeFwdIdeal.Gen.frame m ρ

/-- So does the reference. -/
theorem frame_ri : Cert.quiescent_MergeFwdRefIdeal := fun m ρ _ =>
  (θ_run Cert.MergeFwdRefIdeal.defs _ _).mono
    (fun r h => ⟨fun c => (h c).2, Idealize.ShloMosaic.sem_eq_zero_of_no_sems (by decide) r.2⟩)
    (Cert.MergeFwdRefIdeal.Value.run (F := Ideal) m ρ)

/-- Kernel and reference end with equal results. -/
theorem algebraic : Cert.algebraic_MergeFwdIdeal_MergeFwdRefIdeal := by
  intro m ρ m' ρ' _ hagree
  refine ⟨fun c => Cert.Merge.Spec.joined (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2)) (m ((c.tc : Thread Cert.MergeFwdIdeal.nD Cert.MergeFwdIdeal.τ).loc Cert.MergeFwdIdeal.main_arg3)) (m ((c.tc : Thread Cert.MergeFwdIdeal.nD Cert.MergeFwdIdeal.τ).loc Cert.MergeFwdIdeal.main_arg4)) (m ((c.tc : Thread Cert.MergeFwdIdeal.nD Cert.MergeFwdIdeal.τ).loc Cert.MergeFwdIdeal.main_arg5)) (m ((c.tc : Thread Cert.MergeFwdIdeal.nD Cert.MergeFwdIdeal.τ).loc Cert.MergeFwdIdeal.main_arg6)),
    (θ_run Cert.MergeFwdIdeal.defs _ _).mono (fun r h c => ⟨(h c).1.trans (Cert.MergeFwdIdeal.Tie.final m c), (h c).2⟩)
      (Cert.MergeFwdIdeal.Value.run_blocks m ρ), ?_⟩
  refine (θ_run Cert.MergeFwdRefIdeal.defs _ _).mono (fun _ h c => ?_) (Cert.MergeFwdRefIdeal.Value.run (F := Ideal) m' ρ')
  obtain ⟨e0, e1, e2, e3, e4, e5, e6⟩ := hagree c
  refine ⟨(h c).1.trans ?_, (h c).2⟩
  · refine (Cert.MergeFwdRefIdeal.Read.val_main_v20_eq (F := Ideal) _ _ _ _ _ _ _).trans ?_
    rw [e0, e1, e2, e3, e4, e5, e6]
    exact Cert.MergeFwdRefIdeal.Tie.ref_eq _ _ _ _ _ _ _

end Cert.MergeFwd.Tie

end
-- ==== Proof.FfnDownValue.lean ====
module

public import proofs.«01_k».proof.Proof.Gen.FfnDownIdeal.Value
public import proofs.«01_k».proof.Proof.Gen.FfnDownRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.FfnDownIdeal.Tie

open Cert.FfnDownIdeal Cert.FfnDownIdeal.Gen Idealize.ShloMosaic Idealize.ShloMosaic.TcCoe Idealize.SL.Sem Cert.Common
open Idealize.ShloMosaic.Pipeline (Dat)

/-- A product added to the residual stream. -/
def out (x : (⟨2, ![4224, 2816]⟩ : Shape).Idx → EReal) (w : (⟨2, ![2816, 1024]⟩ : Shape).Idx → EReal) (h : (⟨2, ![4224, 1024]⟩ : Shape).Idx → EReal) :
    (⟨2, ![4224, 1024]⟩ : Shape).Idx → EReal := fun i =>
  at2 h (i 0).val (i 1).val + ∑ k : Fin 2816, at2 x (i 0).val k.val * w (ix2 k (i 1))

variable (m : (ℓ : Loc nD τ sig) → Buf (Elt Ideal) ℓ)

theorem idx (t : Fin cfg0.N) : win0_0.index t = ![t.val, 0] ∧ win0_1.index t = ![0, 0] ∧ win0_2.index t = ![t.val, 0] ∧ win0_3.index t = ![t.val, 0] := by
  revert t
  decide +kernel

/-- The three arguments as one device holds them. -/
abbrev a0 (c : Dev nD) : (⟨2, ![4224, 2816]⟩ : Shape).Idx → EReal := m ((c : Thread nD τ).loc main_arg0)
abbrev a1 (c : Dev nD) : (⟨2, ![2816, 1024]⟩ : Shape).Idx → EReal := m ((c : Thread nD τ).loc main_arg1)
abbrev a2 (c : Dev nD) : (⟨2, ![4224, 1024]⟩ : Shape).Idx → EReal := m ((c : Thread nD τ).loc main_arg2)

theorem V_main_v0 (c : Dev nD) : (V m c main_v0 : S2816x1024.Idx → EReal) = a1 m c := by
  unfold V
  simp only [hostOps0, List.flatten_cons, List.flatten_nil, List.append_nil, List.cons_append, List.nil_append]
  after_results
  rfl

theorem blk0 (c : Dev nD) (t : Fin cfg0.N) (r : Fin 384) (l : Fin 2816) :
    (iblk m c 0 t : Vec Ideal S384x2816 .bf16) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (c : Dev nD) (t : Fin cfg0.N) (r : Fin 2816) (l : Fin 1024) :
    (iblk m c 1 t : Vec Ideal S2816x1024 .bf16) (ix2 r l) = a1 m c (ix2 r l) := by
  have h := (idx t).2.1
  blk_ext [iblk, V_main_v0, h]

theorem blk2 (c : Dev nD) (t : Fin cfg0.N) (r : Fin 384) (l : Fin 1024) :
    (iblk m c 2 t : Vec Ideal S384x1024 .f32) (ix2 r l) = at2 (a2 m c) (384 * t.val + r.val) l.val := by
  have ht : t.val < 11 := t.isLt
  rw [at2_lt _ _ _ (by omega) (by omega)]
  have h := (idx t).2.2.1
  blk_ext [iblk, V_main_arg2, h]

/-- The kernel's result array. -/
theorem final (c : Dev nD) : (dats m 0 c).arrAt 3 cfg0.N = out (a0 m c) (a1 m c) (a2 m c) := by
  refine (dats m 0 c).arrAt_eq_of_covers 3 _ (by decide +kernel) fun t hf y => ?_
  have ht : t.val < 11 := t.isLt
  blk_simp
  rw [after0_3]
  idx_vars y
  have e : (win0_3.blk t).view.emb (ix2 y0 y1) = ix2 (⟨384 * t.val + y0.val, by omega⟩ : Fin 4224) y1 := by
    blk_ext [(idx t).2.2.2]
  rw [e]
  unfold out0_3
  frame_out
  pointwise [k0_pay1]
  simp only [blk0, blk1, blk2]
  rfl

end Cert.FfnDownIdeal.Tie

namespace Cert.FfnDownRefIdeal.Tie

open Cert.FfnDownRefIdeal Cert.FfnDownRefIdeal.Read Idealize.ShloMosaic Cert.Common

/-- The reference's term. -/
theorem ref_eq (x : (⟨2, ![4224, 2816]⟩ : Shape).Idx → EReal) (w : (⟨2, ![2816, 1024]⟩ : Shape).Idx → EReal) (h : (⟨2, ![4224, 1024]⟩ : Shape).Idx → EReal) :
    val_main_v2 (F := Ideal) x w h = Cert.FfnDownIdeal.Tie.out x w h := by
  funext i
  idx_vars i
  show _ = at2 h i0.val i1.val + ∑ k : Fin 2816, at2 x i0.val k.val * w (ix2 k i1)
  simp only [at2_eq]
  pointwise [val_main_v2, val_main_v1, val_main_v0]

end Cert.FfnDownRefIdeal.Tie

end
-- ==== Proof.FfnDownClaim.lean ====
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.FfnDownValue

@[expose] public section

set_option maxRecDepth 16384

noncomputable section

namespace Cert.FfnDown.Tie

open Idealize.ShloMosaic Idealize.SL.Sem

/-- The kernel ends, its arguments unchanged and its counters at zero. -/
theorem frame_p : Cert.quiescent_FfnDown := fun m ρ _ => Cert.FfnDown.Gen.frame m ρ

/-- So does the kernel over the extended reals. -/
theorem frame_pi : Cert.quiescent_FfnDownIdeal := fun m ρ _ => Cert.FfnDownIdeal.Gen.frame m ρ

/-- So does the reference. -/
theorem frame_ri : Cert.quiescent_FfnDownRefIdeal := fun m ρ _ =>
  (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- Kernel and reference end with equal results. -/
theorem algebraic : Cert.algebraic_FfnDownIdeal_FfnDownRefIdeal := by
  intro m ρ m' ρ' _ hagree
  refine ⟨fun c => Cert.FfnDownIdeal.Tie.out (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)),
    (θ_run Cert.FfnDownIdeal.defs _ _).mono (fun r h c => ⟨(h c).1.trans (Cert.FfnDownIdeal.Tie.final m c), (h c).2⟩)
      (Cert.FfnDownIdeal.Value.run_blocks m ρ), ?_⟩
  refine (θ_run Cert.FfnDownRefIdeal.defs _ _).mono (fun _ h c => ?_) (Cert.FfnDownRefIdeal.Value.run (F := Ideal) m' ρ')
  obtain ⟨e0, e1, e2⟩ := hagree c
  refine ⟨(h c).1.trans ?_, (h c).2⟩
  · refine (Cert.FfnDownRefIdeal.Read.val_main_v2_eq (F := Ideal) _ _ _).trans ?_
    rw [e0, e1, e2]
    exact Cert.FfnDownRefIdeal.Tie.ref_eq _ _ _

end Cert.FfnDown.Tie

end
-- ==== Proof.FfnActValue.lean ====
module

public import proofs.«01_k».proof.Proof.Gen.FfnActIdeal.Value
public import proofs.«01_k».proof.Proof.Gen.FfnActRefIdeal.Read
public import proofs.«01_k».proof.Proof.DcSpec
public import Idealize.ShloMosaic.Lib.StableHlo.Run
public import Idealize.ShloMosaic.Lib.Pipeline.ReadBack

@[expose] public section

set_option maxRecDepth 16384

noncomputable section

namespace Cert.FfnActIdeal.Tie

open Cert.FfnActIdeal Cert.FfnActIdeal.Gen Idealize.ShloMosaic Idealize.ShloMosaic.TcCoe Idealize.SL.Sem Cert.Common Cert.Dc.Spec
open Idealize.ShloMosaic.Pipeline (Dat)

/-- The gated pair: the swish of the gate half of the convolution times its value half. -/
def act (u : (⟨2, ![4224, 5632]⟩ : Shape).Idx → EReal) (w : (⟨2, ![3, 5632]⟩ : Shape).Idx → EReal) (b : (⟨1, ![5632]⟩ : Shape).Idx → EReal) :
    (⟨2, ![4224, 2816]⟩ : Shape).Idx → EReal := fun i =>
  cu u w b (i 0).val (i 1).val * Ideal.logistic (cu u w b (i 0).val (i 1).val) * cu u w b (i 0).val (2816 + (i 1).val)

variable (m : (ℓ : Loc nD τ sig) → Buf (Elt Ideal) ℓ) (c : Dev nD)

abbrev au : S4224x5632.Idx → EReal := m ((c : Thread nD τ).loc main_arg0)
abbrev aw : S3x5632.Idx → EReal := m ((c : Thread nD τ).loc main_arg1)
abbrev ab : S5632.Idx → EReal := m ((c : Thread nD τ).loc main_arg2)

/-! ## The blocks -/

theorem idx (t : Fin cfg0.N) : win0_0.index t = ![t.val, 0] ∧ win0_1.index t = ![t.val, 1] ∧ (0 < t.val → win0_2.index t = ![24 * t.val - 1, 0])
    ∧ (0 < t.val → win0_3.index t = ![24 * t.val - 1, 1]) ∧ win0_4.index t = ![0, 0] ∧ win0_5.index t = ![0, 1]
    ∧ win0_6.index t = ![0, 0] ∧ win0_7.index t = ![0, 1] ∧ win0_8.index t = ![t.val, 0]
    ∧ Scalar.cmpi CmpIPredicate.eq (BitVec.ofNat 32 (grid0.coords t 0).val) 0#32 = if t.val = 0 then 1#1 else 0#1 := by
  revert t
  decide +kernel

theorem blk0 (t : Fin cfg0.N) (r : Fin 192) (l : Fin 2816) :
    (iblk m c 0 t : Vec Ideal S192x2816 .f32) (ix2 r l) = at2 (au m c) (192 * t.val + r.val) l.val := by
  have ht : t.val < 22 := t.isLt
  rw [at2_lt _ _ _ (by omega) (by omega)]
  have h := (idx t).1
  blk_ext [iblk, V_main_arg0, h]

theorem blk1 (t : Fin cfg0.N) (r : Fin 192) (l : Fin 2816) :
    (iblk m c 1 t : Vec Ideal S192x2816 .f32) (ix2 r l) = at2 (au m c) (192 * t.val + r.val) (2816 + l.val) := by
  have ht : t.val < 22 := t.isLt
  rw [at2_lt _ _ _ (by omega) (by omega)]
  have h := (idx t).2.1
  blk_ext [iblk, V_main_arg0, h]

theorem blk2 (t : Fin cfg0.N) (h0 : 0 < t.val) (r : Fin 8) (l : Fin 2816) :
    (iblk m c 2 t : Vec Ideal S8x2816 .f32) (ix2 r l) = at2 (au m c) (192 * t.val - 8 + r.val) l.val := by
  have ht : t.val < 22 := t.isLt
  rw [at2_lt _ _ _ (by omega) (by omega)]
  have h := (idx t).2.2.1 h0
  blk_ext [iblk, V_main_arg0, h]

theorem blk3 (t : Fin cfg0.N) (h0 : 0 < t.val) (r : Fin 8) (l : Fin 2816) :
    (iblk m c 3 t : Vec Ideal S8x2816 .f32) (ix2 r l) = at2 (au m c) (192 * t.val - 8 + r.val) (2816 + l.val) := by
  have ht : t.val < 22 := t.isLt
  rw [at2_lt _ _ _ (by omega) (by omega)]
  have h := (idx t).2.2.2.1 h0
  blk_ext [iblk, V_main_arg0, h]

/-- The taps as the kernel is given them: three rows, then rows of zeros up to eight. -/
def padded (w : FVec Ideal S3x5632 .f32) : FVec Ideal S8x5632 .f32 :=
  pad S8x5632 ![0, 0] ![5, 0] ![0, 0] w (sitofp .f32 (constantI S_ 32 0#32)) pads_S3x5632_S8x5632_050_000 h_S_

/-- A row below the third of the padded taps is a row of the taps. -/
theorem padded_apply (w : FVec Ideal S3x5632 .f32) (r : Fin 8) (hr : r.val < 3) (l : Fin 5632) :
    padded w (ix2 r l) = w (ix2 ⟨r.val, hr⟩ l) := by
  pointwise [padded]
  simp [hr]

theorem V_main_v0 : (V m c main_v0 : S8x5632.Idx → EReal) = padded (aw m c) := by
  unfold V
  simp only [hostOps0, hostOps0_1, hostOps0_2, List.flatten_cons, List.flatten_nil, List.append_nil, List.cons_append, List.nil_append]
  after_results
  rfl

theorem V_main_v1 : (V m c main_v1 : S1x5632.Idx → EReal) = broadcastInDim S1x5632 ![1] bcast_S5632_S1x5632_1 (ab m c) := by
  unfold V
  simp only [hostOps0, hostOps0_1, hostOps0_2, List.flatten_cons, List.flatten_nil, List.append_nil, List.cons_append, List.nil_append]
  after_results

/-- A row of a small block. -/
abbrev rowOf (X : Vec Ideal S8x2816 .f32) (o : ℕ) (inb : ∀ a, (![o, 0] : Fin S8x2816.rank → ℕ) a + (![1, 2816] : Fin S8x2816.rank → ℕ) a ≤ S8x2816.size a) :
    Vec Ideal S1x2816 .f32 := View.ld X (Rect.unit (s := S8x2816) ![o, 0] ![1, 2816] inb)

/-- A row of an array loaded. -/
theorem ldRow (X : Vec Ideal S8x2816 .f32) (o : ℕ) (inb) (r : Fin 8) (hr : r.val = o) (l : Fin 2816) :
    rowOf X o inb (ix2 0 l) = X (ix2 r l) :=
  View.ld_unit_apply_of X _ _ inb _ (ix2 r l) (Fin.forall_fin_two.mpr ⟨by show r.val = o + 0; omega, by show l.val = 0 + l.val; omega⟩)

/-- The taps of the gate half. -/
theorem row4 (t : Fin cfg0.N) (o : ℕ) (ho : o < 3) (inb) (l : Fin 2816) :
    rowOf (iblk m c 4 t : Vec Ideal S8x2816 .f32) o inb (ix2 0 l) = at2 (aw m c) o (l.val) := by
  refine (ldRow _ o inb (⟨o, by omega⟩ : Fin 8) rfl l).trans ?_
  rw [at2_lt _ _ _ ho (by omega)]
  refine Eq.trans ?_ (padded_apply _ (⟨o, by omega⟩ : Fin 8) ho _)
  rw [← V_main_v0]
  have h := (idx t).2.2.2.2.1
  blk_ext [iblk, h]

/-- The taps of the value half. -/
theorem row5 (t : Fin cfg0.N) (o : ℕ) (ho : o < 3) (inb) (l : Fin 2816) :
    rowOf (iblk m c 5 t : Vec Ideal S8x2816 .f32) o inb (ix2 0 l) = at2 (aw m c) o (2816 + l.val) := by
  refine (ldRow _ o inb (⟨o, by omega⟩ : Fin 8) rfl l).trans ?_
  rw [at2_lt _ _ _ ho (by omega)]
  refine Eq.trans ?_ (padded_apply _ (⟨o, by omega⟩ : Fin 8) ho _)
  rw [← V_main_v0]
  have h := (idx t).2.2.2.2.2.1
  blk_ext [iblk, h]

theorem blk6 (t : Fin cfg0.N) (l : Fin 2816) : (iblk m c 6 t : Vec Ideal S1x2816 .f32) (ix2 0 l) = bias (ab m c) l.val := by
  unfold bias
  rw [dif_pos (by omega)]
  have h := (idx t).2.2.2.2.2.2.1
  have e : (iblk m c 6 t : Vec Ideal S1x2816 .f32) (ix2 0 l) = (V m c main_v1 : S1x5632.Idx → EReal) (ix2 0 ⟨l.val, by omega⟩) := by
    blk_ext [iblk, h]
  rw [e, V_main_v1]
  pointwise []

theorem blk7 (t : Fin cfg0.N) (l : Fin 2816) : (iblk m c 7 t : Vec Ideal S1x2816 .f32) (ix2 0 l) = bias (ab m c) (2816 + l.val) := by
  unfold bias
  rw [dif_pos (by omega)]
  have h := (idx t).2.2.2.2.2.2.2.1
  have e : (iblk m c 7 t : Vec Ideal S1x2816 .f32) (ix2 0 l) = (V m c main_v1 : S1x5632.Idx → EReal) (ix2 0 ⟨2816 + l.val, by omega⟩) := by
    blk_ext [iblk, h]
  rw [e, V_main_v1]
  pointwise []

/-! ## The convolution of a block -/

/-- The bias and the two earlier taps of a block. -/
theorem pay4_apply (f : ℕ → ℕ → EReal) (t : ℕ) (b : BitVec 1) (x : Vec Ideal S192x2816 .f32) (p : Vec Ideal S8x2816 .f32) (d w0 w1 : Vec Ideal S1x2816 .f32)
    (hb : b = if t = 0 then 1#1 else 0#1) (hx : ∀ (r : Fin 192) (l : Fin 2816), x (ix2 r l) = f (192 * t + r.val) l.val)
    (hp : 0 < t → ∀ (r : Fin 8) (l : Fin 2816), p (ix2 r l) = f (192 * t - 8 + r.val) l.val) (r : Fin 192) (l : Fin 2816) :
    k0_pay4 b x p d w0 w1 (ix2 r l)
      = d (ix2 0 l) + w0 (ix2 0 l) * back f 2 (192 * t + r.val) l.val + w1 (ix2 0 l) * back f 1 (192 * t + r.val) l.val := by
  have hr : r.val < 192 := r.isLt
  have h1 : ∀ r : Fin 192, IntOp.cmpi CmpIPredicate.slt (BitVec.ofNat 32 r.val) 1#32 = if r.val < 1 then 1#1 else 0#1 := by decide +kernel
  have h2 : ∀ r : Fin 192, IntOp.cmpi CmpIPredicate.slt (BitVec.ofNat 32 r.val) 2#32 = if r.val < 2 then 1#1 else 0#1 := by decide +kernel
  pointwise [k0_pay4]
  rw [h1, h2]
  refine congrArg₂ (· + ·) (congrArg₂ (· + ·) rfl (congrArg₂ (· * ·) rfl ?_)) (congrArg₂ (· * ·) rfl ?_)
  · unfold back
    by_cases h : r.val < 2
    · rw [if_pos h, dif_pos (by omega)]
      show Scalar.select b (0 : EReal) _ = _
      by_cases ht : t = 0
      · rw [hb, if_pos ht, if_neg (by omega)]
        rfl
      · rw [hb, if_neg ht, if_pos (by omega)]
        show p _ = _
        rw [hp (by omega)]
        congr 1
        show 192 * t - 8 + (r.val + 8 - 2) % 8 = _
        omega
    · rw [if_neg h, if_pos (by omega)]
      show x _ = _
      rw [hx]
      congr 1
      show 192 * t + (r.val + 192 - 2) % 192 = _
      omega
  · unfold back
    by_cases h : r.val < 1
    · rw [if_pos h, dif_pos (by omega)]
      show Scalar.select b (0 : EReal) _ = _
      by_cases ht : t = 0
      · rw [hb, if_pos ht, if_neg (by omega)]
        rfl
      · rw [hb, if_neg ht, if_pos (by omega)]
        show p _ = _
        rw [hp (by omega)]
        congr 1
        show 192 * t - 8 + (r.val + 8 - 1) % 8 = _
        omega
    · rw [if_neg h, if_pos (by omega)]
      show x _ = _
      rw [hx]
      congr 1
      show 192 * t + (r.val + 192 - 1) % 192 = _
      omega

/-- The gate half's are the same function. -/
theorem pay2_eq (i : grid0.Coords) (x : Vec Ideal S192x2816 .f32) (p : Vec Ideal S8x2816 .f32) (d w0 w1 : Vec Ideal S1x2816 .f32) :
    k0_pay2 i x p d w0 w1 = k0_pay4 (Scalar.cmpi CmpIPredicate.eq (BitVec.ofNat 32 (i 0).val) 0#32) x p d w0 w1 := rfl

/-- The gated pair of a block, from the two halves' earlier taps. -/
theorem pay1_apply (x y g v : Vec Ideal S192x2816 .f32) (w2 w2' : Vec Ideal S1x2816 .f32) (r : Fin 192) (l : Fin 2816) :
    k0_pay1 (k0_pay3 x g w2) y v w2' (ix2 r l)
      = (g (ix2 r l) + w2 (ix2 0 l) * x (ix2 r l)) * Ideal.logistic (g (ix2 r l) + w2 (ix2 0 l) * x (ix2 r l)) * (v (ix2 r l) + w2' (ix2 0 l) * y (ix2 r l)) := by
  pointwise [k0_pay1, k0_pay3]

theorem first (t : Fin cfg0.N) :
    Scalar.cmpi CmpIPredicate.eq (BitVec.ofNat 32 (grid0.coords t 0).val) 0#32 = if t.val = 0 then 1#1 else 0#1 := (idx t).2.2.2.2.2.2.2.2.2

/-- The kernel's result array. -/
theorem final : (dats m 0 c).arrAt 8 cfg0.N = act (au m c) (aw m c) (ab m c) := by
  refine (dats m 0 c).arrAt_eq_of_covers 8 _ (by decide +kernel) fun t hf y => ?_
  have ht : t.val < 22 := t.isLt
  blk_simp
  rw [after0_8]
  idx_vars y
  have e : (win0_8.blk t).view.emb (ix2 y0 y1) = ix2 (⟨192 * t.val + y0.val, by omega⟩ : Fin 4224) y1 := by
    blk_ext [(idx t).2.2.2.2.2.2.2.2.1]
  rw [e]
  unfold out0_8
  frame_out
  refine (pay1_apply _ _ _ _ _ _ y0 y1).trans ?_
  rw [pay2_eq, pay4_apply (fun k l => at2 (au m c) k l) t.val _ _ _ _ _ _ (first t) (blk0 m c t) (blk2 m c t) y0 y1,
    pay4_apply (fun k l => at2 (au m c) k (2816 + l)) t.val _ _ _ _ _ _ (first t) (blk1 m c t) (blk3 m c t) y0 y1]
  rw [show View.ld (iblk m c 4 t) r0_3 (ix2 0 y1) = _ from row4 m c t 0 (by decide) _ y1, show View.ld (iblk m c 4 t) r0_4 (ix2 0 y1) = _ from row4 m c t 1 (by decide) _ y1,
    show View.ld (iblk m c 4 t) r0_5 (ix2 0 y1) = _ from row4 m c t 2 (by decide) _ y1, show View.ld (iblk m c 5 t) r0_3 (ix2 0 y1) = _ from row5 m c t 0 (by decide) _ y1,
    show View.ld (iblk m c 5 t) r0_4 (ix2 0 y1) = _ from row5 m c t 1 (by decide) _ y1, show View.ld (iblk m c 5 t) r0_5 (ix2 0 y1) = _ from row5 m c t 2 (by decide) _ y1,
    blk6, blk7, blk0, blk1]
  rfl

end Cert.FfnActIdeal.Tie

namespace Cert.FfnActRefIdeal.Tie

open Cert.FfnActRefIdeal Cert.FfnActRefIdeal.Read Idealize.ShloMosaic Cert.Common Cert.Dc.Spec

variable (u : FVec Ideal S4224x5632 .f32) (w : FVec Ideal S3x5632 .f32) (b : FVec Ideal S5632 .f32)

/-- The array under two rows of zeros. -/
theorem v1_apply (k : Fin 4226) (l : Fin 5632) (s k' : ℕ) (h : k.val + s = k' + 2) (hk : k' < 4224) :
    val_main_v1 (F := Ideal) u (ix2 k l) = back (fun k l => at2 u k l) s k' l.val := by
  have hk4 : k.val < 4226 := k.isLt
  pointwise [val_main_v1, val_main_v0, val_main_cst]
  unfold back
  by_cases h2 : k.val < 2
  · rw [dif_pos h2, if_neg (by omega)]
  · rw [dif_neg h2]
    have hr : (if s ≤ k' then at2 u (k' - s) l.val else 0) = u (ix2 ⟨k' - s, by omega⟩ l) := by
      rw [if_pos (by omega), at2_lt _ _ _ (by omega) l.isLt]
    refine Eq.trans ?_ hr.symm
    exact congr_arg u (congr_arg₂ ix2 (Fin.ext (by show k.val - 2 = k' - s; omega)) rfl)

/-- The convolution. -/
theorem v24_apply (k : Fin 4224) (l : Fin 5632) : val_main_v24 (F := Ideal) u w b (ix2 k l) = cu u w b k.val l.val := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2]
  rw [v1_apply u _ l 2 k.val rfl k.isLt, v1_apply u _ l 1 k.val (by show 1 + k.val + 1 = k.val + 2; omega) k.isLt,
    v1_apply u _ l 0 k.val (by show 2 + k.val + 0 = k.val + 2; omega) k.isLt]
  unfold cu conv bias
  rw [dif_pos l.isLt]
  simp only [at2_lt w 0 l.val (by decide) l.isLt, at2_lt w 1 l.val (by decide) l.isLt, at2_lt w 2 l.val (by decide) l.isLt]
  rfl

/-- The reference's term. -/
theorem ref_eq : val_main_v29 (F := Ideal) u w b = Cert.FfnActIdeal.Tie.act u w b := by
  funext i
  idx_vars i
  pointwise [val_main_v29, val_main_v28, val_main_v27, val_main_call0_v5, val_main_call0_v4, val_main_call0_v3, val_main_call0_v2, val_main_call0_v1,
    val_main_call0_v0, val_main_call0_cst, val_main_call0_cst_0, val_main_v26, val_main_v25]
  rw [v24_apply, v24_apply]
  rfl

end Cert.FfnActRefIdeal.Tie

end
-- ==== Proof.FfnActClaim.lean ====
module

public import proofs.«01_k».proof.Defs
public import proofs.«01_k».proof.Proof.Gen.FfnAct.Frame
public import proofs.«01_k».proof.Proof.Gen.FfnActIdeal.Value
public import proofs.«01_k».proof.Proof.Gen.FfnActRefIdeal.Run
public import proofs.«01_k».proof.Proof.Gen.FfnActRefIdeal.Read
public import proofs.«01_k».proof.Proof.FfnActValue

@[expose] public section

set_option maxRecDepth 16384

noncomputable section

namespace Cert.FfnAct.Tie

open Idealize.ShloMosaic Idealize.SL.Sem

/-- The kernel ends, its arguments unchanged and its counters at zero. -/
theorem frame_p : Cert.quiescent_FfnAct := fun m ρ _ => Cert.FfnAct.Gen.frame m ρ

/-- So does the kernel over the extended reals. -/
theorem frame_pi : Cert.quiescent_FfnActIdeal := fun m ρ _ => Cert.FfnActIdeal.Gen.frame m ρ

/-- So does the reference. -/
theorem frame_ri : Cert.quiescent_FfnActRefIdeal := fun m ρ _ =>
  (θ_run Cert.FfnActRefIdeal.defs _ _).mono
    (fun r h => ⟨fun c => (h c).2, Idealize.ShloMosaic.sem_eq_zero_of_no_sems (by decide) r.2⟩)
    (Cert.FfnActRefIdeal.Value.run (F := Ideal) m ρ)

/-- Kernel and reference end with equal results. -/
theorem algebraic : Cert.algebraic_FfnActIdeal_FfnActRefIdeal := by
  intro m ρ m' ρ' _ hagree
  refine ⟨fun c => Cert.FfnActIdeal.Tie.act (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)),
    (θ_run Cert.FfnActIdeal.defs _ _).mono (fun r h c => ⟨(h c).1.trans (Cert.FfnActIdeal.Tie.final m c), (h c).2⟩)
      (Cert.FfnActIdeal.Value.run_blocks m ρ), ?_⟩
  refine (θ_run Cert.FfnActRefIdeal.defs _ _).mono (fun _ h c => ?_) (Cert.FfnActRefIdeal.Value.run (F := Ideal) m' ρ')
  obtain ⟨e0, e1, e2⟩ := hagree c
  refine ⟨(h c).1.trans ?_, (h c).2⟩
  · refine (Cert.FfnActRefIdeal.Read.val_main_v29_eq (F := Ideal) m' c).trans ?_
    rw [e0, e1, e2]
    exact Cert.FfnActRefIdeal.Tie.ref_eq _ _ _

end Cert.FfnAct.Tie

end
-- ==== Proof.FfnLossValue.lean ====
module

public import proofs.«01_k».proof.Proof.Gen.FfnLossIdeal.Value
public import proofs.«01_k».proof.Proof.Gen.FfnLossRefIdeal.Read
public import proofs.«01_k».proof.Proof.Common
public import Idealize.ShloMosaic.Lib.StableHlo.Run
public import Idealize.ShloMosaic.Lib.Pipeline.ReadBack

@[expose] public section

set_option maxRecDepth 16384

noncomputable section

namespace Cert.FfnLoss.Spec

open Idealize.ShloMosaic Cert.Common

/-! ## Sums of squares -/

/-- A square is not negative. -/
theorem sq_nonneg (x : EReal) : 0 ≤ x * x := by
  induction x with
  | bot => simp
  | top => simp
  | coe r => exact_mod_cast mul_self_nonneg r

/-- A real factor goes into a sum of values that are not negative. -/
theorem mul_sum {ι : Type*} (s : Finset ι) (a : EReal) (f : ι → EReal) (hf : ∀ i ∈ s, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i (Finset.mem_insert_self i s))
      (Finset.sum_nonneg fun j hj => hf j (Finset.mem_insert_of_mem hj)), ih fun j hj => hf j (Finset.mem_insert_of_mem hj)]

/-! ## The constants -/

theorem two : Ideal.ofBits .f32 0x40000000#32 = ((2 : ℝ) : EReal) := by simp [Ideal.ofBits, Ideal.ieee, -EReal.coe_mul]; norm_num
theorem oneHalf : Ideal.ofBits .f32 0x3F000000#32 = ((1 / 2 : ℝ) : EReal) := by simp [Ideal.ofBits, Ideal.ieee, -EReal.coe_mul]; norm_num
theorem width : Ideal.ofBits .f32 0x44800000#32 = ((1024 : ℝ) : EReal) := by simp [Ideal.ofBits, Ideal.ieee, -EReal.coe_mul]; norm_num
theorem invWidth : Ideal.ofBits .f32 0x3A800000#32 = ((1 / 1024 : ℝ) : EReal) := by simp [Ideal.ofBits, Ideal.ieee, -EReal.coe_mul]; norm_num
theorem halfInvWidth : Ideal.ofBits .f32 0x3A000000#32 = ((1 / 2048 : ℝ) : EReal) := by simp [Ideal.ofBits, Ideal.ieee, -EReal.coe_mul]; norm_num

/-! ## The loss and its cotangent -/

section
variable (x : (⟨2, ![4224, 2816]⟩ : Shape).Idx → EReal) (w : (⟨2, ![2816, 1024]⟩ : Shape).Idx → EReal)
  (h : (⟨2, ![4224, 1024]⟩ : Shape).Idx → EReal) (t : (⟨2, ![4096, 1024]⟩ : Shape).Idx → EReal)

/-- The last layer's output: a product added to the residual stream. -/
def out (k : ℕ) (l : Fin 1024) : EReal := at2 h k l.val + ∑ e : Fin 2816, at2 x k e.val * w (ix2 e l)

/-- Its distance from the target on the rows of real tokens, and zero on the other rows. -/
def err (k : ℕ) (l : Fin 1024) : EReal := if 16 ≤ k ∧ k < 4112 then out x w h k l - at2 t (k - 16) l.val else 0

/-- The output's cotangent. -/
def dy : (⟨2, ![4224, 1024]⟩ : Shape).Idx → EReal := fun i => err x w h t (i 0).val (i 1) * Ideal.ofBits .f32 0x3A800000#32

/-- What row `k` adds to the loss. -/
def term (k : ℕ) : EReal := Ideal.ofBits .f32 0x3A000000#32 * ∑ l : Fin 1024, err x w h t k l * err x w h t k l

/-- The loss: half the sum over rows of the mean squared distance. -/
def loss : (⟨2, ![1, 1]⟩ : Shape).Idx → EReal := fun _ => ∑ k : Fin 4224, term x w h t k.val

theorem term_nonneg (k : ℕ) : 0 ≤ ∑ l : Fin 1024, err x w h t k l * err x w h t k l := Finset.sum_nonneg fun _ _ => sq_nonneg _

/-- Only the rows of real tokens count. -/
theorem loss_eq : ∑ k : Fin 4224, term x w h t k.val = ∑ k : Fin 4096, term x w h t (16 + k.val) := by
  have h0 : ∀ k, ¬(16 ≤ k ∧ k < 4112) → term x w h t k = 0 := fun k hk => by
    unfold term
    rw [Finset.sum_eq_zero fun l _ => by unfold err; rw [if_neg hk, mul_zero], mul_zero]
  rw [Fin.sum_univ_eq_sum_range (fun k => term x w h t k) 4224, Fin.sum_univ_eq_sum_range (fun k => term x w h t (16 + k)) 4096,
    show 4224 = 16 + (4096 + 112) from rfl, Finset.sum_range_add, Finset.sum_range_add, Finset.sum_eq_zero fun k hk => h0 k (by
      have := Finset.mem_range.mp hk
      omega), Finset.sum_eq_zero (s := Finset.range 112) fun k hk => h0 _ (by omega), zero_add, add_zero]

end

end Cert.FfnLoss.Spec

namespace Cert.FfnLossIdeal.Tie

open Cert.FfnLossIdeal Cert.FfnLossIdeal.Gen Idealize.ShloMosaic Idealize.ShloMosaic.TcCoe Idealize.SL.Sem Cert.Common Cert.FfnLoss.Spec
open Idealize.ShloMosaic.Pipeline (Dat)

variable (m : (ℓ : Loc nD τ sig) → Buf (Elt Ideal) ℓ) (c : Dev nD)

theorem idx (t : Fin cfg0.N) : win0_0.index t = ![t.val, 0] ∧ win0_1.index t = ![0, 0] ∧ win0_2.index t = ![t.val, 0] ∧ win0_3.index t = ![t.val, 0]
    ∧ win0_4.index t = ![t.val, 0] ∧ win0_5.index t = ![0, 0] := by
  revert t
  decide +kernel

/-- The four arguments as one device holds them. -/
abbrev a0 : (⟨2, ![4224, 2816]⟩ : Shape).Idx → EReal := m ((c : Thread nD τ).loc main_arg0)
abbrev a1 : (⟨2, ![2816, 1024]⟩ : Shape).Idx → EReal := m ((c : Thread nD τ).loc main_arg1)
abbrev a2 : (⟨2, ![4224, 1024]⟩ : Shape).Idx → EReal := m ((c : Thread nD τ).loc main_arg2)
abbrev a3 : (⟨2, ![4096, 1024]⟩ : Shape).Idx → EReal := m ((c : Thread nD τ).loc main_arg3)

/-- The target as the kernel is given it: under 16 rows of zeros and over 112. -/
def padded (t : FVec Ideal S4096x1024 .f32) : FVec Ideal S4224x1024 .f32 :=
  pad S4224x1024 ![16, 0] ![112, 0] ![0, 0] t (sitofp .f32 (constantI S_ 32 0#32)) pads_S4096x1024_S4224x1024_161120_000 h_S_

/-- A row of a real token is a row of the target. -/
theorem padded_apply (t : FVec Ideal S4096x1024 .f32) (k : Fin 4224) (hk : 16 ≤ k.val ∧ k.val < 4112) (l : Fin 1024) :
    padded t (ix2 k l) = at2 t (k.val - 16) l.val := by
  rw [at2_lt _ _ _ (by omega) l.isLt]
  pointwise [padded]
  rw [dif_pos (by omega)]

theorem V_main_v0 : (V m c main_v0 : S4224x1024.Idx → EReal) = padded (a3 m c) := by
  unfold V
  simp only [hostOps0, hostOps0_1, hostOps0_2, List.flatten_cons, List.flatten_nil, List.append_nil, List.cons_append, List.nil_append]
  after_results
  rfl

theorem V_main_v1 : (V m c main_v1 : S2816x1024.Idx → EReal) = a1 m c := by
  unfold V
  simp only [hostOps0, hostOps0_1, hostOps0_2, List.flatten_cons, List.flatten_nil, List.append_nil, List.cons_append, List.nil_append]
  after_results
  rfl

theorem blk0 (t : Fin cfg0.N) (r : Fin 384) (l : Fin 2816) :
    (iblk m c 0 t : Vec Ideal S384x2816 .bf16) (ix2 r l) = at2 (a0 m c) (384 * t.val + r.val) l.val := by
  have ht : t.val < 11 := t.isLt
  rw [at2_lt _ _ _ (by omega) (by omega)]
  have h := (idx t).1
  blk_ext [iblk, V_main_arg0, h]

theorem blk1 (t : Fin cfg0.N) (r : Fin 2816) (l : Fin 1024) :
    (iblk m c 1 t : Vec Ideal S2816x1024 .bf16) (ix2 r l) = a1 m c (ix2 r l) := by
  have h := (idx t).2.1
  blk_ext [iblk, V_main_v1, h]

theorem blk2 (t : Fin cfg0.N) (r : Fin 384) (l : Fin 1024) :
    (iblk m c 2 t : Vec Ideal S384x1024 .f32) (ix2 r l) = at2 (a2 m c) (384 * t.val + r.val) l.val := by
  have ht : t.val < 11 := t.isLt
  rw [at2_lt _ _ _ (by omega) (by omega)]
  have h := (idx t).2.2.1
  blk_ext [iblk, V_main_arg2, h]

theorem blk3 (t : Fin cfg0.N) (r : Fin 384) (l : Fin 1024) (hk : 16 ≤ 384 * t.val + r.val ∧ 384 * t.val + r.val < 4112) :
    (iblk m c 3 t : Vec Ideal S384x1024 .f32) (ix2 r l) = at2 (a3 m c) (384 * t.val + r.val - 16) l.val := by
  have h := (idx t).2.2.2.1
  have e : (iblk m c 3 t : Vec Ideal S384x1024 .f32) (ix2 r l) = (V m c main_v0 : S4224x1024.Idx → EReal) (ix2 ⟨384 * t.val + r.val, by omega⟩ l) := by
    blk_ext [iblk, h]
  rw [e, V_main_v0]
  exact padded_apply _ _ hk l

set_option maxRecDepth 100000 in
/-- The test whether a row is a real token's. -/
theorem real (t : Fin cfg0.N) (r : Fin 384) :
    IntOp.andi (IntOp.cmpi CmpIPredicate.sge (IntOp.addi (Scalar.muli (BitVec.ofNat 32 (grid0.coords t 0).val) 384#32) (BitVec.ofNat 32 r.val)) 16#32)
      (IntOp.cmpi CmpIPredicate.slt (IntOp.addi (Scalar.muli (BitVec.ofNat 32 (grid0.coords t 0).val) 384#32) (BitVec.ofNat 32 r.val)) 4112#32)
      = if 16 ≤ 384 * t.val + r.val ∧ 384 * t.val + r.val < 4112 then 1#1 else 0#1 := by
  revert t r
  decide +kernel

/-- The distance from the target in a block. -/
theorem pay3_apply (t : Fin cfg0.N) (r : Fin 384) (l : Fin 1024) :
    k0_pay3 (F := Ideal) (grid0.coords t) (iblk m c 2 t) (iblk m c 0 t) (iblk m c 1 t) (iblk m c 3 t) (ix2 r l)
      = err (a0 m c) (a1 m c) (a2 m c) (a3 m c) (384 * t.val + r.val) l := by
  pointwise [k0_pay3]
  rw [real]
  unfold err
  by_cases hk : 16 ≤ 384 * t.val + r.val ∧ 384 * t.val + r.val < 4112
  · rw [if_pos hk, if_pos hk, blk3 m c t r l hk]
    simp only [blk0, blk1, blk2]
    rfl
  · rw [if_neg hk, if_neg hk]
    rfl

theorem pay4_apply (t : Fin cfg0.N) (r : Fin 384) (l : Fin 1024) :
    k0_pay4 (F := Ideal) (grid0.coords t) (iblk m c 2 t) (iblk m c 0 t) (iblk m c 1 t) (iblk m c 3 t) (ix2 r l)
      = err (a0 m c) (a1 m c) (a2 m c) (a3 m c) (384 * t.val + r.val) l * Ideal.ofBits .f32 0x3A800000#32 := by
  pointwise [k0_pay4]
  rw [pay3_apply]

/-- What one point adds to the loss. -/
theorem pay1_apply (t : Fin cfg0.N) (A : Vec Ideal S1x1 .f32) (j : S1x1.Idx) :
    k0_pay1 (F := Ideal) (k0_pay5 A) (k0_pay6 (F := Ideal) (grid0.coords t) (iblk m c 2 t) (iblk m c 0 t) (iblk m c 1 t) (iblk m c 3 t)) j
      = A j + ∑ q : Fin 384, term (a0 m c) (a1 m c) (a2 m c) (a3 m c) (384 * t.val + q.val) := by
  idx_vars j
  pointwise [k0_pay1, k0_pay5, k0_pay6]
  simp only [pay3_apply]
  unfold term
  rw [mul_sum _ _ _ fun k _ => term_nonneg _ _ _ _ _]

theorem zero_apply (j : S1x1.Idx) : k0_pay2 (F := Ideal) j = 0 := by
  pointwise [k0_pay2]

theorem acc (t : Fin cfg0.N) (j : S1x1.Idx) :
    ((outsAt0 m c t.val t.isLt).2 : Vec Ideal S1x1 .f32) j = 0 + ∑ k ∈ Finset.range (t.val % 11 + 1),
      ∑ q : Fin 384, term (a0 m c) (a1 m c) (a2 m c) (a3 m c) (384 * (11 * (t.val / 11) + k) + q.val) := by
  refine Pipeline.eq_sum_of_reset_step_apply (fun n h => (outsAt0 m c n h).2) 11 (fun _ => 0)
    (fun n _ => ∑ q : Fin 384, term (a0 m c) (a1 m c) (a2 m c) (a3 m c) (384 * n + q.val)) (fun t h j => ?_) (fun t h j => ?_) t j
  · rw [outsAt0_A m c t h]
    frame_out
    refine (pay1_apply m c t _ j).trans ?_
    rw [zero_apply]
  · rw [outsAt0_B m c t h]
    frame_out
    exact pay1_apply m c t _ j

/-- The array of the cotangent. -/
theorem final4 : (dats m 0 c).arrAt 4 cfg0.N = dy (a0 m c) (a1 m c) (a2 m c) (a3 m c) := by
  refine (dats m 0 c).arrAt_eq_of_covers 4 _ (by decide +kernel) fun t hf y => ?_
  have ht : t.val < 11 := t.isLt
  blk_simp
  rw [after0_4]
  idx_vars y
  have e : (win0_4.blk t).view.emb (ix2 y0 y1) = ix2 (⟨384 * t.val + y0.val, by omega⟩ : Fin 4224) y1 := by
    blk_ext [(idx t).2.2.2.2.1]
  rw [e]
  by_cases h : t.val % 11 = 0
  · rw [outsAt0_A m c t h]
    frame_out
    exact pay4_apply m c t y0 y1
  · rw [outsAt0_B m c t h]
    frame_out
    exact pay4_apply m c t y0 y1

/-- The loss. -/
theorem final5 : (dats m 0 c).arrAt 5 cfg0.N = loss (a0 m c) (a1 m c) (a2 m c) (a3 m c) := by
  refine (dats m 0 c).arrAt_eq_of_covers 5 _ (by decide +kernel) fun t hf y => ?_
  have ht : t.val < 11 := t.isLt
  have hm := (flush0_5 t).mp hf
  blk_simp
  rw [after0_5]
  refine (acc m c t y).trans ?_
  rw [hm, zero_add]
  unfold loss
  refine Eq.trans ?_ (sum_blocks 11 384 4224 rfl fun k => term (a0 m c) (a1 m c) (a2 m c) (a3 m c) k)
  refine Finset.sum_congr rfl fun s hs => ?_
  rw [show 11 * (t.val / 11) + s = s by omega]

end Cert.FfnLossIdeal.Tie

namespace Cert.FfnLossRefIdeal.Tie

open Cert.FfnLossRefIdeal Cert.FfnLossRefIdeal.Read Idealize.ShloMosaic Cert.Common Cert.FfnLoss.Spec

variable (x : (⟨2, ![4224, 2816]⟩ : Shape).Idx → EReal) (w : (⟨2, ![2816, 1024]⟩ : Shape).Idx → EReal)
  (h : (⟨2, ![4224, 1024]⟩ : Shape).Idx → EReal) (t : (⟨2, ![4096, 1024]⟩ : Shape).Idx → EReal)

/-- The distance from the target. -/
theorem v4_apply (k : Fin 4096) (l : Fin 1024) : val_main_v4 (F := Ideal) x w h t (ix2 k l) = err x w h t (16 + k.val) l := by
  have hk := k.isLt
  unfold err out
  rw [if_pos (by omega), at2_lt h _ _ (by omega) l.isLt, Nat.add_sub_cancel_left, at2_eq t]
  have e : ∀ q : Fin 2816, at2 x (16 + k.val) q.val = x (ix2 ⟨16 + k.val, by omega⟩ q) := fun q => at2_lt x _ _ (by omega) q.isLt
  simp only [e]
  pointwise [val_main_v4, val_main_v3, val_main_v2, val_main_v1, val_main_v0]

/-- The cotangent. -/
theorem dy_eq : val_main_v19 (F := Ideal) x w h t = dy x w h t := by
  funext i
  idx_vars i
  show _ = err x w h t i0.val i1 * Ideal.ofBits .f32 0x3A800000#32
  pointwise [val_main_v19, val_main_v18, val_main_v17, val_main_v16, val_main_v15, val_main_v14, val_main_v13, val_main_v7, val_main_v6, val_main_cst,
    val_main_cst_4, val_main_cst_5, val_main_cst_6, val_main_cst_7]
  simp only [v4_apply]
  by_cases hk : 16 ≤ i0.val ∧ i0.val - 16 < 4096
  · rw [dif_pos hk, show 16 + (i0.val - 16) = i0.val by omega, oneHalf, width, two, invWidth, Ideal.div_coe (by norm_num), ← mul_assoc, ← EReal.coe_mul,
      ← EReal.coe_mul, mul_comm]
    norm_num
  · rw [dif_neg hk]
    unfold err
    rw [if_neg (by omega), zero_mul]

/-- The loss. -/
theorem loss_eq : val_main_v20 (F := Ideal) x w h t = loss x w h t := by
  funext i
  idx_vars i
  show _ = ∑ k : Fin 4224, term x w h t k.val
  rw [Cert.FfnLoss.Spec.loss_eq]
  pointwise [val_main_v20, val_main_v12, val_main_v11, val_main_v10, val_main_v9, val_main_v8, val_main_v5, val_main_cst_0, val_main_cst_1, val_main_cst_2,
    val_main_cst_3]
  simp only [v4_apply]
  rw [oneHalf, width, mul_sum]
  · refine Finset.sum_congr rfl fun k _ => ?_
    unfold term
    rw [Ideal.div_coe (by norm_num), halfInvWidth, mul_comm, mul_assoc, ← EReal.coe_mul, mul_comm]
    norm_num
  · intro k _
    rw [Ideal.div_coe (by norm_num)]
    exact mul_nonneg (term_nonneg _ _ _ _ _) (by exact_mod_cast (by norm_num : (0 : ℝ) ≤ 1 / 1024))

end Cert.FfnLossRefIdeal.Tie

end
-- ==== Proof.FfnLossClaim.lean ====
module

public import proofs.«01_k».proof.Defs
public import proofs.«01_k».proof.Proof.Gen.FfnLoss.Frame
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Proof.FfnLossValue

@[expose] public section

set_option maxRecDepth 16384

noncomputable section

namespace Cert.FfnLoss.Tie

open Idealize.ShloMosaic Idealize.SL.Sem

/-- The kernel ends, its arguments unchanged and its counters at zero. -/
theorem frame_p : Cert.quiescent_FfnLoss := fun m ρ _ => Cert.FfnLoss.Gen.frame m ρ

/-- So does the kernel over the extended reals. -/
theorem frame_pi : Cert.quiescent_FfnLossIdeal := fun m ρ _ => Cert.FfnLossIdeal.Gen.frame m ρ

/-- So does the reference. -/
theorem frame_ri : Cert.quiescent_FfnLossRefIdeal := fun m ρ _ =>
  (θ_run Cert.FfnLossRefIdeal.defs _ _).mono
    (fun r h => ⟨fun c => (h c).2.2, Idealize.ShloMosaic.sem_eq_zero_of_no_sems (by decide) r.2⟩)
    (Cert.FfnLossRefIdeal.Value.run (F := Ideal) m ρ)

/-- Kernel and reference end with equal results. -/
theorem algebraic : Cert.algebraic_FfnLossIdeal_FfnLossRefIdeal := by
  intro m ρ m' ρ' _ hagree
  refine ⟨fun c => Cert.FfnLoss.Spec.dy (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)), fun c => Cert.FfnLoss.Spec.loss (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)),
    (θ_run Cert.FfnLossIdeal.defs _ _).mono (fun r h c => ⟨(h c).1.trans (Cert.FfnLossIdeal.Tie.final4 m c), (h c).2.1.trans (Cert.FfnLossIdeal.Tie.final5 m c), (h c).2.2⟩)
      (Cert.FfnLossIdeal.Value.run_blocks m ρ), ?_⟩
  refine (θ_run Cert.FfnLossRefIdeal.defs _ _).mono (fun _ h c => ?_) (Cert.FfnLossRefIdeal.Value.run (F := Ideal) m' ρ')
  obtain ⟨e0, e1, e2, e3⟩ := hagree c
  refine ⟨(h c).1.trans ?_, (h c).2.1.trans ?_, (h c).2.2⟩
  · refine (Cert.FfnLossRefIdeal.Read.val_main_v19_eq (F := Ideal) _ _ _ _).trans ?_
    rw [e0, e1, e2, e3]
    exact Cert.FfnLossRefIdeal.Tie.dy_eq _ _ _ _
  · refine (Cert.FfnLossRefIdeal.Read.val_main_v20_eq (F := Ideal) _ _ _ _).trans ?_
    rw [e0, e1, e2, e3]
    exact Cert.FfnLossRefIdeal.Tie.loss_eq _ _ _ _

end Cert.FfnLoss.Tie

end
-- ==== Proof.AttSpec.lean ====
module

public import proofs.«01_k».proof.Proof.Common

/-
  Attention read key by key: the largest score of the first keys, the weighted sum of the exponentials of the scores
  less that largest one, how both grow when more keys follow, and the quotient of two such sums.
-/

@[expose] public section

noncomputable section

namespace Cert.Proof.Att

open Idealize.ShloMosaic

/-- The largest of the first `n` scores, `-∞` for none. -/
def peak (s : ℕ → EReal) (n : ℕ) : EReal := (Finset.range n).sup s

/-- The sum over the first `n` keys of the exponential of the score less the largest, times a weight. -/
def mass (s : ℕ → EReal) (w : ℕ → EReal) (n : ℕ) : EReal :=
  ∑ j ∈ Finset.range n, Ideal.exp (s j - peak s n) * w j

theorem exp_nonneg (x : EReal) : 0 ≤ Ideal.exp x := by
  induction x with
  | bot => simp
  | top => simp
  | coe r => simpa using EReal.coe_nonneg.2 (Real.exp_pos r).le

theorem exp_ne_top {x : EReal} (h : x ≠ ⊤) : Ideal.exp x ≠ ⊤ := by
  induction x with
  | bot => simp
  | top => exact absurd rfl h
  | coe r => simp

theorem bot_sub (x : EReal) : (⊥ : EReal) - x = ⊥ := by rw [sub_eq_add_neg, EReal.bot_add]

theorem mul_sum {ι : Type*} (t : Finset ι) {c : EReal} (h0 : 0 ≤ c) (h1 : c ≠ ⊤) (f : ι → EReal) :
    c * ∑ i ∈ t, f i = ∑ i ∈ t, c * f i := by
  classical
  induction t using Finset.induction_on with
  | empty => simp
  | insert a t ha ih =>
    rw [Finset.sum_insert ha, Finset.sum_insert ha, EReal.left_distrib_of_nonneg_of_ne_top h0 h1, ih]

theorem peak_ne_top {s : ℕ → EReal} (hs : ∀ j, s j ≠ ⊤) (n : ℕ) : peak s n ≠ ⊤ := by
  have : peak s n < ⊤ := (Finset.sup_lt_iff bot_lt_top).2 fun j _ => lt_top_iff_ne_top.2 (hs j)
  exact this.ne

theorem le_peak (s : ℕ → EReal) {j n : ℕ} (h : j < n) : s j ≤ peak s n := Finset.le_sup (Finset.mem_range.2 h)

theorem peak_zero (s : ℕ → EReal) : peak s 0 = ⊥ := rfl

theorem mass_zero (s w : ℕ → EReal) : mass s w 0 = 0 := rfl

theorem peak_add (s : ℕ → EReal) (n k : ℕ) :
    peak s (n + k) = max (peak s n) ((Finset.univ : Finset (Fin k)).sup fun i => s (n + i.val)) := by
  apply le_antisymm
  · refine Finset.sup_le fun j hj => ?_
    rw [Finset.mem_range] at hj
    by_cases h : j < n
    · exact le_max_of_le_left (le_peak s h)
    · refine le_max_of_le_right ?_
      have := Finset.le_sup (f := fun i : Fin k => s (n + i.val)) (Finset.mem_univ (⟨j - n, by omega⟩ : Fin k))
      simpa [show n + (j - n) = j by omega] using this
  · refine max_le (Finset.sup_mono (Finset.range_mono (by omega))) (Finset.sup_le fun i _ => ?_)
    exact le_peak s (by omega)

/-- The difference of two scores' exponentials under a change of the largest. -/
theorem exp_shift {x m m' : EReal} (hx : x ≤ m) (hm : m ≤ m') (h : m' ≠ ⊤) :
    Ideal.exp (m - m') * Ideal.exp (x - m) = Ideal.exp (x - m') := by
  induction x with
  | bot => simp [bot_sub]
  | top => exact absurd (top_le_iff.1 (hx.trans hm)) h
  | coe x =>
    induction m' with
    | bot => exact absurd (le_bot_iff.1 (hx.trans hm)) (EReal.coe_ne_bot x)
    | top => exact absurd rfl h
    | coe b =>
      induction m with
      | bot => exact absurd (le_bot_iff.1 hx) (EReal.coe_ne_bot x)
      | top => exact absurd (top_le_iff.1 hm) (EReal.coe_ne_top b)
      | coe a =>
        rw [← EReal.coe_sub, ← EReal.coe_sub, ← EReal.coe_sub, Ideal.exp_coe, Ideal.exp_coe, Ideal.exp_coe,
          ← EReal.coe_mul, ← Real.exp_add]
        congr 2; ring

theorem sub_ne_top {m m' : EReal} (hm : m ≤ m') (h : m' ≠ ⊤) : m - m' ≠ ⊤ := by
  induction m' with
  | bot => rw [le_bot_iff.1 hm, bot_sub]; exact bot_ne_top
  | top => exact absurd rfl h
  | coe b =>
    induction m with
    | bot => rw [bot_sub]; exact bot_ne_top
    | top => exact absurd (top_le_iff.1 hm) (EReal.coe_ne_top b)
    | coe a => rw [← EReal.coe_sub]; exact EReal.coe_ne_top _

/-- The sum after `k` more keys: what there was, brought to the new largest score, and the new keys' terms. -/
theorem mass_add {s : ℕ → EReal} (hs : ∀ j, s j ≠ ⊤) (w : ℕ → EReal) (n k : ℕ) :
    mass s w (n + k) = Ideal.exp (peak s n - peak s (n + k)) * mass s w n
      + ∑ i : Fin k, Ideal.exp (s (n + i.val) - peak s (n + k)) * w (n + i.val) := by
  have hm : peak s n ≤ peak s (n + k) := Finset.sup_mono (Finset.range_mono (by omega))
  have ht := peak_ne_top hs (n + k)
  rw [mass, Finset.sum_range_add, mass, mul_sum _ (exp_nonneg _) (exp_ne_top (sub_ne_top hm ht)),
    ← Fin.sum_univ_eq_sum_range (fun i => Ideal.exp (s (n + i) - peak s (n + k)) * w (n + i)) k]
  congr 1
  refine Finset.sum_congr rfl fun j hj => ?_
  rw [← mul_assoc, exp_shift (le_peak s (Finset.mem_range.1 hj)) hm ht]

/-- Keys without a score change nothing. -/
theorem peak_extend {s : ℕ → EReal} {n k : ℕ} (h : ∀ j, n ≤ j → s j = ⊥) : peak s (n + k) = peak s n := by
  rw [peak_add, max_eq_left]
  exact Finset.sup_le fun i _ => by rw [h _ (by omega)]; exact bot_le

theorem mass_extend {s : ℕ → EReal} {n k : ℕ} (h : ∀ j, n ≤ j → s j = ⊥) (w : ℕ → EReal) :
    mass s w (n + k) = mass s w n := by
  rw [mass, Finset.sum_range_add, peak_extend h, mass]
  conv_rhs => rw [← add_zero (∑ j ∈ Finset.range n, Ideal.exp (s j - peak s n) * w j)]
  congr 1
  exact Finset.sum_eq_zero fun i _ => by rw [h _ (by omega), bot_sub, Ideal.exp_bot, zero_mul]

/-- The sum of the exponentials is a positive real number where some score is one. -/
theorem mass_pos {s : ℕ → EReal} (hs : ∀ j, s j ≠ ⊤) {j n : ℕ} (hj : j < n) (hb : s j ≠ ⊥) :
    ∃ r : ℝ, 0 < r ∧ mass s (fun _ => 1) n = (r : EReal) := by
  have hp := peak_ne_top hs n
  have hb' : peak s n ≠ ⊥ := fun e => hb (le_bot_iff.1 (e ▸ le_peak s hj))
  obtain ⟨m, hm⟩ : ∃ m : ℝ, peak s n = (m : EReal) := ⟨_, (EReal.coe_toReal hp hb').symm⟩
  have hterm : ∀ i, ∃ r : ℝ, 0 ≤ r ∧ Ideal.exp (s i - peak s n) * 1 = (r : EReal) ∧ (s i ≠ ⊥ → 0 < r) := by
    intro i
    rw [hm, mul_one]
    have := hs i
    generalize s i = x at *
    induction x with
    | bot => exact ⟨0, le_rfl, by simp [bot_sub], fun h => absurd rfl h⟩
    | top => exact absurd rfl this
    | coe x => exact ⟨Real.exp (x - m), (Real.exp_pos _).le, by rw [← EReal.coe_sub, Ideal.exp_coe],
        fun _ => Real.exp_pos _⟩
  choose r hr0 hr hrp using hterm
  refine ⟨∑ i ∈ Finset.range n, r i, ?_, ?_⟩
  · exact Finset.sum_pos' (fun i _ => hr0 i) ⟨j, Finset.mem_range.2 hj, hrp j hb⟩
  · rw [mass, Finset.sum_congr rfl fun i _ => hr i]
    induction n with
    | zero => simp
    | succ n ih => exact (map_sum (⟨⟨Real.toEReal, rfl⟩, EReal.coe_add⟩ : ℝ →+ EReal) r _).symm

/-- Dividing the weighted sum is weighting by the quotients. -/
theorem mass_div {s : ℕ → EReal} (hs : ∀ j, s j ≠ ⊤) {j n : ℕ} (hj : j < n) (hb : s j ≠ ⊥) (w : ℕ → EReal) :
    Ideal.div (mass s w n) (mass s (fun _ => 1) n)
      = ∑ i ∈ Finset.range n, Ideal.div (Ideal.exp (s i - peak s n)) (mass s (fun _ => 1) n) * w i := by
  obtain ⟨r, hr, e⟩ := mass_pos hs hj hb
  rw [e]
  have h0 : (0 : EReal) ≤ ((1 / r : ℝ) : EReal) := EReal.coe_nonneg.2 (by positivity)
  simp only [Ideal.div_coe hr.ne']
  rw [mass, mul_comm, mul_sum _ h0 (EReal.coe_ne_top _)]
  refine Finset.sum_congr rfl fun i _ => ?_
  rw [mul_comm (Ideal.exp _) ((1 / r : ℝ) : EReal), mul_assoc]

/-- A real number added to all scores is added to the largest. -/
theorem peak_shift (s : ℕ → EReal) (c : ℝ) (n : ℕ) (hn : 0 < n) :
    peak (fun j => s j + (c : EReal)) n = peak s n + (c : EReal) := by
  have hmono : ∀ x y : EReal, x ≤ y → x + (c : EReal) ≤ y + (c : EReal) := fun x y h => add_le_add_left h _
  apply le_antisymm
  · exact Finset.sup_le fun j hj => hmono _ _ (le_peak s (Finset.mem_range.1 hj))
  · have : peak s n ∈ s '' (Finset.range n : Set ℕ) :=
      Finset.sup_mem_of_nonempty (Finset.nonempty_range_iff.2 hn.ne')
    obtain ⟨j, hj, e⟩ := this
    rw [← e]
    exact le_peak (fun j => s j + (c : EReal)) (by simpa using hj)

theorem sub_shift (x y : EReal) (c : ℝ) : x + (c : EReal) - (y + (c : EReal)) = x - y := by
  induction x with
  | bot => simp [bot_sub]
  | top =>
    induction y with
    | bot => simp
    | top => simp
    | coe y => rw [EReal.top_add_coe, ← EReal.coe_add, EReal.top_sub_coe, EReal.top_sub_coe]
  | coe x =>
    induction y with
    | bot => rw [EReal.bot_add, ← EReal.coe_add, EReal.coe_sub_bot, EReal.coe_sub_bot]
    | top => rw [EReal.top_add_coe, ← EReal.coe_add, EReal.sub_top, EReal.sub_top]
    | coe y => rw [← EReal.coe_add, ← EReal.coe_add, ← EReal.coe_sub, ← EReal.coe_sub]; congr 1; ring

end Cert.Proof.Att
-- ==== Proof.MlaFwdStep.lean ====
module

public import proofs.«01_k».proof.Proof.Gen.MlaFwdIdeal.Value
public import proofs.«01_k».proof.Proof.AttSpec

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)

/-! # A chunk of keys

Four heads share a point; each carries a peak, a mass and a weighted sum of the values. -/

/-- What the four heads carry. -/
abbrev Carry := FVec Ideal S384x1 .f32 × FVec Ideal S384x1 .f32 × FVec Ideal S384x128 .f32 × FVec Ideal S384x1 .f32 × FVec Ideal S384x1 .f32 × FVec Ideal S384x128 .f32
  × FVec Ideal S384x1 .f32 × FVec Ideal S384x1 .f32 × FVec Ideal S384x128 .f32 × FVec Ideal S384x1 .f32 × FVec Ideal S384x1 .f32 × FVec Ideal S384x128 .f32

/-- One head's running peak after a chunk of 768 keys with scores `s`. -/
def peak768 (m : FVec Ideal S384x1 .f32) (s : FVec Ideal S384x768 .f32) : FVec Ideal S384x1 .f32 :=
  maximumf m (shapeCast S384x1 (multiReduction .maximumf [1] S384 s 0xFF800000#32 reduces_S384x768_S384 (.inl rfl) rfl) shapeCasts_S384_S384x1)

/-- The chunk's weights: the exponentials of the scores, taken from the new peak. -/
def wts768 (m : FVec Ideal S384x1 .f32) (s : FVec Ideal S384x768 .f32) : FVec Ideal S384x768 .f32 :=
  exp (subf s (broadcastTo S384x768 (peak768 m s) broadcasts_S384x1_S384x768))

/-- The running mass after the chunk. -/
def mass768 (m l : FVec Ideal S384x1 .f32) (s : FVec Ideal S384x768 .f32) : FVec Ideal S384x1 .f32 :=
  addf (mulf (exp (subf m (peak768 m s))) l) (shapeCast S384x1 (multiReduction .add [1] S384 (wts768 m s) 0x00000000#32 reduces_S384x768_S384 (.inl rfl) rfl) shapeCasts_S384_S384x1)

/-- The running weighted sum of the values after the chunk. -/
def acc768 (m : FVec Ideal S384x1 .f32) (a : FVec Ideal S384x128 .f32) (s : FVec Ideal S384x768 .f32) (v : FVec Ideal S768x128 .bf16) : FVec Ideal S384x128 .f32 :=
  addf (mulf (broadcastTo S384x128 (exp (subf m (peak768 m s))) broadcasts_S384x1_S384x128) a)
    (matmul dot_S384x768_S768x128_S384x128_1_0_0_1_n_n none (truncf .bf16 (wts768 m s) bitsLt_bf16_f32) v (constant S384x128 .f32 0x00000000#32))

/-- The chunk's scores of one head. -/
def score768 (q : FVec Ideal S384x128 .bf16) (k : FVec Ideal S768x128 .bf16) : FVec Ideal S384x768 .f32 :=
  mulf (matmul dot_S384x128_S768x128_S384x768_1_1_0_0_n_n none q k (constant S384x768 .f32 0x00000000#32)) (broadcast S384x768 (Scalar.ofBits .f32 0x3DD105EC#32))

/-- A head's columns of a block of keys, and a pair's columns of a block of values. -/
def key768 (K : FVec Ideal S768x512 .bf16) : Fin 4 → FVec Ideal S768x128 .bf16
  | 0 => extractStridedSlice S768x128 ![0, 0] (extractStridedSlice S768x256 ![0, 0] K slices_S768x512_o0_0_S768x256) slices_S768x256_o0_0_S768x128
  | 1 => extractStridedSlice S768x128 ![0, 128] (extractStridedSlice S768x256 ![0, 0] K slices_S768x512_o0_0_S768x256) slices_S768x256_o0_128_S768x128
  | 2 => extractStridedSlice S768x128 ![0, 0] (extractStridedSlice S768x256 ![0, 256] K slices_S768x512_o0_256_S768x256) slices_S768x256_o0_0_S768x128
  | 3 => extractStridedSlice S768x128 ![0, 128] (extractStridedSlice S768x256 ![0, 256] K slices_S768x512_o0_256_S768x256) slices_S768x256_o0_128_S768x128

def val768 (V : FVec Ideal S768x256 .bf16) : Fin 2 → FVec Ideal S768x128 .bf16
  | 0 => extractStridedSlice S768x128 ![0, 0] V slices_S768x256_o0_0_S768x128
  | 1 => extractStridedSlice S768x128 ![0, 128] V slices_S768x256_o0_128_S768x128

/-- A chunk taken into what the four heads carry. -/
def step768 (s : Fin 4 → FVec Ideal S384x768 .f32) (V : FVec Ideal S768x256 .bf16) : Carry → Carry
  | (m0, l0, a0, m1, l1, a1, m2, l2, a2, m3, l3, a3) =>
    (peak768 m0 (s 0), mass768 m0 l0 (s 0), acc768 m0 a0 (s 0) (val768 V 0),
     peak768 m1 (s 1), mass768 m1 l1 (s 1), acc768 m1 a1 (s 1) (val768 V 0),
     peak768 m2 (s 2), mass768 m2 l2 (s 2), acc768 m2 a2 (s 2) (val768 V 1),
     peak768 m3 (s 3), mass768 m3 l3 (s 3), acc768 m3 a3 (s 3) (val768 V 1))

/-- One head's running peak after a chunk of 384 keys with scores `s`. -/
def peak384 (m : FVec Ideal S384x1 .f32) (s : FVec Ideal S384x384 .f32) : FVec Ideal S384x1 .f32 :=
  maximumf m (shapeCast S384x1 (multiReduction .maximumf [1] S384 s 0xFF800000#32 reduces_S384x384_S384 (.inl rfl) rfl) shapeCasts_S384_S384x1)

/-- The chunk's weights: the exponentials of the scores, taken from the new peak. -/
def wts384 (m : FVec Ideal S384x1 .f32) (s : FVec Ideal S384x384 .f32) : FVec Ideal S384x384 .f32 :=
  exp (subf s (broadcastTo S384x384 (peak384 m s) broadcasts_S384x1_S384x384))

/-- The running mass after the chunk. -/
def mass384 (m l : FVec Ideal S384x1 .f32) (s : FVec Ideal S384x384 .f32) : FVec Ideal S384x1 .f32 :=
  addf (mulf (exp (subf m (peak384 m s))) l) (shapeCast S384x1 (multiReduction .add [1] S384 (wts384 m s) 0x00000000#32 reduces_S384x384_S384 (.inl rfl) rfl) shapeCasts_S384_S384x1)

/-- The running weighted sum of the values after the chunk. -/
def acc384 (m : FVec Ideal S384x1 .f32) (a : FVec Ideal S384x128 .f32) (s : FVec Ideal S384x384 .f32) (v : FVec Ideal S384x128 .bf16) : FVec Ideal S384x128 .f32 :=
  addf (mulf (broadcastTo S384x128 (exp (subf m (peak384 m s))) broadcasts_S384x1_S384x128) a)
    (matmul dot_S384x384_S384x128_S384x128_1_0_0_1_n_n none (truncf .bf16 (wts384 m s) bitsLt_bf16_f32) v (constant S384x128 .f32 0x00000000#32))

/-- The chunk's scores of one head. -/
def score384 (q : FVec Ideal S384x128 .bf16) (k : FVec Ideal S384x128 .bf16) : FVec Ideal S384x384 .f32 :=
  mulf (matmul dot_S384x128_S384x128_S384x384_1_1_0_0_n_n none q k (constant S384x384 .f32 0x00000000#32)) (broadcast S384x384 (Scalar.ofBits .f32 0x3DD105EC#32))

/-- A head's columns of a block of keys, and a pair's columns of a block of values. -/
def key384 (K : FVec Ideal S384x512 .bf16) : Fin 4 → FVec Ideal S384x128 .bf16
  | 0 => extractStridedSlice S384x128 ![0, 0] (extractStridedSlice S384x256 ![0, 0] K slices_S384x512_o0_0_S384x256) slices_S384x256_o0_0_S384x128
  | 1 => extractStridedSlice S384x128 ![0, 128] (extractStridedSlice S384x256 ![0, 0] K slices_S384x512_o0_0_S384x256) slices_S384x256_o0_128_S384x128
  | 2 => extractStridedSlice S384x128 ![0, 0] (extractStridedSlice S384x256 ![0, 256] K slices_S384x512_o0_256_S384x256) slices_S384x256_o0_0_S384x128
  | 3 => extractStridedSlice S384x128 ![0, 128] (extractStridedSlice S384x256 ![0, 256] K slices_S384x512_o0_256_S384x256) slices_S384x256_o0_128_S384x128

def val384 (V : FVec Ideal S384x256 .bf16) : Fin 2 → FVec Ideal S384x128 .bf16
  | 0 => extractStridedSlice S384x128 ![0, 0] V slices_S384x256_o0_0_S384x128
  | 1 => extractStridedSlice S384x128 ![0, 128] V slices_S384x256_o0_128_S384x128

/-- A chunk taken into what the four heads carry. -/
def step384 (s : Fin 4 → FVec Ideal S384x384 .f32) (V : FVec Ideal S384x256 .bf16) : Carry → Carry
  | (m0, l0, a0, m1, l1, a1, m2, l2, a2, m3, l3, a3) =>
    (peak384 m0 (s 0), mass384 m0 l0 (s 0), acc384 m0 a0 (s 0) (val384 V 0),
     peak384 m1 (s 1), mass384 m1 l1 (s 1), acc384 m1 a1 (s 1) (val384 V 0),
     peak384 m2 (s 2), mass384 m2 l2 (s 2), acc384 m2 a2 (s 2) (val384 V 1),
     peak384 m3 (s 3), mass384 m3 l3 (s 3), acc384 m3 a3 (s 3) (val384 V 1))

/-- A head's query rows of a point. -/
def qry (x0 : FVec Ideal S384x512 .bf16) : Fin 4 → FVec Ideal S384x128 .bf16
  | 0 => extractStridedSlice S384x128 ![0, 0] (extractStridedSlice S384x256 ![0, 0] x0 slices_S384x512_o0_0_S384x256) slices_S384x256_o0_0_S384x128
  | 1 => extractStridedSlice S384x128 ![0, 128] (extractStridedSlice S384x256 ![0, 0] x0 slices_S384x512_o0_0_S384x256) slices_S384x256_o0_128_S384x128
  | 2 => extractStridedSlice S384x128 ![0, 0] (extractStridedSlice S384x256 ![0, 256] x0 slices_S384x512_o0_256_S384x256) slices_S384x256_o0_0_S384x128
  | 3 => extractStridedSlice S384x128 ![0, 128] (extractStridedSlice S384x256 ![0, 256] x0 slices_S384x512_o0_256_S384x256) slices_S384x256_o0_128_S384x128

/-- What the heads carry before the first chunk. -/
def start : Carry :=
  (broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32))

/-- The positions of a point's query rows and of the keys on its diagonal. -/
def qpos (i : grid0.Coords) : IVec S384x1 32 :=
  addi (broadcast S384x1 (Scalar.muli (BitVec.ofNat 32 (i 1).val) 384#32)) (iota .tc S384x1 32 [0] iota_S384x1_d0_w32)

def kpos (i : grid0.Coords) : IVec S1x384 32 :=
  addi (broadcast S1x384 (Scalar.muli (BitVec.ofNat 32 (i 1).val) 384#32)) (iota .tc S1x384 32 [1] iota_S1x384_d1_w32)

/-- The scores on the diagonal: a key after the query is masked. -/
def diag (i : grid0.Coords) (s : FVec Ideal S384x384 .f32) : FVec Ideal S384x384 .f32 :=
  select (cmpi .sle (broadcastTo S384x384 (kpos i) broadcasts_S1x384_S384x384) (broadcastTo S384x384 (qpos i) broadcasts_S384x1_S384x384)) s
    (broadcast S384x384 (Named.named κ "mask" 0xF149F2CA#32))

/-- A pair's output: each half of the lanes from its own head. -/
def pair (l0 : FVec Ideal S384x1 .f32) (a0 : FVec Ideal S384x128 .f32) (l1 : FVec Ideal S384x1 .f32) (a1 : FVec Ideal S384x128 .f32) : FVec Ideal S384x128 .bf16 :=
  truncf .bf16 (select (broadcastTo S384x128 (shapeCast S1x128 (cmpi .slt (iota .tc S1x128 32 [1] iota_S1x128_d1_w32) (broadcast S1x128 64#32)) shapeCasts_S1x128_S1x128) broadcasts_S1x128_S384x128)
    (divf a0 (broadcastTo S384x128 l0 broadcasts_S384x1_S384x128)) (divf a1 (broadcastTo S384x128 l1 broadcasts_S384x1_S384x128))) bitsLt_bf16_f32

/-- A head's logarithm of the summed exponentials. -/
def lse (m l : FVec Ideal S384x1 .f32) : FVec Ideal S1x384x1 .f32 := shapeCast S1x384x1 (addf m (log l)) shapeCasts_S384x1_S1x384x1

/-- The four heads' rows as a function of the head. -/
def four (v5 v6 v8 v9 : FVec Ideal S384x128 .bf16) : Fin 4 → FVec Ideal S384x128 .bf16
  | 0 => v5
  | 1 => v6
  | 2 => v8
  | 3 => v9

/-! ## A trip of each loop that runs -/

section
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S4x384x1 .f32) (harg6 : arg6.IsWhole) (arg1 : BitVec 32) (v5 v6 v8 v9 : FVec Ideal S384x128 .bf16) (v14 v15 : FVec Ideal S384x1 .f32) (v16 : FVec Ideal S384x128 .f32)
    (v17 v18 : FVec Ideal S384x1 .f32) (v19 : FVec Ideal S384x128 .f32) (v20 v21 : FVec Ideal S384x1 .f32) (v22 : FVec Ideal S384x128 .f32)
    (v23 v24 : FVec Ideal S384x1 .f32) (v25 : FVec Ideal S384x128 .f32) (c2_i32 v26 v31 v36 : BitVec 32)
    (X3 : BufTy.Contents (Elt Ideal) arg3.view.ty) (X4 : BufTy.Contents (Elt Ideal) arg4.view.ty)

set_option maxHeartbeats 1600000 in
theorem trip1 (k : Fin (k0_t1_loop i).trips) (acc : Carry) :
    tripR_k0_t1 (F := Ideal) Variants.none c none i arg2 harg2 arg3 harg3 arg4 harg4 arg5 harg5 arg6 harg6 arg1 v5 v6 v8 v9 v14 v15 v16 v17 v18 v19 v20 v21 v22 v23 v24 v25 c2_i32 v26 v31 v36 X3 X4 k acc
      = step768 (fun h => score768 (four v5 v6 v8 v9 h) (key768 (View.readAt (Elt Ideal) arg3.view (Rect.unit (s := S4224x512) (k0_off1 i k) S768x512.size (k0_off1_inb i k)).toLoadRect X3) h))
          (View.readAt (Elt Ideal) arg4.view (Rect.unit (s := S4224x256) (k0_off2 i k) S768x256.size (k0_off2_inb i k)).toLoadRect X4) acc := by
  unfold tripR_k0_t1 trip_k0_t1
  rfl

set_option maxHeartbeats 1600000 in
theorem trip3 (k : Fin (k0_t3_loop i).trips) (acc : Carry) :
    tripR_k0_t3 (F := Ideal) Variants.none c none i arg2 harg2 arg3 harg3 arg4 harg4 arg5 harg5 arg6 harg6 arg1 v5 v6 v8 v9 v14 v15 v16 v17 v18 v19 v20 v21 v22 v23 v24 v25 c2_i32 v26 v31 v36 X3 X4 k acc
      = step384 (fun h => score384 (four v5 v6 v8 v9 h) (key384 (View.readAt (Elt Ideal) arg3.view (Rect.unit (s := S4224x512) (k0_off5 i) S384x512.size (k0_off5_inb i k)).toLoadRect X3) h))
          (View.readAt (Elt Ideal) arg4.view (Rect.unit (s := S4224x256) (k0_off6 i) S384x256.size (k0_off6_inb i k)).toLoadRect X4) acc := by
  unfold tripR_k0_t3 trip_k0_t3
  rfl
end

end Cert.MlaFwdIdeal.Tie

end
-- ==== Proof.MlaFwdHead.lean ====
module

public import proofs.«01_k».proof.Proof.MlaFwdStep

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)

/-! # What a head holds after some keys -/

/-- Of the first `n` keys a head holds, row by row, the largest score, the mass, and the mass with each column of the values. -/
def Holds (s w : ℕ → ℕ → EReal) (n : ℕ) (m l : FVec Ideal S384x1 .f32) (a : FVec Ideal S384x128 .f32) : Prop :=
  ∀ r : Fin 384, m (ix2 r 0) = peak (s r) n ∧ l (ix2 r 0) = mass (s r) (fun _ => 1) n ∧ ∀ c : Fin 128, a (ix2 r c) = mass (s r) (w c) n

theorem peak768_apply (m : FVec Ideal S384x1 .f32) (s : FVec Ideal S384x768 .f32) (r : Fin 384) :
    peak768 m s (ix2 r 0) = max (m (ix2 r 0)) (Finset.univ.sup fun i : Fin 768 => s (ix2 r i)) := by
  unfold peak768
  pointwise []
  rfl

theorem wts768_apply (m : FVec Ideal S384x1 .f32) (s : FVec Ideal S384x768 .f32) (r : Fin 384) (i : Fin 768) :
    wts768 m s (ix2 r i) = Ideal.exp (s (ix2 r i) - peak768 m s (ix2 r 0)) := by
  unfold wts768
  pointwise []

theorem mass768_apply (m l : FVec Ideal S384x1 .f32) (s : FVec Ideal S384x768 .f32) (r : Fin 384) :
    mass768 m l s (ix2 r 0) = Ideal.exp (m (ix2 r 0) - peak768 m s (ix2 r 0)) * l (ix2 r 0) + ∑ i : Fin 768, wts768 m s (ix2 r i) := by
  unfold mass768
  pointwise []

theorem acc768_apply (m : FVec Ideal S384x1 .f32) (a : FVec Ideal S384x128 .f32) (s : FVec Ideal S384x768 .f32) (v : FVec Ideal S768x128 .bf16) (r : Fin 384) (c : Fin 128) :
    acc768 m a s v (ix2 r c) = Ideal.exp (m (ix2 r 0) - peak768 m s (ix2 r 0)) * a (ix2 r c) + ∑ i : Fin 768, wts768 m s (ix2 r i) * v (ix2 i c) := by
  unfold acc768
  pointwise []

theorem score768_apply (q : FVec Ideal S384x128 .bf16) (k : FVec Ideal S768x128 .bf16) (r : Fin 384) (i : Fin 768) :
    score768 q k (ix2 r i) = (∑ d : Fin 128, q (ix2 r d) * k (ix2 i d)) * Ideal.ofBits .f32 0x3DD105EC#32 := by
  unfold score768
  pointwise []

theorem key768_apply (K : FVec Ideal S768x512 .bf16) (h : Fin 4) (i : Fin 768) (d : Fin 128) :
    key768 K h (ix2 i d) = K (ix2 i ⟨128 * h.val + d.val, by omega⟩) := by
  fin_cases h <;> (show key768 K _ _ = _; unfold key768; pointwise [])
  exact congrArg (fun x => K (ix2 i x)) (Fin.ext (by show 256 + (128 + d.val) = 384 + d.val; omega))

theorem val768_apply (V : FVec Ideal S768x256 .bf16) (p : Fin 2) (i : Fin 768) (d : Fin 128) :
    val768 V p (ix2 i d) = V (ix2 i ⟨128 * p.val + d.val, by omega⟩) := by
  fin_cases p <;> (show val768 V _ _ = _; unfold val768; pointwise [])

/-- A chunk of 768 keys takes what a head holds of the first `n` keys to what it holds of the first `n + 768`. -/
theorem Holds.step768 {s : ℕ → ℕ → EReal} {w : ℕ → ℕ → EReal} {n : ℕ} {m l : FVec Ideal S384x1 .f32} {a : FVec Ideal S384x128 .f32} (h : Holds s w n m l a)
    (hs : ∀ r j, s r j ≠ ⊤) (S : FVec Ideal S384x768 .f32) (V : FVec Ideal S768x128 .bf16) (hS : ∀ (r : Fin 384) (i : Fin 768), S (ix2 r i) = s r (n + i))
    (hV : ∀ (i : Fin 768) (c : Fin 128), V (ix2 i c) = w c (n + i)) : Holds s w (n + 768) (peak768 m S) (mass768 m l S) (acc768 m a S V) := by
  intro r
  obtain ⟨hm, hl, ha⟩ := h r
  have hp : peak768 m S (ix2 r 0) = peak (s r) (n + 768) := by
    rw [peak768_apply, peak_add, hm]
    simp only [hS]
  refine ⟨hp, ?_, fun c => ?_⟩
  · rw [mass768_apply, mass_add (hs r), hp, hm, hl]
    simp only [wts768_apply, hp, hS, mul_one]
  · rw [acc768_apply, mass_add (hs r), hp, hm, ha c]
    simp only [wts768_apply, hp, hS, hV]

theorem peak384_apply (m : FVec Ideal S384x1 .f32) (s : FVec Ideal S384x384 .f32) (r : Fin 384) :
    peak384 m s (ix2 r 0) = max (m (ix2 r 0)) (Finset.univ.sup fun i : Fin 384 => s (ix2 r i)) := by
  unfold peak384
  pointwise []
  rfl

theorem wts384_apply (m : FVec Ideal S384x1 .f32) (s : FVec Ideal S384x384 .f32) (r : Fin 384) (i : Fin 384) :
    wts384 m s (ix2 r i) = Ideal.exp (s (ix2 r i) - peak384 m s (ix2 r 0)) := by
  unfold wts384
  pointwise []

theorem mass384_apply (m l : FVec Ideal S384x1 .f32) (s : FVec Ideal S384x384 .f32) (r : Fin 384) :
    mass384 m l s (ix2 r 0) = Ideal.exp (m (ix2 r 0) - peak384 m s (ix2 r 0)) * l (ix2 r 0) + ∑ i : Fin 384, wts384 m s (ix2 r i) := by
  unfold mass384
  pointwise []

theorem acc384_apply (m : FVec Ideal S384x1 .f32) (a : FVec Ideal S384x128 .f32) (s : FVec Ideal S384x384 .f32) (v : FVec Ideal S384x128 .bf16) (r : Fin 384) (c : Fin 128) :
    acc384 m a s v (ix2 r c) = Ideal.exp (m (ix2 r 0) - peak384 m s (ix2 r 0)) * a (ix2 r c) + ∑ i : Fin 384, wts384 m s (ix2 r i) * v (ix2 i c) := by
  unfold acc384
  pointwise []

theorem score384_apply (q : FVec Ideal S384x128 .bf16) (k : FVec Ideal S384x128 .bf16) (r : Fin 384) (i : Fin 384) :
    score384 q k (ix2 r i) = (∑ d : Fin 128, q (ix2 r d) * k (ix2 i d)) * Ideal.ofBits .f32 0x3DD105EC#32 := by
  unfold score384
  pointwise []

theorem key384_apply (K : FVec Ideal S384x512 .bf16) (h : Fin 4) (i : Fin 384) (d : Fin 128) :
    key384 K h (ix2 i d) = K (ix2 i ⟨128 * h.val + d.val, by omega⟩) := by
  fin_cases h <;> (show key384 K _ _ = _; unfold key384; pointwise [])
  exact congrArg (fun x => K (ix2 i x)) (Fin.ext (by show 256 + (128 + d.val) = 384 + d.val; omega))

theorem val384_apply (V : FVec Ideal S384x256 .bf16) (p : Fin 2) (i : Fin 384) (d : Fin 128) :
    val384 V p (ix2 i d) = V (ix2 i ⟨128 * p.val + d.val, by omega⟩) := by
  fin_cases p <;> (show val384 V _ _ = _; unfold val384; pointwise [])

/-- A chunk of 384 keys takes what a head holds of the first `n` keys to what it holds of the first `n + 384`. -/
theorem Holds.step384 {s : ℕ → ℕ → EReal} {w : ℕ → ℕ → EReal} {n : ℕ} {m l : FVec Ideal S384x1 .f32} {a : FVec Ideal S384x128 .f32} (h : Holds s w n m l a)
    (hs : ∀ r j, s r j ≠ ⊤) (S : FVec Ideal S384x384 .f32) (V : FVec Ideal S384x128 .bf16) (hS : ∀ (r : Fin 384) (i : Fin 384), S (ix2 r i) = s r (n + i))
    (hV : ∀ (i : Fin 384) (c : Fin 128), V (ix2 i c) = w c (n + i)) : Holds s w (n + 384) (peak384 m S) (mass384 m l S) (acc384 m a S V) := by
  intro r
  obtain ⟨hm, hl, ha⟩ := h r
  have hp : peak384 m S (ix2 r 0) = peak (s r) (n + 384) := by
    rw [peak384_apply, peak_add, hm]
    simp only [hS]
  refine ⟨hp, ?_, fun c => ?_⟩
  · rw [mass384_apply, mass_add (hs r), hp, hm, hl]
    simp only [wts384_apply, hp, hS, mul_one]
  · rw [acc384_apply, mass_add (hs r), hp, hm, ha c]
    simp only [wts384_apply, hp, hS, hV]

theorem qry_apply (x : FVec Ideal S384x512 .bf16) (h : Fin 4) (r : Fin 384) (d : Fin 128) :
    qry x h (ix2 r d) = x (ix2 r ⟨128 * h.val + d.val, by omega⟩) := by
  fin_cases h <;> (show qry x _ _ = _; unfold qry; pointwise [])
  exact congrArg (fun y => x (ix2 r y)) (Fin.ext (by show 256 + (128 + d.val) = 384 + d.val; omega))

theorem mask : Named.named (F := Ideal) (φ := .f32) κ "mask" 0xF149F2CA#32 = (⊥ : EReal) := rfl

theorem start_holds (s w : ℕ → ℕ → EReal) : Holds s w 0 (broadcast S384x1 (Named.named (F := Ideal) (φ := .f32) κ "mask" 0xF149F2CA#32)) (broadcast S384x1 (Scalar.ofBits .f32 0x00000000#32))
    (broadcast S384x128 (Scalar.ofBits .f32 0x00000000#32)) := by
  have hz : Ideal.ofBits .f32 0x00000000#32 = 0 := by simp [Ideal.ofBits, Ideal.ieee, -EReal.coe_mul]
  intro r
  refine ⟨mask, hz, fun c => hz⟩

theorem sle_nat {a b : ℕ} (ha : a < 2 ^ 31) (hb : b < 2 ^ 31) : IntOp.cmpi .sle (BitVec.ofNat 32 a) (BitVec.ofNat 32 b) = if a ≤ b then 1#1 else 0#1 := by
  have e : ∀ {x : ℕ}, x < 2 ^ 31 → (BitVec.ofNat 32 x).toInt = x := fun {x} h => by
    rw [BitVec.toInt_eq_toNat_cond, BitVec.toNat_ofNat]
    omega
  show BitVec.ofBool ((BitVec.ofNat 32 a).sle (BitVec.ofNat 32 b)) = _
  rw [BitVec.sle_eq_decide, e ha, e hb]
  by_cases h : a ≤ b <;> simp [h]

theorem diag_apply (i : grid0.Coords) (s : FVec Ideal S384x384 .f32) (r k : Fin 384) :
    diag i s (ix2 r k) = if k.val ≤ r.val then s (ix2 r k) else ⊥ := by
  have hi : (i 1).val < 11 := (i 1).isLt
  unfold diag kpos qpos
  pointwise []
  have e : ∀ x : ℕ, IntOp.addi (Scalar.muli (BitVec.ofNat 32 (i 1).val) 384#32) (BitVec.ofNat 32 x) = BitVec.ofNat 32 ((i 1).val * 384 + x) := fun x => by
    show BitVec.ofNat 32 (i 1).val * BitVec.ofNat 32 384 + BitVec.ofNat 32 x = _
    rw [BitVec.ofNat_add, BitVec.ofNat_mul]
  rw [e, e, sle_nat (by omega) (by omega), mask]
  by_cases h : k.val ≤ r.val
  · rw [if_pos h, if_pos (by omega)]; rfl
  · rw [if_neg h, if_neg (by omega)]; rfl

theorem pair_apply (l0 l1 : FVec Ideal S384x1 .f32) (a0 a1 : FVec Ideal S384x128 .f32) (r : Fin 384) (c : Fin 128) :
    pair l0 a0 l1 a1 (ix2 r c) = if c.val < 64 then Ideal.div (a0 (ix2 r c)) (l0 (ix2 r 0)) else Ideal.div (a1 (ix2 r c)) (l1 (ix2 r 0)) := by
  have e : ∀ c : Fin 128, IntOp.cmpi CmpIPredicate.slt (BitVec.ofNat 32 c.val) 64#32 = if c.val < 64 then 1#1 else 0#1 := by decide
  unfold pair
  pointwise []
  rw [e]
  by_cases h : c.val < 64
  · rw [if_pos h, if_pos h]; rfl
  · rw [if_neg h, if_neg h]; rfl

theorem lse_apply (m l : FVec Ideal S384x1 .f32) (r : Fin 384) : lse m l (ix3 0 r 0) = m (ix2 r 0) + Ideal.log (l (ix2 r 0)) := by
  unfold lse
  pointwise []

end Cert.MlaFwdIdeal.Tie

end
-- ==== Proof.MlaFwdPoint.lean ====
module

public import proofs.«01_k».proof.Proof.MlaFwdHead

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)

/-! # A point: four heads of a block of query rows against every key up to the diagonal -/

/-- The four heads, the first two with the first pair of values. -/
def All (s : Fin 4 → ℕ → ℕ → EReal) (w : Fin 2 → ℕ → ℕ → EReal) (n : ℕ) (a : Carry) : Prop :=
  Holds (s 0) (w 0) n a.1 a.2.1 a.2.2.1 ∧ Holds (s 1) (w 0) n a.2.2.2.1 a.2.2.2.2.1 a.2.2.2.2.2.1
    ∧ Holds (s 2) (w 1) n a.2.2.2.2.2.2.1 a.2.2.2.2.2.2.2.1 a.2.2.2.2.2.2.2.2.1
    ∧ Holds (s 3) (w 1) n a.2.2.2.2.2.2.2.2.2.1 a.2.2.2.2.2.2.2.2.2.2.1 a.2.2.2.2.2.2.2.2.2.2.2

theorem All.step768 {s : Fin 4 → ℕ → ℕ → EReal} {w : Fin 2 → ℕ → ℕ → EReal} {n : ℕ} {a : Carry} (h : All s w n a) (hs : ∀ h r j, s h r j ≠ ⊤)
    (S : Fin 4 → FVec Ideal S384x768 .f32) (V : FVec Ideal S768x256 .bf16) (hS : ∀ h (r : Fin 384) (i : Fin 768), S h (ix2 r i) = s h r (n + i))
    (hV : ∀ p (i : Fin 768) (c : Fin 128), val768 V p (ix2 i c) = w p c (n + i)) : All s w (n + 768) (step768 S V a) := by
  obtain ⟨m0, l0, a0, m1, l1, a1, m2, l2, a2, m3, l3, a3⟩ := a
  obtain ⟨h0, h1, h2, h3⟩ := h
  exact ⟨h0.step768 (hs 0) (S 0) (val768 V 0) (hS 0) (hV 0), h1.step768 (hs 1) (S 1) (val768 V 0) (hS 1) (hV 0),
    h2.step768 (hs 2) (S 2) (val768 V 1) (hS 2) (hV 1), h3.step768 (hs 3) (S 3) (val768 V 1) (hS 3) (hV 1)⟩

theorem All.step384 {s : Fin 4 → ℕ → ℕ → EReal} {w : Fin 2 → ℕ → ℕ → EReal} {n : ℕ} {a : Carry} (h : All s w n a) (hs : ∀ h r j, s h r j ≠ ⊤)
    (S : Fin 4 → FVec Ideal S384x384 .f32) (V : FVec Ideal S384x256 .bf16) (hS : ∀ h (r : Fin 384) (i : Fin 384), S h (ix2 r i) = s h r (n + i))
    (hV : ∀ p (i : Fin 384) (c : Fin 128), val384 V p (ix2 i c) = w p c (n + i)) : All s w (n + 384) (step384 S V a) := by
  obtain ⟨m0, l0, a0, m1, l1, a1, m2, l2, a2, m3, l3, a3⟩ := a
  obtain ⟨h0, h1, h2, h3⟩ := h
  exact ⟨h0.step384 (hs 0) (S 0) (val384 V 0) (hS 0) (hV 0), h1.step384 (hs 1) (S 1) (val384 V 0) (hS 1) (hV 0),
    h2.step384 (hs 2) (S 2) (val384 V 1) (hS 2) (hV 1), h3.step384 (hs 3) (S 3) (val384 V 1) (hS 3) (hV 1)⟩

/-! ## Where the loops read -/

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel

theorem off1 : ∀ (i : grid0.Coords) (k : Fin (k0_t1_loop i).trips), k0_off1 i k = ![768 * k.val, 0] := by decide +kernel
theorem off2 : ∀ (i : grid0.Coords) (k : Fin (k0_t1_loop i).trips), k0_off2 i k = ![768 * k.val, 0] := by decide +kernel
theorem off5 : ∀ (i : grid0.Coords) (k : Fin (k0_t3_loop i).trips), k0_off5 i = ![384 * ((i 1).val - 1), 0] := by decide +kernel
theorem off6 : ∀ (i : grid0.Coords) (k : Fin (k0_t3_loop i).trips), k0_off6 i = ![384 * ((i 1).val - 1), 0] := by decide +kernel

/-- Rows of a resident array, read through a rectangle at row `o`. -/
theorem rows {n w : ℕ} {arg : Memref sig .tc .vmem ⟨2, ![4224, w]⟩ .bf16} (harg : arg.IsWhole) (x : Vec Ideal ⟨2, ![4224, w]⟩ .bf16) (off : Fin 2 → ℕ) (o : ℕ) (ho : off = ![o, 0])
    (inb : ∀ a, off a + (![n, w] : Fin 2 → ℕ) a ≤ (⟨2, ![4224, w]⟩ : Shape).size a) (i : Fin n) (l : Fin w) :
    View.readAt (Elt Ideal) arg.view (Rect.unit (s := ⟨2, ![4224, w]⟩) off ![n, w] inb).toLoadRect (harg.unread x) (ix2 i l) = at2 x (o + i.val) l.val := by
  subst ho
  have h0 : o + n ≤ 4224 := inb 0
  rw [View.readAt_eq_ld, harg.read_unread, at2_lt _ _ _ (by omega) (by omega)]
  refine View.ld_unit_apply_of _ _ _ _ _ _ fun a => ?_
  match a with
  | ⟨0, _⟩ => rfl
  | ⟨1, _⟩ => exact (Nat.zero_add _).symm

/-! ## The scores -/

/-- The score of key `j` against row `r` of block `q` for head `h`, `⊥` past the diagonal. -/
def sc (x0 : Vec Ideal S384x512 .bf16) (x1 : Vec Ideal S4224x512 .bf16) (q : ℕ) (h : Fin 4) (r j : ℕ) : EReal :=
  if j ≤ 384 * q + r then (∑ d : Fin 128, at2 x0 r (128 * h.val + d.val) * at2 x1 j (128 * h.val + d.val)) * Ideal.ofBits .f32 0x3DD105EC#32 else ⊥

/-- Column `c` of the pair's values. -/
def vl (x2 : Vec Ideal S4224x256 .bf16) (p : Fin 2) (c j : ℕ) : EReal := at2 x2 j (128 * p.val + c)

section
variable {c : Dev nD} {i : grid0.Coords} {arg2 : Memref sig .tc .vmem S384x512 .bf16} {harg2 : arg2.IsWhole} {arg3 : Memref sig .tc .vmem S4224x512 .bf16} {harg3 : arg3.IsWhole} {arg4 : Memref sig .tc .vmem S4224x256 .bf16} {harg4 : arg4.IsWhole} {arg5 : Memref sig .tc .vmem S384x256 .bf16} {harg5 : arg5.IsWhole} {arg6 : Memref sig .tc .vmem S4x384x1 .f32} {harg6 : arg6.IsWhole} {arg1 : BitVec 32} {v5 v6 v8 v9 : FVec Ideal S384x128 .bf16} {v14 v15 : FVec Ideal S384x1 .f32} {v16 : FVec Ideal S384x128 .f32}
  {v17 v18 : FVec Ideal S384x1 .f32} {v19 : FVec Ideal S384x128 .f32} {v20 v21 : FVec Ideal S384x1 .f32} {v22 : FVec Ideal S384x128 .f32}
  {v23 v24 : FVec Ideal S384x1 .f32} {v25 : FVec Ideal S384x128 .f32} {c2_i32 v26 v31 v36 v47 v64 : BitVec 32}
  {x0 : Vec Ideal S384x512 .bf16} {x1 : Vec Ideal S4224x512 .bf16} {x2 : Vec Ideal S4224x256 .bf16}

theorem score768_sc (o : ℕ) (q : ℕ) (ho : o + 768 ≤ 384 * q) (K : FVec Ideal S768x512 .bf16) (hK : ∀ (i : Fin 768) (l : Fin 512), K (ix2 i l) = at2 x1 (o + i.val) l.val) (h : Fin 4) (r : Fin 384) (i : Fin 768) :
    score768 (qry x0 h) (key768 K h) (ix2 r i) = sc x0 x1 q h r (o + i) := by
  rw [score768_apply, sc, if_pos (by omega)]
  refine congrArg (· * _) (Finset.sum_congr rfl fun d _ => ?_)
  rw [qry_apply, key768_apply, hK, at2_lt x0 _ _ (by omega) (by omega)]

theorem score384_sc (o : ℕ) (q : ℕ) (K : FVec Ideal S384x512 .bf16) (hK : ∀ (i : Fin 384) (l : Fin 512), K (ix2 i l) = at2 x1 (o + i.val) l.val) (h : Fin 4) (r : Fin 384) (i : Fin 384)
    (ho : o + i.val ≤ 384 * q + r.val) : score384 (qry x0 h) (key384 K h) (ix2 r i) = sc x0 x1 q h r (o + i) := by
  rw [score384_apply, sc, if_pos (by omega)]
  refine congrArg (· * _) (Finset.sum_congr rfl fun d _ => ?_)
  rw [qry_apply, key384_apply, hK, at2_lt x0 _ _ (by omega) (by omega)]

/-! ## The loops -/

theorem loop1 (hs : ∀ h r j, sc x0 x1 (i 1).val h r j ≠ ⊤) (hq : four v5 v6 v8 v9 = qry x0) (init : Carry) (h0 : All (sc x0 x1 (i 1).val) (vl x2) 0 init) :
    ∀ k : ℕ, k ≤ (k0_t1_loop i).trips → All (sc x0 x1 (i 1).val) (vl x2) (768 * k)
      (st_k0_t1 (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init k)
  | 0, _ => h0
  | k + 1, hk => by
    have ht := trips1 i
    have e := st_k0_t1_succ (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init ⟨k, hk⟩
    show All _ _ _ (st_k0_t1 (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init ((⟨k, hk⟩ : Fin (k0_t1_loop i).trips).val + 1))
    rw [e, trip1, hq]
    refine (loop1 hs hq init h0 k (by omega)).step768 hs _ _ (fun h r j => ?_) fun p j l => ?_
    · exact score768_sc (768 * k) _ (by omega) _ (fun j l => rows harg3 x1 _ _ (off1 i ⟨k, hk⟩) _ j l) h r j
    · rw [val768_apply]
      exact rows harg4 x2 _ _ (off2 i ⟨k, hk⟩) _ j _

theorem loop1_end (hs : ∀ h r j, sc x0 x1 (i 1).val h r j ≠ ⊤) (hq : four v5 v6 v8 v9 = qry x0) (init : Carry) (h0 : All (sc x0 x1 (i 1).val) (vl x2) 0 init) :
    All (sc x0 x1 (i 1).val) (vl x2) (768 * ((i 1).val / 2)) (st_k0_t1 (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init (k0_t1_loop i).trips) := by
  have e : 768 * ((i 1).val / 2) = 768 * (k0_t1_loop i).trips := by rw [trips1]
  rw [e]
  exact loop1 hs hq init h0 _ le_rfl

theorem loop2 (init : Carry) : st_k0_t2 (F := Ideal) Variants.none c none i arg2 harg2 arg3 harg3 arg4 harg4 arg5 harg5 arg6 harg6 arg1 v5 v6 v8 v9 v14 v15 v16 v17 v18 v19 v20 v21 v22 v23 v24 v25 c2_i32 v26 v31 v36 v47 (harg3.unread x1) (harg4.unread x2) init (k0_t2_loop i).trips = init := by
  rw [trips2]
  rfl

theorem loop3 (hs : ∀ h r j, sc x0 x1 (i 1).val h r j ≠ ⊤) (hq : four v5 v6 v8 v9 = qry x0) (init : Carry) (h0 : All (sc x0 x1 (i 1).val) (vl x2) (768 * ((i 1).val / 2)) init) :
    All (sc x0 x1 (i 1).val) (vl x2) (384 * (i 1).val) (st_k0_t3 (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init (k0_t3_loop i).trips) := by
  have ht := trips3 i
  rcases Nat.mod_two_eq_zero_or_one (i 1).val with h | h
  · rw [ht, h]
    have : 384 * (i 1).val = 768 * ((i 1).val / 2) := by omega
    rw [this]
    exact h0
  · have hk : 0 < (k0_t3_loop i).trips := by omega
    have e := st_k0_t3_succ (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init ⟨0, hk⟩
    rw [ht, h]
    show All _ _ _ (st_k0_t3 (F := Ideal) Variants.none c none i arg2 harg2 arg3 harg3 arg4 harg4 arg5 harg5 arg6 harg6 arg1 v5 v6 v8 v9 v14 v15 v16 v17 v18 v19 v20 v21 v22 v23 v24 v25 c2_i32 v26 v31 v36 (harg3.unread x1) (harg4.unread x2) init ((⟨0, hk⟩ : Fin (k0_t3_loop i).trips).val + 1))
    rw [e, trip3, hq]
    have e2 : 384 * (i 1).val = 768 * ((i 1).val / 2) + 384 := by omega
    have e3 : 384 * ((i 1).val - 1) = 768 * ((i 1).val / 2) := by omega
    rw [e2]
    refine All.step384 h0 hs _ _ (fun h r j => ?_) fun p j l => ?_
    · rw [← e3]
      exact score384_sc (384 * ((i 1).val - 1)) _ _ (fun j l => rows harg3 x1 _ _ (off5 i ⟨0, hk⟩) _ j l) h r j (by omega)
    · rw [val384_apply, ← e3]
      exact rows harg4 x2 _ _ (off6 i ⟨0, hk⟩) _ j _

theorem loop4 (init : Carry) : st_k0_t4 (F := Ideal) Variants.none c none i arg2 harg2 arg3 harg3 arg4 harg4 arg5 harg5 arg6 harg6 arg1 v5 v6 v8 v9 v14 v15 v16 v17 v18 v19 v20 v21 v22 v23 v24 v25 c2_i32 v26 v31 v36 v64 (harg3.unread x1) (harg4.unread x2) init (k0_t4_loop i).trips = init := by
  rw [trips4]
  rfl

end

end Cert.MlaFwdIdeal.Tie

end
-- ==== Proof.MlaFwdOut.lean ====
module

public import proofs.«01_k».proof.Proof.MlaFwdPoint

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)

variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S4x384x1 .f32) (harg6 : arg6.IsWhole)
  (x0 : Vec Ideal S384x512 .bf16) (x1 : Vec Ideal S4224x512 .bf16) (x2 : Vec Ideal S4224x256 .bf16)

/-- What the four heads carry into the diagonal. -/
def carried : Carry :=
  (kernelRun0_A.sl.r_4 (F := Ideal) c i arg2 harg2 arg3 harg3 arg4 harg4 arg5 harg5 arg6 harg6 x0 x1 x2,
   kernelRun0_A.sl.r_5 (F := Ideal) c i arg2 harg2 arg3 harg3 arg4 harg4 arg5 harg5 arg6 harg6 x0 x1 x2,
   kernelRun0_A.sl.r_6 (F := Ideal) c i arg2 harg2 arg3 harg3 arg4 harg4 arg5 harg5 arg6 harg6 x0 x1 x2,
   kernelRun0_A.sl.r_7 (F := Ideal) c i arg2 harg2 arg3 harg3 arg4 harg4 arg5 harg5 arg6 harg6 x0 x1 x2,
   kernelRun0_A.sl.r_8 (F := Ideal) c i arg2 harg2 arg3 harg3 arg4 harg4 arg5 harg5 arg6 harg6 x0 x1 x2,
   kernelRun0_A.sl.r_9 (F := Ideal) c i arg2 harg2 arg3 harg3 arg4 harg4 arg5 harg5 arg6 harg6 x0 x1 x2,
   kernelRun0_A.sl.r_10 (F := Ideal) c i arg2 harg2 arg3 harg3 arg4 harg4 arg5 harg5 arg6 harg6 x0 x1 x2,
   kernelRun0_A.sl.r_11 (F := Ideal) c i arg2 harg2 arg3 harg3 arg4 harg4 arg5 harg5 arg6 harg6 x0 x1 x2,
   kernelRun0_A.sl.r_12 (F := Ideal) c i arg2 harg2 arg3 harg3 arg4 harg4 arg5 harg5 arg6 harg6 x0 x1 x2,
   kernelRun0_A.sl.r_13 (F := Ideal) c i arg2 harg2 arg3 harg3 arg4 harg4 arg5 harg5 arg6 harg6 x0 x1 x2,
   kernelRun0_A.sl.r_14 (F := Ideal) c i arg2 harg2 arg3 harg3 arg4 harg4 arg5 harg5 arg6 harg6 x0 x1 x2,
   kernelRun0_A.sl.r_15 (F := Ideal) c i arg2 harg2 arg3 harg3 arg4 harg4 arg5 harg5 arg6 harg6 x0 x1 x2)

/-- The query rows as loaded. -/
theorem load0 : View.readAt (Elt Ideal) arg2.view (Rect.unit (s := S384x512) ![0, 0] S384x512.size inb_S384x512_S384x512_0_0).toLoadRect (harg2.unread x0) = x0 := by
  rw [View.readAt_eq_ld, harg2.read_unread]
  exact View.ld_unit_lit _ _ (by decide)

theorem heads : four (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) = qry x0 := by
  have e := load0 arg2 harg2 x0
  funext h
  conv_rhs => rw [← e]
  fin_cases h <;> rfl

theorem carried_all (hs : ∀ h r j, sc x0 x1 (i 1).val h r j ≠ ⊤) :
    All (sc x0 x1 (i 1).val) (vl x2) (384 * (i 1).val) (carried c i arg2 harg2 arg3 harg3 arg4 harg4 arg5 harg5 arg6 harg6 x0 x1 x2) := by
  unfold carried kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15
  simp only [Prod.mk.eta]
  show All _ _ _ (st_k0_t4 (F := Ideal) Variants.none c none i arg2 harg2 arg3 harg3 arg4 harg4 arg5 harg5 arg6 harg6 _ _ _ _ _ _ _ _ _ _ _ _ _ _ _ _ _ _ _ _ _ _ _ _ (st_k0_t3 (F := Ideal) Variants.none c none i arg2 harg2 arg3 harg3 arg4 harg4 arg5 harg5 arg6 harg6 _ _ _ _ _ _ _ _ _ _ _ _ _ _ _ _ _ _ _ _ _ _ _ (st_k0_t2 (F := Ideal) Variants.none c none i arg2 harg2 arg3 harg3 arg4 harg4 arg5 harg5 arg6 harg6 _ _ _ _ _ _ _ _ _ _ _ _ _ _ _ _ _ _ _ _ _ _ _ _ (st_k0_t1 (F := Ideal) Variants.none c none i arg2 harg2 arg3 harg3 arg4 harg4 arg5 harg5 arg6 harg6 _ _ _ _ _ _ _ _ _ _ _ _ _ _ _ _ _ _ _ _ _ _ _ _ (k0_t1_loop i).trips)
    (k0_t2_loop i).trips) (k0_t3_loop i).trips) (k0_t4_loop i).trips)
  rw [loop4]
  refine loop3 hs (heads c arg2 harg2 x0) _ ?_
  rw [loop2]
  exact loop1_end hs (heads c arg2 harg2 x0) start ⟨start_holds _ _, start_holds _ _, start_holds _ _, start_holds _ _⟩

/-- The block of keys and of values on the diagonal. -/
def dkey : FVec Ideal S384x512 .bf16 := View.readAt (Elt Ideal) arg3.view (Rect.unit (s := S4224x512) (k0_off9 i) S384x512.size (k0_off9_inb i)).toLoadRect (harg3.unread x1)
def dval : FVec Ideal S384x256 .bf16 := View.readAt (Elt Ideal) arg4.view (Rect.unit (s := S4224x256) (k0_off10 i) S384x256.size (k0_off10_inb i)).toLoadRect (harg4.unread x2)

/-- What the four heads carry past the diagonal. -/
def ended : Carry :=
  step384 (fun h => diag i (score384 (four (kernelRun0_A.sl.r (F := Ideal) c arg2 harg2 x0) (kernelRun0_A.sl.r_1 (F := Ideal) c arg2 harg2 x0) (kernelRun0_A.sl.r_2 (F := Ideal) c arg2 harg2 x0)
    (kernelRun0_A.sl.r_3 (F := Ideal) c arg2 harg2 x0) h) (key384 (dkey i arg3 harg3 x1) h))) (dval i arg4 harg4 x2) (carried c i arg2 harg2 arg3 harg3 arg4 harg4 arg5 harg5 arg6 harg6 x0 x1 x2)

theorem ended_all (hs : ∀ h r j, sc x0 x1 (i 1).val h r j ≠ ⊤) :
    All (sc x0 x1 (i 1).val) (vl x2) (384 * (i 1).val + 384) (ended c i arg2 harg2 arg3 harg3 arg4 harg4 arg5 harg5 arg6 harg6 x0 x1 x2) := by
  unfold ended
  rw [heads]
  refine (carried_all c i arg2 harg2 arg3 harg3 arg4 harg4 arg5 harg5 arg6 harg6 x0 x1 x2 hs).step384 hs _ _ (fun h r j => ?_) fun p j l => ?_
  · rw [diag_apply]
    by_cases hj : j.val ≤ r.val
    · rw [if_pos hj]
      exact score384_sc (384 * (i 1).val) _ _ (fun j l => rows harg3 x1 _ _ (k0_off9_eq i) _ j l) h r j (by omega)
    · rw [if_neg hj, sc, if_neg (by omega)]
  · rw [val384_apply]
    exact rows harg4 x2 _ _ (k0_off10_eq i) _ j _

/-- The two outputs' stores. -/
theorem stores3 : (kernelRun0_A (F := Ideal) c i arg2 harg2 arg3 harg3 arg4 harg4 arg5 harg5 arg6 harg6 x0 x1 x2).1 =
    [⟨Rect.unit ![0, 0] ![384, 256] inb_S384x256_S384x256_0_0,
      concatenate S384x256 1 [⟨S384x128, pair (ended c i arg2 harg2 arg3 harg3 arg4 harg4 arg5 harg5 arg6 harg6 x0 x1 x2).2.1 (ended c i arg2 harg2 arg3 harg3 arg4 harg4 arg5 harg5 arg6 harg6 x0 x1 x2).2.2.1 (ended c i arg2 harg2 arg3 harg3 arg4 harg4 arg5 harg5 arg6 harg6 x0 x1 x2).2.2.2.2.1 (ended c i arg2 harg2 arg3 harg3 arg4 harg4 arg5 harg5 arg6 harg6 x0 x1 x2).2.2.2.2.2.1⟩,
        ⟨S384x128, pair (ended c i arg2 harg2 arg3 harg3 arg4 harg4 arg5 harg5 arg6 harg6 x0 x1 x2).2.2.2.2.2.2.2.1 (ended c i arg2 harg2 arg3 harg3 arg4 harg4 arg5 harg5 arg6 harg6 x0 x1 x2).2.2.2.2.2.2.2.2.1 (ended c i arg2 harg2 arg3 harg3 arg4 harg4 arg5 harg5 arg6 harg6 x0 x1 x2).2.2.2.2.2.2.2.2.2.2.1 (ended c i arg2 harg2 arg3 harg3 arg4 harg4 arg5 harg5 arg6 harg6 x0 x1 x2).2.2.2.2.2.2.2.2.2.2.2⟩] concatenates_S384x128_S384x128_S384x256_d1⟩] := by
  unfold kernelRun0_A
  rfl

theorem stores4 : (kernelRun0_A (F := Ideal) c i arg2 harg2 arg3 harg3 arg4 harg4 arg5 harg5 arg6 harg6 x0 x1 x2).2.1 =
    [⟨Rect.unit ![3, 0, 0] ![1, 384, 1] inb_S4x384x1_S1x384x1_3_0_0, lse (ended c i arg2 harg2 arg3 harg3 arg4 harg4 arg5 harg5 arg6 harg6 x0 x1 x2).2.2.2.2.2.2.2.2.2.1 (ended c i arg2 harg2 arg3 harg3 arg4 harg4 arg5 harg5 arg6 harg6 x0 x1 x2).2.2.2.2.2.2.2.2.2.2.1⟩,
     ⟨Rect.unit ![2, 0, 0] ![1, 384, 1] inb_S4x384x1_S1x384x1_2_0_0, lse (ended c i arg2 harg2 arg3 harg3 arg4 harg4 arg5 harg5 arg6 harg6 x0 x1 x2).2.2.2.2.2.2.1 (ended c i arg2 harg2 arg3 harg3 arg4 harg4 arg5 harg5 arg6 harg6 x0 x1 x2).2.2.2.2.2.2.2.1⟩,
     ⟨Rect.unit ![1, 0, 0] ![1, 384, 1] inb_S4x384x1_S1x384x1_1_0_0, lse (ended c i arg2 harg2 arg3 harg3 arg4 harg4 arg5 harg5 arg6 harg6 x0 x1 x2).2.2.2.1 (ended c i arg2 harg2 arg3 harg3 arg4 harg4 arg5 harg5 arg6 harg6 x0 x1 x2).2.2.2.2.1⟩,
     ⟨Rect.unit ![0, 0, 0] ![1, 384, 1] inb_S4x384x1_S1x384x1_0_0_0, lse (ended c i arg2 harg2 arg3 harg3 arg4 harg4 arg5 harg5 arg6 harg6 x0 x1 x2).1 (ended c i arg2 harg2 arg3 harg3 arg4 harg4 arg5 harg5 arg6 harg6 x0 x1 x2).2.1⟩] := by
  unfold kernelRun0_A
  rfl

end Cert.MlaFwdIdeal.Tie

end
-- ==== Proof.MlaFwdStored.lean ====
module

public import proofs.«01_k».proof.Proof.MlaFwdOut

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S4x384x1 .f32) (harg6 : arg6.IsWhole)
  (x0 : Vec Ideal S384x512 .bf16) (x1 : Vec Ideal S4224x512 .bf16) (x2 : Vec Ideal S4224x256 .bf16)

/-- Two heads side by side, read at a column. -/
theorem pair_all {s0 s1 w : ℕ → ℕ → EReal} {n : ℕ} {m0 l0 m1 l1 : FVec Ideal S384x1 .f32} {a0 a1 : FVec Ideal S384x128 .f32} (h0 : Holds s0 w n m0 l0 a0) (h1 : Holds s1 w n m1 l1 a1)
    (r : Fin 384) (c : Fin 128) : pair l0 a0 l1 a1 (ix2 r c) =
      if c.val < 64 then Ideal.div (mass (s0 r) (w c) n) (mass (s0 r) (fun _ => 1) n) else Ideal.div (mass (s1 r) (w c) n) (mass (s1 r) (fun _ => 1) n) := by
  rw [pair_apply, (h0 r).2.1, (h1 r).2.1, (h0 r).2.2, (h1 r).2.2]

/-- Two pairs side by side. -/
theorem cat_apply (A B : FVec Ideal S384x128 .bf16) (r : Fin 384) (l : Fin 256) :
    concatenate S384x256 1 [⟨S384x128, A⟩, ⟨S384x128, B⟩] concatenates_S384x128_S384x128_S384x256_d1 (ix2 r l) =
      if h : l.val < 128 then A (ix2 r ⟨l.val, h⟩) else B (ix2 r ⟨l.val - 128, by omega⟩) := by
  pointwise []

/-- A single store of the whole block is read back. -/
theorem whole (f : Vec Ideal S384x256 .bf16) (r : Fin 384) (l : Fin 256) :
    View.canon (Val := Elt Ideal) [⟨Rect.unit ![0, 0] ![384, 256] inb_S384x256_S384x256_0_0, f⟩] (ix2 r l) = f (ix2 r l) := by
  canon_tiles x g
  idx_vars x
  obtain rfl : x0 = r := Fin.ext g0.symm
  obtain rfl : x1 = l := Fin.ext g1.symm
  rfl

/-- The stored output: for the head the column is of, the weighted sum over the weights' sum. -/
theorem out3_apply (hs : ∀ h r j, sc x0 x1 (i 1).val h r j ≠ ⊤) (r : Fin 384) (l : Fin 256) : out0_A_3 (F := Ideal) c i arg2 harg2 arg3 harg3 arg4 harg4 arg5 harg5 arg6 harg6 x0 x1 x2 (ix2 r l) =
    Ideal.div (mass (sc x0 x1 (i 1).val ⟨l.val / 64, by omega⟩ r) (fun j => at2 x2 j l.val) (384 * (i 1).val + 384))
      (mass (sc x0 x1 (i 1).val ⟨l.val / 64, by omega⟩ r) (fun _ => 1) (384 * (i 1).val + 384)) := by
  unfold out0_A_3
  rw [stores3, View.read_writes_junk_eq_canon]
  obtain ⟨h0, h1, h2, h3⟩ := ended_all c i arg2 harg2 arg3 harg3 arg4 harg4 arg5 harg5 arg6 harg6 x0 x1 x2 hs
  have hl := l.isLt
  have hv : ∀ (p : Fin 2) (c : ℕ), l.val = 128 * p.val + c → vl x2 p c = fun j => at2 x2 j l.val := by
    intro p c e
    funext j
    rw [vl, e]
  have hh : ∀ h : Fin 4, h.val = l.val / 64 → h = ⟨l.val / 64, by omega⟩ := fun h e => Fin.ext e
  refine (whole _ r l).trans ((cat_apply _ _ r l).trans ?_)
  by_cases h : l.val < 128
  · rw [dif_pos h, pair_all h0 h1, hv 0 l.val (by simp)]
    by_cases h' : l.val < 64
    · rw [if_pos h', hh 0 (by show 0 = _; omega)]
    · rw [if_neg h', hh 1 (by show 1 = _; omega)]
  · rw [dif_neg h, pair_all h2 h3, hv 1 (l.val - 128) (by show l.val = 128 * 1 + _; omega)]
    by_cases h' : l.val - 128 < 64
    · rw [if_pos h', hh 2 (by show 2 = _; omega)]
    · rw [if_neg h', hh 3 (by show 3 = _; omega)]

theorem out4_apply (hs : ∀ h r j, sc x0 x1 (i 1).val h r j ≠ ⊤) (h : Fin 4) (r : Fin 384) : out0_A_4 (F := Ideal) c i arg2 harg2 arg3 harg3 arg4 harg4 arg5 harg5 arg6 harg6 x0 x1 x2 (ix3 h r 0) =
    peak (sc x0 x1 (i 1).val h r) (384 * (i 1).val + 384) + Ideal.log (mass (sc x0 x1 (i 1).val h r) (fun _ => 1) (384 * (i 1).val + 384)) := by
  unfold out0_A_4
  rw [stores4, View.read_writes_junk_eq_canon]
  obtain ⟨h0, h1, h2, h3⟩ := ended_all c i arg2 harg2 arg3 harg3 arg4 harg4 arg5 harg5 arg6 harg6 x0 x1 x2 hs
  canon_tiles x g
  · idx_vars x
    obtain rfl : h = 3 := Fin.ext (by show h.val = 3; omega)
    obtain rfl : x0 = 0 := Fin.ext (by omega)
    obtain rfl : x2 = 0 := Fin.ext (by omega)
    obtain rfl : x1 = r := Fin.ext g1.symm
    rw [lse_apply, (h3 x1).1, (h3 x1).2.1]
  · idx_vars x
    obtain rfl : h = 2 := Fin.ext (by show h.val = 2; omega)
    obtain rfl : x0 = 0 := Fin.ext (by omega)
    obtain rfl : x2 = 0 := Fin.ext (by omega)
    obtain rfl : x1 = r := Fin.ext g1.symm
    rw [lse_apply, (h2 x1).1, (h2 x1).2.1]
  · idx_vars x
    obtain rfl : h = 1 := Fin.ext (by show h.val = 1; omega)
    obtain rfl : x0 = 0 := Fin.ext (by omega)
    obtain rfl : x2 = 0 := Fin.ext (by omega)
    obtain rfl : x1 = r := Fin.ext g1.symm
    rw [lse_apply, (h1 x1).1, (h1 x1).2.1]
  · idx_vars x
    obtain rfl : h = 0 := Fin.ext (by show h.val = 0; omega)
    obtain rfl : x0 = 0 := Fin.ext (by omega)
    obtain rfl : x2 = 0 := Fin.ext (by omega)
    obtain rfl : x1 = r := Fin.ext g1.symm
    rw [lse_apply, (h0 x1).1, (h0 x1).2.1]

end Cert.MlaFwdIdeal.Tie

end
-- ==== Proof.AttCausal.lean ====
module

public import proofs.«01_k».proof.Proof.AttSpec
public import proofs.«01_k».proof.Proof.DcSpec

@[expose] public section

noncomputable section

namespace Cert.Proof.Att.Mla

open Idealize.ShloMosaic Cert.Common
open Cert.Dc.Spec (IsReal)

theorem scale_real : IsReal (Ideal.ofBits .f32 0x3DD105EC#32) := by
  refine ⟨13698540 / 134217728, ?_⟩
  simp [Ideal.ofBits, Ideal.ieee, -EReal.coe_mul]
  norm_num

/-- The score of key `j` against row `r` for head `h`, `⊥` past the diagonal. -/
def score (q k : (⟨2, ![4224, 1024]⟩ : Shape).Idx → EReal) (h r j : ℕ) : EReal :=
  if j ≤ r then (∑ d : Fin 128, at2 q r (128 * h + d.val) * at2 k j (128 * h + d.val)) * Ideal.ofBits .f32 0x3DD105EC#32 else ⊥

/-- The attention's output: for the head the column is of, the values weighted by the exponentials, over their sum. -/
def out (q k : (⟨2, ![4224, 1024]⟩ : Shape).Idx → EReal) (v : (⟨2, ![4224, 512]⟩ : Shape).Idx → EReal) : (⟨2, ![4224, 512]⟩ : Shape).Idx → EReal := fun i =>
  Ideal.div (mass (score q k ((i 1).val / 64) (i 0).val) (fun j => at2 v j (i 1).val) 4224) (mass (score q k ((i 1).val / 64) (i 0).val) (fun _ => 1) 4224)

/-- The logarithm of the exponentials' sum. -/
def lse (q k : (⟨2, ![4224, 1024]⟩ : Shape).Idx → EReal) : (⟨3, ![8, 4224, 1]⟩ : Shape).Idx → EReal := fun i =>
  peak (score q k (i 0).val (i 1).val) 4224 + Ideal.log (mass (score q k (i 0).val (i 1).val) (fun _ => 1) 4224)

theorem out_at (q k : (⟨2, ![4224, 1024]⟩ : Shape).Idx → EReal) (v : (⟨2, ![4224, 512]⟩ : Shape).Idx → EReal) (r : Fin 4224) (c : Fin 512) :
    out q k v (ix2 r c) = Ideal.div (mass (score q k (c.val / 64) r.val) (fun j => at2 v j c.val) 4224) (mass (score q k (c.val / 64) r.val) (fun _ => 1) 4224) := by
  unfold out
  simp only [ix2_0, ix2_1]

theorem lse_at (q k : (⟨2, ![4224, 1024]⟩ : Shape).Idx → EReal) (h : Fin 8) (r : Fin 4224) (z : Fin 1) :
    lse q k (ix3 h r z) = peak (score q k h.val r.val) 4224 + Ideal.log (mass (score q k h.val r.val) (fun _ => 1) 4224) := by
  unfold lse
  simp only [ix3_0, ix3_1]

/-- The largest score and the exponentials' sum, over the finite index. -/
theorem peak_univ (s : ℕ → EReal) (n : ℕ) : peak s n = Finset.fold max ⊥ (fun i : Fin n => s i.val) Finset.univ := by
  have h := peak_add s 0 n
  rw [zero_add, peak_zero, max_eq_right bot_le] at h
  rw [h]
  show (Finset.univ.sup fun i : Fin n => s (0 + i.val)) = Finset.univ.sup fun i : Fin n => s i.val
  simp only [zero_add]

theorem mass_univ (s : ℕ → EReal) (n : ℕ) : mass s (fun _ => 1) n = ∑ i : Fin n, Ideal.exp (s i.val - peak s n) := by
  unfold mass
  simp only [mul_one]
  exact Finset.sum_range _

/-- Keys past the diagonal add nothing. -/
theorem past {s : ℕ → EReal} {n : ℕ} (h : ∀ j, n ≤ j → s j = ⊥) (hn : n ≤ 4224) :
    peak s 4224 = peak s n ∧ ∀ w, mass s w 4224 = mass s w n := by
  have e : n + (4224 - n) = 4224 := by omega
  rw [← e]
  exact ⟨peak_extend h, fun w => mass_extend h w⟩

variable {q k : (⟨2, ![4224, 1024]⟩ : Shape).Idx → EReal} (hq : ∀ i, IsReal (q i)) (hk : ∀ i, IsReal (k i))
include hq hk

/-- Before the diagonal the scores are real. -/
theorem score_real (h r j : ℕ) (hj : j ≤ r) : IsReal (score q k h r j) := by
  rw [score, if_pos hj]
  exact (IsReal.sum _ fun d => (IsReal.at2 hq _ _).mul (IsReal.at2 hk _ _)).mul scale_real

theorem score_ne_top (h r j : ℕ) : score q k h r j ≠ ⊤ := by
  by_cases hj : j ≤ r
  · obtain ⟨x, e⟩ := score_real hq hk h r j hj
    rw [e]
    exact EReal.coe_ne_top x
  · rw [score, if_neg hj]
    exact bot_ne_top

/-- The output, with the weights divided first. -/
theorem out_eq (v : (⟨2, ![4224, 512]⟩ : Shape).Idx → EReal) (r : Fin 4224) (c : Fin 512) :
    out q k v (ix2 r c) = ∑ j : Fin 4224, Ideal.div (Ideal.exp (score q k (c.val / 64) r.val j.val - peak (score q k (c.val / 64) r.val) 4224))
      (mass (score q k (c.val / 64) r.val) (fun _ => 1) 4224) * at2 v j.val c.val := by
  obtain ⟨x, e⟩ := score_real hq hk (c.val / 64) r.val r.val le_rfl
  rw [out_at]
  refine (mass_div (score_ne_top hq hk _ _) r.isLt (by
    show score q k (c.val / 64) r.val r.val ≠ ⊥
    rw [e]
    exact EReal.coe_ne_bot x) _).trans ?_
  exact Finset.sum_range _

end Cert.Proof.Att.Mla

end
-- ==== Proof.MlaFwdValue.lean ====
module

public import proofs.«01_k».proof.Proof.MlaFwdStored
public import proofs.«01_k».proof.Proof.AttCausal
public import Idealize.ShloMosaic.Lib.Pipeline.ReadBack

@[expose] public section

set_option maxRecDepth 16384

noncomputable section

namespace Cert.MlaFwdIdeal.Tie

open Cert.MlaFwdIdeal Cert.MlaFwdIdeal.Gen Idealize.ShloMosaic Idealize.ShloMosaic.TcCoe Idealize.SL.Sem Cert.Common Cert.Proof.Att
open Idealize.ShloMosaic.Pipeline (Dat)
open Cert.Dc.Spec (IsReal)

variable (m : (ℓ : Loc nD τ sig) → Buf (Elt Ideal) ℓ)

/-- The windows' blocks: the query rows, the output's and the logarithms' move with the point within a group of heads; keys and values with the group. -/
theorem idx (t : Fin cfg0.N) : win0_0.index t = ![t.val % 11, t.val / 11] ∧ win0_1.index t = ![0, t.val / 11] ∧ win0_2.index t = ![0, t.val / 11]
    ∧ win0_3.index t = ![t.val % 11, t.val / 11] ∧ win0_4.index t = ![t.val / 11, t.val % 11, 0] := by
  revert t
  decide +kernel

theorem row (t : Fin cfg0.N) : (grid0.coords t 1).val = t.val % 11 := by
  revert t
  decide +kernel

abbrev a0 (c : Dev nD) : (⟨2, ![4224, 1024]⟩ : Shape).Idx → EReal := m ((c : Thread nD τ).loc main_arg0)
abbrev a1 (c : Dev nD) : (⟨2, ![4224, 1024]⟩ : Shape).Idx → EReal := m ((c : Thread nD τ).loc main_arg1)
abbrev a2 (c : Dev nD) : (⟨2, ![4224, 512]⟩ : Shape).Idx → EReal := m ((c : Thread nD τ).loc main_arg2)

theorem blk0 (c : Dev nD) (t : Fin cfg0.N) (r : Fin 384) (l : Fin 512) :
    (iblk m c 0 t : Vec Ideal S384x512 .bf16) (ix2 r l) = at2 (a0 m c) (384 * (t.val % 11) + r.val) (512 * (t.val / 11) + l.val) := by
  have ht : t.val < 22 := t.isLt
  rw [at2_lt _ _ _ (by omega) (by omega)]
  have h := (idx t).1
  blk_ext [iblk, V_main_arg0, h]

theorem blk1 (c : Dev nD) (t : Fin cfg0.N) (r : Fin 4224) (l : Fin 512) :
    (iblk m c 1 t : Vec Ideal S4224x512 .bf16) (ix2 r l) = at2 (a1 m c) r.val (512 * (t.val / 11) + l.val) := by
  have ht : t.val < 22 := t.isLt
  rw [at2_lt _ _ _ (by omega) (by omega)]
  have h := (idx t).2.1
  blk_ext [iblk, V_main_arg1, h]

theorem blk2 (c : Dev nD) (t : Fin cfg0.N) (r : Fin 4224) (l : Fin 256) :
    (iblk m c 2 t : Vec Ideal S4224x256 .bf16) (ix2 r l) = at2 (a2 m c) r.val (256 * (t.val / 11) + l.val) := by
  have ht : t.val < 22 := t.isLt
  rw [at2_lt _ _ _ (by omega) (by omega)]
  have h := (idx t).2.2.1
  blk_ext [iblk, V_main_arg2, h]

/-- A block's scores are the arrays'. -/
theorem sc_eq (c : Dev nD) (t : Fin cfg0.N) (h : Fin 4) (r : Fin 384) :
    sc (iblk m c 0 t) (iblk m c 1 t) (t.val % 11) h r.val = Mla.score (a0 m c) (a1 m c) (4 * (t.val / 11) + h.val) (384 * (t.val % 11) + r.val) := by
  have ht : t.val < 22 := t.isLt
  funext j
  unfold sc Mla.score
  by_cases hj : j ≤ 384 * (t.val % 11) + r.val
  · rw [if_pos hj, if_pos hj]
    refine congrArg (· * _) (Finset.sum_congr rfl fun d _ => ?_)
    have e : 512 * (t.val / 11) + (128 * h.val + d.val) = 128 * (4 * (t.val / 11) + h.val) + d.val := by omega
    rw [at2_lt _ r.val _ r.isLt (by omega), at2_lt (iblk m c 1 t : Vec Ideal S4224x512 .bf16) j _ (by omega) (by omega)]
    refine congrArg₂ (· * ·) ((blk0 m c t _ _).trans ?_) ((blk1 m c t _ _).trans ?_)
    · exact congrArg (at2 (a0 m c) _) e
    · exact congrArg (at2 (a1 m c) _) e
  · rw [if_neg hj, if_neg hj]

theorem vl_eq (c : Dev nD) (t : Fin cfg0.N) (l : Fin 256) :
    (fun j => at2 (iblk m c 2 t : Vec Ideal S4224x256 .bf16) j l.val) = fun j => at2 (a2 m c) j (256 * (t.val / 11) + l.val) := by
  have ht : t.val < 22 := t.isLt
  funext j
  by_cases hj : j < 4224
  · rw [at2_lt (iblk m c 2 t : Vec Ideal S4224x256 .bf16) j _ hj l.isLt]
    exact blk2 m c t _ _
  · rw [at2, dif_neg (fun h => hj h.1), at2, dif_neg (fun h => hj h.1)]

variable (c : Dev nD) (hq : ∀ i, IsReal (a0 m c i)) (hk : ∀ i, IsReal (a1 m c i))
include hq hk

theorem sc_ne_top (t : Fin cfg0.N) (h : Fin 4) (r j : ℕ) : sc (iblk m c 0 t) (iblk m c 1 t) (grid0.coords t 1).val h r j ≠ ⊤ := by
  unfold sc
  split
  · have e0 : ∀ i, IsReal ((iblk m c 0 t : Vec Ideal S384x512 .bf16) i) := fun i => by
      idx_vars i
      rw [blk0]
      exact IsReal.at2 hq _ _
    have e1 : ∀ i, IsReal ((iblk m c 1 t : Vec Ideal S4224x512 .bf16) i) := fun i => by
      idx_vars i
      rw [blk1]
      exact IsReal.at2 hk _ _
    obtain ⟨x, e⟩ := (IsReal.sum (n := 128) _ fun d => (IsReal.at2 e0 r (128 * h.val + d.val)).mul (IsReal.at2 e1 j (128 * h.val + d.val))).mul Mla.scale_real
    rw [e]
    exact EReal.coe_ne_top x
  · exact bot_ne_top

theorem past (t : Fin cfg0.N) (h : ℕ) (r : Fin 384) :
    peak (Mla.score (a0 m c) (a1 m c) h (384 * (t.val % 11) + r.val)) 4224 = peak (Mla.score (a0 m c) (a1 m c) h (384 * (t.val % 11) + r.val)) (384 * (t.val % 11) + 384)
      ∧ ∀ w, mass (Mla.score (a0 m c) (a1 m c) h (384 * (t.val % 11) + r.val)) w 4224 = mass (Mla.score (a0 m c) (a1 m c) h (384 * (t.val % 11) + r.val)) w (384 * (t.val % 11) + 384) :=
  Mla.past (fun j hj => if_neg (by omega)) (by omega)

theorem outs3 (t : Fin cfg0.N) (r : Fin 384) (l : Fin 256) : (outsAt0 m c t).1 (ix2 r l) =
    Ideal.div (mass (Mla.score (a0 m c) (a1 m c) (4 * (t.val / 11) + l.val / 64) (384 * (t.val % 11) + r.val)) (fun j => at2 (a2 m c) j (256 * (t.val / 11) + l.val)) 4224)
      (mass (Mla.score (a0 m c) (a1 m c) (4 * (t.val / 11) + l.val / 64) (384 * (t.val % 11) + r.val)) (fun _ => 1) 4224) := by
  have h := out3_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    (sc_ne_top m c hq hk t) r l
  rw [row, sc_eq, vl_eq, ← (past m c hq hk t _ r).2, ← (past m c hq hk t _ r).2] at h
  dsimp only at h
  unfold outsAt0
  dsimp only
  rw [h]

theorem outs4 (t : Fin cfg0.N) (h : Fin 4) (r : Fin 384) : (outsAt0 m c t).2 (ix3 h r 0) =
    peak (Mla.score (a0 m c) (a1 m c) (4 * (t.val / 11) + h.val) (384 * (t.val % 11) + r.val)) 4224
      + Ideal.log (mass (Mla.score (a0 m c) (a1 m c) (4 * (t.val / 11) + h.val) (384 * (t.val % 11) + r.val)) (fun _ => 1) 4224) := by
  have h := out4_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
    (sc_ne_top m c hq hk t) h r
  rw [row, sc_eq, ← (past m c hq hk t _ r).1, ← (past m c hq hk t _ r).2] at h
  unfold outsAt0
  dsimp only
  rw [h]

/-- The kernel's output array. -/
theorem final3 : (dats m 0 c).arrAt 3 cfg0.N = Mla.out (a0 m c) (a1 m c) (a2 m c) := by
  refine (dats m 0 c).arrAt_eq_of_covers 3 _ (by decide +kernel) fun t hf y => ?_
  have ht : t.val < 22 := t.isLt
  blk_simp
  rw [after0_3]
  idx_vars y
  have e : (win0_3.blk t).view.emb (ix2 y0 y1) = ix2 (⟨384 * (t.val % 11) + y0.val, by omega⟩ : Fin 4224) (⟨256 * (t.val / 11) + y1.val, by omega⟩ : Fin 512) := by
    blk_ext [(idx t).2.2.2.1]
  have e' : (256 * (t.val / 11) + y1.val) / 64 = 4 * (t.val / 11) + y1.val / 64 := by omega
  rw [e, outs3 m c hq hk, Mla.out_at, e']

/-- The kernel's array of logarithms. -/
theorem final4 : (dats m 0 c).arrAt 4 cfg0.N = Mla.lse (a0 m c) (a1 m c) := by
  refine (dats m 0 c).arrAt_eq_of_covers 4 _ (by decide +kernel) fun t hf y => ?_
  have ht : t.val < 22 := t.isLt
  blk_simp
  rw [after0_4]
  idx_vars y
  obtain rfl : y2 = 0 := Fin.ext (by omega)
  have e : (win0_4.blk t).view.emb (ix3 y0 y1 0) = ix3 (⟨4 * (t.val / 11) + y0.val, by omega⟩ : Fin 8) (⟨384 * (t.val % 11) + y1.val, by omega⟩ : Fin 4224) 0 := by
    blk_ext [(idx t).2.2.2.2]
  rw [e, outs4 m c hq hk, Mla.lse_at]

end Cert.MlaFwdIdeal.Tie

end
-- ==== Proof.MlaFwdRef.lean ====
module

public import proofs.«01_k».proof.Proof.AttCausal
public import proofs.«01_k».proof.Proof.Gen.MlaFwdRefIdeal.Read
public import Idealize.ShloMosaic.Lib.StableHlo.Run

@[expose] public section

set_option maxRecDepth 16384

noncomputable section

namespace Cert.MlaFwdRefIdeal.Tie

open Cert.MlaFwdRefIdeal Cert.MlaFwdRefIdeal.Read Idealize.ShloMosaic Cert.Common Cert.Proof.Att
open Cert.Dc.Spec (IsReal)

variable (q k : (⟨2, ![4224, 1024]⟩ : Shape).Idx → EReal) (v : (⟨2, ![4224, 512]⟩ : Shape).Idx → EReal)

/-- Both operands' heads. -/
theorem heads (q : (⟨2, ![4224, 1024]⟩ : Shape).Idx → EReal) (r : Fin 4224) (h : Fin 8) (d : Fin 128) :
    val_main_v1 (F := Ideal) q (ix3 r h d) = at2 q r.val (128 * h.val + d.val) := by
  rw [at2_lt _ _ _ r.isLt (by omega)]
  pointwise [val_main_v1, val_main_v0]
  simp only [Nat.mul_comm]

/-- The two sides' heads agree: `val_main_v3` is the same reading of the other operand. -/
theorem heads' (k : (⟨2, ![4224, 1024]⟩ : Shape).Idx → EReal) (r : Fin 4224) (h : Fin 8) (d : Fin 128) :
    val_main_v3 (F := Ideal) k (ix3 r h d) = at2 k r.val (128 * h.val + d.val) := heads k r h d

theorem values (v : (⟨2, ![4224, 512]⟩ : Shape).Idx → EReal) (r : Fin 4224) (h : Fin 8) (d : Fin 64) :
    val_main_v8 (F := Ideal) v (ix3 r h d) = at2 v r.val (64 * h.val + d.val) := by
  rw [at2_lt _ _ _ r.isLt (by omega)]
  pointwise [val_main_v8, val_main_v7]
  simp only [Nat.mul_comm]

theorem inf : Ideal.ofBits .f32 0xFF800000#32 = (⊥ : EReal) := by
  simp [Ideal.ofBits, Ideal.ieee]

theorem sle_nat {a b : ℕ} (ha : a < 2 ^ 31) (hb : b < 2 ^ 31) : IntOp.cmpi .sle (BitVec.ofNat 32 a) (BitVec.ofNat 32 b) = if a ≤ b then 1#1 else 0#1 := by
  have e : ∀ {x : ℕ}, x < 2 ^ 31 → (BitVec.ofNat 32 x).toInt = x := fun {x} h => by
    rw [BitVec.toInt_eq_toNat_cond, BitVec.toNat_ofNat]
    omega
  show BitVec.ofBool ((BitVec.ofNat 32 a).sle (BitVec.ofNat 32 b)) = _
  rw [BitVec.sle_eq_decide, e ha, e hb]
  by_cases h : a ≤ b <;> simp [h]

theorem add_ideal (x y : EReal) : FloatOps.addf (F := Ideal) (φ := .f32) x y = x + y := rfl
theorem max_ideal (x y : EReal) : FloatOps.maximumf (F := Ideal) (φ := .f32) x y = max x y := rfl

theorem causal (r j : Fin 4224) : val_main_v14 (F := Ideal) (ix2 r j) = if j.val ≤ r.val then 1#1 else 0#1 := by
  pointwise [val_main_v14, val_main_v13, val_main_v12, val_main_v11, val_main_v10, val_main_v9]
  exact sle_nat (by omega) (by omega)

/-- The masked scores. -/
theorem masked (h : Fin 8) (r j : Fin 4224) : val_main_v15 (F := Ideal) q k (ix3 h r j) = Mla.score q k h.val r.val j.val := by
  have e : val_main_call0_v1 (F := Ideal) (ix3 h r j) = val_main_v14 (F := Ideal) (ix2 r j) := by
    pointwise [val_main_call0_v1]
  have s : val_main_v6 (F := Ideal) q k (ix3 h r j) = (∑ d : Fin 128, at2 q r.val (128 * h.val + d.val) * at2 k j.val (128 * h.val + d.val)) * Ideal.ofBits .f32 0x3DD105EC#32 := by
    pointwise [val_main_v6, val_main_v5, val_main_v4, val_main_cst]
    simp only [heads, heads']
  have b : val_main_call0_v2 (F := Ideal) (ix3 h r j) = ⊥ := by
    pointwise [val_main_call0_v2, val_main_call0_v0, val_main_cst_0]
    exact inf
  unfold val_main_v15 Mla.score
  show Scalar.select _ _ _ = _
  rw [e, causal, s, b]
  by_cases hj : j.val ≤ r.val
  · rw [if_pos hj, if_pos hj]
    rfl
  · rw [if_neg hj, if_neg hj]
    rfl

theorem top16 (h : Fin 8) (r : Fin 4224) : val_main_v16 (F := Ideal) q k (ix2 h r) = peak (Mla.score q k h.val r.val) 4224 := by
  pointwise [val_main_v16, val_main_cst_1]
  simp only [masked, inf]
  exact (Mla.peak_univ _ _).symm

theorem top25 (h : Fin 8) (r : Fin 4224) : val_main_v25 (F := Ideal) q k (ix2 h r) = peak (Mla.score q k h.val r.val) 4224 := by
  pointwise [val_main_v25, val_main_cst_3]
  simp only [masked, inf]
  exact (Mla.peak_univ _ _).symm

theorem sum21 (h : Fin 8) (r : Fin 4224) : val_main_v21 (F := Ideal) q k (ix2 h r) = mass (Mla.score q k h.val r.val) (fun _ => 1) 4224 := by
  pointwise [val_main_v21, val_main_v20, val_main_v19, val_main_v18, val_main_v17, val_main_cst_2]
  simp only [masked, top16]
  exact (Mla.mass_univ _ _).symm

theorem log23 (h : Fin 8) (r : Fin 4224) (z : Fin 1) : val_main_v23 (F := Ideal) q k (ix3 h r z) = Ideal.log (val_main_v21 (F := Ideal) q k (ix2 h r)) := by
  pointwise [val_main_v23, val_main_v22]

theorem top17 (h : Fin 8) (r : Fin 4224) (z : Fin 1) : val_main_v17 (F := Ideal) q k (ix3 h r z) = val_main_v16 (F := Ideal) q k (ix2 h r) := by
  pointwise [val_main_v17]

theorem lse_eq : val_main_v24 (F := Ideal) q k = Mla.lse q k := by
  funext i
  idx_vars i
  rw [Mla.lse_at, val_main_v24_apply]
  rw [top17, log23, top16, sum21, add_ideal]

theorem top27 (h : Fin 8) (r : Fin 4224) : val_main_v27 (F := Ideal) q k (ix2 h r) = peak (Mla.score q k h.val r.val) 4224 := by
  rw [val_main_v27_apply, top25, max_ideal]
  pointwise [val_main_v26, val_main_cst_4]
  rw [inf]
  exact max_eq_right bot_le

theorem top29 (h : Fin 8) (r j : Fin 4224) : val_main_v29 (F := Ideal) q k (ix3 h r j) = val_main_v27 (F := Ideal) q k (ix2 h r) := by
  pointwise [val_main_v29, val_main_v28]

theorem weight (h : Fin 8) (r j : Fin 4224) : val_main_v31 (F := Ideal) q k (ix3 h r j) = Ideal.exp (Mla.score q k h.val r.val j.val - peak (Mla.score q k h.val r.val) 4224) := by
  rw [← masked, ← top27, ← top29 q k h r j]
  rfl

theorem sum32 (h : Fin 8) (r : Fin 4224) : val_main_v32 (F := Ideal) q k (ix2 h r) = mass (Mla.score q k h.val r.val) (fun _ => 1) 4224 := by
  pointwise [val_main_v32, val_main_cst_5]
  simp only [weight]
  exact (Mla.mass_univ _ _).symm

theorem ratio (h : Fin 8) (r j : Fin 4224) : val_main_v35 (F := Ideal) q k (ix3 h r j) = Ideal.div (val_main_v31 (F := Ideal) q k (ix3 h r j)) (val_main_v32 (F := Ideal) q k (ix2 h r)) := by
  pointwise [val_main_v35, val_main_v34, val_main_v33]

theorem out_eq (hq : ∀ i, IsReal (q i)) (hk : ∀ i, IsReal (k i)) : val_main_v39 (F := Ideal) q k v = Mla.out q k v := by
  funext i
  idx_vars i
  rw [Mla.out_eq hq hk]
  pointwise [val_main_v39, val_main_v38, val_main_v37, val_main_v36]
  simp only [values, ratio, weight, sum32]
  refine Finset.sum_congr rfl fun j _ => ?_
  rw [mul_comm]
  rw [Nat.div_add_mod]

end Cert.MlaFwdRefIdeal.Tie

end
-- ==== Proof.MlaFwdPre.lean ====
module

public import proofs.«01_k».proof.Defs
public import proofs.«01_k».proof.Proof.Gen.Pre_mla_finite
public import proofs.«01_k».proof.Proof.DcPre

@[expose] public section

set_option maxRecDepth 16384

noncomputable section

namespace Cert.MlaFwd.Pre

open Idealize.ShloMosaic Cert.Dc.Spec Cert.Pre_mla_finite

instance : Subsingleton S_.Idx := ⟨fun _ _ => funext fun a => a.elim0⟩

/-- The precondition says that the queries' and the keys' elements are real. -/
theorem finite (q k : FVec Ideal S4224x1024 .bf16) (v : FVec Ideal S4224x512 .bf16) (h : fn (F := Ideal) q k v = fun _ => 1#1) :
    (∀ i, IsReal (q i)) ∧ (∀ i, IsReal (k i)) := by
  have h0 := congrFun h (fun a => a.elim0)
  dsimp only [fn] at h0
  obtain ⟨hq, hk⟩ := IntOp.andi_eq_one.mp h0
  exact ⟨fun i => Cert.Dc.Pre.real_of_cmp _ (Host.reduce_andi_all _ _ _ _ _ hq i), fun i => Cert.Dc.Pre.real_of_cmp _ (Host.reduce_andi_all _ _ _ _ _ hk i)⟩

end Cert.MlaFwd.Pre

end
-- ==== Proof.MlaFwdClaim.lean ====
module

public import proofs.«01_k».proof.Defs
public import proofs.«01_k».proof.Proof.Gen.MlaFwd.Frame
public import proofs.«01_k».proof.Proof.Gen.MlaFwdIdeal.Value
public import proofs.«01_k».proof.Proof.Gen.MlaFwdRefIdeal.Run
public import proofs.«01_k».proof.Proof.Gen.MlaFwdRefIdeal.Read
public import proofs.«01_k».proof.Proof.MlaFwdValue
public import proofs.«01_k».proof.Proof.MlaFwdRef
public import proofs.«01_k».proof.Proof.MlaFwdPre
public import proofs.«01_k».proof.Proof.Gen.Pre_mla_finite

@[expose] public section

set_option maxRecDepth 16384

noncomputable section

namespace Cert.MlaFwd.Tie

open Idealize.ShloMosaic Idealize.SL.Sem

/-- The kernel ends, its arguments unchanged and its counters at zero. -/
theorem frame_p : Cert.quiescent_MlaFwd := fun m ρ _ => Cert.MlaFwd.Gen.frame m ρ

/-- So does the kernel over the extended reals. -/
theorem frame_pi : Cert.quiescent_MlaFwdIdeal := fun m ρ _ => Cert.MlaFwdIdeal.Gen.frame m ρ

/-- So does the reference. -/
theorem frame_ri : Cert.quiescent_MlaFwdRefIdeal := fun m ρ _ =>
  (θ_run Cert.MlaFwdRefIdeal.defs _ _).mono
    (fun r h => ⟨fun c => (h c).2.2, Idealize.ShloMosaic.sem_eq_zero_of_no_sems (by decide) r.2⟩)
    (Cert.MlaFwdRefIdeal.Value.run (F := Ideal) m ρ)

/-- The frames hold under the precondition too. -/
theorem frame_pi_pre : Cert.quiescent_MlaFwdIdeal_pre_mla_finite := fun m ρ _ => frame_pi m ρ trivial
@[inherit_doc frame_pi_pre] theorem frame_ri_pre : Cert.quiescent_MlaFwdRefIdeal_pre_mla_finite := fun m ρ _ => frame_ri m ρ trivial

/-- Kernel and reference end with equal results. -/
theorem algebraic : Cert.algebraic_MlaFwdIdeal_MlaFwdRefIdeal_pre_mla_finite := by
  intro m ρ m' ρ' hpre hagree
  refine ⟨fun c => Cert.Proof.Att.Mla.out (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)), fun c => Cert.Proof.Att.Mla.lse (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)),
    (θ_run Cert.MlaFwdIdeal.defs _ _).mono (fun r h c => ⟨(h c).1.trans (Cert.MlaFwdIdeal.Tie.final3 m c (Cert.MlaFwd.Pre.finite _ _ _ (hpre c)).1 (Cert.MlaFwd.Pre.finite _ _ _ (hpre c)).2), (h c).2.1.trans (Cert.MlaFwdIdeal.Tie.final4 m c (Cert.MlaFwd.Pre.finite _ _ _ (hpre c)).1 (Cert.MlaFwd.Pre.finite _ _ _ (hpre c)).2), (h c).2.2⟩)
      (Cert.MlaFwdIdeal.Value.run_blocks m ρ), ?_⟩
  refine (θ_run Cert.MlaFwdRefIdeal.defs _ _).mono (fun _ h c => ?_) (Cert.MlaFwdRefIdeal.Value.run (F := Ideal) m' ρ')
  obtain ⟨e0, e1, e2⟩ := hagree c
  obtain ⟨f0, f1⟩ := Cert.MlaFwd.Pre.finite _ _ _ (hpre c)
  refine ⟨(h c).1.trans ?_, (h c).2.1.trans ?_, (h c).2.2⟩
  · refine (Cert.MlaFwdRefIdeal.Read.val_main_v39_eq (F := Ideal) m' c).trans ?_
    rw [e0, e1, e2]
    exact Cert.MlaFwdRefIdeal.Tie.out_eq _ _ _ f0 f1
  · refine (Cert.MlaFwdRefIdeal.Read.val_main_v24_eq (F := Ideal) _ _).trans ?_
    rw [e0, e1]
    exact Cert.MlaFwdRefIdeal.Tie.lse_eq _ _

/-- The literal the scores are masked by stands for the least value. -/
theorem preserves : Cert.preserves_MlaFwd_MlaFwdIdeal :=
  IdealRules.named_const.statement _ _ _ _ _ rfl

end Cert.MlaFwd.Tie

end
-- ==== Proof.FoxFwdStep.lean ====
module

public import proofs.«01_k».proof.Proof.Gen.FoxFwdIdeal.Value
public import proofs.«01_k».proof.Proof.AttSpec

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)

/-! # A chunk of keys

Four heads share a point, two to a pair; each carries a peak, a mass and a weighted sum of the values. -/

/-- What the four heads carry. -/
abbrev Carry := FVec Ideal S384x1 .f32 × FVec Ideal S384x1 .f32 × FVec Ideal S384x128 .f32 × FVec Ideal S384x1 .f32 × FVec Ideal S384x1 .f32 × FVec Ideal S384x128 .f32
  × FVec Ideal S384x1 .f32 × FVec Ideal S384x1 .f32 × FVec Ideal S384x128 .f32 × FVec Ideal S384x1 .f32 × FVec Ideal S384x1 .f32 × FVec Ideal S384x128 .f32

/-- One head's running peak after a chunk of 768 keys with scores `s`. -/
def peak768 (m : FVec Ideal S384x1 .f32) (s : FVec Ideal S384x768 .f32) : FVec Ideal S384x1 .f32 :=
  maximumf m (shapeCast S384x1 (multiReduction .maximumf [1] S384 s 0xFF800000#32 reduces_S384x768_S384 (.inl rfl) rfl) shapeCasts_S384_S384x1)

/-- The chunk's weights: the exponentials of the scores, taken from the new peak. -/
def wts768 (m : FVec Ideal S384x1 .f32) (s : FVec Ideal S384x768 .f32) : FVec Ideal S384x768 .f32 :=
  exp (subf s (broadcastTo S384x768 (peak768 m s) broadcasts_S384x1_S384x768))

/-- The running mass after the chunk. -/
def mass768 (m l : FVec Ideal S384x1 .f32) (s : FVec Ideal S384x768 .f32) : FVec Ideal S384x1 .f32 :=
  addf (mulf (exp (subf m (peak768 m s))) l) (shapeCast S384x1 (multiReduction .add [1] S384 (wts768 m s) 0x00000000#32 reduces_S384x768_S384 (.inl rfl) rfl) shapeCasts_S384_S384x1)

/-- The running weighted sum of the values after the chunk. -/
def acc768 (m : FVec Ideal S384x1 .f32) (a : FVec Ideal S384x128 .f32) (s : FVec Ideal S384x768 .f32) (v : FVec Ideal S768x128 .bf16) : FVec Ideal S384x128 .f32 :=
  addf (mulf (broadcastTo S384x128 (exp (subf m (peak768 m s))) broadcasts_S384x1_S384x128) a)
    (matmul dot_S384x768_S768x128_S384x128_1_0_0_1_n_n none (truncf .bf16 (wts768 m s) bitsLt_bf16_f32) v (constant S384x128 .f32 0x00000000#32))

/-- The chunk's scores of one head: the products less the keys' decay. -/
def score768 (q : FVec Ideal S384x128 .bf16) (k : FVec Ideal S768x128 .bf16) (d : FVec Ideal S1x1x768 .f32) : FVec Ideal S384x768 .f32 :=
  subf (matmul dot_S384x128_S768x128_S384x768_1_1_0_0_n_n none q k (constant S384x768 .f32 0x00000000#32))
    (broadcastTo S384x768 (shapeCast S1x768 d shapeCasts_S1x1x768_S1x768) broadcasts_S1x768_S384x768)

/-- A pair's columns of a block of keys or of values. -/
def val768 (V : FVec Ideal S768x256 .bf16) : Fin 2 → FVec Ideal S768x128 .bf16
  | 0 => extractStridedSlice S768x128 ![0, 0] V slices_S768x256_o0_0_S768x128
  | 1 => extractStridedSlice S768x128 ![0, 128] V slices_S768x256_o0_128_S768x128

/-- A chunk taken into what the four heads carry. -/
def step768 (s : Fin 4 → FVec Ideal S384x768 .f32) (V : FVec Ideal S768x256 .bf16) : Carry → Carry
  | (m0, l0, a0, m1, l1, a1, m2, l2, a2, m3, l3, a3) =>
    (peak768 m0 (s 0), mass768 m0 l0 (s 0), acc768 m0 a0 (s 0) (val768 V 0),
     peak768 m1 (s 1), mass768 m1 l1 (s 1), acc768 m1 a1 (s 1) (val768 V 0),
     peak768 m2 (s 2), mass768 m2 l2 (s 2), acc768 m2 a2 (s 2) (val768 V 1),
     peak768 m3 (s 3), mass768 m3 l3 (s 3), acc768 m3 a3 (s 3) (val768 V 1))

/-- One head's running peak after a chunk of 384 keys with scores `s`. -/
def peak384 (m : FVec Ideal S384x1 .f32) (s : FVec Ideal S384x384 .f32) : FVec Ideal S384x1 .f32 :=
  maximumf m (shapeCast S384x1 (multiReduction .maximumf [1] S384 s 0xFF800000#32 reduces_S384x384_S384 (.inl rfl) rfl) shapeCasts_S384_S384x1)

/-- The chunk's weights: the exponentials of the scores, taken from the new peak. -/
def wts384 (m : FVec Ideal S384x1 .f32) (s : FVec Ideal S384x384 .f32) : FVec Ideal S384x384 .f32 :=
  exp (subf s (broadcastTo S384x384 (peak384 m s) broadcasts_S384x1_S384x384))

/-- The running mass after the chunk. -/
def mass384 (m l : FVec Ideal S384x1 .f32) (s : FVec Ideal S384x384 .f32) : FVec Ideal S384x1 .f32 :=
  addf (mulf (exp (subf m (peak384 m s))) l) (shapeCast S384x1 (multiReduction .add [1] S384 (wts384 m s) 0x00000000#32 reduces_S384x384_S384 (.inl rfl) rfl) shapeCasts_S384_S384x1)

/-- The running weighted sum of the values after the chunk. -/
def acc384 (m : FVec Ideal S384x1 .f32) (a : FVec Ideal S384x128 .f32) (s : FVec Ideal S384x384 .f32) (v : FVec Ideal S384x128 .bf16) : FVec Ideal S384x128 .f32 :=
  addf (mulf (broadcastTo S384x128 (exp (subf m (peak384 m s))) broadcasts_S384x1_S384x128) a)
    (matmul dot_S384x384_S384x128_S384x128_1_0_0_1_n_n none (truncf .bf16 (wts384 m s) bitsLt_bf16_f32) v (constant S384x128 .f32 0x00000000#32))

/-- The chunk's scores of one head: the products less the keys' decay. -/
def score384 (q : FVec Ideal S384x128 .bf16) (k : FVec Ideal S384x128 .bf16) (d : FVec Ideal S1x1x384 .f32) : FVec Ideal S384x384 .f32 :=
  subf (matmul dot_S384x128_S384x128_S384x384_1_1_0_0_n_n none q k (constant S384x384 .f32 0x00000000#32))
    (broadcastTo S384x384 (shapeCast S1x384 d shapeCasts_S1x1x384_S1x384) broadcasts_S1x384_S384x384)

/-- A pair's columns of a block of keys or of values. -/
def val384 (V : FVec Ideal S384x256 .bf16) : Fin 2 → FVec Ideal S384x128 .bf16
  | 0 => extractStridedSlice S384x128 ![0, 0] V slices_S384x256_o0_0_S384x128
  | 1 => extractStridedSlice S384x128 ![0, 128] V slices_S384x256_o0_128_S384x128

/-- A chunk taken into what the four heads carry. -/
def step384 (s : Fin 4 → FVec Ideal S384x384 .f32) (V : FVec Ideal S384x256 .bf16) : Carry → Carry
  | (m0, l0, a0, m1, l1, a1, m2, l2, a2, m3, l3, a3) =>
    (peak384 m0 (s 0), mass384 m0 l0 (s 0), acc384 m0 a0 (s 0) (val384 V 0),
     peak384 m1 (s 1), mass384 m1 l1 (s 1), acc384 m1 a1 (s 1) (val384 V 0),
     peak384 m2 (s 2), mass384 m2 l2 (s 2), acc384 m2 a2 (s 2) (val384 V 1),
     peak384 m3 (s 3), mass384 m3 l3 (s 3), acc384 m3 a3 (s 3) (val384 V 1))

/-- The lanes of a pair's first head. -/
def lanes : IVec S384x128 1 :=
  broadcastTo S384x128 (shapeCast S1x128 (cmpi .slt (iota .tc S1x128 32 [1] iota_S1x128_d1_w32) (broadcast S1x128 64#32)) shapeCasts_S1x128_S1x128) broadcasts_S1x128_S384x128

/-- A pair's query rows, scaled. -/
def scaled (x : FVec Ideal S384x128 .bf16) : FVec Ideal S384x128 .bf16 := mulf x (broadcast S384x128 (Scalar.ofBits .bf16 0x3E00#16))

/-- A head's query rows of a point: the pair's, with zeros in the other head's lanes. -/
def qry (x0 : FVec Ideal S384x256 .bf16) : Fin 4 → FVec Ideal S384x128 .bf16
  | 0 => select lanes (scaled (extractStridedSlice S384x128 ![0, 0] x0 slices_S384x256_o0_0_S384x128)) (broadcast S384x128 (Scalar.ofBits .bf16 0x0000#16))
  | 1 => select lanes (broadcast S384x128 (Scalar.ofBits .bf16 0x0000#16)) (scaled (extractStridedSlice S384x128 ![0, 0] x0 slices_S384x256_o0_0_S384x128))
  | 2 => select lanes (scaled (extractStridedSlice S384x128 ![0, 128] x0 slices_S384x256_o0_128_S384x128)) (broadcast S384x128 (Scalar.ofBits .bf16 0x0000#16))
  | 3 => select lanes (broadcast S384x128 (Scalar.ofBits .bf16 0x0000#16)) (scaled (extractStridedSlice S384x128 ![0, 128] x0 slices_S384x256_o0_128_S384x128))

/-- The pair a head belongs to. -/
def half : Fin 4 → Fin 2
  | 0 => 0
  | 1 => 0
  | 2 => 1
  | 3 => 1

/-- What the heads carry before the first chunk. -/
def start : Carry :=
  (broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32),
   broadcast S384x1 (Named.named κ "mask" 0xF149F2CA#32), broadcast S384x1 (Scalar.ofBits .f32 0x00000000#32), broadcast S384x128 (Scalar.ofBits .f32 0x00000000#32))

/-- The positions of a point's query rows and of the keys on its diagonal. -/
def qpos (i : grid0.Coords) : IVec S384x1 32 :=
  addi (broadcast S384x1 (Scalar.muli (BitVec.ofNat 32 (i 1).val) 384#32)) (iota .tc S384x1 32 [0] iota_S384x1_d0_w32)

def kpos (i : grid0.Coords) : IVec S1x384 32 :=
  addi (broadcast S1x384 (Scalar.muli (BitVec.ofNat 32 (i 1).val) 384#32)) (iota .tc S1x384 32 [1] iota_S1x384_d1_w32)

/-- The scores on the diagonal: a key after the query is masked. -/
def diag (i : grid0.Coords) (s : FVec Ideal S384x384 .f32) : FVec Ideal S384x384 .f32 :=
  select (cmpi .sle (broadcastTo S384x384 (kpos i) broadcasts_S1x384_S384x384) (broadcastTo S384x384 (qpos i) broadcasts_S384x1_S384x384)) s
    (broadcast S384x384 (Named.named κ "mask" 0xF149F2CA#32))

/-- A pair's output: each half of the lanes from its own head. -/
def pair (l0 : FVec Ideal S384x1 .f32) (a0 : FVec Ideal S384x128 .f32) (l1 : FVec Ideal S384x1 .f32) (a1 : FVec Ideal S384x128 .f32) : FVec Ideal S384x128 .bf16 :=
  truncf .bf16 (select lanes
    (divf a0 (broadcastTo S384x128 l0 broadcasts_S384x1_S384x128)) (divf a1 (broadcastTo S384x128 l1 broadcasts_S384x1_S384x128))) bitsLt_bf16_f32

/-- A head's logarithm of the summed exponentials. -/
def lse (m l : FVec Ideal S384x1 .f32) : FVec Ideal S1x384x1 .f32 := shapeCast S1x384x1 (addf m (log l)) shapeCasts_S384x1_S1x384x1

/-- Four things as a function of the head. -/
def four {α : Type} (a b c d : α) : Fin 4 → α
  | 0 => a
  | 1 => b
  | 2 => c
  | 3 => d

/-! ## A trip of each loop that runs -/

section
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S4x1x4224 .f32) (harg5 : arg5.IsWhole) (arg6 : Memref sig .tc .vmem S384x256 .bf16) (harg6 : arg6.IsWhole) (arg7 : Memref sig .tc .vmem S4x384x1 .f32) (harg7 : arg7.IsWhole) (arg1 : BitVec 32) (v10 v13 v20 v23 : FVec Ideal S384x128 .bf16) (v28 v29 : FVec Ideal S384x1 .f32) (v30 : FVec Ideal S384x128 .f32)
    (v31 v32 : FVec Ideal S384x1 .f32) (v33 : FVec Ideal S384x128 .f32) (v34 v35 : FVec Ideal S384x1 .f32) (v36 : FVec Ideal S384x128 .f32)
    (v37 v38 : FVec Ideal S384x1 .f32) (v39 : FVec Ideal S384x128 .f32) (v27 : IVec S384x1 32) (v61 c0_i32_30 v78 : BitVec 32)
    (X3 : BufTy.Contents (Elt Ideal) arg3.view.ty) (X4 : BufTy.Contents (Elt Ideal) arg4.view.ty) (X5 : BufTy.Contents (Elt Ideal) arg5.view.ty)

set_option maxHeartbeats 1600000 in
theorem trip1 (k : Fin (k0_t1_loop i).trips) (acc : Carry) :
    tripR_k0_t1 (F := Ideal) Variants.none c none i arg2 harg2 arg3 harg3 arg4 harg4 arg5 harg5 arg6 harg6 arg7 harg7 arg1 v10 v13 v20 v23 v28 v29 v30 v31 v32 v33 v34 v35 v36 v37 v38 X3 X4 X5 k acc
      = step768 (fun h => score768 (four v10 v13 v20 v23 h) (val768 (View.readAt (Elt Ideal) arg3.view (Rect.unit (s := S4224x256) (k0_off1 i k) S768x256.size (k0_off1_inb i k)).toLoadRect X3) (half h))
          (four (View.readAt (Elt Ideal) arg5.view (Rect.unit (s := S4x1x4224) (k0_off2 i k) S1x1x768.size (k0_off2_inb i k)).toLoadRect X5) (View.readAt (Elt Ideal) arg5.view (Rect.unit (s := S4x1x4224) (k0_off3 i k) S1x1x768.size (k0_off3_inb i k)).toLoadRect X5) (View.readAt (Elt Ideal) arg5.view (Rect.unit (s := S4x1x4224) (k0_off4 i k) S1x1x768.size (k0_off4_inb i k)).toLoadRect X5) (View.readAt (Elt Ideal) arg5.view (Rect.unit (s := S4x1x4224) (k0_off5 i k) S1x1x768.size (k0_off5_inb i k)).toLoadRect X5) h))
          (View.readAt (Elt Ideal) arg4.view (Rect.unit (s := S4224x256) (k0_off1 i k) S768x256.size (k0_off1_inb i k)).toLoadRect X4) acc := by
  unfold tripR_k0_t1 trip_k0_t1
  rfl

set_option maxHeartbeats 1600000 in
theorem trip3 (k : Fin (k0_t3_loop i).trips) (acc : Carry) :
    tripR_k0_t3 (F := Ideal) Variants.none c none i arg2 harg2 arg3 harg3 arg4 harg4 arg5 harg5 arg6 harg6 arg7 harg7 arg1 v10 v13 v20 v23 v27 v28 v29 v30 v31 v32 v33 v34 v35 v36 v37 v38 v39 c0_i32_30 v78 X3 X4 X5 k acc
      = step384 (fun h => score384 (four v10 v13 v20 v23 h) (val384 (View.readAt (Elt Ideal) arg3.view (Rect.unit (s := S4224x256) (k0_off11 i) S384x256.size (k0_off11_inb i k)).toLoadRect X3) (half h))
          (four (View.readAt (Elt Ideal) arg5.view (Rect.unit (s := S4x1x4224) (k0_off12 i) S1x1x384.size (k0_off12_inb i k)).toLoadRect X5) (View.readAt (Elt Ideal) arg5.view (Rect.unit (s := S4x1x4224) (k0_off13 i) S1x1x384.size (k0_off13_inb i k)).toLoadRect X5) (View.readAt (Elt Ideal) arg5.view (Rect.unit (s := S4x1x4224) (k0_off14 i) S1x1x384.size (k0_off14_inb i k)).toLoadRect X5) (View.readAt (Elt Ideal) arg5.view (Rect.unit (s := S4x1x4224) (k0_off15 i) S1x1x384.size (k0_off15_inb i k)).toLoadRect X5) h))
          (View.readAt (Elt Ideal) arg4.view (Rect.unit (s := S4224x256) (k0_off11 i) S384x256.size (k0_off11_inb i k)).toLoadRect X4) acc := by
  unfold tripR_k0_t3 trip_k0_t3
  rfl
end

end Cert.FoxFwdIdeal.Tie

end
-- ==== Proof.FoxFwdHead.lean ====
module

public import proofs.«01_k».proof.Proof.FoxFwdStep

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)

/-! # What a head holds after some keys -/

/-- Of the first `n` keys a head holds, row by row, the largest score, the mass, and the mass with each column of the values. -/
def Holds (s w : ℕ → ℕ → EReal) (n : ℕ) (m l : FVec Ideal S384x1 .f32) (a : FVec Ideal S384x128 .f32) : Prop :=
  ∀ r : Fin 384, m (ix2 r 0) = peak (s r) n ∧ l (ix2 r 0) = mass (s r) (fun _ => 1) n ∧ ∀ c : Fin 128, a (ix2 r c) = mass (s r) (w c) n

theorem peak768_apply (m : FVec Ideal S384x1 .f32) (s : FVec Ideal S384x768 .f32) (r : Fin 384) :
    peak768 m s (ix2 r 0) = max (m (ix2 r 0)) (Finset.univ.sup fun i : Fin 768 => s (ix2 r i)) := by
  unfold peak768
  pointwise []
  rfl

theorem wts768_apply (m : FVec Ideal S384x1 .f32) (s : FVec Ideal S384x768 .f32) (r : Fin 384) (i : Fin 768) :
    wts768 m s (ix2 r i) = Ideal.exp (s (ix2 r i) - peak768 m s (ix2 r 0)) := by
  unfold wts768
  pointwise []

theorem mass768_apply (m l : FVec Ideal S384x1 .f32) (s : FVec Ideal S384x768 .f32) (r : Fin 384) :
    mass768 m l s (ix2 r 0) = Ideal.exp (m (ix2 r 0) - peak768 m s (ix2 r 0)) * l (ix2 r 0) + ∑ i : Fin 768, wts768 m s (ix2 r i) := by
  unfold mass768
  pointwise []

theorem acc768_apply (m : FVec Ideal S384x1 .f32) (a : FVec Ideal S384x128 .f32) (s : FVec Ideal S384x768 .f32) (v : FVec Ideal S768x128 .bf16) (r : Fin 384) (c : Fin 128) :
    acc768 m a s v (ix2 r c) = Ideal.exp (m (ix2 r 0) - peak768 m s (ix2 r 0)) * a (ix2 r c) + ∑ i : Fin 768, wts768 m s (ix2 r i) * v (ix2 i c) := by
  unfold acc768
  pointwise []

theorem score768_apply (q : FVec Ideal S384x128 .bf16) (k : FVec Ideal S768x128 .bf16) (d : FVec Ideal S1x1x768 .f32) (r : Fin 384) (i : Fin 768) :
    score768 q k d (ix2 r i) = (∑ e : Fin 128, q (ix2 r e) * k (ix2 i e)) - d (ix3 0 0 i) := by
  unfold score768
  pointwise []

theorem val768_apply (V : FVec Ideal S768x256 .bf16) (p : Fin 2) (i : Fin 768) (d : Fin 128) :
    val768 V p (ix2 i d) = V (ix2 i ⟨128 * p.val + d.val, by omega⟩) := by
  fin_cases p <;> (show val768 V _ _ = _; unfold val768; pointwise [])

/-- A chunk of 768 keys takes what a head holds of the first `n` keys to what it holds of the first `n + 768`. -/
theorem Holds.step768 {s : ℕ → ℕ → EReal} {w : ℕ → ℕ → EReal} {n : ℕ} {m l : FVec Ideal S384x1 .f32} {a : FVec Ideal S384x128 .f32} (h : Holds s w n m l a)
    (hs : ∀ r j, s r j ≠ ⊤) (S : FVec Ideal S384x768 .f32) (V : FVec Ideal S768x128 .bf16) (hS : ∀ (r : Fin 384) (i : Fin 768), S (ix2 r i) = s r (n + i))
    (hV : ∀ (i : Fin 768) (c : Fin 128), V (ix2 i c) = w c (n + i)) : Holds s w (n + 768) (peak768 m S) (mass768 m l S) (acc768 m a S V) := by
  intro r
  obtain ⟨hm, hl, ha⟩ := h r
  have hp : peak768 m S (ix2 r 0) = peak (s r) (n + 768) := by
    rw [peak768_apply, peak_add, hm]
    simp only [hS]
  refine ⟨hp, ?_, fun c => ?_⟩
  · rw [mass768_apply, mass_add (hs r), hp, hm, hl]
    simp only [wts768_apply, hp, hS, mul_one]
  · rw [acc768_apply, mass_add (hs r), hp, hm, ha c]
    simp only [wts768_apply, hp, hS, hV]

theorem peak384_apply (m : FVec Ideal S384x1 .f32) (s : FVec Ideal S384x384 .f32) (r : Fin 384) :
    peak384 m s (ix2 r 0) = max (m (ix2 r 0)) (Finset.univ.sup fun i : Fin 384 => s (ix2 r i)) := by
  unfold peak384
  pointwise []
  rfl

theorem wts384_apply (m : FVec Ideal S384x1 .f32) (s : FVec Ideal S384x384 .f32) (r : Fin 384) (i : Fin 384) :
    wts384 m s (ix2 r i) = Ideal.exp (s (ix2 r i) - peak384 m s (ix2 r 0)) := by
  unfold wts384
  pointwise []

theorem mass384_apply (m l : FVec Ideal S384x1 .f32) (s : FVec Ideal S384x384 .f32) (r : Fin 384) :
    mass384 m l s (ix2 r 0) = Ideal.exp (m (ix2 r 0) - peak384 m s (ix2 r 0)) * l (ix2 r 0) + ∑ i : Fin 384, wts384 m s (ix2 r i) := by
  unfold mass384
  pointwise []

theorem acc384_apply (m : FVec Ideal S384x1 .f32) (a : FVec Ideal S384x128 .f32) (s : FVec Ideal S384x384 .f32) (v : FVec Ideal S384x128 .bf16) (r : Fin 384) (c : Fin 128) :
    acc384 m a s v (ix2 r c) = Ideal.exp (m (ix2 r 0) - peak384 m s (ix2 r 0)) * a (ix2 r c) + ∑ i : Fin 384, wts384 m s (ix2 r i) * v (ix2 i c) := by
  unfold acc384
  pointwise []

theorem score384_apply (q : FVec Ideal S384x128 .bf16) (k : FVec Ideal S384x128 .bf16) (d : FVec Ideal S1x1x384 .f32) (r : Fin 384) (i : Fin 384) :
    score384 q k d (ix2 r i) = (∑ e : Fin 128, q (ix2 r e) * k (ix2 i e)) - d (ix3 0 0 i) := by
  unfold score384
  pointwise []

theorem val384_apply (V : FVec Ideal S384x256 .bf16) (p : Fin 2) (i : Fin 384) (d : Fin 128) :
    val384 V p (ix2 i d) = V (ix2 i ⟨128 * p.val + d.val, by omega⟩) := by
  fin_cases p <;> (show val384 V _ _ = _; unfold val384; pointwise [])

/-- A chunk of 384 keys takes what a head holds of the first `n` keys to what it holds of the first `n + 384`. -/
theorem Holds.step384 {s : ℕ → ℕ → EReal} {w : ℕ → ℕ → EReal} {n : ℕ} {m l : FVec Ideal S384x1 .f32} {a : FVec Ideal S384x128 .f32} (h : Holds s w n m l a)
    (hs : ∀ r j, s r j ≠ ⊤) (S : FVec Ideal S384x384 .f32) (V : FVec Ideal S384x128 .bf16) (hS : ∀ (r : Fin 384) (i : Fin 384), S (ix2 r i) = s r (n + i))
    (hV : ∀ (i : Fin 384) (c : Fin 128), V (ix2 i c) = w c (n + i)) : Holds s w (n + 384) (peak384 m S) (mass384 m l S) (acc384 m a S V) := by
  intro r
  obtain ⟨hm, hl, ha⟩ := h r
  have hp : peak384 m S (ix2 r 0) = peak (s r) (n + 384) := by
    rw [peak384_apply, peak_add, hm]
    simp only [hS]
  refine ⟨hp, ?_, fun c => ?_⟩
  · rw [mass384_apply, mass_add (hs r), hp, hm, hl]
    simp only [wts384_apply, hp, hS, mul_one]
  · rw [acc384_apply, mass_add (hs r), hp, hm, ha c]
    simp only [wts384_apply, hp, hS, hV]

theorem lanes_apply (r : Fin 384) (d : Fin 128) : lanes (ix2 r d) = if d.val < 64 then 1#1 else 0#1 := by
  have e : ∀ c : Fin 128, IntOp.cmpi CmpIPredicate.slt (BitVec.ofNat 32 c.val) 64#32 = if c.val < 64 then 1#1 else 0#1 := by decide
  unfold lanes
  pointwise []
  exact e d

theorem scaled_apply (x : FVec Ideal S384x128 .bf16) (r : Fin 384) (d : Fin 128) : scaled x (ix2 r d) = x (ix2 r d) * Ideal.ofBits .bf16 0x3E00#16 := by
  unfold scaled
  pointwise []

theorem pick (A B : FVec Ideal S384x128 .bf16) (r : Fin 384) (d : Fin 128) : select lanes A B (ix2 r d) = if d.val < 64 then A (ix2 r d) else B (ix2 r d) := by
  pointwise []
  rw [lanes_apply]
  by_cases h : d.val < 64
  · rw [if_pos h, if_pos h]; rfl
  · rw [if_neg h, if_neg h]; rfl

theorem cols0 (x : FVec Ideal S384x256 .bf16) (r : Fin 384) (d : Fin 128) : extractStridedSlice S384x128 ![0, 0] x slices_S384x256_o0_0_S384x128 (ix2 r d) = x (ix2 r ⟨d.val, by omega⟩) := by
  pointwise []

theorem cols1 (x : FVec Ideal S384x256 .bf16) (r : Fin 384) (d : Fin 128) : extractStridedSlice S384x128 ![0, 128] x slices_S384x256_o0_128_S384x128 (ix2 r d) = x (ix2 r ⟨128 + d.val, by omega⟩) := by
  pointwise []

theorem nought (r : Fin 384) (d : Fin 128) : (broadcast S384x128 (Scalar.ofBits .bf16 0x0000#16) : FVec Ideal S384x128 .bf16) (ix2 r d) = (0 : EReal) := by
  show Ideal.ofBits .bf16 0x0000#16 = 0
  simp [Ideal.ofBits, Ideal.ieee, -EReal.coe_mul]

theorem qry_apply (x : FVec Ideal S384x256 .bf16) (h : Fin 4) (r : Fin 384) (d : Fin 128) :
    qry x h (ix2 r d) = if d.val / 64 = h.val % 2 then at2 x r.val (128 * (h.val / 2) + d.val) * Ideal.ofBits .bf16 0x3E00#16 else 0 := by
  have hd := d.isLt
  fin_cases h
  · show select lanes _ _ _ = if d.val / 64 = 0 then at2 x r.val (0 + d.val) * _ else 0
    rw [pick, scaled_apply, cols0, nought, at2_lt _ _ _ r.isLt (by omega)]
    by_cases h : d.val < 64
    · rw [if_pos h, if_pos (by omega)]
      simp only [Nat.zero_add]
    · rw [if_neg h, if_neg (by omega)]
  · show select lanes _ _ _ = if d.val / 64 = 1 then at2 x r.val (0 + d.val) * _ else 0
    rw [pick, scaled_apply, cols0, nought, at2_lt _ _ _ r.isLt (by omega)]
    by_cases h : d.val < 64
    · rw [if_pos h, if_neg (by omega)]
    · rw [if_neg h, if_pos (by omega)]
      simp only [Nat.zero_add]
  · show select lanes _ _ _ = if d.val / 64 = 0 then at2 x r.val (128 + d.val) * _ else 0
    rw [pick, scaled_apply, cols1, nought, at2_lt _ _ _ r.isLt (by omega)]
    by_cases h : d.val < 64
    · rw [if_pos h, if_pos (by omega)]
    · rw [if_neg h, if_neg (by omega)]
  · show select lanes _ _ _ = if d.val / 64 = 1 then at2 x r.val (128 + d.val) * _ else 0
    rw [pick, scaled_apply, cols1, nought, at2_lt _ _ _ r.isLt (by omega)]
    by_cases h : d.val < 64
    · rw [if_pos h, if_neg (by omega)]
    · rw [if_neg h, if_pos (by omega)]

theorem half_val (h : Fin 4) : (half h).val = h.val / 2 := by
  fin_cases h <;> rfl

theorem mask : Named.named (F := Ideal) (φ := .f32) κ "mask" 0xF149F2CA#32 = (⊥ : EReal) := rfl

theorem start_holds (s w : ℕ → ℕ → EReal) : Holds s w 0 (broadcast S384x1 (Named.named (F := Ideal) (φ := .f32) κ "mask" 0xF149F2CA#32)) (broadcast S384x1 (Scalar.ofBits .f32 0x00000000#32))
    (broadcast S384x128 (Scalar.ofBits .f32 0x00000000#32)) := by
  have hz : Ideal.ofBits .f32 0x00000000#32 = 0 := by simp [Ideal.ofBits, Ideal.ieee, -EReal.coe_mul]
  intro r
  refine ⟨mask, hz, fun c => hz⟩

theorem sle_nat {a b : ℕ} (ha : a < 2 ^ 31) (hb : b < 2 ^ 31) : IntOp.cmpi .sle (BitVec.ofNat 32 a) (BitVec.ofNat 32 b) = if a ≤ b then 1#1 else 0#1 := by
  have e : ∀ {x : ℕ}, x < 2 ^ 31 → (BitVec.ofNat 32 x).toInt = x := fun {x} h => by
    rw [BitVec.toInt_eq_toNat_cond, BitVec.toNat_ofNat]
    omega
  show BitVec.ofBool ((BitVec.ofNat 32 a).sle (BitVec.ofNat 32 b)) = _
  rw [BitVec.sle_eq_decide, e ha, e hb]
  by_cases h : a ≤ b <;> simp [h]

theorem diag_apply (i : grid0.Coords) (s : FVec Ideal S384x384 .f32) (r k : Fin 384) :
    diag i s (ix2 r k) = if k.val ≤ r.val then s (ix2 r k) else ⊥ := by
  have hi : (i 1).val < 11 := (i 1).isLt
  unfold diag kpos qpos
  pointwise []
  have e : ∀ x : ℕ, IntOp.addi (Scalar.muli (BitVec.ofNat 32 (i 1).val) 384#32) (BitVec.ofNat 32 x) = BitVec.ofNat 32 ((i 1).val * 384 + x) := fun x => by
    show BitVec.ofNat 32 (i 1).val * BitVec.ofNat 32 384 + BitVec.ofNat 32 x = _
    rw [BitVec.ofNat_add, BitVec.ofNat_mul]
  rw [e, e, sle_nat (by omega) (by omega), mask]
  by_cases h : k.val ≤ r.val
  · rw [if_pos h, if_pos (by omega)]; rfl
  · rw [if_neg h, if_neg (by omega)]; rfl

theorem quot_apply (l : FVec Ideal S384x1 .f32) (a : FVec Ideal S384x128 .f32) (r : Fin 384) (c : Fin 128) :
    divf a (broadcastTo S384x128 l broadcasts_S384x1_S384x128) (ix2 r c) = Ideal.div (a (ix2 r c)) (l (ix2 r 0)) := by
  pointwise []

theorem pair_apply (l0 l1 : FVec Ideal S384x1 .f32) (a0 a1 : FVec Ideal S384x128 .f32) (r : Fin 384) (c : Fin 128) :
    pair l0 a0 l1 a1 (ix2 r c) = if c.val < 64 then Ideal.div (a0 (ix2 r c)) (l0 (ix2 r 0)) else Ideal.div (a1 (ix2 r c)) (l1 (ix2 r 0)) := by
  unfold pair
  rw [← quot_apply l0 a0, ← quot_apply l1 a1]
  exact pick _ _ r c

theorem lse_apply (m l : FVec Ideal S384x1 .f32) (r : Fin 384) : lse m l (ix3 0 r 0) = m (ix2 r 0) + Ideal.log (l (ix2 r 0)) := by
  unfold lse
  pointwise []

end Cert.FoxFwdIdeal.Tie

end
-- ==== Proof.FoxFwdPoint.lean ====
module

public import proofs.«01_k».proof.Proof.FoxFwdHead

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)

/-! # A point: four heads of a block of query rows against every key up to the diagonal -/

/-- The four heads, the first two with the first pair of values. -/
def All (s : Fin 4 → ℕ → ℕ → EReal) (w : Fin 2 → ℕ → ℕ → EReal) (n : ℕ) (a : Carry) : Prop :=
  Holds (s 0) (w 0) n a.1 a.2.1 a.2.2.1 ∧ Holds (s 1) (w 0) n a.2.2.2.1 a.2.2.2.2.1 a.2.2.2.2.2.1
    ∧ Holds (s 2) (w 1) n a.2.2.2.2.2.2.1 a.2.2.2.2.2.2.2.1 a.2.2.2.2.2.2.2.2.1
    ∧ Holds (s 3) (w 1) n a.2.2.2.2.2.2.2.2.2.1 a.2.2.2.2.2.2.2.2.2.2.1 a.2.2.2.2.2.2.2.2.2.2.2

theorem All.step768 {s : Fin 4 → ℕ → ℕ → EReal} {w : Fin 2 → ℕ → ℕ → EReal} {n : ℕ} {a : Carry} (h : All s w n a) (hs : ∀ h r j, s h r j ≠ ⊤)
    (S : Fin 4 → FVec Ideal S384x768 .f32) (V : FVec Ideal S768x256 .bf16) (hS : ∀ h (r : Fin 384) (i : Fin 768), S h (ix2 r i) = s h r (n + i))
    (hV : ∀ p (i : Fin 768) (c : Fin 128), val768 V p (ix2 i c) = w p c (n + i)) : All s w (n + 768) (step768 S V a) := by
  obtain ⟨m0, l0, a0, m1, l1, a1, m2, l2, a2, m3, l3, a3⟩ := a
  obtain ⟨h0, h1, h2, h3⟩ := h
  exact ⟨h0.step768 (hs 0) (S 0) (val768 V 0) (hS 0) (hV 0), h1.step768 (hs 1) (S 1) (val768 V 0) (hS 1) (hV 0),
    h2.step768 (hs 2) (S 2) (val768 V 1) (hS 2) (hV 1), h3.step768 (hs 3) (S 3) (val768 V 1) (hS 3) (hV 1)⟩

theorem All.step384 {s : Fin 4 → ℕ → ℕ → EReal} {w : Fin 2 → ℕ → ℕ → EReal} {n : ℕ} {a : Carry} (h : All s w n a) (hs : ∀ h r j, s h r j ≠ ⊤)
    (S : Fin 4 → FVec Ideal S384x384 .f32) (V : FVec Ideal S384x256 .bf16) (hS : ∀ h (r : Fin 384) (i : Fin 384), S h (ix2 r i) = s h r (n + i))
    (hV : ∀ p (i : Fin 384) (c : Fin 128), val384 V p (ix2 i c) = w p c (n + i)) : All s w (n + 384) (step384 S V a) := by
  obtain ⟨m0, l0, a0, m1, l1, a1, m2, l2, a2, m3, l3, a3⟩ := a
  obtain ⟨h0, h1, h2, h3⟩ := h
  exact ⟨h0.step384 (hs 0) (S 0) (val384 V 0) (hS 0) (hV 0), h1.step384 (hs 1) (S 1) (val384 V 0) (hS 1) (hV 0),
    h2.step384 (hs 2) (S 2) (val384 V 1) (hS 2) (hV 1), h3.step384 (hs 3) (S 3) (val384 V 1) (hS 3) (hV 1)⟩

/-! ## Where the loops read -/

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel

theorem off1 : ∀ (i : grid0.Coords) (k : Fin (k0_t1_loop i).trips), k0_off1 i k = ![768 * k.val, 0] := by decide +kernel
theorem off2 : ∀ (i : grid0.Coords) (k : Fin (k0_t1_loop i).trips), k0_off2 i k = ![0, 0, 768 * k.val] := by decide +kernel
theorem off3 : ∀ (i : grid0.Coords) (k : Fin (k0_t1_loop i).trips), k0_off3 i k = ![1, 0, 768 * k.val] := by decide +kernel
theorem off4 : ∀ (i : grid0.Coords) (k : Fin (k0_t1_loop i).trips), k0_off4 i k = ![2, 0, 768 * k.val] := by decide +kernel
theorem off5 : ∀ (i : grid0.Coords) (k : Fin (k0_t1_loop i).trips), k0_off5 i k = ![3, 0, 768 * k.val] := by decide +kernel
theorem off11 : ∀ (i : grid0.Coords) (k : Fin (k0_t3_loop i).trips), k0_off11 i = ![384 * ((i 1).val - 1), 0] := by decide +kernel
theorem off12 : ∀ (i : grid0.Coords) (k : Fin (k0_t3_loop i).trips), k0_off12 i = ![0, 0, 384 * ((i 1).val - 1)] := by decide +kernel
theorem off13 : ∀ (i : grid0.Coords) (k : Fin (k0_t3_loop i).trips), k0_off13 i = ![1, 0, 384 * ((i 1).val - 1)] := by decide +kernel
theorem off14 : ∀ (i : grid0.Coords) (k : Fin (k0_t3_loop i).trips), k0_off14 i = ![2, 0, 384 * ((i 1).val - 1)] := by decide +kernel
theorem off15 : ∀ (i : grid0.Coords) (k : Fin (k0_t3_loop i).trips), k0_off15 i = ![3, 0, 384 * ((i 1).val - 1)] := by decide +kernel
theorem off21 : ∀ i : grid0.Coords, k0_off21 i = ![384 * (i 1).val, 0] := by decide +kernel
theorem off22 : ∀ i : grid0.Coords, k0_off22 i = ![0, 0, 384 * (i 1).val] := by decide +kernel
theorem off23 : ∀ i : grid0.Coords, k0_off23 i = ![1, 0, 384 * (i 1).val] := by decide +kernel
theorem off24 : ∀ i : grid0.Coords, k0_off24 i = ![2, 0, 384 * (i 1).val] := by decide +kernel
theorem off25 : ∀ i : grid0.Coords, k0_off25 i = ![3, 0, 384 * (i 1).val] := by decide +kernel

/-- Rows of a resident array, read through a rectangle at row `o`. -/
theorem rows {n w : ℕ} {arg : Memref sig .tc .vmem ⟨2, ![4224, w]⟩ .bf16} (harg : arg.IsWhole) (x : Vec Ideal ⟨2, ![4224, w]⟩ .bf16) (off : Fin 2 → ℕ) (o : ℕ) (ho : off = ![o, 0])
    (inb : ∀ a, off a + (![n, w] : Fin 2 → ℕ) a ≤ (⟨2, ![4224, w]⟩ : Shape).size a) (i : Fin n) (l : Fin w) :
    View.readAt (Elt Ideal) arg.view (Rect.unit (s := ⟨2, ![4224, w]⟩) off ![n, w] inb).toLoadRect (harg.unread x) (ix2 i l) = at2 x (o + i.val) l.val := by
  subst ho
  have h0 : o + n ≤ 4224 := inb 0
  rw [View.readAt_eq_ld, harg.read_unread, at2_lt _ _ _ (by omega) (by omega)]
  refine View.ld_unit_apply_of _ _ _ _ _ _ fun a => ?_
  match a with
  | ⟨0, _⟩ => rfl
  | ⟨1, _⟩ => exact (Nat.zero_add _).symm

/-- The decay of key `j` for head `h`. -/
def dcy (x3 : Vec Ideal S4x1x4224 .f32) (h j : ℕ) : EReal := if e : h < 4 ∧ j < 4224 then x3 (ix3 ⟨h, e.1⟩ 0 ⟨j, e.2⟩) else 0

theorem dcy_lt (x3 : Vec Ideal S4x1x4224 .f32) (h j : ℕ) (e : h < 4) (e' : j < 4224) : dcy x3 h j = x3 (ix3 ⟨h, e⟩ 0 ⟨j, e'⟩) := dif_pos ⟨e, e'⟩

/-- Decays of a resident array, read for head `h` from key `o`. -/
theorem decays {n : ℕ} {arg : Memref sig .tc .vmem S4x1x4224 .f32} (harg : arg.IsWhole) (x : Vec Ideal S4x1x4224 .f32) (off : Fin 3 → ℕ) (o h : ℕ) (ho : off = ![h, 0, o])
    (inb : ∀ a, off a + (![1, 1, n] : Fin 3 → ℕ) a ≤ S4x1x4224.size a) (i : Fin n) :
    View.readAt (Elt Ideal) arg.view (Rect.unit (s := S4x1x4224) off ![1, 1, n] inb).toLoadRect (harg.unread x) (ix3 0 0 i) = dcy x h (o + i.val) := by
  subst ho
  have h0 : h + 1 ≤ 4 := inb 0
  have h2 : o + n ≤ 4224 := inb 2
  rw [View.readAt_eq_ld, harg.read_unread, dcy_lt _ _ _ (by omega) (by omega)]
  refine View.ld_unit_apply_of _ _ _ _ _ _ fun a => ?_
  match a with
  | ⟨0, _⟩ => rfl
  | ⟨1, _⟩ => rfl
  | ⟨2, _⟩ => rfl

/-! ## The scores -/

/-- The score of key `j` against row `r` of block `q` for head `h`, `⊥` past the diagonal. -/
def sc (x0 : Vec Ideal S384x256 .bf16) (x1 : Vec Ideal S4224x256 .bf16) (x3 : Vec Ideal S4x1x4224 .f32) (q : ℕ) (h : Fin 4) (r j : ℕ) : EReal :=
  if j ≤ 384 * q + r then (∑ d : Fin 128, (if d.val / 64 = h.val % 2 then at2 x0 r (128 * (h.val / 2) + d.val) * Ideal.ofBits .bf16 0x3E00#16 else 0) * at2 x1 j (128 * (h.val / 2) + d.val)) - dcy x3 h.val j else ⊥

/-- Column `c` of the pair's values. -/
def vl (x2 : Vec Ideal S4224x256 .bf16) (p : Fin 2) (c j : ℕ) : EReal := at2 x2 j (128 * p.val + c)

section
variable {c : Dev nD} {i : grid0.Coords} {arg2 : Memref sig .tc .vmem S384x256 .bf16} {harg2 : arg2.IsWhole} {arg3 : Memref sig .tc .vmem S4224x256 .bf16} {harg3 : arg3.IsWhole} {arg4 : Memref sig .tc .vmem S4224x256 .bf16} {harg4 : arg4.IsWhole} {arg5 : Memref sig .tc .vmem S4x1x4224 .f32} {harg5 : arg5.IsWhole} {arg6 : Memref sig .tc .vmem S384x256 .bf16} {harg6 : arg6.IsWhole} {arg7 : Memref sig .tc .vmem S4x384x1 .f32} {harg7 : arg7.IsWhole} {arg1 : BitVec 32} {v10 v13 v20 v23 : FVec Ideal S384x128 .bf16} {v28 v29 : FVec Ideal S384x1 .f32} {v30 : FVec Ideal S384x128 .f32}
    {v31 v32 : FVec Ideal S384x1 .f32} {v33 : FVec Ideal S384x128 .f32} {v34 v35 : FVec Ideal S384x1 .f32} {v36 : FVec Ideal S384x128 .f32}
    {v37 v38 : FVec Ideal S384x1 .f32} {v39 : FVec Ideal S384x128 .f32} {v27 : IVec S384x1 32} {v61 c0_i32_30 v78 : BitVec 32}
  {x0 : Vec Ideal S384x256 .bf16} {x1 : Vec Ideal S4224x256 .bf16} {x2 : Vec Ideal S4224x256 .bf16} {x3 : Vec Ideal S4x1x4224 .f32}

theorem score768_sc (o : ℕ) (q : ℕ) (K : FVec Ideal S768x256 .bf16) (hK : ∀ (i : Fin 768) (l : Fin 256), K (ix2 i l) = at2 x1 (o + i.val) l.val) (h : Fin 4)
    (D : FVec Ideal S1x1x768 .f32) (hD : ∀ i : Fin 768, D (ix3 0 0 i) = dcy x3 h.val (o + i.val)) (r : Fin 384) (i : Fin 768) (ho : o + i.val ≤ 384 * q + r.val) :
    score768 (qry x0 h) (val768 K (half h)) D (ix2 r i) = sc x0 x1 x3 q h r (o + i) := by
  rw [score768_apply, sc, if_pos ho, hD]
  refine congrArg (· - _) (Finset.sum_congr rfl fun d _ => ?_)
  rw [qry_apply, val768_apply, hK]
  simp only [half_val]

theorem score384_sc (o : ℕ) (q : ℕ) (K : FVec Ideal S384x256 .bf16) (hK : ∀ (i : Fin 384) (l : Fin 256), K (ix2 i l) = at2 x1 (o + i.val) l.val) (h : Fin 4)
    (D : FVec Ideal S1x1x384 .f32) (hD : ∀ i : Fin 384, D (ix3 0 0 i) = dcy x3 h.val (o + i.val)) (r : Fin 384) (i : Fin 384) (ho : o + i.val ≤ 384 * q + r.val) :
    score384 (qry x0 h) (val384 K (half h)) D (ix2 r i) = sc x0 x1 x3 q h r (o + i) := by
  rw [score384_apply, sc, if_pos ho, hD]
  refine congrArg (· - _) (Finset.sum_congr rfl fun d _ => ?_)
  rw [qry_apply, val384_apply, hK]
  simp only [half_val]

/-! ## The loops -/

theorem decs1 (k : Fin (k0_t1_loop i).trips) (h : Fin 4) (j : Fin 768) : (four (View.readAt (Elt Ideal) arg5.view (Rect.unit (s := S4x1x4224) (k0_off2 i k) S1x1x768.size (k0_off2_inb i k)).toLoadRect (harg5.unread x3)) (View.readAt (Elt Ideal) arg5.view (Rect.unit (s := S4x1x4224) (k0_off3 i k) S1x1x768.size (k0_off3_inb i k)).toLoadRect (harg5.unread x3)) (View.readAt (Elt Ideal) arg5.view (Rect.unit (s := S4x1x4224) (k0_off4 i k) S1x1x768.size (k0_off4_inb i k)).toLoadRect (harg5.unread x3)) (View.readAt (Elt Ideal) arg5.view (Rect.unit (s := S4x1x4224) (k0_off5 i k) S1x1x768.size (k0_off5_inb i k)).toLoadRect (harg5.unread x3)) h) (ix3 0 0 j) = dcy x3 h.val (768 * k.val + j.val) :=
  match h with
  | ⟨0, _⟩ => decays harg5 x3 _ _ 0 (off2 i k) _ j
  | ⟨1, _⟩ => decays harg5 x3 _ _ 1 (off3 i k) _ j
  | ⟨2, _⟩ => decays harg5 x3 _ _ 2 (off4 i k) _ j
  | ⟨3, _⟩ => decays harg5 x3 _ _ 3 (off5 i k) _ j

theorem decs3 (k : Fin (k0_t3_loop i).trips) (h : Fin 4) (j : Fin 384) : (four (View.readAt (Elt Ideal) arg5.view (Rect.unit (s := S4x1x4224) (k0_off12 i) S1x1x384.size (k0_off12_inb i k)).toLoadRect (harg5.unread x3)) (View.readAt (Elt Ideal) arg5.view (Rect.unit (s := S4x1x4224) (k0_off13 i) S1x1x384.size (k0_off13_inb i k)).toLoadRect (harg5.unread x3)) (View.readAt (Elt Ideal) arg5.view (Rect.unit (s := S4x1x4224) (k0_off14 i) S1x1x384.size (k0_off14_inb i k)).toLoadRect (harg5.unread x3)) (View.readAt (Elt Ideal) arg5.view (Rect.unit (s := S4x1x4224) (k0_off15 i) S1x1x384.size (k0_off15_inb i k)).toLoadRect (harg5.unread x3)) h) (ix3 0 0 j) = dcy x3 h.val (384 * ((i 1).val - 1) + j.val) :=
  match h with
  | ⟨0, _⟩ => decays harg5 x3 _ _ 0 (off12 i k) _ j
  | ⟨1, _⟩ => decays harg5 x3 _ _ 1 (off13 i k) _ j
  | ⟨2, _⟩ => decays harg5 x3 _ _ 2 (off14 i k) _ j
  | ⟨3, _⟩ => decays harg5 x3 _ _ 3 (off15 i k) _ j

theorem decs (h : Fin 4) (j : Fin 384) : (four (View.readAt (Elt Ideal) arg5.view (Rect.unit (s := S4x1x4224) (k0_off22 i) S1x1x384.size (k0_off22_inb i)).toLoadRect (harg5.unread x3)) (View.readAt (Elt Ideal) arg5.view (Rect.unit (s := S4x1x4224) (k0_off23 i) S1x1x384.size (k0_off23_inb i)).toLoadRect (harg5.unread x3)) (View.readAt (Elt Ideal) arg5.view (Rect.unit (s := S4x1x4224) (k0_off24 i) S1x1x384.size (k0_off24_inb i)).toLoadRect (harg5.unread x3)) (View.readAt (Elt Ideal) arg5.view (Rect.unit (s := S4x1x4224) (k0_off25 i) S1x1x384.size (k0_off25_inb i)).toLoadRect (harg5.unread x3)) h) (ix3 0 0 j) = dcy x3 h.val (384 * (i 1).val + j.val) :=
  match h with
  | ⟨0, _⟩ => decays harg5 x3 _ _ 0 (off22 i) _ j
  | ⟨1, _⟩ => decays harg5 x3 _ _ 1 (off23 i) _ j
  | ⟨2, _⟩ => decays harg5 x3 _ _ 2 (off24 i) _ j
  | ⟨3, _⟩ => decays harg5 x3 _ _ 3 (off25 i) _ j

theorem loop1 (hs : ∀ h r j, sc x0 x1 x3 (i 1).val h r j ≠ ⊤) (hq : four v10 v13 v20 v23 = qry x0) (init : Carry) (h0 : All (sc x0 x1 x3 (i 1).val) (vl x2) 0 init) :
    ∀ k : ℕ, k ≤ (k0_t1_loop i).trips → All (sc x0 x1 x3 (i 1).val) (vl x2) (768 * k)
      (st_k0_t1 (F := Ideal) Variants.none c none i arg2 harg2 arg3 harg3 arg4 harg4 arg5 harg5 arg6 harg6 arg7 harg7 arg1 v10 v13 v20 v23 v28 v29 v30 v31 v32 v33 v34 v35 v36 v37 v38 (harg3.unread x1) (harg4.unread x2) (harg5.unread x3) init k)
  | 0, _ => h0
  | k + 1, hk => by
    have ht := trips1 i
    have e := st_k0_t1_succ (F := Ideal) Variants.none c none i arg2 harg2 arg3 harg3 arg4 harg4 arg5 harg5 arg6 harg6 arg7 harg7 arg1 v10 v13 v20 v23 v28 v29 v30 v31 v32 v33 v34 v35 v36 v37 v38 (harg3.unread x1) (harg4.unread x2) (harg5.unread x3) init ⟨k, hk⟩
    show All _ _ _ (st_k0_t1 (F := Ideal) Variants.none c none i arg2 harg2 arg3 harg3 arg4 harg4 arg5 harg5 arg6 harg6 arg7 harg7 arg1 v10 v13 v20 v23 v28 v29 v30 v31 v32 v33 v34 v35 v36 v37 v38 (harg3.unread x1) (harg4.unread x2) (harg5.unread x3) init ((⟨k, hk⟩ : Fin (k0_t1_loop i).trips).val + 1))
    rw [e, trip1, hq]
    refine (loop1 hs hq init h0 k (by omega)).step768 hs _ _ (fun h r j => ?_) fun p j l => ?_
    · exact score768_sc (768 * k) _ _ (fun j l => rows harg3 x1 _ _ (off1 i ⟨k, hk⟩) _ j l) h _ (decs1 ⟨k, hk⟩ h) r j (by omega)
    · rw [val768_apply]
      exact rows harg4 x2 _ _ (off1 i ⟨k, hk⟩) _ j _

theorem loop1_end (hs : ∀ h r j, sc x0 x1 x3 (i 1).val h r j ≠ ⊤) (hq : four v10 v13 v20 v23 = qry x0) (init : Carry) (h0 : All (sc x0 x1 x3 (i 1).val) (vl x2) 0 init) :
    All (sc x0 x1 x3 (i 1).val) (vl x2) (768 * ((i 1).val / 2)) (st_k0_t1 (F := Ideal) Variants.none c none i arg2 harg2 arg3 harg3 arg4 harg4 arg5 harg5 arg6 harg6 arg7 harg7 arg1 v10 v13 v20 v23 v28 v29 v30 v31 v32 v33 v34 v35 v36 v37 v38 (harg3.unread x1) (harg4.unread x2) (harg5.unread x3) init (k0_t1_loop i).trips) := by
  have e : 768 * ((i 1).val / 2) = 768 * (k0_t1_loop i).trips := by rw [trips1]
  rw [e]
  exact loop1 hs hq init h0 _ le_rfl

theorem loop2 (init : Carry) : st_k0_t2 (F := Ideal) Variants.none c none i arg2 harg2 arg3 harg3 arg4 harg4 arg5 harg5 arg6 harg6 arg7 harg7 arg1 v10 v13 v20 v23 v28 v29 v30 v31 v32 v33 v34 v35 v36 v37 v38 v61 (harg3.unread x1) (harg4.unread x2) (harg5.unread x3) init (k0_t2_loop i).trips = init := by
  rw [trips2]
  rfl

theorem loop3 (hs : ∀ h r j, sc x0 x1 x3 (i 1).val h r j ≠ ⊤) (hq : four v10 v13 v20 v23 = qry x0) (init : Carry) (h0 : All (sc x0 x1 x3 (i 1).val) (vl x2) (768 * ((i 1).val / 2)) init) :
    All (sc x0 x1 x3 (i 1).val) (vl x2) (384 * (i 1).val) (st_k0_t3 (F := Ideal) Variants.none c none i arg2 harg2 arg3 harg3 arg4 harg4 arg5 harg5 arg6 harg6 arg7 harg7 arg1 v10 v13 v20 v23 v27 v28 v29 v30 v31 v32 v33 v34 v35 v36 v37 v38 v39 c0_i32_30 v78 (harg3.unread x1) (harg4.unread x2) (harg5.unread x3) init (k0_t3_loop i).trips) := by
  have ht := trips3 i
  rcases Nat.mod_two_eq_zero_or_one (i 1).val with h | h
  · rw [ht, h]
    have : 384 * (i 1).val = 768 * ((i 1).val / 2) := by omega
    rw [this]
    exact h0
  · have hk : 0 < (k0_t3_loop i).trips := by omega
    have e := st_k0_t3_succ (F := Ideal) Variants.none c none i arg2 harg2 arg3 harg3 arg4 harg4 arg5 harg5 arg6 harg6 arg7 harg7 arg1 v10 v13 v20 v23 v27 v28 v29 v30 v31 v32 v33 v34 v35 v36 v37 v38 v39 c0_i32_30 v78 (harg3.unread x1) (harg4.unread x2) (harg5.unread x3) init ⟨0, hk⟩
    rw [ht, h]
    show All _ _ _ (st_k0_t3 (F := Ideal) Variants.none c none i arg2 harg2 arg3 harg3 arg4 harg4 arg5 harg5 arg6 harg6 arg7 harg7 arg1 v10 v13 v20 v23 v27 v28 v29 v30 v31 v32 v33 v34 v35 v36 v37 v38 v39 c0_i32_30 v78 (harg3.unread x1) (harg4.unread x2) (harg5.unread x3) init ((⟨0, hk⟩ : Fin (k0_t3_loop i).trips).val + 1))
    rw [e, trip3, hq]
    have e2 : 384 * (i 1).val = 768 * ((i 1).val / 2) + 384 := by omega
    have e3 : 384 * ((i 1).val - 1) = 768 * ((i 1).val / 2) := by omega
    rw [e2]
    refine All.step384 h0 hs _ _ (fun h r j => ?_) fun p j l => ?_
    · rw [← e3]
      exact score384_sc (384 * ((i 1).val - 1)) _ _ (fun j l => rows harg3 x1 _ _ (off11 i ⟨0, hk⟩) _ j l) h _ (decs3 ⟨0, hk⟩ h) r j (by omega)
    · rw [val384_apply, ← e3]
      exact rows harg4 x2 _ _ (off11 i ⟨0, hk⟩) _ j _

theorem loop4 (init : Carry) : st_k0_t4 (F := Ideal) Variants.none c none i arg2 harg2 arg3 harg3 arg4 harg4 arg5 harg5 arg6 harg6 arg7 harg7 arg1 v10 v13 v20 v23 v27 v28 v29 v30 v31 v32 v33 v34 v35 v36 v37 v38 v39 c0_i32_30 v78 (harg3.unread x1) (harg4.unread x2) (harg5.unread x3) init (k0_t4_loop i).trips = init := by
  rw [trips4]
  rfl

end

end Cert.FoxFwdIdeal.Tie

end
-- ==== Proof.FoxFwdOut.lean ====
module

public import proofs.«01_k».proof.Proof.FoxFwdPoint

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)

variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S4x1x4224 .f32) (harg5 : arg5.IsWhole) (arg6 : Memref sig .tc .vmem S384x256 .bf16) (harg6 : arg6.IsWhole) (arg7 : Memref sig .tc .vmem S4x384x1 .f32) (harg7 : arg7.IsWhole)
  (x0 : Vec Ideal S384x256 .bf16) (x1 : Vec Ideal S4224x256 .bf16) (x2 : Vec Ideal S4224x256 .bf16) (x3 : Vec Ideal S4x1x4224 .f32)

/-- What the four heads carry past the pairs of blocks. -/
def paired : Carry :=
  (kernelRun0_A.sl.r_4 (F := Ideal) c i arg2 harg2 arg3 harg3 arg4 harg4 arg5 harg5 arg6 harg6 arg7 harg7 x0 x1 x2 x3,
   kernelRun0_A.sl.r_5 (F := Ideal) c i arg2 harg2 arg3 harg3 arg4 harg4 arg5 harg5 arg6 harg6 arg7 harg7 x0 x1 x2 x3,
   kernelRun0_A.sl.r_6 (F := Ideal) c i arg2 harg2 arg3 harg3 arg4 harg4 arg5 harg5 arg6 harg6 arg7 harg7 x0 x1 x2 x3,
   kernelRun0_A.sl.r_7 (F := Ideal) c i arg2 harg2 arg3 harg3 arg4 harg4 arg5 harg5 arg6 harg6 arg7 harg7 x0 x1 x2 x3,
   kernelRun0_A.sl.r_8 (F := Ideal) c i arg2 harg2 arg3 harg3 arg4 harg4 arg5 harg5 arg6 harg6 arg7 harg7 x0 x1 x2 x3,
   kernelRun0_A.sl.r_9 (F := Ideal) c i arg2 harg2 arg3 harg3 arg4 harg4 arg5 harg5 arg6 harg6 arg7 harg7 x0 x1 x2 x3,
   kernelRun0_A.sl.r_10 (F := Ideal) c i arg2 harg2 arg3 harg3 arg4 harg4 arg5 harg5 arg6 harg6 arg7 harg7 x0 x1 x2 x3,
   kernelRun0_A.sl.r_11 (F := Ideal) c i arg2 harg2 arg3 harg3 arg4 harg4 arg5 harg5 arg6 harg6 arg7 harg7 x0 x1 x2 x3,
   kernelRun0_A.sl.r_12 (F := Ideal) c i arg2 harg2 arg3 harg3 arg4 harg4 arg5 harg5 arg6 harg6 arg7 harg7 x0 x1 x2 x3,
   kernelRun0_A.sl.r_13 (F := Ideal) c i arg2 harg2 arg3 harg3 arg4 harg4 arg5 harg5 arg6 harg6 arg7 harg7 x0 x1 x2 x3,
   kernelRun0_A.sl.r_14 (F := Ideal) c i arg2 harg2 arg3 harg3 arg4 harg4 arg5 harg5 arg6 harg6 arg7 harg7 x0 x1 x2 x3,
   kernelRun0_A.sl.r_15 (F := Ideal) c i arg2 harg2 arg3 harg3 arg4 harg4 arg5 harg5 arg6 harg6 arg7 harg7 x0 x1 x2 x3)

/-- What the last pair's block leaves, and then the loops. -/
abbrev lone : Carry :=
  st_k0_t3 (F := Ideal) Variants.none c none i arg2 harg2 arg3 harg3 arg4 harg4 arg5 harg5 arg6 harg6 arg7 harg7 (BitVec.ofNat 32 (i 1)) (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) (k0_pay94 i)
    (kernelRun0_A.sl.r_4 (F := Ideal) c i arg2 harg2 arg3 harg3 arg4 harg4 arg5 harg5 arg6 harg6 arg7 harg7 x0 x1 x2 x3)
    (kernelRun0_A.sl.r_5 (F := Ideal) c i arg2 harg2 arg3 harg3 arg4 harg4 arg5 harg5 arg6 harg6 arg7 harg7 x0 x1 x2 x3)
    (kernelRun0_A.sl.r_6 (F := Ideal) c i arg2 harg2 arg3 harg3 arg4 harg4 arg5 harg5 arg6 harg6 arg7 harg7 x0 x1 x2 x3)
    (kernelRun0_A.sl.r_7 (F := Ideal) c i arg2 harg2 arg3 harg3 arg4 harg4 arg5 harg5 arg6 harg6 arg7 harg7 x0 x1 x2 x3)
    (kernelRun0_A.sl.r_8 (F := Ideal) c i arg2 harg2 arg3 harg3 arg4 harg4 arg5 harg5 arg6 harg6 arg7 harg7 x0 x1 x2 x3)
    (kernelRun0_A.sl.r_9 (F := Ideal) c i arg2 harg2 arg3 harg3 arg4 harg4 arg5 harg5 arg6 harg6 arg7 harg7 x0 x1 x2 x3)
    (kernelRun0_A.sl.r_10 (F := Ideal) c i arg2 harg2 arg3 harg3 arg4 harg4 arg5 harg5 arg6 harg6 arg7 harg7 x0 x1 x2 x3)
    (kernelRun0_A.sl.r_11 (F := Ideal) c i arg2 harg2 arg3 harg3 arg4 harg4 arg5 harg5 arg6 harg6 arg7 harg7 x0 x1 x2 x3)
    (kernelRun0_A.sl.r_12 (F := Ideal) c i arg2 harg2 arg3 harg3 arg4 harg4 arg5 harg5 arg6 harg6 arg7 harg7 x0 x1 x2 x3)
    (kernelRun0_A.sl.r_13 (F := Ideal) c i arg2 harg2 arg3 harg3 arg4 harg4 arg5 harg5 arg6 harg6 arg7 harg7 x0 x1 x2 x3)
    (kernelRun0_A.sl.r_14 (F := Ideal) c i arg2 harg2 arg3 harg3 arg4 harg4 arg5 harg5 arg6 harg6 arg7 harg7 x0 x1 x2 x3)
    (kernelRun0_A.sl.r_15 (F := Ideal) c i arg2 harg2 arg3 harg3 arg4 harg4 arg5 harg5 arg6 harg6 arg7 harg7 x0 x1 x2 x3) 0#32 (kernelRun0_A.sl.v78 i) (harg3.unread x1) (harg4.unread x2) (harg5.unread x3)
    (kernelRun0_A.sl.r_4 (F := Ideal) c i arg2 harg2 arg3 harg3 arg4 harg4 arg5 harg5 arg6 harg6 arg7 harg7 x0 x1 x2 x3, kernelRun0_A.sl.r_5 (F := Ideal) c i arg2 harg2 arg3 harg3 arg4 harg4 arg5 harg5 arg6 harg6 arg7 harg7 x0 x1 x2 x3, kernelRun0_A.sl.r_6 (F := Ideal) c i arg2 harg2 arg3 harg3 arg4 harg4 arg5 harg5 arg6 harg6 arg7 harg7 x0 x1 x2 x3, kernelRun0_A.sl.r_7 (F := Ideal) c i arg2 harg2 arg3 harg3 arg4 harg4 arg5 harg5 arg6 harg6 arg7 harg7 x0 x1 x2 x3, kernelRun0_A.sl.r_8 (F := Ideal) c i arg2 harg2 arg3 harg3 arg4 harg4 arg5 harg5 arg6 harg6 arg7 harg7 x0 x1 x2 x3, kernelRun0_A.sl.r_9 (F := Ideal) c i arg2 harg2 arg3 harg3 arg4 harg4 arg5 harg5 arg6 harg6 arg7 harg7 x0 x1 x2 x3, kernelRun0_A.sl.r_10 (F := Ideal) c i arg2 harg2 arg3 harg3 arg4 harg4 arg5 harg5 arg6 harg6 arg7 harg7 x0 x1 x2 x3, kernelRun0_A.sl.r_11 (F := Ideal) c i arg2 harg2 arg3 harg3 arg4 harg4 arg5 harg5 arg6 harg6 arg7 harg7 x0 x1 x2 x3, kernelRun0_A.sl.r_12 (F := Ideal) c i arg2 harg2 arg3 harg3 arg4 harg4 arg5 harg5 arg6 harg6 arg7 harg7 x0 x1 x2 x3, kernelRun0_A.sl.r_13 (F := Ideal) c i arg2 harg2 arg3 harg3 arg4 harg4 arg5 harg5 arg6 harg6 arg7 harg7 x0 x1 x2 x3, kernelRun0_A.sl.r_14 (F := Ideal) c i arg2 harg2 arg3 harg3 arg4 harg4 arg5 harg5 arg6 harg6 arg7 harg7 x0 x1 x2 x3, kernelRun0_A.sl.r_15 (F := Ideal) c i arg2 harg2 arg3 harg3 arg4 harg4 arg5 harg5 arg6 harg6 arg7 harg7 x0 x1 x2 x3) (Scf.trips (k0_t3_loop i).lb (k0_t3_loop i).ub (k0_t3_loop i).st)

@[inherit_doc lone] abbrev drawn : Carry :=
  st_k0_t4 (F := Ideal) Variants.none c none i arg2 harg2 arg3 harg3 arg4 harg4 arg5 harg5 arg6 harg6 arg7 harg7 (BitVec.ofNat 32 (i 1)) (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) (k0_pay94 i)
    (kernelRun0_A.sl.r_4 (F := Ideal) c i arg2 harg2 arg3 harg3 arg4 harg4 arg5 harg5 arg6 harg6 arg7 harg7 x0 x1 x2 x3)
    (kernelRun0_A.sl.r_5 (F := Ideal) c i arg2 harg2 arg3 harg3 arg4 harg4 arg5 harg5 arg6 harg6 arg7 harg7 x0 x1 x2 x3)
    (kernelRun0_A.sl.r_6 (F := Ideal) c i arg2 harg2 arg3 harg3 arg4 harg4 arg5 harg5 arg6 harg6 arg7 harg7 x0 x1 x2 x3)
    (kernelRun0_A.sl.r_7 (F := Ideal) c i arg2 harg2 arg3 harg3 arg4 harg4 arg5 harg5 arg6 harg6 arg7 harg7 x0 x1 x2 x3)
    (kernelRun0_A.sl.r_8 (F := Ideal) c i arg2 harg2 arg3 harg3 arg4 harg4 arg5 harg5 arg6 harg6 arg7 harg7 x0 x1 x2 x3)
    (kernelRun0_A.sl.r_9 (F := Ideal) c i arg2 harg2 arg3 harg3 arg4 harg4 arg5 harg5 arg6 harg6 arg7 harg7 x0 x1 x2 x3)
    (kernelRun0_A.sl.r_10 (F := Ideal) c i arg2 harg2 arg3 harg3 arg4 harg4 arg5 harg5 arg6 harg6 arg7 harg7 x0 x1 x2 x3)
    (kernelRun0_A.sl.r_11 (F := Ideal) c i arg2 harg2 arg3 harg3 arg4 harg4 arg5 harg5 arg6 harg6 arg7 harg7 x0 x1 x2 x3)
    (kernelRun0_A.sl.r_12 (F := Ideal) c i arg2 harg2 arg3 harg3 arg4 harg4 arg5 harg5 arg6 harg6 arg7 harg7 x0 x1 x2 x3)
    (kernelRun0_A.sl.r_13 (F := Ideal) c i arg2 harg2 arg3 harg3 arg4 harg4 arg5 harg5 arg6 harg6 arg7 harg7 x0 x1 x2 x3)
    (kernelRun0_A.sl.r_14 (F := Ideal) c i arg2 harg2 arg3 harg3 arg4 harg4 arg5 harg5 arg6 harg6 arg7 harg7 x0 x1 x2 x3)
    (kernelRun0_A.sl.r_15 (F := Ideal) c i arg2 harg2 arg3 harg3 arg4 harg4 arg5 harg5 arg6 harg6 arg7 harg7 x0 x1 x2 x3) 0#32 (kernelRun0_A.sl.v78 i) (harg3.unread x1) (harg4.unread x2) (harg5.unread x3)
    ((lone c i arg2 harg2 arg3 harg3 arg4 harg4 arg5 harg5 arg6 harg6 arg7 harg7 x0 x1 x2 x3).1, (lone c i arg2 harg2 arg3 harg3 arg4 harg4 arg5 harg5 arg6 harg6 arg7 harg7 x0 x1 x2 x3).2.1, (lone c i arg2 harg2 arg3 harg3 arg4 harg4 arg5 harg5 arg6 harg6 arg7 harg7 x0 x1 x2 x3).2.2.1, (lone c i arg2 harg2 arg3 harg3 arg4 harg4 arg5 harg5 arg6 harg6 arg7 harg7 x0 x1 x2 x3).2.2.2.1, (lone c i arg2 harg2 arg3 harg3 arg4 harg4 arg5 harg5 arg6 harg6 arg7 harg7 x0 x1 x2 x3).2.2.2.2.1, (lone c i arg2 harg2 arg3 harg3 arg4 harg4 arg5 harg5 arg6 harg6 arg7 harg7 x0 x1 x2 x3).2.2.2.2.2.1, (lone c i arg2 harg2 arg3 harg3 arg4 harg4 arg5 harg5 arg6 harg6 arg7 harg7 x0 x1 x2 x3).2.2.2.2.2.2.1, (lone c i arg2 harg2 arg3 harg3 arg4 harg4 arg5 harg5 arg6 harg6 arg7 harg7 x0 x1 x2 x3).2.2.2.2.2.2.2.1, (lone c i arg2 harg2 arg3 harg3 arg4 harg4 arg5 harg5 arg6 harg6 arg7 harg7 x0 x1 x2 x3).2.2.2.2.2.2.2.2.1, (lone c i arg2 harg2 arg3 harg3 arg4 harg4 arg5 harg5 arg6 harg6 arg7 harg7 x0 x1 x2 x3).2.2.2.2.2.2.2.2.2.1, (lone c i arg2 harg2 arg3 harg3 arg4 harg4 arg5 harg5 arg6 harg6 arg7 harg7 x0 x1 x2 x3).2.2.2.2.2.2.2.2.2.2.1, (lone c i arg2 harg2 arg3 harg3 arg4 harg4 arg5 harg5 arg6 harg6 arg7 harg7 x0 x1 x2 x3).2.2.2.2.2.2.2.2.2.2.2) (Scf.trips (k0_t4_loop i).lb (k0_t4_loop i).ub (k0_t4_loop i).st)

/-- What the four heads carry into the diagonal. -/
def carried : Carry :=
  ((drawn c i arg2 harg2 arg3 harg3 arg4 harg4 arg5 harg5 arg6 harg6 arg7 harg7 x0 x1 x2 x3).1, (drawn c i arg2 harg2 arg3 harg3 arg4 harg4 arg5 harg5 arg6 harg6 arg7 harg7 x0 x1 x2 x3).2.1, (drawn c i arg2 harg2 arg3 harg3 arg4 harg4 arg5 harg5 arg6 harg6 arg7 harg7 x0 x1 x2 x3).2.2.1,
   kernelRun0_A.sl.r_16 (F := Ideal) c i arg2 harg2 arg3 harg3 arg4 harg4 arg5 harg5 arg6 harg6 arg7 harg7 x0 x1 x2 x3,
   kernelRun0_A.sl.r_17 (F := Ideal) c i arg2 harg2 arg3 harg3 arg4 harg4 arg5 harg5 arg6 harg6 arg7 harg7 x0 x1 x2 x3,
   kernelRun0_A.sl.r_18 (F := Ideal) c i arg2 harg2 arg3 harg3 arg4 harg4 arg5 harg5 arg6 harg6 arg7 harg7 x0 x1 x2 x3,
   kernelRun0_A.sl.r_19 (F := Ideal) c i arg2 harg2 arg3 harg3 arg4 harg4 arg5 harg5 arg6 harg6 arg7 harg7 x0 x1 x2 x3,
   kernelRun0_A.sl.r_20 (F := Ideal) c i arg2 harg2 arg3 harg3 arg4 harg4 arg5 harg5 arg6 harg6 arg7 harg7 x0 x1 x2 x3,
   kernelRun0_A.sl.r_21 (F := Ideal) c i arg2 harg2 arg3 harg3 arg4 harg4 arg5 harg5 arg6 harg6 arg7 harg7 x0 x1 x2 x3,
   kernelRun0_A.sl.r_22 (F := Ideal) c i arg2 harg2 arg3 harg3 arg4 harg4 arg5 harg5 arg6 harg6 arg7 harg7 x0 x1 x2 x3,
   kernelRun0_A.sl.r_23 (F := Ideal) c i arg2 harg2 arg3 harg3 arg4 harg4 arg5 harg5 arg6 harg6 arg7 harg7 x0 x1 x2 x3,
   kernelRun0_A.sl.r_24 (F := Ideal) c i arg2 harg2 arg3 harg3 arg4 harg4 arg5 harg5 arg6 harg6 arg7 harg7 x0 x1 x2 x3)

/-- The query rows as loaded. -/
theorem load0 : View.readAt (Elt Ideal) arg2.view (Rect.unit (s := S384x256) ![0, 0] S384x256.size inb_S384x256_S384x256_0_0).toLoadRect (harg2.unread x0) = x0 := by
  rw [View.readAt_eq_ld, harg2.read_unread]
  exact View.ld_unit_lit _ _ (by decide)

theorem heads : four (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) = qry x0 := by
  have e := load0 arg2 harg2 x0
  funext h
  conv_rhs => rw [← e]
  fin_cases h <;> rfl

theorem paired_all (hs : ∀ h r j, sc x0 x1 x3 (i 1).val h r j ≠ ⊤) :
    All (sc x0 x1 x3 (i 1).val) (vl x2) (768 * ((i 1).val / 2)) (paired c i arg2 harg2 arg3 harg3 arg4 harg4 arg5 harg5 arg6 harg6 arg7 harg7 x0 x1 x2 x3) := by
  unfold paired kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15
  simp only [Prod.mk.eta]
  show All _ _ _ (st_k0_t2 (F := Ideal) Variants.none c none i arg2 harg2 arg3 harg3 arg4 harg4 arg5 harg5 arg6 harg6 arg7 harg7 _ _ _ _ _ _ _ _ _ _ _ _ _ _ _ _ _ _ _ _ (st_k0_t1 (F := Ideal) Variants.none c none i arg2 harg2 arg3 harg3 arg4 harg4 arg5 harg5 arg6 harg6 arg7 harg7 _ _ _ _ _ _ _ _ _ _ _ _ _ _ _ _ _ _ _ _ (k0_t1_loop i).trips) (k0_t2_loop i).trips)
  rw [loop2]
  exact loop1_end hs (heads c arg2 harg2 x0) start ⟨start_holds _ _, start_holds _ _, start_holds _ _, start_holds _ _⟩

theorem carried_all (hs : ∀ h r j, sc x0 x1 x3 (i 1).val h r j ≠ ⊤) :
    All (sc x0 x1 x3 (i 1).val) (vl x2) (384 * (i 1).val) (carried c i arg2 harg2 arg3 harg3 arg4 harg4 arg5 harg5 arg6 harg6 arg7 harg7 x0 x1 x2 x3) := by
  unfold carried drawn lone kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24
  simp only [Prod.mk.eta]
  show All _ _ _ (st_k0_t4 (F := Ideal) Variants.none c none i arg2 harg2 arg3 harg3 arg4 harg4 arg5 harg5 arg6 harg6 arg7 harg7 _ _ _ _ _ _ _ _ _ _ _ _ _ _ _ _ _ _ _ _ _ _ _ (st_k0_t3 (F := Ideal) Variants.none c none i arg2 harg2 arg3 harg3 arg4 harg4 arg5 harg5 arg6 harg6 arg7 harg7 _ _ _ _ _ _ _ _ _ _ _ _ _ _ _ _ _ _ _ _ _ _ _ (paired c i arg2 harg2 arg3 harg3 arg4 harg4 arg5 harg5 arg6 harg6 arg7 harg7 x0 x1 x2 x3) (k0_t3_loop i).trips) (k0_t4_loop i).trips)
  rw [loop4]
  exact loop3 hs (heads c arg2 harg2 x0) _ (paired_all c i arg2 harg2 arg3 harg3 arg4 harg4 arg5 harg5 arg6 harg6 arg7 harg7 x0 x1 x2 x3 hs)

/-- The block of keys and of values on the diagonal. -/
def dkey : FVec Ideal S384x256 .bf16 := View.readAt (Elt Ideal) arg3.view (Rect.unit (s := S4224x256) (k0_off21 i) S384x256.size (k0_off21_inb i)).toLoadRect (harg3.unread x1)
def dval : FVec Ideal S384x256 .bf16 := View.readAt (Elt Ideal) arg4.view (Rect.unit (s := S4224x256) (k0_off21 i) S384x256.size (k0_off21_inb i)).toLoadRect (harg4.unread x2)

/-- What the four heads carry past the diagonal. -/
def ended : Carry :=
  step384 (fun h => diag i (score384 (four (kernelRun0_A.sl.r (F := Ideal) c arg2 harg2 x0) (kernelRun0_A.sl.r_1 (F := Ideal) c arg2 harg2 x0) (kernelRun0_A.sl.r_2 (F := Ideal) c arg2 harg2 x0)
    (kernelRun0_A.sl.r_3 (F := Ideal) c arg2 harg2 x0) h) (val384 (dkey i arg3 harg3 x1) (half h)) (four (View.readAt (Elt Ideal) arg5.view (Rect.unit (s := S4x1x4224) (k0_off22 i) S1x1x384.size (k0_off22_inb i)).toLoadRect (harg5.unread x3)) (View.readAt (Elt Ideal) arg5.view (Rect.unit (s := S4x1x4224) (k0_off23 i) S1x1x384.size (k0_off23_inb i)).toLoadRect (harg5.unread x3)) (View.readAt (Elt Ideal) arg5.view (Rect.unit (s := S4x1x4224) (k0_off24 i) S1x1x384.size (k0_off24_inb i)).toLoadRect (harg5.unread x3)) (View.readAt (Elt Ideal) arg5.view (Rect.unit (s := S4x1x4224) (k0_off25 i) S1x1x384.size (k0_off25_inb i)).toLoadRect (harg5.unread x3)) h))) (dval i arg4 harg4 x2) (carried c i arg2 harg2 arg3 harg3 arg4 harg4 arg5 harg5 arg6 harg6 arg7 harg7 x0 x1 x2 x3)

theorem ended_all (hs : ∀ h r j, sc x0 x1 x3 (i 1).val h r j ≠ ⊤) :
    All (sc x0 x1 x3 (i 1).val) (vl x2) (384 * (i 1).val + 384) (ended c i arg2 harg2 arg3 harg3 arg4 harg4 arg5 harg5 arg6 harg6 arg7 harg7 x0 x1 x2 x3) := by
  unfold ended
  rw [heads]
  refine (carried_all c i arg2 harg2 arg3 harg3 arg4 harg4 arg5 harg5 arg6 harg6 arg7 harg7 x0 x1 x2 x3 hs).step384 hs _ _ (fun h r j => ?_) fun p j l => ?_
  · rw [diag_apply]
    by_cases hj : j.val ≤ r.val
    · rw [if_pos hj]
      exact score384_sc (384 * (i 1).val) _ _ (fun j l => rows harg3 x1 _ _ (off21 i) _ j l) h _ (decs h) r j (by omega)
    · rw [if_neg hj, sc, if_neg (by omega)]
  · rw [val384_apply]
    exact rows harg4 x2 _ _ (off21 i) _ j _

set_option maxHeartbeats 4000000 in
/-- The two outputs' stores. -/
theorem stores4 : (kernelRun0_A (F := Ideal) c i arg2 harg2 arg3 harg3 arg4 harg4 arg5 harg5 arg6 harg6 arg7 harg7 x0 x1 x2 x3).1 =
    [⟨Rect.unit ![0, 0] ![384, 256] inb_S384x256_S384x256_0_0,
      concatenate S384x256 1 [⟨S384x128, pair (ended c i arg2 harg2 arg3 harg3 arg4 harg4 arg5 harg5 arg6 harg6 arg7 harg7 x0 x1 x2 x3).2.1 (ended c i arg2 harg2 arg3 harg3 arg4 harg4 arg5 harg5 arg6 harg6 arg7 harg7 x0 x1 x2 x3).2.2.1 (ended c i arg2 harg2 arg3 harg3 arg4 harg4 arg5 harg5 arg6 harg6 arg7 harg7 x0 x1 x2 x3).2.2.2.2.1 (ended c i arg2 harg2 arg3 harg3 arg4 harg4 arg5 harg5 arg6 harg6 arg7 harg7 x0 x1 x2 x3).2.2.2.2.2.1⟩,
        ⟨S384x128, pair (ended c i arg2 harg2 arg3 harg3 arg4 harg4 arg5 harg5 arg6 harg6 arg7 harg7 x0 x1 x2 x3).2.2.2.2.2.2.2.1 (ended c i arg2 harg2 arg3 harg3 arg4 harg4 arg5 harg5 arg6 harg6 arg7 harg7 x0 x1 x2 x3).2.2.2.2.2.2.2.2.1 (ended c i arg2 harg2 arg3 harg3 arg4 harg4 arg5 harg5 arg6 harg6 arg7 harg7 x0 x1 x2 x3).2.2.2.2.2.2.2.2.2.2.1 (ended c i arg2 harg2 arg3 harg3 arg4 harg4 arg5 harg5 arg6 harg6 arg7 harg7 x0 x1 x2 x3).2.2.2.2.2.2.2.2.2.2.2⟩] concatenates_S384x128_S384x128_S384x256_d1⟩] := by
  unfold kernelRun0_A
  rfl

set_option maxHeartbeats 4000000 in
theorem stores5 : (kernelRun0_A (F := Ideal) c i arg2 harg2 arg3 harg3 arg4 harg4 arg5 harg5 arg6 harg6 arg7 harg7 x0 x1 x2 x3).2.1 =
    [⟨Rect.unit ![3, 0, 0] ![1, 384, 1] inb_S4x384x1_S1x384x1_3_0_0, lse (ended c i arg2 harg2 arg3 harg3 arg4 harg4 arg5 harg5 arg6 harg6 arg7 harg7 x0 x1 x2 x3).2.2.2.2.2.2.2.2.2.1 (ended c i arg2 harg2 arg3 harg3 arg4 harg4 arg5 harg5 arg6 harg6 arg7 harg7 x0 x1 x2 x3).2.2.2.2.2.2.2.2.2.2.1⟩,
     ⟨Rect.unit ![2, 0, 0] ![1, 384, 1] inb_S4x384x1_S1x384x1_2_0_0, lse (ended c i arg2 harg2 arg3 harg3 arg4 harg4 arg5 harg5 arg6 harg6 arg7 harg7 x0 x1 x2 x3).2.2.2.2.2.2.1 (ended c i arg2 harg2 arg3 harg3 arg4 harg4 arg5 harg5 arg6 harg6 arg7 harg7 x0 x1 x2 x3).2.2.2.2.2.2.2.1⟩,
     ⟨Rect.unit ![1, 0, 0] ![1, 384, 1] inb_S4x384x1_S1x384x1_1_0_0, lse (ended c i arg2 harg2 arg3 harg3 arg4 harg4 arg5 harg5 arg6 harg6 arg7 harg7 x0 x1 x2 x3).2.2.2.1 (ended c i arg2 harg2 arg3 harg3 arg4 harg4 arg5 harg5 arg6 harg6 arg7 harg7 x0 x1 x2 x3).2.2.2.2.1⟩,
     ⟨Rect.unit ![0, 0, 0] ![1, 384, 1] inb_S4x384x1_S1x384x1_0_0_0, lse (ended c i arg2 harg2 arg3 harg3 arg4 harg4 arg5 harg5 arg6 harg6 arg7 harg7 x0 x1 x2 x3).1 (ended c i arg2 harg2 arg3 harg3 arg4 harg4 arg5 harg5 arg6 harg6 arg7 harg7 x0 x1 x2 x3).2.1⟩] := by
  unfold kernelRun0_A
  rfl

end Cert.FoxFwdIdeal.Tie

end
-- ==== Proof.FoxFwdStored.lean ====
module

public import proofs.«01_k».proof.Proof.FoxFwdOut

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)
variable (c : Dev nD) (i : grid0.Coords) (arg2 : Memref sig .tc .vmem S384x256 .bf16) (harg2 : arg2.IsWhole) (arg3 : Memref sig .tc .vmem S4224x256 .bf16) (harg3 : arg3.IsWhole) (arg4 : Memref sig .tc .vmem S4224x256 .bf16) (harg4 : arg4.IsWhole) (arg5 : Memref sig .tc .vmem S4x1x4224 .f32) (harg5 : arg5.IsWhole) (arg6 : Memref sig .tc .vmem S384x256 .bf16) (harg6 : arg6.IsWhole) (arg7 : Memref sig .tc .vmem S4x384x1 .f32) (harg7 : arg7.IsWhole)
  (x0 : Vec Ideal S384x256 .bf16) (x1 : Vec Ideal S4224x256 .bf16) (x2 : Vec Ideal S4224x256 .bf16) (x3 : Vec Ideal S4x1x4224 .f32)

/-- Two heads side by side, read at a column. -/
theorem pair_all {s0 s1 w : ℕ → ℕ → EReal} {n : ℕ} {m0 l0 m1 l1 : FVec Ideal S384x1 .f32} {a0 a1 : FVec Ideal S384x128 .f32} (h0 : Holds s0 w n m0 l0 a0) (h1 : Holds s1 w n m1 l1 a1)
    (r : Fin 384) (c : Fin 128) : pair l0 a0 l1 a1 (ix2 r c) =
      if c.val < 64 then Ideal.div (mass (s0 r) (w c) n) (mass (s0 r) (fun _ => 1) n) else Ideal.div (mass (s1 r) (w c) n) (mass (s1 r) (fun _ => 1) n) := by
  rw [pair_apply, (h0 r).2.1, (h1 r).2.1, (h0 r).2.2, (h1 r).2.2]

/-- Two pairs side by side. -/
theorem cat_apply (A B : FVec Ideal S384x128 .bf16) (r : Fin 384) (l : Fin 256) :
    concatenate S384x256 1 [⟨S384x128, A⟩, ⟨S384x128, B⟩] concatenates_S384x128_S384x128_S384x256_d1 (ix2 r l) =
      if h : l.val < 128 then A (ix2 r ⟨l.val, h⟩) else B (ix2 r ⟨l.val - 128, by omega⟩) := by
  pointwise []

/-- A single store of the whole block is read back. -/
theorem whole (f : Vec Ideal S384x256 .bf16) (r : Fin 384) (l : Fin 256) :
    View.canon (Val := Elt Ideal) [⟨Rect.unit ![0, 0] ![384, 256] inb_S384x256_S384x256_0_0, f⟩] (ix2 r l) = f (ix2 r l) := by
  canon_tiles x g
  idx_vars x
  obtain rfl : x0 = r := Fin.ext g0.symm
  obtain rfl : x1 = l := Fin.ext g1.symm
  rfl

/-- The stored output: for the head the column is of, the weighted sum over the weights' sum. -/
theorem out4_apply (hs : ∀ h r j, sc x0 x1 x3 (i 1).val h r j ≠ ⊤) (r : Fin 384) (l : Fin 256) : out0_A_4 (F := Ideal) c i arg2 harg2 arg3 harg3 arg4 harg4 arg5 harg5 arg6 harg6 arg7 harg7 x0 x1 x2 x3 (ix2 r l) =
    Ideal.div (mass (sc x0 x1 x3 (i 1).val ⟨l.val / 64, by omega⟩ r) (fun j => at2 x2 j l.val) (384 * (i 1).val + 384))
      (mass (sc x0 x1 x3 (i 1).val ⟨l.val / 64, by omega⟩ r) (fun _ => 1) (384 * (i 1).val + 384)) := by
  unfold out0_A_4
  rw [stores4, View.read_writes_junk_eq_canon]
  obtain ⟨h0, h1, h2, h3⟩ := ended_all c i arg2 harg2 arg3 harg3 arg4 harg4 arg5 harg5 arg6 harg6 arg7 harg7 x0 x1 x2 x3 hs
  have hl := l.isLt
  have hv : ∀ (p : Fin 2) (c : ℕ), l.val = 128 * p.val + c → vl x2 p c = fun j => at2 x2 j l.val := by
    intro p c e
    funext j
    rw [vl, e]
  have hh : ∀ h : Fin 4, h.val = l.val / 64 → h = ⟨l.val / 64, by omega⟩ := fun h e => Fin.ext e
  refine (whole _ r l).trans ((cat_apply _ _ r l).trans ?_)
  by_cases h : l.val < 128
  · rw [dif_pos h, pair_all h0 h1, hv 0 l.val (by simp)]
    by_cases h' : l.val < 64
    · rw [if_pos h', hh 0 (by show 0 = _; omega)]
    · rw [if_neg h', hh 1 (by show 1 = _; omega)]
  · rw [dif_neg h, pair_all h2 h3, hv 1 (l.val - 128) (by show l.val = 128 * 1 + _; omega)]
    by_cases h' : l.val - 128 < 64
    · rw [if_pos h', hh 2 (by show 2 = _; omega)]
    · rw [if_neg h', hh 3 (by show 3 = _; omega)]

theorem out5_apply (hs : ∀ h r j, sc x0 x1 x3 (i 1).val h r j ≠ ⊤) (h : Fin 4) (r : Fin 384) : out0_A_5 (F := Ideal) c i arg2 harg2 arg3 harg3 arg4 harg4 arg5 harg5 arg6 harg6 arg7 harg7 x0 x1 x2 x3 (ix3 h r 0) =
    peak (sc x0 x1 x3 (i 1).val h r) (384 * (i 1).val + 384) + Ideal.log (mass (sc x0 x1 x3 (i 1).val h r) (fun _ => 1) (384 * (i 1).val + 384)) := by
  unfold out0_A_5
  rw [stores5, View.read_writes_junk_eq_canon]
  obtain ⟨h0, h1, h2, h3⟩ := ended_all c i arg2 harg2 arg3 harg3 arg4 harg4 arg5 harg5 arg6 harg6 arg7 harg7 x0 x1 x2 x3 hs
  canon_tiles x g
  · idx_vars x
    obtain rfl : h = 3 := Fin.ext (by show h.val = 3; omega)
    obtain rfl : x0 = 0 := Fin.ext (by omega)
    obtain rfl : x2 = 0 := Fin.ext (by omega)
    obtain rfl : x1 = r := Fin.ext g1.symm
    rw [lse_apply, (h3 x1).1, (h3 x1).2.1]
  · idx_vars x
    obtain rfl : h = 2 := Fin.ext (by show h.val = 2; omega)
    obtain rfl : x0 = 0 := Fin.ext (by omega)
    obtain rfl : x2 = 0 := Fin.ext (by omega)
    obtain rfl : x1 = r := Fin.ext g1.symm
    rw [lse_apply, (h2 x1).1, (h2 x1).2.1]
  · idx_vars x
    obtain rfl : h = 1 := Fin.ext (by show h.val = 1; omega)
    obtain rfl : x0 = 0 := Fin.ext (by omega)
    obtain rfl : x2 = 0 := Fin.ext (by omega)
    obtain rfl : x1 = r := Fin.ext g1.symm
    rw [lse_apply, (h1 x1).1, (h1 x1).2.1]
  · idx_vars x
    obtain rfl : h = 0 := Fin.ext (by show h.val = 0; omega)
    obtain rfl : x0 = 0 := Fin.ext (by omega)
    obtain rfl : x2 = 0 := Fin.ext (by omega)
    obtain rfl : x1 = r := Fin.ext g1.symm
    rw [lse_apply, (h0 x1).1, (h0 x1).2.1]

end Cert.FoxFwdIdeal.Tie

end
-- ==== Proof.FoxCausal.lean ====
module

public import proofs.«01_k».proof.Proof.AttCausal

@[expose] public section

noncomputable section

namespace Cert.Proof.Att.Fox

open Idealize.ShloMosaic Cert.Common
open Cert.Dc.Spec (IsReal)

theorem eighth : Ideal.ofBits .f32 0x3E000000#32 = ((1 / 8 : ℝ) : EReal) := by
  simp [Ideal.ofBits, Ideal.ieee, -EReal.coe_mul]
  norm_num

theorem eighth' : Ideal.ofBits .bf16 0x3E00#16 = ((1 / 8 : ℝ) : EReal) := by
  simp [Ideal.ofBits, Ideal.ieee, -EReal.coe_mul]
  norm_num

theorem real_sub {x y : EReal} : IsReal x → IsReal y → IsReal (x - y) := fun ⟨a, ha⟩ ⟨b, hb⟩ => ⟨a - b, by rw [ha, hb, EReal.coe_sub]⟩

/-- The score of key `j` against row `r` for head `h`, less the key's decay; `⊥` past the diagonal. -/
def score (q k : (⟨2, ![4224, 512]⟩ : Shape).Idx → EReal) (g : (⟨2, ![4224, 8]⟩ : Shape).Idx → EReal) (h r j : ℕ) : EReal :=
  if j ≤ r then (∑ d : Fin 64, at2 q r (64 * h + d) * at2 k j (64 * h + d)) * ((1 / 8 : ℝ) : EReal) - at2 g j h else ⊥

/-- The attention's output: for the head the column is of, the values weighted by the exponentials, over their sum. -/
def out (q k v : (⟨2, ![4224, 512]⟩ : Shape).Idx → EReal) (g : (⟨2, ![4224, 8]⟩ : Shape).Idx → EReal) : (⟨2, ![4224, 512]⟩ : Shape).Idx → EReal := fun i =>
  Ideal.div (mass (score q k g ((i 1).val / 64) (i 0).val) (fun j => at2 v j (i 1).val) 4224) (mass (score q k g ((i 1).val / 64) (i 0).val) (fun _ => 1) 4224)

/-- The logarithm of the exponentials' sum. -/
def lse (q k : (⟨2, ![4224, 512]⟩ : Shape).Idx → EReal) (g : (⟨2, ![4224, 8]⟩ : Shape).Idx → EReal) : (⟨3, ![8, 4224, 1]⟩ : Shape).Idx → EReal := fun i =>
  peak (score q k g (i 0).val (i 1).val) 4224 + Ideal.log (mass (score q k g (i 0).val (i 1).val) (fun _ => 1) 4224)

theorem out_at (q k v : (⟨2, ![4224, 512]⟩ : Shape).Idx → EReal) (g : (⟨2, ![4224, 8]⟩ : Shape).Idx → EReal) (r : Fin 4224) (c : Fin 512) :
    out q k v g (ix2 r c) = Ideal.div (mass (score q k g (c.val / 64) r.val) (fun j => at2 v j c.val) 4224) (mass (score q k g (c.val / 64) r.val) (fun _ => 1) 4224) := by
  unfold out
  simp only [ix2_0, ix2_1]

theorem lse_at (q k : (⟨2, ![4224, 512]⟩ : Shape).Idx → EReal) (g : (⟨2, ![4224, 8]⟩ : Shape).Idx → EReal) (h : Fin 8) (r : Fin 4224) (z : Fin 1) :
    lse q k g (ix3 h r z) = peak (score q k g h.val r.val) 4224 + Ideal.log (mass (score q k g h.val r.val) (fun _ => 1) 4224) := by
  unfold lse
  simp only [ix3_0, ix3_1]

/-- A pair's 128 columns against one head's rows, zero in the other head's lanes, are the head's 64. -/
theorem lane_sum (a b : ℕ → EReal) (h : ℕ) :
    (∑ d : Fin 128, (if d.val / 64 = h % 2 then a (128 * (h / 2) + d.val) * ((1 / 8 : ℝ) : EReal) else 0) * b (128 * (h / 2) + d.val))
      = (∑ d : Fin 64, a (64 * h + d.val) * b (64 * h + d.val)) * ((1 / 8 : ℝ) : EReal) := by
  rw [mul_comm _ ((1 / 8 : ℝ) : EReal), mul_sum _ (by exact_mod_cast (by norm_num : (0 : ℝ) ≤ 1 / 8)) (EReal.coe_ne_top _), Fin.sum_univ_add (a := 64) (b := 64) (f := fun d : Fin 128 => _)]
  have e : ∀ n : ℕ, a n * ((1 / 8 : ℝ) : EReal) * b n = ((1 / 8 : ℝ) : EReal) * (a n * b n) := fun n => by
    rw [mul_comm (a n), mul_assoc]
  rcases Nat.mod_two_eq_zero_or_one h with p | p
  · rw [Finset.sum_eq_zero (s := Finset.univ) (f := fun d : Fin 64 => (if (Fin.natAdd 64 d).val / 64 = h % 2 then _ else _) * _) fun d _ => by
      rw [if_neg (by show ¬ (64 + d.val) / 64 = h % 2; omega), zero_mul], add_zero]
    refine Finset.sum_congr rfl fun d _ => ?_
    have : 128 * (h / 2) + d.val = 64 * h + d.val := by omega
    rw [if_pos (by show d.val / 64 = h % 2; omega)]
    show a (128 * (h / 2) + d.val) * _ * b (128 * (h / 2) + d.val) = _
    rw [this, e]
  · rw [Finset.sum_eq_zero (s := Finset.univ) (f := fun d : Fin 64 => (if (Fin.castAdd 64 d).val / 64 = h % 2 then _ else _) * _) fun d _ => by
      rw [if_neg (by show ¬ d.val / 64 = h % 2; omega), zero_mul], zero_add]
    refine Finset.sum_congr rfl fun d _ => ?_
    have : 128 * (h / 2) + (64 + d.val) = 64 * h + d.val := by omega
    rw [if_pos (by show (64 + d.val) / 64 = h % 2; omega)]
    show a (128 * (h / 2) + (64 + d.val)) * _ * b (128 * (h / 2) + (64 + d.val)) = _
    rw [this, e]

/-- With a real number added to every score the mass is the same. -/
theorem mass_shift (s : ℕ → EReal) (x : ℝ) (w : ℕ → EReal) (n : ℕ) (hn : 0 < n) : mass (fun j => s j + (x : EReal)) w n = mass s w n := by
  unfold mass
  refine Finset.sum_congr rfl fun j _ => ?_
  rw [peak_shift s x n hn, sub_shift]

variable {q k : (⟨2, ![4224, 512]⟩ : Shape).Idx → EReal} {g : (⟨2, ![4224, 8]⟩ : Shape).Idx → EReal} (hq : ∀ i, IsReal (q i)) (hk : ∀ i, IsReal (k i)) (hg : ∀ i, IsReal (g i))
include hq hk hg

/-- Before the diagonal the scores are real. -/
theorem score_real (h r j : ℕ) (hj : j ≤ r) : IsReal (score q k g h r j) := by
  rw [score, if_pos hj]
  exact real_sub ((IsReal.sum _ fun d => (IsReal.at2 hq _ _).mul (IsReal.at2 hk _ _)).mul ⟨_, rfl⟩) (IsReal.at2 hg _ _)

theorem score_ne_top (h r j : ℕ) : score q k g h r j ≠ ⊤ := by
  by_cases hj : j ≤ r
  · obtain ⟨x, e⟩ := score_real hq hk hg h r j hj
    rw [e]
    exact EReal.coe_ne_top x
  · rw [score, if_neg hj]
    exact bot_ne_top

/-- The output, with the weights divided first. -/
theorem out_eq (v : (⟨2, ![4224, 512]⟩ : Shape).Idx → EReal) (r : Fin 4224) (c : Fin 512) :
    out q k v g (ix2 r c) = ∑ j : Fin 4224, Ideal.div (Ideal.exp (score q k g (c.val / 64) r.val j.val - peak (score q k g (c.val / 64) r.val) 4224))
      (mass (score q k g (c.val / 64) r.val) (fun _ => 1) 4224) * at2 v j.val c.val := by
  obtain ⟨x, e⟩ := score_real hq hk hg (c.val / 64) r.val r.val le_rfl
  rw [out_at]
  refine (mass_div (score_ne_top hq hk hg _ _) r.isLt (by
    show score q k g (c.val / 64) r.val r.val ≠ ⊥
    rw [e]
    exact EReal.coe_ne_bot x) _).trans ?_
  exact Finset.sum_range _

end Cert.Proof.Att.Fox

end
-- ==== Proof.FoxFwdValue.lean ====
module

public import proofs.«01_k».proof.Proof.FoxFwdStored
public import proofs.«01_k».proof.Proof.FoxCausal
public import Idealize.ShloMosaic.Lib.Pipeline.ReadBack

@[expose] public section

set_option maxRecDepth 16384

noncomputable section

namespace Cert.FoxFwdIdeal.Tie

open Cert.FoxFwdIdeal Cert.FoxFwdIdeal.Gen Idealize.ShloMosaic Idealize.ShloMosaic.TcCoe Idealize.SL.Sem Cert.Common Cert.Proof.Att
open Idealize.ShloMosaic.Pipeline (Dat)
open Cert.Dc.Spec (IsReal)

variable (m : (ℓ : Loc nD τ sig) → Buf (Elt Ideal) ℓ)

/-- The windows' blocks: the query rows, the output's and the logarithms' move with the point within a group of heads; keys, values and decays with the group. -/
theorem idx (t : Fin cfg0.N) : win0_0.index t = ![t.val % 11, t.val / 11] ∧ win0_1.index t = ![0, t.val / 11] ∧ win0_2.index t = ![0, t.val / 11]
    ∧ win0_3.index t = ![t.val / 11, 0, 0] ∧ win0_4.index t = ![t.val % 11, t.val / 11] ∧ win0_5.index t = ![t.val / 11, t.val % 11, 0] := by
  revert t
  decide +kernel

theorem row (t : Fin cfg0.N) : (grid0.coords t 1).val = t.val % 11 := by
  revert t
  decide +kernel

abbrev a0 (c : Dev nD) : (⟨2, ![4224, 512]⟩ : Shape).Idx → EReal := m ((c : Thread nD τ).loc main_arg0)
abbrev a1 (c : Dev nD) : (⟨2, ![4224, 512]⟩ : Shape).Idx → EReal := m ((c : Thread nD τ).loc main_arg1)
abbrev a2 (c : Dev nD) : (⟨2, ![4224, 512]⟩ : Shape).Idx → EReal := m ((c : Thread nD τ).loc main_arg2)
abbrev a3 (c : Dev nD) : (⟨2, ![4224, 8]⟩ : Shape).Idx → EReal := m ((c : Thread nD τ).loc main_arg3)

theorem blk0 (c : Dev nD) (t : Fin cfg0.N) (r : Fin 384) (l : Fin 256) :
    (iblk m c 0 t : Vec Ideal S384x256 .bf16) (ix2 r l) = at2 (a0 m c) (384 * (t.val % 11) + r.val) (256 * (t.val / 11) + l.val) := by
  have ht : t.val < 22 := t.isLt
  rw [at2_lt _ _ _ (by omega) (by omega)]
  have h := (idx t).1
  blk_ext [iblk, V_main_arg0, h]

theorem blk1 (c : Dev nD) (t : Fin cfg0.N) (r : Fin 4224) (l : Fin 256) :
    (iblk m c 1 t : Vec Ideal S4224x256 .bf16) (ix2 r l) = at2 (a1 m c) r.val (256 * (t.val / 11) + l.val) := by
  have ht : t.val < 22 := t.isLt
  rw [at2_lt _ _ _ (by omega) (by omega)]
  have h := (idx t).2.1
  blk_ext [iblk, V_main_arg1, h]

theorem blk2 (c : Dev nD) (t : Fin cfg0.N) (r : Fin 4224) (l : Fin 256) :
    (iblk m c 2 t : Vec Ideal S4224x256 .bf16) (ix2 r l) = at2 (a2 m c) r.val (256 * (t.val / 11) + l.val) := by
  have ht : t.val < 22 := t.isLt
  rw [at2_lt _ _ _ (by omega) (by omega)]
  have h := (idx t).2.2.1
  blk_ext [iblk, V_main_arg2, h]

/-- The decays, by heads. -/
def turned (g : S4224x8.Idx → EReal) : S8x1x4224.Idx → EReal := shapeCast S8x1x4224 (transpose S8x4224 [1, 0] g transposes_S4224x8_S8x4224_1_0) shapeCasts_S8x4224_S8x1x4224

theorem turned_apply (g : S4224x8.Idx → EReal) (h : Fin 8) (j : Fin 4224) : turned g (ix3 h 0 j) = g (ix2 j h) := by
  pointwise [turned]

theorem V_main_v1 (c : Dev nD) : (V m c main_v1 : S8x1x4224.Idx → EReal) = turned (a3 m c) := by
  unfold V
  simp only [hostOps0, List.flatten_cons, List.flatten_nil, List.append_nil, List.cons_append, List.nil_append]
  after_results
  rfl

theorem blk3 (c : Dev nD) (t : Fin cfg0.N) (h : Fin 4) (j : Fin 4224) :
    (iblk m c 3 t : Vec Ideal S4x1x4224 .f32) (ix3 h 0 j) = at2 (a3 m c) j.val (4 * (t.val / 11) + h.val) := by
  have ht : t.val < 22 := t.isLt
  rw [at2_lt _ _ _ j.isLt (by omega)]
  refine Eq.trans ?_ (turned_apply (a3 m c) ⟨4 * (t.val / 11) + h.val, by omega⟩ j)
  rw [← V_main_v1]
  have e := (idx t).2.2.2.1
  blk_ext [iblk, e]

/-- A block's scores are the arrays'. -/
theorem sc_eq (c : Dev nD) (t : Fin cfg0.N) (h : Fin 4) (r : Fin 384) :
    sc (iblk m c 0 t) (iblk m c 1 t) (iblk m c 3 t) (t.val % 11) h r.val = Fox.score (a0 m c) (a1 m c) (a3 m c) (4 * (t.val / 11) + h.val) (384 * (t.val % 11) + r.val) := by
  have ht : t.val < 22 := t.isLt
  funext j
  unfold sc Fox.score
  by_cases hj : j ≤ 384 * (t.val % 11) + r.val
  · rw [if_pos hj, if_pos hj, ← Fox.lane_sum (fun n => at2 (a0 m c) (384 * (t.val % 11) + r.val) n) (fun n => at2 (a1 m c) j n)]
    refine congrArg₂ (· - ·) (Finset.sum_congr rfl fun d _ => ?_) ?_
    · have e : 256 * (t.val / 11) + (128 * (h.val / 2) + d.val) = 128 * ((4 * (t.val / 11) + h.val) / 2) + d.val := by omega
      have e' : (4 * (t.val / 11) + h.val) % 2 = h.val % 2 := by omega
      rw [at2_lt _ r.val _ r.isLt (by omega), at2_lt (iblk m c 1 t : Vec Ideal S4224x256 .bf16) j _ (by omega) (by omega), blk0 m c t, blk1 m c t, Fox.eighth', e']
      dsimp only
      rw [e]
    · rw [dcy_lt _ _ _ h.isLt (by omega)]
      exact blk3 m c t h ⟨j, by omega⟩
  · rw [if_neg hj, if_neg hj]

theorem vl_eq (c : Dev nD) (t : Fin cfg0.N) (l : Fin 256) :
    (fun j => at2 (iblk m c 2 t : Vec Ideal S4224x256 .bf16) j l.val) = fun j => at2 (a2 m c) j (256 * (t.val / 11) + l.val) := by
  have ht : t.val < 22 := t.isLt
  funext j
  by_cases hj : j < 4224
  · rw [at2_lt (iblk m c 2 t : Vec Ideal S4224x256 .bf16) j _ hj l.isLt]
    exact blk2 m c t _ _
  · rw [at2, dif_neg (fun h => hj h.1), at2, dif_neg (fun h => hj h.1)]

variable (c : Dev nD) (hq : ∀ i, IsReal (a0 m c i)) (hk : ∀ i, IsReal (a1 m c i)) (hg : ∀ i, IsReal (a3 m c i))
include hq hk hg

theorem sc_ne_top (t : Fin cfg0.N) (h : Fin 4) (r j : ℕ) : sc (iblk m c 0 t) (iblk m c 1 t) (iblk m c 3 t) (grid0.coords t 1).val h r j ≠ ⊤ := by
  unfold sc
  split
  · have e0 : ∀ i, IsReal ((iblk m c 0 t : Vec Ideal S384x256 .bf16) i) := fun i => by
      idx_vars i
      rw [blk0]
      exact IsReal.at2 hq _ _
    have e1 : ∀ i, IsReal ((iblk m c 1 t : Vec Ideal S4224x256 .bf16) i) := fun i => by
      idx_vars i
      rw [blk1]
      exact IsReal.at2 hk _ _
    have e3 : IsReal (dcy (iblk m c 3 t : Vec Ideal S4x1x4224 .f32) h.val j) := by
      unfold dcy
      split
      · rw [blk3]
        exact IsReal.at2 hg _ _
      · exact IsReal.zero
    have z : ∀ (p : Prop) [Decidable p] (x : EReal), IsReal x → IsReal (if p then x else 0) := fun p _ x hx => by
      split
      · exact hx
      · exact IsReal.zero
    obtain ⟨x, e⟩ := Fox.real_sub (IsReal.sum (n := 128) _ fun d => (z (d.val / 64 = h.val % 2) _ ((IsReal.at2 e0 r (128 * (h.val / 2) + d.val)).mul ⟨_, Fox.eighth'⟩)).mul (IsReal.at2 e1 j (128 * (h.val / 2) + d.val))) e3
    rw [e]
    exact EReal.coe_ne_top x
  · exact bot_ne_top

theorem past (t : Fin cfg0.N) (h : ℕ) (r : Fin 384) :
    peak (Fox.score (a0 m c) (a1 m c) (a3 m c) h (384 * (t.val % 11) + r.val)) 4224 = peak (Fox.score (a0 m c) (a1 m c) (a3 m c) h (384 * (t.val % 11) + r.val)) (384 * (t.val % 11) + 384)
      ∧ ∀ w, mass (Fox.score (a0 m c) (a1 m c) (a3 m c) h (384 * (t.val % 11) + r.val)) w 4224 = mass (Fox.score (a0 m c) (a1 m c) (a3 m c) h (384 * (t.val % 11) + r.val)) w (384 * (t.val % 11) + 384) :=
  Mla.past (fun j hj => if_neg (by omega)) (by omega)

theorem outs4 (t : Fin cfg0.N) (r : Fin 384) (l : Fin 256) : (outsAt0 m c t).1 (ix2 r l) =
    Ideal.div (mass (Fox.score (a0 m c) (a1 m c) (a3 m c) (4 * (t.val / 11) + l.val / 64) (384 * (t.val % 11) + r.val)) (fun j => at2 (a2 m c) j (256 * (t.val / 11) + l.val)) 4224)
      (mass (Fox.score (a0 m c) (a1 m c) (a3 m c) (4 * (t.val / 11) + l.val / 64) (384 * (t.val % 11) + r.val)) (fun _ => 1) 4224) := by
  have h := out4_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (sc_ne_top m c hq hk hg t) r l
  rw [row, sc_eq, vl_eq, ← (past m c hq hk hg t _ r).2, ← (past m c hq hk hg t _ r).2] at h
  dsimp only at h
  unfold outsAt0
  dsimp only
  rw [h]

theorem outs5 (t : Fin cfg0.N) (h : Fin 4) (r : Fin 384) : (outsAt0 m c t).2 (ix3 h r 0) =
    peak (Fox.score (a0 m c) (a1 m c) (a3 m c) (4 * (t.val / 11) + h.val) (384 * (t.val % 11) + r.val)) 4224
      + Ideal.log (mass (Fox.score (a0 m c) (a1 m c) (a3 m c) (4 * (t.val / 11) + h.val) (384 * (t.val % 11) + r.val)) (fun _ => 1) 4224) := by
  have h := out5_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (sc_ne_top m c hq hk hg t) h r
  rw [row, sc_eq, ← (past m c hq hk hg t _ r).1, ← (past m c hq hk hg t _ r).2] at h
  unfold outsAt0
  dsimp only
  rw [h]

/-- The kernel's output array. -/
theorem final4 : (dats m 0 c).arrAt 4 cfg0.N = Fox.out (a0 m c) (a1 m c) (a2 m c) (a3 m c) := by
  refine (dats m 0 c).arrAt_eq_of_covers 4 _ (by decide +kernel) fun t hf y => ?_
  have ht : t.val < 22 := t.isLt
  blk_simp
  rw [after0_4]
  idx_vars y
  have e : (win0_4.blk t).view.emb (ix2 y0 y1) = ix2 (⟨384 * (t.val % 11) + y0.val, by omega⟩ : Fin 4224) (⟨256 * (t.val / 11) + y1.val, by omega⟩ : Fin 512) := by
    blk_ext [(idx t).2.2.2.2.1]
  have e' : (256 * (t.val / 11) + y1.val) / 64 = 4 * (t.val / 11) + y1.val / 64 := by omega
  rw [e, outs4 m c hq hk hg, Fox.out_at, e']

/-- The kernel's array of logarithms. -/
theorem final5 : (dats m 0 c).arrAt 5 cfg0.N = Fox.lse (a0 m c) (a1 m c) (a3 m c) := by
  refine (dats m 0 c).arrAt_eq_of_covers 5 _ (by decide +kernel) fun t hf y => ?_
  have ht : t.val < 22 := t.isLt
  blk_simp
  rw [after0_5]
  idx_vars y
  obtain rfl : y2 = 0 := Fin.ext (by omega)
  have e : (win0_5.blk t).view.emb (ix3 y0 y1 0) = ix3 (⟨4 * (t.val / 11) + y0.val, by omega⟩ : Fin 8) (⟨384 * (t.val % 11) + y1.val, by omega⟩ : Fin 4224) 0 := by
    blk_ext [(idx t).2.2.2.2.2]
  rw [e, outs5 m c hq hk hg, Fox.lse_at]

end Cert.FoxFwdIdeal.Tie

end
-- ==== Proof.FoxFwdRef.lean ====
module

public import proofs.«01_k».proof.Proof.FoxCausal
public import proofs.«01_k».proof.Proof.Gen.FoxFwdRefIdeal.Read
public import Idealize.ShloMosaic.Lib.StableHlo.Run

@[expose] public section

set_option maxRecDepth 16384

noncomputable section

namespace Cert.FoxFwdRefIdeal.Tie

open Cert.FoxFwdRefIdeal Cert.FoxFwdRefIdeal.Read Idealize.ShloMosaic Cert.Common Cert.Proof.Att
open Cert.Dc.Spec (IsReal)

variable (q k v : (⟨2, ![4224, 512]⟩ : Shape).Idx → EReal) (g : (⟨2, ![4224, 8]⟩ : Shape).Idx → EReal)

/-- The queries' heads. -/
theorem heads (q : (⟨2, ![4224, 512]⟩ : Shape).Idx → EReal) (r : Fin 4224) (h : Fin 8) (d : Fin 64) :
    val_main_v1 (F := Ideal) q (ix3 r h d) = at2 q r.val (64 * h.val + d.val) := by
  rw [at2_lt _ _ _ r.isLt (by omega)]
  pointwise [val_main_v1, val_main_v0]
  simp only [Nat.mul_comm]

/-- The keys' and the values' are the same reading of another array. -/
theorem heads' (k : (⟨2, ![4224, 512]⟩ : Shape).Idx → EReal) (r : Fin 4224) (h : Fin 8) (d : Fin 64) :
    val_main_v3 (F := Ideal) k (ix3 r h d) = at2 k r.val (64 * h.val + d.val) := heads k r h d

@[inherit_doc heads'] theorem values (v : (⟨2, ![4224, 512]⟩ : Shape).Idx → EReal) (r : Fin 4224) (h : Fin 8) (d : Fin 64) :
    val_main_v15 (F := Ideal) v (ix3 r h d) = at2 v r.val (64 * h.val + d.val) := heads v r h d

theorem inf : Ideal.ofBits .f32 0xFF800000#32 = (⊥ : EReal) := by
  simp [Ideal.ofBits, Ideal.ieee]

theorem sle_nat {a b : ℕ} (ha : a < 2 ^ 31) (hb : b < 2 ^ 31) : IntOp.cmpi .sle (BitVec.ofNat 32 a) (BitVec.ofNat 32 b) = if a ≤ b then 1#1 else 0#1 := by
  have e : ∀ {x : ℕ}, x < 2 ^ 31 → (BitVec.ofNat 32 x).toInt = x := fun {x} h => by
    rw [BitVec.toInt_eq_toNat_cond, BitVec.toNat_ofNat]
    omega
  show BitVec.ofBool ((BitVec.ofNat 32 a).sle (BitVec.ofNat 32 b)) = _
  rw [BitVec.sle_eq_decide, e ha, e hb]
  by_cases h : a ≤ b <;> simp [h]

theorem add_ideal (x y : EReal) : FloatOps.addf (F := Ideal) (φ := .f32) x y = x + y := rfl
theorem max_ideal (x y : EReal) : FloatOps.maximumf (F := Ideal) (φ := .f32) x y = max x y := rfl

theorem sub_ideal (x y : EReal) : FloatOps.subf (F := Ideal) (φ := .f32) x y = x - y := rfl

theorem causal (r j : Fin 4224) : val_main_v21 (F := Ideal) (ix2 r j) = if j.val ≤ r.val then 1#1 else 0#1 := by
  pointwise [val_main_v21, val_main_v20, val_main_v19, val_main_v18, val_main_v17, val_main_v16]
  exact sle_nat (by omega) (by omega)

theorem decay (h : Fin 8) (r : Fin 4224) : val_main_v7 (F := Ideal) g (ix2 h r) = at2 g r.val h.val := by
  rw [at2_lt _ _ _ r.isLt h.isLt]
  pointwise [val_main_v7]

/-- The masked scores: ours, with the query's own decay added. -/
theorem masked (h : Fin 8) (r j : Fin 4224) : val_main_v22 (F := Ideal) q k g (ix3 h r j) = Fox.score q k g h.val r.val j.val + at2 g r.val h.val := by
  have e : val_main_call0_v1 (F := Ideal) (ix3 h r j) = val_main_v21 (F := Ideal) (ix2 r j) := by
    pointwise [val_main_call0_v1]
  have s : val_main_v6 (F := Ideal) q k (ix3 h r j) = (∑ d : Fin 64, at2 q r.val (64 * h.val + d.val) * at2 k j.val (64 * h.val + d.val)) * Ideal.ofBits .f32 0x3E000000#32 := by
    pointwise [val_main_v6, val_main_v5, val_main_v4, val_main_cst]
    simp only [heads, heads']
  have d : val_main_v9 (F := Ideal) g (ix3 h r j) = val_main_v7 (F := Ideal) g (ix2 h r) := by
    pointwise [val_main_v9, val_main_v8]
  have d' : val_main_v12 (F := Ideal) g (ix3 h r j) = val_main_v7 (F := Ideal) g (ix2 h j) := by
    pointwise [val_main_v12, val_main_v11]
  have b : val_main_call0_v2 (F := Ideal) (ix3 h r j) = ⊥ := by
    pointwise [val_main_call0_v2, val_main_call0_v0, val_main_cst_0]
    exact inf
  have w : val_main_v13 (F := Ideal) q k g (ix3 h r j) = (∑ d : Fin 64, at2 q r.val (64 * h.val + d.val) * at2 k j.val (64 * h.val + d.val)) * ((1 / 8 : ℝ) : EReal) - at2 g j.val h.val + at2 g r.val h.val := by
    rw [val_main_v13_apply, val_main_v10_apply, s, d, d', decay, decay, add_ideal, sub_ideal, Fox.eighth, sub_eq_add_neg, sub_eq_add_neg, add_right_comm]
  unfold val_main_v22 Fox.score
  show Scalar.select _ _ _ = _
  rw [e, causal, w, b]
  by_cases hj : j.val ≤ r.val
  · rw [if_pos hj, if_pos hj]
    rfl
  · rw [if_neg hj, if_neg hj, EReal.bot_add]
    rfl

variable (hg : ∀ i, IsReal (g i))
include hg

/-- What is added to every score of a row is added to the largest, and leaves the differences. -/
theorem top_add (h r : ℕ) : peak (fun j => Fox.score q k g h r j + at2 g r h) 4224 = peak (Fox.score q k g h r) 4224 + at2 g r h := by
  obtain ⟨x, e⟩ := IsReal.at2 hg r h
  rw [e]
  exact peak_shift _ x 4224 (by omega)

theorem less (h r : ℕ) (a b : EReal) : a + at2 g r h - (b + at2 g r h) = a - b := by
  obtain ⟨x, e⟩ := IsReal.at2 hg r h
  rw [e]
  exact sub_shift a b x

theorem top23 (h : Fin 8) (r : Fin 4224) : val_main_v23 (F := Ideal) q k g (ix2 h r) = peak (Fox.score q k g h.val r.val) 4224 + at2 g r.val h.val := by
  pointwise [val_main_v23, val_main_cst_1]
  simp only [masked, inf]
  exact (Mla.peak_univ (fun j => Fox.score q k g h.val r.val j + at2 g r.val h.val) 4224).symm.trans (top_add q k g hg h.val r.val)

theorem top32 (h : Fin 8) (r : Fin 4224) : val_main_v32 (F := Ideal) q k g (ix2 h r) = peak (Fox.score q k g h.val r.val) 4224 + at2 g r.val h.val := by
  pointwise [val_main_v32, val_main_cst_3]
  simp only [masked, inf]
  exact (Mla.peak_univ (fun j => Fox.score q k g h.val r.val j + at2 g r.val h.val) 4224).symm.trans (top_add q k g hg h.val r.val)

theorem sum28 (h : Fin 8) (r : Fin 4224) : val_main_v28 (F := Ideal) q k g (ix2 h r) = mass (Fox.score q k g h.val r.val) (fun _ => 1) 4224 := by
  pointwise [val_main_v28, val_main_v27, val_main_v26, val_main_v25, val_main_v24, val_main_cst_2]
  simp only [masked, top23 q k g hg, less g hg]
  exact (Mla.mass_univ _ _).symm

omit hg in
theorem log30 (h : Fin 8) (r : Fin 4224) (z : Fin 1) : val_main_v30 (F := Ideal) q k g (ix3 h r z) = Ideal.log (val_main_v28 (F := Ideal) q k g (ix2 h r)) := by
  pointwise [val_main_v30, val_main_v29]

omit hg in
theorem top24 (h : Fin 8) (r : Fin 4224) (z : Fin 1) : val_main_v24 (F := Ideal) q k g (ix3 h r z) = val_main_v23 (F := Ideal) q k g (ix2 h r) := by
  pointwise [val_main_v24]

omit hg in
theorem own47 (h : Fin 8) (r : Fin 4224) (z : Fin 1) : val_main_v47 (F := Ideal) g (ix3 h r z) = val_main_v7 (F := Ideal) g (ix2 h r) := by
  pointwise [val_main_v47]

theorem lse_eq : val_main_v48 (F := Ideal) q k g = Fox.lse q k g := by
  funext i
  idx_vars i
  obtain ⟨x, e⟩ := IsReal.at2 hg i1.val i0.val
  rw [Fox.lse_at, val_main_v48_apply, val_main_v31_apply, top24, log30, own47, decay, top23 q k g hg, sum28 q k g hg, add_ideal, sub_ideal, e, add_right_comm]
  exact EReal.add_sub_cancel_right

theorem top34 (h : Fin 8) (r : Fin 4224) : val_main_v34 (F := Ideal) q k g (ix2 h r) = peak (Fox.score q k g h.val r.val) 4224 + at2 g r.val h.val := by
  rw [val_main_v34_apply, top32 q k g hg, max_ideal]
  pointwise [val_main_v33, val_main_cst_4]
  rw [inf]
  exact max_eq_right bot_le

omit hg in
theorem top36 (h : Fin 8) (r j : Fin 4224) : val_main_v36 (F := Ideal) q k g (ix3 h r j) = val_main_v34 (F := Ideal) q k g (ix2 h r) := by
  pointwise [val_main_v36, val_main_v35]

theorem weight (h : Fin 8) (r j : Fin 4224) : val_main_v38 (F := Ideal) q k g (ix3 h r j) = Ideal.exp (Fox.score q k g h.val r.val j.val - peak (Fox.score q k g h.val r.val) 4224) := by
  rw [← less g hg h.val r.val, ← masked, ← top34 q k g hg, ← top36 q k g h r j]
  rfl

theorem sum39 (h : Fin 8) (r : Fin 4224) : val_main_v39 (F := Ideal) q k g (ix2 h r) = mass (Fox.score q k g h.val r.val) (fun _ => 1) 4224 := by
  pointwise [val_main_v39, val_main_cst_5]
  simp only [weight q k g hg]
  exact (Mla.mass_univ _ _).symm

omit hg in
theorem ratio (h : Fin 8) (r j : Fin 4224) : val_main_v42 (F := Ideal) q k g (ix3 h r j) = Ideal.div (val_main_v38 (F := Ideal) q k g (ix3 h r j)) (val_main_v39 (F := Ideal) q k g (ix2 h r)) := by
  pointwise [val_main_v42, val_main_v41, val_main_v40]

theorem out_eq (hq : ∀ i, IsReal (q i)) (hk : ∀ i, IsReal (k i)) : val_main_v46 (F := Ideal) q k v g = Fox.out q k v g := by
  funext i
  idx_vars i
  rw [Fox.out_eq hq hk hg]
  pointwise [val_main_v46, val_main_v45, val_main_v44, val_main_v43]
  simp only [values, ratio, weight q k g hg, sum39 q k g hg]
  refine Finset.sum_congr rfl fun j _ => ?_
  rw [mul_comm]
  rw [Nat.div_add_mod]

end Cert.FoxFwdRefIdeal.Tie

end
-- ==== Proof.FoxFwdPre.lean ====
module

public import proofs.«01_k».proof.Defs
public import proofs.«01_k».proof.Proof.Gen.Pre_fox_finite
public import proofs.«01_k».proof.Proof.DcPre

@[expose] public section

set_option maxRecDepth 16384

noncomputable section

namespace Cert.FoxFwd.Pre

open Idealize.ShloMosaic Cert.Dc.Spec Cert.Pre_fox_finite

instance : Subsingleton S_.Idx := ⟨fun _ _ => funext fun a => a.elim0⟩

/-- The precondition says that the queries', the keys' and the decays' elements are real. -/
theorem finite (q k v : FVec Ideal S4224x512 .bf16) (g : FVec Ideal S4224x8 .f32) (h : fn (F := Ideal) q k v g = fun _ => 1#1) :
    (∀ i, IsReal (q i)) ∧ (∀ i, IsReal (k i)) ∧ (∀ i, IsReal (g i)) := by
  have h0 := congrFun h (fun a => a.elim0)
  dsimp only [fn] at h0
  obtain ⟨h1, hg⟩ := IntOp.andi_eq_one.mp h0
  obtain ⟨hq, hk⟩ := IntOp.andi_eq_one.mp h1
  exact ⟨fun i => Cert.Dc.Pre.real_of_cmp _ (Host.reduce_andi_all _ _ _ _ _ hq i), fun i => Cert.Dc.Pre.real_of_cmp _ (Host.reduce_andi_all _ _ _ _ _ hk i), fun i => Cert.Dc.Pre.real_of_cmp _ (Host.reduce_andi_all _ _ _ _ _ hg i)⟩

end Cert.FoxFwd.Pre

end
-- ==== Proof.FoxFwdClaim.lean ====
module

public import proofs.«01_k».proof.Defs
public import proofs.«01_k».proof.Proof.Gen.FoxFwd.Frame
public import proofs.«01_k».proof.Proof.Gen.FoxFwdIdeal.Value
public import proofs.«01_k».proof.Proof.Gen.FoxFwdRefIdeal.Run
public import proofs.«01_k».proof.Proof.Gen.FoxFwdRefIdeal.Read
public import proofs.«01_k».proof.Proof.FoxFwdValue
public import proofs.«01_k».proof.Proof.FoxFwdRef
public import proofs.«01_k».proof.Proof.FoxFwdPre
public import proofs.«01_k».proof.Proof.Gen.Pre_fox_finite

@[expose] public section

set_option maxRecDepth 16384

noncomputable section

namespace Cert.FoxFwd.Tie

open Idealize.ShloMosaic Idealize.SL.Sem

/-- The kernel ends, its arguments unchanged and its counters at zero. -/
theorem frame_p : Cert.quiescent_FoxFwd := fun m ρ _ => Cert.FoxFwd.Gen.frame m ρ

/-- So does the kernel over the extended reals. -/
theorem frame_pi : Cert.quiescent_FoxFwdIdeal := fun m ρ _ => Cert.FoxFwdIdeal.Gen.frame m ρ

/-- So does the reference. -/
theorem frame_ri : Cert.quiescent_FoxFwdRefIdeal := fun m ρ _ =>
  (θ_run Cert.FoxFwdRefIdeal.defs _ _).mono
    (fun r h => ⟨fun c => (h c).2.2, Idealize.ShloMosaic.sem_eq_zero_of_no_sems (by decide) r.2⟩)
    (Cert.FoxFwdRefIdeal.Value.run (F := Ideal) m ρ)

/-- The frames hold under the precondition too. -/
theorem frame_pi_pre : Cert.quiescent_FoxFwdIdeal_pre_fox_finite := fun m ρ _ => frame_pi m ρ trivial
@[inherit_doc frame_pi_pre] theorem frame_ri_pre : Cert.quiescent_FoxFwdRefIdeal_pre_fox_finite := fun m ρ _ => frame_ri m ρ trivial

/-- Kernel and reference end with equal results. -/
theorem algebraic : Cert.algebraic_FoxFwdIdeal_FoxFwdRefIdeal_pre_fox_finite := by
  intro m ρ m' ρ' hpre hagree
  refine ⟨fun c => Cert.Proof.Att.Fox.out (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3)), fun c => Cert.Proof.Att.Fox.lse (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg3)),
    (θ_run Cert.FoxFwdIdeal.defs _ _).mono (fun r h c => ⟨(h c).1.trans (Cert.FoxFwdIdeal.Tie.final4 m c (Cert.FoxFwd.Pre.finite _ _ _ _ (hpre c)).1 (Cert.FoxFwd.Pre.finite _ _ _ _ (hpre c)).2.1 (Cert.FoxFwd.Pre.finite _ _ _ _ (hpre c)).2.2), (h c).2.1.trans (Cert.FoxFwdIdeal.Tie.final5 m c (Cert.FoxFwd.Pre.finite _ _ _ _ (hpre c)).1 (Cert.FoxFwd.Pre.finite _ _ _ _ (hpre c)).2.1 (Cert.FoxFwd.Pre.finite _ _ _ _ (hpre c)).2.2), (h c).2.2⟩)
      (Cert.FoxFwdIdeal.Value.run_blocks m ρ), ?_⟩
  refine (θ_run Cert.FoxFwdRefIdeal.defs _ _).mono (fun _ h c => ?_) (Cert.FoxFwdRefIdeal.Value.run (F := Ideal) m' ρ')
  obtain ⟨e0, e1, e2, e3⟩ := hagree c
  obtain ⟨f0, f1, f2⟩ := Cert.FoxFwd.Pre.finite _ _ _ _ (hpre c)
  refine ⟨(h c).1.trans ?_, (h c).2.1.trans ?_, (h c).2.2⟩
  · refine (Cert.FoxFwdRefIdeal.Read.val_main_v46_eq (F := Ideal) m' c).trans ?_
    rw [e0, e1, e2, e3]
    exact Cert.FoxFwdRefIdeal.Tie.out_eq _ _ _ _ f2 f0 f1
  · refine (Cert.FoxFwdRefIdeal.Read.val_main_v48_eq (F := Ideal) m' c).trans ?_
    rw [e0, e1, e3]
    exact Cert.FoxFwdRefIdeal.Tie.lse_eq _ _ _ f2

/-- The literal the scores are masked by stands for the least value. -/
theorem preserves : Cert.preserves_FoxFwd_FoxFwdIdeal :=
  IdealRules.named_const.statement _ _ _ _ _ rfl

end Cert.FoxFwd.Tie

end
-- ==== Proof.lean ====
module

public import proofs.«01_k».proof.Defs
public import proofs.«01_k».proof.Proof.MergeClaim
public import proofs.«01_k».proof.Proof.DcClaim
public import proofs.«01_k».proof.Proof.DuClaim
public import proofs.«01_k».proof.Proof.DwDownClaim
public import proofs.«01_k».proof.Proof.DwUpClaim
public import proofs.«01_k».proof.Proof.DxClaim
public import proofs.«01_k».proof.Proof.InDxClaim
public import proofs.«01_k».proof.Proof.InDwGatesClaim
public import proofs.«01_k».proof.Proof.InDwOtherClaim
public import proofs.«01_k».proof.Proof.InProjClaim
public import proofs.«01_k».proof.Proof.FfnUpClaim
public import proofs.«01_k».proof.Proof.MergeFwdClaim
public import proofs.«01_k».proof.Proof.FfnDownClaim
public import proofs.«01_k».proof.Proof.FfnActClaim
public import proofs.«01_k».proof.Proof.FfnLossClaim
public import proofs.«01_k».proof.Proof.MlaFwdClaim
public import proofs.«01_k».proof.Proof.FoxFwdClaim
public import proofs.«01_k».proof.Proof.Gen.Merge
public import proofs.«01_k».proof.Proof.Gen.MergeIdeal
public import proofs.«01_k».proof.Proof.Gen.MergeRefIdeal
public import proofs.«01_k».proof.Proof.Gen.Dc
public import proofs.«01_k».proof.Proof.Gen.DcIdeal
public import proofs.«01_k».proof.Proof.Gen.DcRefIdeal
public import proofs.«01_k».proof.Proof.Gen.Du
public import proofs.«01_k».proof.Proof.Gen.DuIdeal
public import proofs.«01_k».proof.Proof.Gen.DuRefIdeal
public import proofs.«01_k».proof.Proof.Gen.DwDown
public import proofs.«01_k».proof.Proof.Gen.DwDownIdeal
public import proofs.«01_k».proof.Proof.Gen.DwDownRefIdeal
public import proofs.«01_k».proof.Proof.Gen.DwUp
public import proofs.«01_k».proof.Proof.Gen.DwUpIdeal
public import proofs.«01_k».proof.Proof.Gen.DwUpRefIdeal
public import proofs.«01_k».proof.Proof.Gen.Dx
public import proofs.«01_k».proof.Proof.Gen.DxIdeal
public import proofs.«01_k».proof.Proof.Gen.DxRefIdeal
public import proofs.«01_k».proof.Proof.Gen.InDx
public import proofs.«01_k».proof.Proof.Gen.InDxIdeal
public import proofs.«01_k».proof.Proof.Gen.InDxRefIdeal
public import proofs.«01_k».proof.Proof.Gen.InDwGates
public import proofs.«01_k».proof.Proof.Gen.InDwGatesIdeal
public import proofs.«01_k».proof.Proof.Gen.InDwGatesRefIdeal
public import proofs.«01_k».proof.Proof.Gen.InDwOther
public import proofs.«01_k».proof.Proof.Gen.InDwOtherIdeal
public import proofs.«01_k».proof.Proof.Gen.InDwOtherRefIdeal
public import proofs.«01_k».proof.Proof.Gen.InProj
public import proofs.«01_k».proof.Proof.Gen.InProjIdeal
public import proofs.«01_k».proof.Proof.Gen.InProjRefIdeal
public import proofs.«01_k».proof.Proof.Gen.FfnUp
public import proofs.«01_k».proof.Proof.Gen.FfnUpIdeal
public import proofs.«01_k».proof.Proof.Gen.FfnUpRefIdeal
public import proofs.«01_k».proof.Proof.Gen.MergeFwd
public import proofs.«01_k».proof.Proof.Gen.MergeFwdIdeal
public import proofs.«01_k».proof.Proof.Gen.MergeFwdRefIdeal
public import proofs.«01_k».proof.Proof.Gen.FfnDown
public import proofs.«01_k».proof.Proof.Gen.FfnDownIdeal
public import proofs.«01_k».proof.Proof.Gen.FfnDownRefIdeal
public import proofs.«01_k».proof.Proof.Gen.FfnAct
public import proofs.«01_k».proof.Proof.Gen.FfnActIdeal
public import proofs.«01_k».proof.Proof.Gen.FfnActRefIdeal
public import proofs.«01_k».proof.Proof.Gen.FfnLoss
public import proofs.«01_k».proof.Proof.Gen.FfnLossIdeal
public import proofs.«01_k».proof.Proof.Gen.FfnLossRefIdeal
public import proofs.«01_k».proof.Proof.Gen.MlaFwd
public import proofs.«01_k».proof.Proof.Gen.MlaFwdIdeal
public import proofs.«01_k».proof.Proof.Gen.MlaFwdRefIdeal
public import proofs.«01_k».proof.Proof.Gen.FoxFwd
public import proofs.«01_k».proof.Proof.Gen.FoxFwdIdeal
public import proofs.«01_k».proof.Proof.Gen.FoxFwdRefIdeal
public import proofs.«01_k».proof.Proof.Gen.Pre_all_finite
public import proofs.«01_k».proof.Proof.Gen.Pre_mla_finite
public import proofs.«01_k».proof.Proof.Gen.Pre_fox_finite

@[expose] public section

noncomputable section

namespace Cert.Proof

/-- Every claim: the frames, the programs over the extended reals, and the equalities with the references. -/
theorem claim : Cert.Claim := ⟨
  Cert.Merge.Gen.facts, Cert.MergeIdeal.Gen.facts, Cert.MergeRefIdeal.Gen.facts,
  Cert.Dc.Gen.facts, Cert.DcIdeal.Gen.facts, Cert.DcRefIdeal.Gen.facts,
  Cert.Du.Gen.facts, Cert.DuIdeal.Gen.facts, Cert.DuRefIdeal.Gen.facts,
  Cert.DwDown.Gen.facts, Cert.DwDownIdeal.Gen.facts, Cert.DwDownRefIdeal.Gen.facts,
  Cert.DwUp.Gen.facts, Cert.DwUpIdeal.Gen.facts, Cert.DwUpRefIdeal.Gen.facts,
  Cert.Dx.Gen.facts, Cert.DxIdeal.Gen.facts, Cert.DxRefIdeal.Gen.facts,
  Cert.InDx.Gen.facts, Cert.InDxIdeal.Gen.facts, Cert.InDxRefIdeal.Gen.facts,
  Cert.InDwGates.Gen.facts, Cert.InDwGatesIdeal.Gen.facts, Cert.InDwGatesRefIdeal.Gen.facts,
  Cert.InDwOther.Gen.facts, Cert.InDwOtherIdeal.Gen.facts, Cert.InDwOtherRefIdeal.Gen.facts,
  Cert.InProj.Gen.facts, Cert.InProjIdeal.Gen.facts, Cert.InProjRefIdeal.Gen.facts,
  Cert.FfnUp.Gen.facts, Cert.FfnUpIdeal.Gen.facts, Cert.FfnUpRefIdeal.Gen.facts,
  Cert.MergeFwd.Gen.facts, Cert.MergeFwdIdeal.Gen.facts, Cert.MergeFwdRefIdeal.Gen.facts,
  Cert.FfnDown.Gen.facts, Cert.FfnDownIdeal.Gen.facts, Cert.FfnDownRefIdeal.Gen.facts,
  Cert.FfnAct.Gen.facts, Cert.FfnActIdeal.Gen.facts, Cert.FfnActRefIdeal.Gen.facts,
  Cert.FfnLoss.Gen.facts, Cert.FfnLossIdeal.Gen.facts, Cert.FfnLossRefIdeal.Gen.facts,
  Cert.MlaFwd.Gen.facts, Cert.MlaFwdIdeal.Gen.facts, Cert.MlaFwdRefIdeal.Gen.facts,
  Cert.FoxFwd.Gen.facts, Cert.FoxFwdIdeal.Gen.facts, Cert.FoxFwdRefIdeal.Gen.facts,
  Cert.Pre_all_finite.Gen.facts, Cert.Pre_mla_finite.Gen.facts, Cert.Pre_fox_finite.Gen.facts,
  Cert.Merge.Tie.frame_p, Cert.Merge.Tie.frame_pi, Cert.Merge.Tie.frame_ri,
  Cert.Dc.Tie.frame_p, Cert.Dc.Tie.frame_pi, Cert.Dc.Tie.frame_pi_pre,
  Cert.Dc.Tie.frame_ri, Cert.Dc.Tie.frame_ri_pre, Cert.Du.Tie.frame_p,
  Cert.Du.Tie.frame_pi, Cert.Du.Tie.frame_ri, Cert.DwDown.Tie.frame_p,
  Cert.DwDown.Tie.frame_pi, Cert.DwDown.Tie.frame_ri, Cert.DwUp.Tie.frame_p,
  Cert.DwUp.Tie.frame_pi, Cert.DwUp.Tie.frame_ri, Cert.Dx.Tie.frame_p,
  Cert.Dx.Tie.frame_pi, Cert.Dx.Tie.frame_ri, Cert.InDx.Tie.frame_p,
  Cert.InDx.Tie.frame_pi, Cert.InDx.Tie.frame_ri, Cert.InDwGates.Tie.frame_p,
  Cert.InDwGates.Tie.frame_pi, Cert.InDwGates.Tie.frame_ri, Cert.InDwOther.Tie.frame_p,
  Cert.InDwOther.Tie.frame_pi, Cert.InDwOther.Tie.frame_ri, Cert.InProj.Tie.frame_p,
  Cert.InProj.Tie.frame_pi, Cert.InProj.Tie.frame_ri, Cert.FfnUp.Tie.frame_p,
  Cert.FfnUp.Tie.frame_pi, Cert.FfnUp.Tie.frame_ri, Cert.MergeFwd.Tie.frame_p,
  Cert.MergeFwd.Tie.frame_pi, Cert.MergeFwd.Tie.frame_ri, Cert.FfnDown.Tie.frame_p,
  Cert.FfnDown.Tie.frame_pi, Cert.FfnDown.Tie.frame_ri, Cert.FfnAct.Tie.frame_p,
  Cert.FfnAct.Tie.frame_pi, Cert.FfnAct.Tie.frame_ri, Cert.FfnLoss.Tie.frame_p,
  Cert.FfnLoss.Tie.frame_pi, Cert.FfnLoss.Tie.frame_ri, Cert.MlaFwd.Tie.frame_p,
  Cert.MlaFwd.Tie.frame_pi, Cert.MlaFwd.Tie.frame_pi_pre, Cert.MlaFwd.Tie.frame_ri,
  Cert.MlaFwd.Tie.frame_ri_pre, Cert.FoxFwd.Tie.frame_p, Cert.FoxFwd.Tie.frame_pi,
  Cert.FoxFwd.Tie.frame_pi_pre, Cert.FoxFwd.Tie.frame_ri, Cert.FoxFwd.Tie.frame_ri_pre,
  trivial, Cert.Merge.Tie.algebraic, trivial,
  Cert.Dc.Tie.algebraic, trivial, Cert.Du.Tie.algebraic,
  trivial, Cert.DwDown.Tie.algebraic, trivial,
  Cert.DwUp.Tie.algebraic, trivial, Cert.Dx.Tie.algebraic,
  trivial, Cert.InDx.Tie.algebraic, trivial,
  Cert.InDwGates.Tie.algebraic, trivial, Cert.InDwOther.Tie.algebraic,
  trivial, Cert.InProj.Tie.algebraic, trivial,
  Cert.FfnUp.Tie.algebraic, trivial, Cert.MergeFwd.Tie.algebraic,
  trivial, Cert.FfnDown.Tie.algebraic, trivial,
  Cert.FfnAct.Tie.algebraic, trivial, Cert.FfnLoss.Tie.algebraic,
  Cert.MlaFwd.Tie.preserves, Cert.MlaFwd.Tie.algebraic, Cert.FoxFwd.Tie.preserves,
  Cert.FoxFwd.Tie.algebraic⟩

end Cert.Proof

end
